-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v174) = v3 c
          ∧ r.2.mem ((c.tc : Thread Cert.ReferenceIdeal.nD Cert.ReferenceIdeal.τ).loc Cert.ReferenceIdeal.main_v176) = v4 c
          ∧ r.2.mem ((c.tc : Thread Cert.ReferenceIdeal.nD Cert.ReferenceIdeal.τ).loc Cert.ReferenceIdeal.main_v101) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v381_0)) (v1 : (c : Dev Cert.Kernel2Ideal.nD) → Buf (Elt Ideal) ((c.tc : Thread Cert.Kernel2Ideal.nD Cert.Kernel2Ideal.τ).loc Cert.Kernel2Ideal.main_v381_1)) (v2 : (c : Dev Cert.Kernel2Ideal.nD) → Buf (Elt Ideal) ((c.tc : Thread Cert.Kernel2Ideal.nD Cert.Kernel2Ideal.τ).loc Cert.Kernel2Ideal.main_v381_2)) (v3 : (c : Dev Cert.Kernel2Ideal.nD) → Buf (Elt Ideal) ((c.tc : Thread Cert.Kernel2Ideal.nD Cert.Kernel2Ideal.τ).loc Cert.Kernel2Ideal.main_v381_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v381_0) = v0 c
          ∧ r.2.mem ((c.tc : Thread Cert.Kernel2Ideal.nD Cert.Kernel2Ideal.τ).loc Cert.Kernel2Ideal.main_v381_1) = v1 c
          ∧ r.2.mem ((c.tc : Thread Cert.Kernel2Ideal.nD Cert.Kernel2Ideal.τ).loc Cert.Kernel2Ideal.main_v381_2) = v2 c
          ∧ r.2.mem ((c.tc : Thread Cert.Kernel2Ideal.nD Cert.Kernel2Ideal.τ).loc Cert.Kernel2Ideal.main_v381_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v84) = v1 c
          ∧ r.2.mem ((c.tc : Thread Cert.Reference2Ideal.nD Cert.Reference2Ideal.τ).loc Cert.Reference2Ideal.main_v85) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v412_0)) (v1 : (c : Dev Cert.Kernel8Ideal.nD) → Buf (Elt Ideal) ((c.tc : Thread Cert.Kernel8Ideal.nD Cert.Kernel8Ideal.τ).loc Cert.Kernel8Ideal.main_v412_1)) (v2 : (c : Dev Cert.Kernel8Ideal.nD) → Buf (Elt Ideal) ((c.tc : Thread Cert.Kernel8Ideal.nD Cert.Kernel8Ideal.τ).loc Cert.Kernel8Ideal.main_v412_2)) (v3 : (c : Dev Cert.Kernel8Ideal.nD) → Buf (Elt Ideal) ((c.tc : Thread Cert.Kernel8Ideal.nD Cert.Kernel8Ideal.τ).loc Cert.Kernel8Ideal.main_v412_3)) (v4 : (c : Dev Cert.Kernel8Ideal.nD) → Buf (Elt Ideal) ((c.tc : Thread Cert.Kernel8Ideal.nD Cert.Kernel8Ideal.τ).loc Cert.Kernel8Ideal.main_v412_4)) (v5 : (c : Dev Cert.Kernel8Ideal.nD) → Buf (Elt Ideal) ((c.tc : Thread Cert.Kernel8Ideal.nD Cert.Kernel8Ideal.τ).loc Cert.Kernel8Ideal.main_v412_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v412_0) = v0 c
          ∧ r.2.mem ((c.tc : Thread Cert.Kernel8Ideal.nD Cert.Kernel8Ideal.τ).loc Cert.Kernel8Ideal.main_v412_1) = v1 c
          ∧ r.2.mem ((c.tc : Thread Cert.Kernel8Ideal.nD Cert.Kernel8Ideal.τ).loc Cert.Kernel8Ideal.main_v412_2) = v2 c
          ∧ r.2.mem ((c.tc : Thread Cert.Kernel8Ideal.nD Cert.Kernel8Ideal.τ).loc Cert.Kernel8Ideal.main_v412_3) = v3 c
          ∧ r.2.mem ((c.tc : Thread Cert.Kernel8Ideal.nD Cert.Kernel8Ideal.τ).loc Cert.Kernel8Ideal.main_v412_4) = v4 c
          ∧ r.2.mem ((c.tc : Thread Cert.Kernel8Ideal.nD Cert.Kernel8Ideal.τ).loc Cert.Kernel8Ideal.main_v412_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_v28) = v3 c
          ∧ r.2.mem ((c.tc : Thread Cert.Reference8Ideal.nD Cert.Reference8Ideal.τ).loc Cert.Reference8Ideal.main_v29) = v4 c
          ∧ r.2.mem ((c.tc : Thread Cert.Reference8Ideal.nD Cert.Reference8Ideal.τ).loc Cert.Reference8Ideal.main_v3) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S2816x1024 .f32) : IVec S8192x1024 1 × IVec S8192x1024 1 × IVec S1x1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Kernel.lean ====
abbrev S8192x3200 : Shape := ⟨2, ![8192, 3200]⟩
abbrev S8192x1024 : Shape := ⟨2, ![8192, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x128 : Shape := ⟨2, ![8, 128]⟩
abbrev S128x8 : Shape := ⟨2, ![128, 8]⟩
abbrev S8x128x128 : Shape := ⟨3, ![8, 128, 128]⟩
abbrev S8192x2048 : Shape := ⟨2, ![8192, 2048]⟩
abbrev S128x1024 : Shape := ⟨2, ![128, 1024]⟩
abbrev S128x2048 : Shape := ⟨2, ![128, 2048]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1024 : Shape := ⟨1, ![1024]⟩
abbrev S128x7 : Shape := ⟨2, ![128, 7]⟩
abbrev S128x896 : Shape := ⟨2, ![128, 896]⟩
abbrev S128x6 : Shape := ⟨2, ![128, 6]⟩
abbrev S128x768 : Shape := ⟨2, ![128, 768]⟩
abbrev S128x5 : Shape := ⟨2, ![128, 5]⟩
abbrev S128x2 : Shape := ⟨2, ![128, 2]⟩
abbrev S128x640 : Shape := ⟨2, ![128, 640]⟩
abbrev S128x256 : Shape := ⟨2, ![128, 256]⟩
abbrev S128x4 : Shape := ⟨2, ![128, 4]⟩
abbrev S128x3 : Shape := ⟨2, ![128, 3]⟩
abbrev S128x512 : Shape := ⟨2, ![128, 512]⟩
abbrev S128x384 : Shape := ⟨2, ![128, 384]⟩

abbrev nBuf : Space → Nat
  | .hbm => 16
  | .vmem => 18
  | .smem => 0
  | _ => 0

abbrev bufTy : (tb : Table) → Fin (tcTables nBuf tb) → BufTy
  | .hbm, ⟨0, _⟩ => ⟨S8192x3200, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x1024, .f32⟩
  | .hbm, ⟨7, _⟩ => ⟨S8x128, .f32⟩
  | .hbm, ⟨8, _⟩ => ⟨S128x8, .f32⟩
  | .hbm, ⟨9, _⟩ => ⟨S8x128x128, .f32⟩
  | .hbm, ⟨10, _⟩ => ⟨S8192x2048, .bf16⟩
  | .hbm, ⟨11, _⟩ => ⟨S1x1024, .f32⟩
  | .hbm, ⟨12, _⟩ => ⟨S1x1024, .f32⟩
  | .hbm, ⟨13, _⟩ => ⟨S8x128x128, .f32⟩
  | .hbm, ⟨14, _⟩ => ⟨S128x8, .f32⟩
  | .hbm, ⟨15, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S1x1024, .f32⟩
  | .local _ .vmem, ⟨11, _⟩ => ⟨S128x2048, .bf16⟩
  | .local _ .vmem, ⟨12, _⟩ => ⟨S128x2048, .bf16⟩
  | .local _ .vmem, ⟨13, _⟩ => ⟨S1x1024, .f32⟩
  | .local _ .vmem, ⟨14, _⟩ => ⟨S1x1024, .f32⟩
  | .local _ .vmem, ⟨15, _⟩ => ⟨S8x128x128, .f32⟩
  | .local _ .vmem, ⟨16, _⟩ => ⟨S128x8, .f32⟩
  | .local _ .vmem, ⟨17, _⟩ => ⟨S1x1024, .f32⟩
  | _, _ => ⟨S8192x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x3200 : Shape := ⟨2, ![8192, 3200]⟩
abbrev S8192x1024 : Shape := ⟨2, ![8192, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S1024 : Shape := ⟨1, ![1024]⟩
abbrev S8x128x128 : Shape := ⟨3, ![8, 128, 128]⟩
abbrev S8x128 : Shape := ⟨2, ![8, 128]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S8192x2048 : Shape := ⟨2, ![8192, 2048]⟩

abbrev nBuf : Space → Nat
  | .hbm => 236
  | .vmem => 0
  | .smem => 0
  | _ => 0

abbrev hbmTy0_0 (i : Nat) : BufTy := match i % 128 with
  | 0 => ⟨S8192x3200, .f32⟩
  | 1 => ⟨S8192x1024, .f32⟩
  | 2 => ⟨S1x1024, .f32⟩
  | 3 => ⟨S1x1024, .f32⟩
  | 4 => ⟨S1x8x128x128, .f32⟩
  | 5 => ⟨S1x8x128, .f32⟩
  | 6 => ⟨S1x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S1024, .f32⟩
  | 34 => ⟨S1024, .f32⟩
  | 35 => ⟨S8x128x128, .f32⟩
  | 36 => ⟨S8x128, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S64x128x8x128, .f32⟩
  | 69 => ⟨S_, .i1⟩
  | 70 => ⟨S128x128, .i1⟩
  | 71 => ⟨S128x128, .i32⟩
  | 72 => ⟨S_, .i32⟩
  | 73 => ⟨S128x128, .i32⟩
  | 74 => ⟨S128x128, .i32⟩
  | 75 => ⟨S128x128, .i32⟩
  | 76 => ⟨S128x128, .i1⟩
  | 77 => ⟨S_, .i1⟩
  | 78 => ⟨S128x128, .i1⟩
  | 79 => ⟨S128x128, .i1⟩
  | 80 => ⟨S_, .f32⟩
  | 81 => ⟨S8x128x128, .f32⟩
  | 82 => ⟨S8x128x128, .i1⟩
  | 83 => ⟨S8x128x128, .f32⟩
  | 84 => ⟨S_, .f32⟩
  | 85 => ⟨S8x128x128, .f32⟩
  | 86 => ⟨S8x64x128x128, .f32⟩
  | 87 => ⟨S64x128x8x128, .f32⟩
  | 88 => ⟨S128x8, .f32⟩
  | 89 => ⟨S1x128x8x1, .f32⟩
  | 90 => ⟨S64x128x8x128, .f32⟩
  | 91 => ⟨S64x128x8x128, .f32⟩
  | 92 => ⟨S8192x1024, .f32⟩
  | 93 => ⟨S8192x1024, .f32⟩
  | 94 => ⟨S1024, .f32⟩
  | 95 => ⟨S8192x1024, .f32⟩
  | 96 => ⟨S_, .f32⟩
  | 97 => ⟨S8192, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192x1, .f32⟩
  | 104 => ⟨S8192x1, .f32⟩
  | 105 => ⟨S8192x1, .f32⟩
  | 106 => ⟨S8192x1, .f32⟩
  | 107 => ⟨S_, .f32⟩
  | 108 => ⟨S8192x1, .f32⟩
  | 109 => ⟨S8192x1, .f32⟩
  | 110 => ⟨S8192x1024, .f32⟩
  | 111 => ⟨S8192x1024, .f32⟩
  | 112 => ⟨S1x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S_, .f32⟩
  | 122 => ⟨S1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x3200, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S64x128x8x128, .f32⟩
  | 16 => ⟨S_, .f32⟩
  | 17 => ⟨S128x8, .f32⟩
  | 18 => ⟨S1x128x8x1, .f32⟩
  | 19 => ⟨S_, .f32⟩
  | 20 => ⟨S128x8, .f32⟩
  | 21 => ⟨S8x128, .f32⟩
  | 22 => ⟨S8x64x128x128, .f32⟩
  | 23 => ⟨S8x128x128, .f32⟩
  | 24 => ⟨S8x64x128x128, .f32⟩
  | 25 => ⟨S64x128x8x128, .f32⟩
  | 26 => ⟨S_, .f32⟩
  | 27 => ⟨S8x128x128, .f32⟩
  | 28 => ⟨S8x128x128, .f32⟩
  | 29 => ⟨S8192x1024, .f32⟩
  | 30 => ⟨S_, .f32⟩
  | 31 => ⟨S1024, .f32⟩
  | 32 => ⟨S1x1024, .f32⟩
  | 33 => ⟨S_, .f32⟩
  | 34 => ⟨S1024, .f32⟩
  | 35 => ⟨S8192x1024, .f32⟩
  | 36 => ⟨S_, .f32⟩
  | 37 => ⟨S1024, .f32⟩
  | 38 => ⟨S1x1024, .f32⟩
  | 39 => ⟨S8192x1024, .f32⟩
  | 40 => ⟨S8192x1024, .f32⟩
  | 41 => ⟨S_, .f32⟩
  | 42 => ⟨S1024, .f32⟩
  | 43 => ⟨S8192x1024, .f32⟩
  | 44 => ⟨S_, .f32⟩
  | 45 => ⟨S8192, .f32⟩
  | 46 => ⟨S8192x1, .f32⟩
  | 47 => ⟨S8192x1024, .f32⟩
  | 48 => ⟨S8192x1024, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192, .f32⟩
  | 69 => ⟨S8192x1024, .f32⟩
  | 70 => ⟨S8192x1024, .f32⟩
  | 71 => ⟨S1x8x128, .f32⟩
  | 72 => ⟨S1x8x128x128, .f32⟩
  | 73 => ⟨S1x1024, .f32⟩
  | 74 => ⟨S1x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S8192x1024, .f32⟩
  | 103 => ⟨S8192x2048, .f32⟩
  | 104 => ⟨S8192x2048, .bf16⟩
  | 105 => ⟨S8x128x128, .f32⟩
  | 106 => ⟨S8x128, .f32⟩
  | 107 => ⟨S128x8, .f32⟩
  | _ => ⟨S8192x3200, .f32⟩

abbrev hbmTy (i : Nat) : BufTy := match i / 128 with
  | 0 => hbmTy0_0 i
  | 1 => hbmTy0_1 i
  | _ => ⟨S8192x3200, .f32⟩

abbrev bufTy : (tb : Table) → Fin (tcTables nBuf tb) → BufTy
  | .hbm, ⟨i, _⟩ => hbmTy i
  | _, _ => ⟨S8192x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_v52 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55_1 : Ref sig .tc := ⟨.hbm, 82, rfl⟩
abbrev main_v55_0 : Ref sig .tc := ⟨.hbm, 83, rfl⟩
abbrev main_call1_cst : Ref sig .tc := ⟨.hbm, 84, rfl⟩
abbrev main_v55_2 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_cst_16 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_17 : Ref sig .tc := ⟨.hbm, 130, rfl⟩
abbrev main_v93 : Ref sig .tc := ⟨.hbm, 131, rfl⟩
abbrev main_v94 : Ref sig .tc := ⟨.hbm, 132, rfl⟩
abbrev main_cst_18 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_19 : Ref sig .tc := ⟨.hbm, 144, rfl⟩
abbrev main_v105 : Ref sig .tc := ⟨.hbm, 145, rfl⟩
abbrev main_v106 : Ref sig .tc := ⟨.hbm, 146, rfl⟩
abbrev main_cst_20 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call2_cst : Ref sig .tc := ⟨.hbm, 154, rfl⟩
abbrev main_call2_v0 : Ref sig .tc := ⟨.hbm, 155, rfl⟩
abbrev main_v113 : Ref sig .tc := ⟨.hbm, 156, rfl⟩
abbrev main_v114 : Ref sig .tc := ⟨.hbm, 157, rfl⟩
abbrev main_cst_21 : Ref sig .tc := ⟨.hbm, 158, rfl⟩
abbrev main_v115 : Ref sig .tc := ⟨.hbm, 159, rfl⟩
abbrev main_v116 : Ref sig .tc := ⟨.hbm, 160, rfl⟩
abbrev main_cst_22 : Ref sig .tc := ⟨.hbm, 161, rfl⟩
abbrev main_v117 : Ref sig .tc := ⟨.hbm, 162, rfl⟩
abbrev main_v118 : Ref sig .tc := ⟨.hbm, 163, rfl⟩
abbrev main_cst_23 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_24 : Ref sig .tc := ⟨.hbm, 169, rfl⟩
abbrev main_v123 : Ref sig .tc := ⟨.hbm, 170, rfl⟩
abbrev main_v124 : Ref sig .tc := ⟨.hbm, 171, rfl⟩
abbrev main_cst_25 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_26 : Ref sig .tc := ⟨.hbm, 178, rfl⟩
abbrev main_v130 : Ref sig .tc := ⟨.hbm, 179, rfl⟩
abbrev main_v131 : Ref sig .tc := ⟨.hbm, 180, rfl⟩
abbrev main_cst_27 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_28 : Ref sig .tc := ⟨.hbm, 189, rfl⟩
abbrev main_v139 : Ref sig .tc := ⟨.hbm, 190, rfl⟩
abbrev main_v140 : Ref sig .tc := ⟨.hbm, 191, rfl⟩
abbrev main_cst_29 : Ref sig .tc := ⟨.hbm, 192, rfl⟩
abbrev main_v141 : Ref sig .tc := ⟨.hbm, 193, rfl⟩
abbrev main_v142 : Ref sig .tc := ⟨.hbm, 194, rfl⟩
abbrev main_cst_30 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_31 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_32 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_33 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_34 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_cst_35 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_cst_36 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024x352 : Shape := ⟨2, ![1024, 352]⟩
abbrev S352x1024 : Shape := ⟨2, ![352, 1024]⟩
abbrev S360448 : Shape := ⟨1, ![360448]⟩
abbrev S1081344 : Shape := ⟨1, ![1081344]⟩
abbrev S1056x1024 : Shape := ⟨2, ![1056, 1024]⟩
abbrev S1x1056x1024 : Shape := ⟨3, ![1, 1056, 1024]⟩
abbrev S8x1056x1024 : Shape := ⟨3, ![8, 1056, 1024]⟩
abbrev S256x1024 : Shape := ⟨2, ![256, 1024]⟩
abbrev S256x2816 : Shape := ⟨2, ![256, 2816]⟩
abbrev S24 : Shape := ⟨1, ![24]⟩
abbrev S1 : Shape := ⟨1, ![1]⟩
abbrev S1x352x1024 : Shape := ⟨3, ![1, 352, 1024]⟩
abbrev S256 : Shape := ⟨1, ![256]⟩
abbrev S256x1 : Shape := ⟨2, ![256, 1]⟩
abbrev S1024x1024 : Shape := ⟨2, ![1024, 1024]⟩
abbrev S256x768 : Shape := ⟨2, ![256, 768]⟩
abbrev S768x1024 : Shape := ⟨2, ![768, 1024]⟩

abbrev nBuf : Space → Nat
  | .hbm => 442
  | .vmem => 19
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x2816, .f32⟩
  | 4 => ⟨S1024x2816, .f32⟩
  | 5 => ⟨S2816x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x2816, .f32⟩
  | 24 => ⟨S8192x2816, .f32⟩
  | 25 => ⟨S1024x352, .f32⟩
  | 26 => ⟨S1024x352, .f32⟩
  | 27 => ⟨S352x1024, .f32⟩
  | 28 => ⟨S1024x352, .f32⟩
  | 29 => ⟨S1024x352, .f32⟩
  | 30 => ⟨S352x1024, .f32⟩
  | 31 => ⟨S1024x352, .f32⟩
  | 32 => ⟨S1024x352, .f32⟩
  | 33 => ⟨S352x1024, .f32⟩
  | 34 => ⟨S1024x352, .f32⟩
  | 35 => ⟨S1024x352, .f32⟩
  | 36 => ⟨S352x1024, .f32⟩
  | 37 => ⟨S1024x352, .f32⟩
  | 38 => ⟨S1024x352, .f32⟩
  | 39 => ⟨S352x1024, .f32⟩
  | 40 => ⟨S1024x352, .f32⟩
  | 41 => ⟨S1024x352, .f32⟩
  | 42 => ⟨S352x1024, .f32⟩
  | 43 => ⟨S1024x352, .f32⟩
  | 44 => ⟨S1024x352, .f32⟩
  | 45 => ⟨S352x1024, .f32⟩
  | 46 => ⟨S1024x352, .f32⟩
  | 47 => ⟨S1024x352, .f32⟩
  | 48 => ⟨S352x1024, .f32⟩
  | 49 => ⟨S1024x352, .bf16⟩
  | 50 => ⟨S1024x352, .bf16⟩
  | 51 => ⟨S352x1024, .bf16⟩
  | 52 => ⟨S352x1024, .bf16⟩
  | 53 => ⟨S360448, .bf16⟩
  | 54 => ⟨S352x1024, .bf16⟩
  | 55 => ⟨S360448, .bf16⟩
  | 56 => ⟨S360448, .bf16⟩
  | 57 => ⟨S1081344, .bf16⟩
  | 58 => ⟨S_, .i32⟩
  | 59 => ⟨S_, .bf16⟩
  | 60 => ⟨S1081344, .bf16⟩
  | 61 => ⟨S1056x1024, .bf16⟩
  | 62 => ⟨S1024x352, .bf16⟩
  | 63 => ⟨S1024x352, .bf16⟩
  | 64 => ⟨S352x1024, .bf16⟩
  | 65 => ⟨S352x1024, .bf16⟩
  | 66 => ⟨S360448, .bf16⟩
  | 67 => ⟨S352x1024, .bf16⟩
  | 68 => ⟨S360448, .bf16⟩
  | 69 => ⟨S360448, .bf16⟩
  | 70 => ⟨S1081344, .bf16⟩
  | 71 => ⟨S_, .i32⟩
  | 72 => ⟨S_, .bf16⟩
  | 73 => ⟨S1081344, .bf16⟩
  | 74 => ⟨S1056x1024, .bf16⟩
  | 75 => ⟨S1024x352, .bf16⟩
  | 76 => ⟨S1024x352, .bf16⟩
  | 77 => ⟨S352x1024, .bf16⟩
  | 78 => ⟨S352x1024, .bf16⟩
  | 79 => ⟨S360448, .bf16⟩
  | 80 => ⟨S352x1024, .bf16⟩
  | 81 => ⟨S360448, .bf16⟩
  | 82 => ⟨S360448, .bf16⟩
  | 83 => ⟨S1081344, .bf16⟩
  | 84 => ⟨S_, .i32⟩
  | 85 => ⟨S_, .bf16⟩
  | 86 => ⟨S1081344, .bf16⟩
  | 87 => ⟨S1056x1024, .bf16⟩
  | 88 => ⟨S1024x352, .bf16⟩
  | 89 => ⟨S1024x352, .bf16⟩
  | 90 => ⟨S352x1024, .bf16⟩
  | 91 => ⟨S352x1024, .bf16⟩
  | 92 => ⟨S360448, .bf16⟩
  | 93 => ⟨S352x1024, .bf16⟩
  | 94 => ⟨S360448, .bf16⟩
  | 95 => ⟨S360448, .bf16⟩
  | 96 => ⟨S1081344, .bf16⟩
  | 97 => ⟨S_, .i32⟩
  | 98 => ⟨S_, .bf16⟩
  | 99 => ⟨S1081344, .bf16⟩
  | 100 => ⟨S1056x1024, .bf16⟩
  | 101 => ⟨S1024x352, .bf16⟩
  | 102 => ⟨S1024x352, .bf16⟩
  | 103 => ⟨S352x1024, .bf16⟩
  | 104 => ⟨S352x1024, .bf16⟩
  | 105 => ⟨S360448, .bf16⟩
  | 106 => ⟨S352x1024, .bf16⟩
  | 107 => ⟨S360448, .bf16⟩
  | 108 => ⟨S360448, .bf16⟩
  | 109 => ⟨S1081344, .bf16⟩
  | 110 => ⟨S_, .i32⟩
  | 111 => ⟨S_, .bf16⟩
  | 112 => ⟨S1081344, .bf16⟩
  | 113 => ⟨S1056x1024, .bf16⟩
  | 114 => ⟨S1024x352, .bf16⟩
  | 115 => ⟨S1024x352, .bf16⟩
  | 116 => ⟨S352x1024, .bf16⟩
  | 117 => ⟨S352x1024, .bf16⟩
  | 118 => ⟨S360448, .bf16⟩
  | 119 => ⟨S352x1024, .bf16⟩
  | 120 => ⟨S360448, .bf16⟩
  | 121 => ⟨S360448, .bf16⟩
  | 122 => ⟨S1081344, .bf16⟩
  | 123 => ⟨S_, .i32⟩
  | 124 => ⟨S_, .bf16⟩
  | 125 => ⟨S1081344, .bf16⟩
  | 126 => ⟨S1056x1024, .bf16⟩
  | 127 => ⟨S1024x352, .bf16⟩
  | _ => ⟨S8192x1024, .f32⟩

abbrev hbmTy0_1 (i : Nat) : BufTy := match i % 128 with
  | 0 => ⟨S1024x352, .bf16⟩
  | 1 => ⟨S352x1024, .bf16⟩
  | 2 => ⟨S352x1024, .bf16⟩
  | 3 => ⟨S360448, .bf16⟩
  | 4 => ⟨S352x1024, .bf16⟩
  | 5 => ⟨S360448, .bf16⟩
  | 6 => ⟨S360448, .bf16⟩
  | 7 => ⟨S1081344, .bf16⟩
  | 8 => ⟨S_, .i32⟩
  | 9 => ⟨S_, .bf16⟩
  | 10 => ⟨S1081344, .bf16⟩
  | 11 => ⟨S1056x1024, .bf16⟩
  | 12 => ⟨S1024x352, .bf16⟩
  | 13 => ⟨S1024x352, .bf16⟩
  | 14 => ⟨S352x1024, .bf16⟩
  | 15 => ⟨S352x1024, .bf16⟩
  | 16 => ⟨S360448, .bf16⟩
  | 17 => ⟨S352x1024, .bf16⟩
  | 18 => ⟨S360448, .bf16⟩
  | 19 => ⟨S360448, .bf16⟩
  | 20 => ⟨S1081344, .bf16⟩
  | 21 => ⟨S_, .i32⟩
  | 22 => ⟨S_, .bf16⟩
  | 23 => ⟨S1081344, .bf16⟩
  | 24 => ⟨S1056x1024, .bf16⟩
  | 25 => ⟨S1x1056x1024, .bf16⟩
  | 26 => ⟨S1x1056x1024, .bf16⟩
  | 27 => ⟨S1x1056x1024, .bf16⟩
  | 28 => ⟨S1x1056x1024, .bf16⟩
  | 29 => ⟨S1x1056x1024, .bf16⟩
  | 30 => ⟨S1x1056x1024, .bf16⟩
  | 31 => ⟨S1x1056x1024, .bf16⟩
  | 32 => ⟨S1x1056x1024, .bf16⟩
  | 33 => ⟨S8x1056x1024, .bf16⟩
  | 34 => ⟨S1024x352, .f32⟩
  | 35 => ⟨S1024x352, .f32⟩
  | 36 => ⟨S352x1024, .f32⟩
  | 37 => ⟨S1024x352, .f32⟩
  | 38 => ⟨S1024x352, .f32⟩
  | 39 => ⟨S352x1024, .f32⟩
  | 40 => ⟨S1024x352, .f32⟩
  | 41 => ⟨S1024x352, .f32⟩
  | 42 => ⟨S352x1024, .f32⟩
  | 43 => ⟨S1024x352, .f32⟩
  | 44 => ⟨S1024x352, .f32⟩
  | 45 => ⟨S352x1024, .f32⟩
  | 46 => ⟨S1024x352, .f32⟩
  | 47 => ⟨S1024x352, .f32⟩
  | 48 => ⟨S352x1024, .f32⟩
  | 49 => ⟨S1024x352, .f32⟩
  | 50 => ⟨S1024x352, .f32⟩
  | 51 => ⟨S352x1024, .f32⟩
  | 52 => ⟨S1024x352, .f32⟩
  | 53 => ⟨S1024x352, .f32⟩
  | 54 => ⟨S352x1024, .f32⟩
  | 55 => ⟨S1024x352, .f32⟩
  | 56 => ⟨S1024x352, .f32⟩
  | 57 => ⟨S352x1024, .f32⟩
  | 58 => ⟨S1024x352, .bf16⟩
  | 59 => ⟨S1024x352, .bf16⟩
  | 60 => ⟨S352x1024, .bf16⟩
  | 61 => ⟨S352x1024, .bf16⟩
  | 62 => ⟨S360448, .bf16⟩
  | 63 => ⟨S352x1024, .bf16⟩
  | 64 => ⟨S360448, .bf16⟩
  | 65 => ⟨S360448, .bf16⟩
  | 66 => ⟨S1081344, .bf16⟩
  | 67 => ⟨S_, .i32⟩
  | 68 => ⟨S_, .bf16⟩
  | 69 => ⟨S1081344, .bf16⟩
  | 70 => ⟨S1056x1024, .bf16⟩
  | 71 => ⟨S1024x352, .bf16⟩
  | 72 => ⟨S1024x352, .bf16⟩
  | 73 => ⟨S352x1024, .bf16⟩
  | 74 => ⟨S352x1024, .bf16⟩
  | 75 => ⟨S360448, .bf16⟩
  | 76 => ⟨S352x1024, .bf16⟩
  | 77 => ⟨S360448, .bf16⟩
  | 78 => ⟨S360448, .bf16⟩
  | 79 => ⟨S1081344, .bf16⟩
  | 80 => ⟨S_, .i32⟩
  | 81 => ⟨S_, .bf16⟩
  | 82 => ⟨S1081344, .bf16⟩
  | 83 => ⟨S1056x1024, .bf16⟩
  | 84 => ⟨S1024x352, .bf16⟩
  | 85 => ⟨S1024x352, .bf16⟩
  | 86 => ⟨S352x1024, .bf16⟩
  | 87 => ⟨S352x1024, .bf16⟩
  | 88 => ⟨S360448, .bf16⟩
  | 89 => ⟨S352x1024, .bf16⟩
  | 90 => ⟨S360448, .bf16⟩
  | 91 => ⟨S360448, .bf16⟩
  | 92 => ⟨S1081344, .bf16⟩
  | 93 => ⟨S_, .i32⟩
  | 94 => ⟨S_, .bf16⟩
  | 95 => ⟨S1081344, .bf16⟩
  | 96 => ⟨S1056x1024, .bf16⟩
  | 97 => ⟨S1024x352, .bf16⟩
  | 98 => ⟨S1024x352, .bf16⟩
  | 99 => ⟨S352x1024, .bf16⟩
  | 100 => ⟨S352x1024, .bf16⟩
  | 101 => ⟨S360448, .bf16⟩
  | 102 => ⟨S352x1024, .bf16⟩
  | 103 => ⟨S360448, .bf16⟩
  | 104 => ⟨S360448, .bf16⟩
  | 105 => ⟨S1081344, .bf16⟩
  | 106 => ⟨S_, .i32⟩
  | 107 => ⟨S_, .bf16⟩
  | 108 => ⟨S1081344, .bf16⟩
  | 109 => ⟨S1056x1024, .bf16⟩
  | 110 => ⟨S1024x352, .bf16⟩
  | 111 => ⟨S1024x352, .bf16⟩
  | 112 => ⟨S352x1024, .bf16⟩
  | 113 => ⟨S352x1024, .bf16⟩
  | 114 => ⟨S360448, .bf16⟩
  | 115 => ⟨S352x1024, .bf16⟩
  | 116 => ⟨S360448, .bf16⟩
  | 117 => ⟨S360448, .bf16⟩
  | 118 => ⟨S1081344, .bf16⟩
  | 119 => ⟨S_, .i32⟩
  | 120 => ⟨S_, .bf16⟩
  | 121 => ⟨S1081344, .bf16⟩
  | 122 => ⟨S1056x1024, .bf16⟩
  | 123 => ⟨S1024x352, .bf16⟩
  | 124 => ⟨S1024x352, .bf16⟩
  | 125 => ⟨S352x1024, .bf16⟩
  | 126 => ⟨S352x1024, .bf16⟩
  | 127 => ⟨S360448, .bf16⟩
  | _ => ⟨S8192x1024, .f32⟩

abbrev hbmTy0_2 (i : Nat) : BufTy := match i % 128 with
  | 0 => ⟨S352x1024, .bf16⟩
  | 1 => ⟨S360448, .bf16⟩
  | 2 => ⟨S360448, .bf16⟩
  | 3 => ⟨S1081344, .bf16⟩
  | 4 => ⟨S_, .i32⟩
  | 5 => ⟨S_, .bf16⟩
  | 6 => ⟨S1081344, .bf16⟩
  | 7 => ⟨S1056x1024, .bf16⟩
  | 8 => ⟨S1024x352, .bf16⟩
  | 9 => ⟨S1024x352, .bf16⟩
  | 10 => ⟨S352x1024, .bf16⟩
  | 11 => ⟨S352x1024, .bf16⟩
  | 12 => ⟨S360448, .bf16⟩
  | 13 => ⟨S352x1024, .bf16⟩
  | 14 => ⟨S360448, .bf16⟩
  | 15 => ⟨S360448, .bf16⟩
  | 16 => ⟨S1081344, .bf16⟩
  | 17 => ⟨S_, .i32⟩
  | 18 => ⟨S_, .bf16⟩
  | 19 => ⟨S1081344, .bf16⟩
  | 20 => ⟨S1056x1024, .bf16⟩
  | 21 => ⟨S1024x352, .bf16⟩
  | 22 => ⟨S1024x352, .bf16⟩
  | 23 => ⟨S352x1024, .bf16⟩
  | 24 => ⟨S352x1024, .bf16⟩
  | 25 => ⟨S360448, .bf16⟩
  | 26 => ⟨S352x1024, .bf16⟩
  | 27 => ⟨S360448, .bf16⟩
  | 28 => ⟨S360448, .bf16⟩
  | 29 => ⟨S1081344, .bf16⟩
  | 30 => ⟨S_, .i32⟩
  | 31 => ⟨S_, .bf16⟩
  | 32 => ⟨S1081344, .bf16⟩
  | 33 => ⟨S1056x1024, .bf16⟩
  | 34 => ⟨S1x1056x1024, .bf16⟩
  | 35 => ⟨S1x1056x1024, .bf16⟩
  | 36 => ⟨S1x1056x1024, .bf16⟩
  | 37 => ⟨S1x1056x1024, .bf16⟩
  | 38 => ⟨S1x1056x1024, .bf16⟩
  | 39 => ⟨S1x1056x1024, .bf16⟩
  | 40 => ⟨S1x1056x1024, .bf16⟩
  | 41 => ⟨S1x1056x1024, .bf16⟩
  | 42 => ⟨S8x1056x1024, .bf16⟩
  | 43 => ⟨S1024x352, .f32⟩
  | 44 => ⟨S1024x352, .f32⟩
  | 45 => ⟨S352x1024, .f32⟩
  | 46 => ⟨S1024x352, .f32⟩
  | 47 => ⟨S1024x352, .f32⟩
  | 48 => ⟨S352x1024, .f32⟩
  | 49 => ⟨S1024x352, .f32⟩
  | 50 => ⟨S1024x352, .f32⟩
  | 51 => ⟨S352x1024, .f32⟩
  | 52 => ⟨S1024x352, .f32⟩
  | 53 => ⟨S1024x352, .f32⟩
  | 54 => ⟨S352x1024, .f32⟩
  | 55 => ⟨S1024x352, .f32⟩
  | 56 => ⟨S1024x352, .f32⟩
  | 57 => ⟨S352x1024, .f32⟩
  | 58 => ⟨S1024x352, .f32⟩
  | 59 => ⟨S1024x352, .f32⟩
  | 60 => ⟨S352x1024, .f32⟩
  | 61 => ⟨S1024x352, .f32⟩
  | 62 => ⟨S1024x352, .f32⟩
  | 63 => ⟨S352x1024, .f32⟩
  | 64 => ⟨S1024x352, .f32⟩
  | 65 => ⟨S1024x352, .f32⟩
  | 66 => ⟨S352x1024, .f32⟩
  | 67 => ⟨S1024x352, .bf16⟩
  | 68 => ⟨S1024x352, .bf16⟩
  | 69 => ⟨S352x1024, .bf16⟩
  | 70 => ⟨S352x1024, .bf16⟩
  | 71 => ⟨S360448, .bf16⟩
  | 72 => ⟨S352x1024, .bf16⟩
  | 73 => ⟨S360448, .bf16⟩
  | 74 => ⟨S360448, .bf16⟩
  | 75 => ⟨S1081344, .bf16⟩
  | 76 => ⟨S_, .i32⟩
  | 77 => ⟨S_, .bf16⟩
  | 78 => ⟨S1081344, .bf16⟩
  | 79 => ⟨S1056x1024, .bf16⟩
  | 80 => ⟨S1024x352, .bf16⟩
  | 81 => ⟨S1024x352, .bf16⟩
  | 82 => ⟨S352x1024, .bf16⟩
  | 83 => ⟨S352x1024, .bf16⟩
  | 84 => ⟨S360448, .bf16⟩
  | 85 => ⟨S352x1024, .bf16⟩
  | 86 => ⟨S360448, .bf16⟩
  | 87 => ⟨S360448, .bf16⟩
  | 88 => ⟨S1081344, .bf16⟩
  | 89 => ⟨S_, .i32⟩
  | 90 => ⟨S_, .bf16⟩
  | 91 => ⟨S1081344, .bf16⟩
  | 92 => ⟨S1056x1024, .bf16⟩
  | 93 => ⟨S1024x352, .bf16⟩
  | 94 => ⟨S1024x352, .bf16⟩
  | 95 => ⟨S352x1024, .bf16⟩
  | 96 => ⟨S352x1024, .bf16⟩
  | 97 => ⟨S360448, .bf16⟩
  | 98 => ⟨S352x1024, .bf16⟩
  | 99 => ⟨S360448, .bf16⟩
  | 100 => ⟨S360448, .bf16⟩
  | 101 => ⟨S1081344, .bf16⟩
  | 102 => ⟨S_, .i32⟩
  | 103 => ⟨S_, .bf16⟩
  | 104 => ⟨S1081344, .bf16⟩
  | 105 => ⟨S1056x1024, .bf16⟩
  | 106 => ⟨S1024x352, .bf16⟩
  | 107 => ⟨S1024x352, .bf16⟩
  | 108 => ⟨S352x1024, .bf16⟩
  | 109 => ⟨S352x1024, .bf16⟩
  | 110 => ⟨S360448, .bf16⟩
  | 111 => ⟨S352x1024, .bf16⟩
  | 112 => ⟨S360448, .bf16⟩
  | 113 => ⟨S360448, .bf16⟩
  | 114 => ⟨S1081344, .bf16⟩
  | 115 => ⟨S_, .i32⟩
  | 116 => ⟨S_, .bf16⟩
  | 117 => ⟨S1081344, .bf16⟩
  | 118 => ⟨S1056x1024, .bf16⟩
  | 119 => ⟨S1024x352, .bf16⟩
  | 120 => ⟨S1024x352, .bf16⟩
  | 121 => ⟨S352x1024, .bf16⟩
  | 122 => ⟨S352x1024, .bf16⟩
  | 123 => ⟨S360448, .bf16⟩
  | 124 => ⟨S352x1024, .bf16⟩
  | 125 => ⟨S360448, .bf16⟩
  | 126 => ⟨S360448, .bf16⟩
  | 127 => ⟨S1081344, .bf16⟩
  | _ => ⟨S8192x1024, .f32⟩

abbrev hbmTy0_3 (i : Nat) : BufTy := match i % 128 with
  | 0 => ⟨S_, .i32⟩
  | 1 => ⟨S_, .bf16⟩
  | 2 => ⟨S1081344, .bf16⟩
  | 3 => ⟨S1056x1024, .bf16⟩
  | 4 => ⟨S1024x352, .bf16⟩
  | 5 => ⟨S1024x352, .bf16⟩
  | 6 => ⟨S352x1024, .bf16⟩
  | 7 => ⟨S352x1024, .bf16⟩
  | 8 => ⟨S360448, .bf16⟩
  | 9 => ⟨S352x1024, .bf16⟩
  | 10 => ⟨S360448, .bf16⟩
  | 11 => ⟨S360448, .bf16⟩
  | 12 => ⟨S1081344, .bf16⟩
  | 13 => ⟨S_, .i32⟩
  | 14 => ⟨S_, .bf16⟩
  | 15 => ⟨S1081344, .bf16⟩
  | 16 => ⟨S1056x1024, .bf16⟩
  | 17 => ⟨S1024x352, .bf16⟩
  | 18 => ⟨S1024x352, .bf16⟩
  | 19 => ⟨S352x1024, .bf16⟩
  | 20 => ⟨S352x1024, .bf16⟩
  | 21 => ⟨S360448, .bf16⟩
  | 22 => ⟨S352x1024, .bf16⟩
  | 23 => ⟨S360448, .bf16⟩
  | 24 => ⟨S360448, .bf16⟩
  | 25 => ⟨S1081344, .bf16⟩
  | 26 => ⟨S_, .i32⟩
  | 27 => ⟨S_, .bf16⟩
  | 28 => ⟨S1081344, .bf16⟩
  | 29 => ⟨S1056x1024, .bf16⟩
  | 30 => ⟨S1024x352, .bf16⟩
  | 31 => ⟨S1024x352, .bf16⟩
  | 32 => ⟨S352x1024, .bf16⟩
  | 33 => ⟨S352x1024, .bf16⟩
  | 34 => ⟨S360448, .bf16⟩
  | 35 => ⟨S352x1024, .bf16⟩
  | 36 => ⟨S360448, .bf16⟩
  | 37 => ⟨S360448, .bf16⟩
  | 38 => ⟨S1081344, .bf16⟩
  | 39 => ⟨S_, .i32⟩
  | 40 => ⟨S_, .bf16⟩
  | 41 => ⟨S1081344, .bf16⟩
  | 42 => ⟨S1056x1024, .bf16⟩
  | 43 => ⟨S1x1056x1024, .bf16⟩
  | 44 => ⟨S1x1056x1024, .bf16⟩
  | 45 => ⟨S1x1056x1024, .bf16⟩
  | 46 => ⟨S1x1056x1024, .bf16⟩
  | 47 => ⟨S1x1056x1024, .bf16⟩
  | 48 => ⟨S1x1056x1024, .bf16⟩
  | 49 => ⟨S1x1056x1024, .bf16⟩
  | 50 => ⟨S1x1056x1024, .bf16⟩
  | 51 => ⟨S8x1056x1024, .bf16⟩
  | 52 => ⟨S8192x2816, .bf16⟩
  | 53 => ⟨S8192x2816, .bf16⟩
  | 54 => ⟨S8192x1024, .f32⟩
  | 55 => ⟨S8192x2816, .bf16⟩
  | 56 => ⟨S8192x2816, .bf16⟩
  | 57 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S1x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c : Ref sig .tc := ⟨.hbm, 58, rfl⟩
abbrev main_call0_v0 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_c_2 : Ref sig .tc := ⟨.hbm, 71, rfl⟩
abbrev main_call1_v0 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_c_3 : Ref sig .tc := ⟨.hbm, 84, rfl⟩
abbrev main_call2_v0 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_c_4 : Ref sig .tc := ⟨.hbm, 97, rfl⟩
abbrev main_call3_v0 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_c_5 : Ref sig .tc := ⟨.hbm, 110, rfl⟩
abbrev main_call4_v0 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_c_6 : Ref sig .tc := ⟨.hbm, 123, rfl⟩
abbrev main_call5_v0 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_7 : Ref sig .tc := ⟨.hbm, 136, rfl⟩
abbrev main_call6_v0 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_c_8 : Ref sig .tc := ⟨.hbm, 149, rfl⟩
abbrev main_call7_v0 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_c_9 : Ref sig .tc := ⟨.hbm, 195, rfl⟩
abbrev main_call8_v0 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_c_10 : Ref sig .tc := ⟨.hbm, 208, rfl⟩
abbrev main_call9_v0 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_c_11 : Ref sig .tc := ⟨.hbm, 221, rfl⟩
abbrev main_call10_v0 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_c_12 : Ref sig .tc := ⟨.hbm, 234, rfl⟩
abbrev main_call11_v0 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_c_13 : Ref sig .tc := ⟨.hbm, 247, rfl⟩
abbrev main_call12_v0 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_c_14 : Ref sig .tc := ⟨.hbm, 260, rfl⟩
abbrev main_call13_v0 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_c_15 : Ref sig .tc := ⟨.hbm, 273, rfl⟩
abbrev main_call14_v0 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_c_16 : Ref sig .tc := ⟨.hbm, 286, rfl⟩
abbrev main_call15_v0 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_c_17 : Ref sig .tc := ⟨.hbm, 332, rfl⟩
abbrev main_call16_v0 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_c_18 : Ref sig .tc := ⟨.hbm, 345, rfl⟩
abbrev main_call17_v0 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_c_19 : Ref sig .tc := ⟨.hbm, 358, rfl⟩
abbrev main_call18_v0 : Ref sig .tc := ⟨.hbm, 359, rfl⟩
abbrev main_v313 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_v317 : Ref sig .tc := ⟨.hbm, 364, rfl⟩
abbrev main_v318 : Ref sig .tc := ⟨.hbm, 365, rfl⟩
abbrev main_v319 : Ref sig .tc := ⟨.hbm, 366, rfl⟩
abbrev main_v320 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_c_20 : Ref sig .tc := ⟨.hbm, 371, rfl⟩
abbrev main_call19_v0 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_c_21 : Ref sig .tc := ⟨.hbm, 384, rfl⟩
abbrev main_call20_v0 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_c_22 : Ref sig .tc := ⟨.hbm, 397, rfl⟩
abbrev main_call21_v0 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_c_23 : Ref sig .tc := ⟨.hbm, 410, rfl⟩
abbrev main_call22_v0 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_v363 : Ref sig .tc := ⟨.hbm, 418, rfl⟩
abbrev main_v364 : Ref sig .tc := ⟨.hbm, 419, rfl⟩
abbrev main_v365 : Ref sig .tc := ⟨.hbm, 420, rfl⟩
abbrev main_v366 : Ref sig .tc := ⟨.hbm, 421, rfl⟩
abbrev main_v367 : Ref sig .tc := ⟨.hbm, 422, rfl⟩
abbrev main_c_24 : Ref sig .tc := ⟨.hbm, 423, rfl⟩
abbrev main_call23_v0 : Ref sig .tc := ⟨.hbm, 424, rfl⟩
abbrev main_v368 : Ref sig .tc := ⟨.hbm, 425, rfl⟩
abbrev main_v369 : Ref sig .tc := ⟨.hbm, 426, rfl⟩
abbrev main_v370 : Ref sig .tc := ⟨.hbm, 427, rfl⟩
abbrev main_v371 : Ref sig .tc := ⟨.hbm, 428, rfl⟩
abbrev main_v372 : Ref sig .tc := ⟨.hbm, 429, rfl⟩
abbrev main_v373 : Ref sig .tc := ⟨.hbm, 430, rfl⟩
abbrev main_v374 : Ref sig .tc := ⟨.hbm, 431, rfl⟩
abbrev main_v375 : Ref sig .tc := ⟨.hbm, 432, rfl⟩
abbrev main_v376 : Ref sig .tc := ⟨.hbm, 433, rfl⟩
abbrev main_v377 : Ref sig .tc := ⟨.hbm, 434, rfl⟩
abbrev main_v378 : Ref sig .tc := ⟨.hbm, 435, rfl⟩
abbrev main_v379 : Ref sig .tc := ⟨.hbm, 436, rfl⟩
abbrev main_v380 : Ref sig .tc := ⟨.hbm, 437, rfl⟩
abbrev main_v381_0 : Ref sig .tc := ⟨.hbm, 438, rfl⟩
abbrev main_v381_1 : Ref sig .tc := ⟨.hbm, 439, rfl⟩
abbrev main_v381_2 : Ref sig .tc := ⟨.hbm, 440, rfl⟩
abbrev main_v381_3 : Ref sig .tc := ⟨.hbm, 441, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 138
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x2816, .f32⟩
  | 4 => ⟨S1024x2816, .f32⟩
  | 5 => ⟨S2816x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x2816, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S8192x2816, .f32⟩
  | 53 => ⟨S8192x2816, .f32⟩
  | 54 => ⟨S8192x2816, .f32⟩
  | 55 => ⟨S8192x1024, .f32⟩
  | 56 => ⟨S8192x2816, .f32⟩
  | 57 => ⟨S8192x2816, .f32⟩
  | 58 => ⟨S8192x2816, .f32⟩
  | 59 => ⟨S8192x2816, .f32⟩
  | 60 => ⟨S8192x1024, .f32⟩
  | 61 => ⟨S8192x1024, .f32⟩
  | 62 => ⟨S8192x1024, .f32⟩
  | 63 => ⟨S_, .f32⟩
  | 64 => ⟨S1024, .f32⟩
  | 65 => ⟨S1x1024, .f32⟩
  | 66 => ⟨S8192x1024, .f32⟩
  | 67 => ⟨S8192x1024, .f32⟩
  | 68 => ⟨S_, .f32⟩
  | 69 => ⟨S1024, .f32⟩
  | 70 => ⟨S8192x1024, .f32⟩
  | 71 => ⟨S_, .f32⟩
  | 72 => ⟨S8192, .f32⟩
  | 73 => ⟨S8192x1, .f32⟩
  | 74 => ⟨S8192x1024, .f32⟩
  | 75 => ⟨S8192x1024, .f32⟩
  | 76 => ⟨S8192x1024, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S1x1024, .f32⟩
  | 89 => ⟨S1024, .f32⟩
  | 90 => ⟨S8192x1024, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192x1, .f32⟩
  | 99 => ⟨S8192x1, .f32⟩
  | 100 => ⟨S8192x1, .f32⟩
  | 101 => ⟨S8192x1024, .f32⟩
  | 102 => ⟨S8192x1024, .f32⟩
  | 103 => ⟨S1x1024, .f32⟩
  | 104 => ⟨S8192x1024, .f32⟩
  | 105 => ⟨S8192x1024, .f32⟩
  | 106 => ⟨S8192x2816, .f32⟩
  | 107 => ⟨S8192x2816, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S_, .f32⟩
  | 117 => ⟨S8192x2816, .f32⟩
  | 118 => ⟨S8192x2816, .f32⟩
  | 119 => ⟨S8192x2816, .f32⟩
  | 120 => ⟨S8192x2816, .f32⟩
  | 121 => ⟨S8192x2816, .f32⟩
  | 122 => ⟨S8192x1024, .f32⟩
  | 123 => ⟨S_, .f32⟩
  | 124 => ⟨S8192x1024, .f32⟩
  | 125 => ⟨S8192x1024, .f32⟩
  | 126 => ⟨S_, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x2816, .f32⟩
  | 2 => ⟨S8192x2816, .f32⟩
  | 3 => ⟨S8192x2816, .f32⟩
  | 4 => ⟨S8192x2816, .f32⟩
  | 5 => ⟨S8192x2816, .f32⟩
  | 6 => ⟨S8192x2816, .f32⟩
  | 7 => ⟨S8192x2816, .f32⟩
  | 8 => ⟨S8192x2816, .bf16⟩
  | 9 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_v73_2 : Ref sig .tc := ⟨.hbm, 115, rfl⟩
abbrev main_call2_cst_1 : Ref sig .tc := ⟨.hbm, 116, rfl⟩
abbrev main_call2_v6 : Ref sig .tc := ⟨.hbm, 117, rfl⟩
abbrev main_call2_v7 : Ref sig .tc := ⟨.hbm, 118, rfl⟩
abbrev main_v73_1 : Ref sig .tc := ⟨.hbm, 119, rfl⟩
abbrev main_v73_0 : Ref sig .tc := ⟨.hbm, 120, rfl⟩
abbrev main_v74 : Ref sig .tc := ⟨.hbm, 121, rfl⟩
abbrev main_v75 : Ref sig .tc := ⟨.hbm, 122, rfl⟩
abbrev main_cst_13 : Ref sig .tc := ⟨.hbm, 123, rfl⟩
abbrev main_v76 : Ref sig .tc := ⟨.hbm, 124, rfl⟩
abbrev main_v77 : Ref sig .tc := ⟨.hbm, 125, rfl⟩
abbrev main_cst_14 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S2816x1024 : Shape := ⟨2, ![2816, 1024]⟩
abbrev S2048x1024 : Shape := ⟨2, ![2048, 1024]⟩
abbrev S2048x1408 : Shape := ⟨2, ![2048, 1408]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x512, .f32⟩
  | .local _ .vmem, ⟨3, _⟩ => ⟨S1024x512, .f32⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S8192x2688 : Shape := ⟨2, ![8192, 2688]⟩
abbrev S2688x1024 : Shape := ⟨2, ![2688, 1024]⟩
abbrev S2048x1024 : Shape := ⟨2, ![2048, 1024]⟩
abbrev S2048x896 : Shape := ⟨2, ![2048, 896]⟩
abbrev S896x1024 : Shape := ⟨2, ![896, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S2688x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S896x1024, .bf16⟩
  | .local _ .vmem, ⟨5, _⟩ => ⟨S896x1024, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S8192x2688 : Shape := ⟨2, ![8192, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S8192x1024, .f32⟩
  | .hbm, ⟨3, _⟩ => ⟨S8192x2688, .f32⟩
  | .hbm, ⟨4, _⟩ => ⟨S_, .f32⟩
  | .hbm, ⟨5, _⟩ => ⟨S1024x2688, .f32⟩
  | .hbm, ⟨6, _⟩ => ⟨S8192x2688, .f32⟩
  | .hbm, ⟨7, _⟩ => ⟨S2688x1024, .f32⟩
  | .hbm, ⟨8, _⟩ => ⟨S1024x2688, .f32⟩
  | .hbm, ⟨9, _⟩ => ⟨S2688x1024, .f32⟩
  | .hbm, ⟨10, _⟩ => ⟨S2688x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x1024 : Shape := ⟨2, ![8192, 1024]⟩
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S1024x352 : Shape := ⟨2, ![1024, 352]⟩
abbrev S352x1024 : Shape := ⟨2, ![352, 1024]⟩
abbrev S360448 : Shape := ⟨1, ![360448]⟩
abbrev S1081344 : Shape := ⟨1, ![1081344]⟩
abbrev S_ : Shape := ⟨0, ![]⟩
abbrev S1056x1024 : Shape := ⟨2, ![1056, 1024]⟩
abbrev S1x1056x1024 : Shape := ⟨3, ![1, 1056, 1024]⟩
abbrev S8x1056x1024 : Shape := ⟨3, ![8, 1056, 1024]⟩
abbrev S256x1024 : Shape := ⟨2, ![256, 1024]⟩
abbrev S262144 : Shape := ⟨1, ![262144]⟩
abbrev S1x256x1024 : Shape := ⟨3, ![1, 256, 1024]⟩
abbrev S8x256x1024 : Shape := ⟨3, ![8, 256, 1024]⟩
abbrev S8192x2816 : Shape := ⟨2, ![8192, 2816]⟩
abbrev S256x2816 : Shape := ⟨2, ![256, 2816]⟩
abbrev S32 : Shape := ⟨1, ![32]⟩
abbrev S1 : Shape := ⟨1, ![1]⟩
abbrev S1x352x1024 : Shape := ⟨3, ![1, 352, 1024]⟩
abbrev S1024x1024 : Shape := ⟨2, ![1024, 1024]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩

abbrev nBuf : Space → Nat
  | .hbm => 490
  | .vmem => 23
  | .smem => 0
  | _ => 0

abbrev hbmTy0_0 (i : Nat) : BufTy := match i % 128 with
  | 0 => ⟨S8192x1024, .f32⟩
  | 1 => ⟨S8192x1024, .bf16⟩
  | 2 => ⟨S8192x1024, .bf16⟩
  | 3 => ⟨S2048x1024, .f32⟩
  | 4 => ⟨S1x1024, .f32⟩
  | 5 => ⟨S1024x2816, .f32⟩
  | 6 => ⟨S1024x2816, .f32⟩
  | 7 => ⟨S2816x1024, .f32⟩
  | 8 => ⟨S1024x352, .f32⟩
  | 9 => ⟨S1024x352, .f32⟩
  | 10 => ⟨S352x1024, .f32⟩
  | 11 => ⟨S1024x352, .f32⟩
  | 12 => ⟨S1024x352, .f32⟩
  | 13 => ⟨S352x1024, .f32⟩
  | 14 => ⟨S1024x352, .f32⟩
  | 15 => ⟨S1024x352, .f32⟩
  | 16 => ⟨S352x1024, .f32⟩
  | 17 => ⟨S1024x352, .f32⟩
  | 18 => ⟨S1024x352, .f32⟩
  | 19 => ⟨S352x1024, .f32⟩
  | 20 => ⟨S1024x352, .f32⟩
  | 21 => ⟨S1024x352, .f32⟩
  | 22 => ⟨S352x1024, .f32⟩
  | 23 => ⟨S1024x352, .f32⟩
  | 24 => ⟨S1024x352, .f32⟩
  | 25 => ⟨S352x1024, .f32⟩
  | 26 => ⟨S1024x352, .f32⟩
  | 27 => ⟨S1024x352, .f32⟩
  | 28 => ⟨S352x1024, .f32⟩
  | 29 => ⟨S1024x352, .f32⟩
  | 30 => ⟨S1024x352, .f32⟩
  | 31 => ⟨S352x1024, .f32⟩
  | 32 => ⟨S1024x352, .bf16⟩
  | 33 => ⟨S1024x352, .bf16⟩
  | 34 => ⟨S352x1024, .bf16⟩
  | 35 => ⟨S352x1024, .bf16⟩
  | 36 => ⟨S360448, .bf16⟩
  | 37 => ⟨S352x1024, .bf16⟩
  | 38 => ⟨S360448, .bf16⟩
  | 39 => ⟨S360448, .bf16⟩
  | 40 => ⟨S1081344, .bf16⟩
  | 41 => ⟨S_, .i32⟩
  | 42 => ⟨S_, .bf16⟩
  | 43 => ⟨S1081344, .bf16⟩
  | 44 => ⟨S1056x1024, .bf16⟩
  | 45 => ⟨S1024x352, .bf16⟩
  | 46 => ⟨S1024x352, .bf16⟩
  | 47 => ⟨S352x1024, .bf16⟩
  | 48 => ⟨S352x1024, .bf16⟩
  | 49 => ⟨S360448, .bf16⟩
  | 50 => ⟨S352x1024, .bf16⟩
  | 51 => ⟨S360448, .bf16⟩
  | 52 => ⟨S360448, .bf16⟩
  | 53 => ⟨S1081344, .bf16⟩
  | 54 => ⟨S_, .i32⟩
  | 55 => ⟨S_, .bf16⟩
  | 56 => ⟨S1081344, .bf16⟩
  | 57 => ⟨S1056x1024, .bf16⟩
  | 58 => ⟨S1024x352, .bf16⟩
  | 59 => ⟨S1024x352, .bf16⟩
  | 60 => ⟨S352x1024, .bf16⟩
  | 61 => ⟨S352x1024, .bf16⟩
  | 62 => ⟨S360448, .bf16⟩
  | 63 => ⟨S352x1024, .bf16⟩
  | 64 => ⟨S360448, .bf16⟩
  | 65 => ⟨S360448, .bf16⟩
  | 66 => ⟨S1081344, .bf16⟩
  | 67 => ⟨S_, .i32⟩
  | 68 => ⟨S_, .bf16⟩
  | 69 => ⟨S1081344, .bf16⟩
  | 70 => ⟨S1056x1024, .bf16⟩
  | 71 => ⟨S1024x352, .bf16⟩
  | 72 => ⟨S1024x352, .bf16⟩
  | 73 => ⟨S352x1024, .bf16⟩
  | 74 => ⟨S352x1024, .bf16⟩
  | 75 => ⟨S360448, .bf16⟩
  | 76 => ⟨S352x1024, .bf16⟩
  | 77 => ⟨S360448, .bf16⟩
  | 78 => ⟨S360448, .bf16⟩
  | 79 => ⟨S1081344, .bf16⟩
  | 80 => ⟨S_, .i32⟩
  | 81 => ⟨S_, .bf16⟩
  | 82 => ⟨S1081344, .bf16⟩
  | 83 => ⟨S1056x1024, .bf16⟩
  | 84 => ⟨S1024x352, .bf16⟩
  | 85 => ⟨S1024x352, .bf16⟩
  | 86 => ⟨S352x1024, .bf16⟩
  | 87 => ⟨S352x1024, .bf16⟩
  | 88 => ⟨S360448, .bf16⟩
  | 89 => ⟨S352x1024, .bf16⟩
  | 90 => ⟨S360448, .bf16⟩
  | 91 => ⟨S360448, .bf16⟩
  | 92 => ⟨S1081344, .bf16⟩
  | 93 => ⟨S_, .i32⟩
  | 94 => ⟨S_, .bf16⟩
  | 95 => ⟨S1081344, .bf16⟩
  | 96 => ⟨S1056x1024, .bf16⟩
  | 97 => ⟨S1024x352, .bf16⟩
  | 98 => ⟨S1024x352, .bf16⟩
  | 99 => ⟨S352x1024, .bf16⟩
  | 100 => ⟨S352x1024, .bf16⟩
  | 101 => ⟨S360448, .bf16⟩
  | 102 => ⟨S352x1024, .bf16⟩
  | 103 => ⟨S360448, .bf16⟩
  | 104 => ⟨S360448, .bf16⟩
  | 105 => ⟨S1081344, .bf16⟩
  | 106 => ⟨S_, .i32⟩
  | 107 => ⟨S_, .bf16⟩
  | 108 => ⟨S1081344, .bf16⟩
  | 109 => ⟨S1056x1024, .bf16⟩
  | 110 => ⟨S1024x352, .bf16⟩
  | 111 => ⟨S1024x352, .bf16⟩
  | 112 => ⟨S352x1024, .bf16⟩
  | 113 => ⟨S352x1024, .bf16⟩
  | 114 => ⟨S360448, .bf16⟩
  | 115 => ⟨S352x1024, .bf16⟩
  | 116 => ⟨S360448, .bf16⟩
  | 117 => ⟨S360448, .bf16⟩
  | 118 => ⟨S1081344, .bf16⟩
  | 119 => ⟨S_, .i32⟩
  | 120 => ⟨S_, .bf16⟩
  | 121 => ⟨S1081344, .bf16⟩
  | 122 => ⟨S1056x1024, .bf16⟩
  | 123 => ⟨S1024x352, .bf16⟩
  | 124 => ⟨S1024x352, .bf16⟩
  | 125 => ⟨S352x1024, .bf16⟩
  | 126 => ⟨S352x1024, .bf16⟩
  | 127 => ⟨S360448, .bf16⟩
  | _ => ⟨S8192x1024, .f32⟩

abbrev hbmTy0_1 (i : Nat) : BufTy := match i % 128 with
  | 0 => ⟨S352x1024, .bf16⟩
  | 1 => ⟨S360448, .bf16⟩
  | 2 => ⟨S360448, .bf16⟩
  | 3 => ⟨S1081344, .bf16⟩
  | 4 => ⟨S_, .i32⟩
  | 5 => ⟨S_, .bf16⟩
  | 6 => ⟨S1081344, .bf16⟩
  | 7 => ⟨S1056x1024, .bf16⟩
  | 8 => ⟨S1x1056x1024, .bf16⟩
  | 9 => ⟨S1x1056x1024, .bf16⟩
  | 10 => ⟨S1x1056x1024, .bf16⟩
  | 11 => ⟨S1x1056x1024, .bf16⟩
  | 12 => ⟨S1x1056x1024, .bf16⟩
  | 13 => ⟨S1x1056x1024, .bf16⟩
  | 14 => ⟨S1x1056x1024, .bf16⟩
  | 15 => ⟨S1x1056x1024, .bf16⟩
  | 16 => ⟨S8x1056x1024, .bf16⟩
  | 17 => ⟨S1024x352, .f32⟩
  | 18 => ⟨S1024x352, .f32⟩
  | 19 => ⟨S352x1024, .f32⟩
  | 20 => ⟨S1024x352, .f32⟩
  | 21 => ⟨S1024x352, .f32⟩
  | 22 => ⟨S352x1024, .f32⟩
  | 23 => ⟨S1024x352, .f32⟩
  | 24 => ⟨S1024x352, .f32⟩
  | 25 => ⟨S352x1024, .f32⟩
  | 26 => ⟨S1024x352, .f32⟩
  | 27 => ⟨S1024x352, .f32⟩
  | 28 => ⟨S352x1024, .f32⟩
  | 29 => ⟨S1024x352, .f32⟩
  | 30 => ⟨S1024x352, .f32⟩
  | 31 => ⟨S352x1024, .f32⟩
  | 32 => ⟨S1024x352, .f32⟩
  | 33 => ⟨S1024x352, .f32⟩
  | 34 => ⟨S352x1024, .f32⟩
  | 35 => ⟨S1024x352, .f32⟩
  | 36 => ⟨S1024x352, .f32⟩
  | 37 => ⟨S352x1024, .f32⟩
  | 38 => ⟨S1024x352, .f32⟩
  | 39 => ⟨S1024x352, .f32⟩
  | 40 => ⟨S352x1024, .f32⟩
  | 41 => ⟨S1024x352, .bf16⟩
  | 42 => ⟨S1024x352, .bf16⟩
  | 43 => ⟨S352x1024, .bf16⟩
  | 44 => ⟨S352x1024, .bf16⟩
  | 45 => ⟨S360448, .bf16⟩
  | 46 => ⟨S352x1024, .bf16⟩
  | 47 => ⟨S360448, .bf16⟩
  | 48 => ⟨S360448, .bf16⟩
  | 49 => ⟨S1081344, .bf16⟩
  | 50 => ⟨S_, .i32⟩
  | 51 => ⟨S_, .bf16⟩
  | 52 => ⟨S1081344, .bf16⟩
  | 53 => ⟨S1056x1024, .bf16⟩
  | 54 => ⟨S1024x352, .bf16⟩
  | 55 => ⟨S1024x352, .bf16⟩
  | 56 => ⟨S352x1024, .bf16⟩
  | 57 => ⟨S352x1024, .bf16⟩
  | 58 => ⟨S360448, .bf16⟩
  | 59 => ⟨S352x1024, .bf16⟩
  | 60 => ⟨S360448, .bf16⟩
  | 61 => ⟨S360448, .bf16⟩
  | 62 => ⟨S1081344, .bf16⟩
  | 63 => ⟨S_, .i32⟩
  | 64 => ⟨S_, .bf16⟩
  | 65 => ⟨S1081344, .bf16⟩
  | 66 => ⟨S1056x1024, .bf16⟩
  | 67 => ⟨S1024x352, .bf16⟩
  | 68 => ⟨S1024x352, .bf16⟩
  | 69 => ⟨S352x1024, .bf16⟩
  | 70 => ⟨S352x1024, .bf16⟩
  | 71 => ⟨S360448, .bf16⟩
  | 72 => ⟨S352x1024, .bf16⟩
  | 73 => ⟨S360448, .bf16⟩
  | 74 => ⟨S360448, .bf16⟩
  | 75 => ⟨S1081344, .bf16⟩
  | 76 => ⟨S_, .i32⟩
  | 77 => ⟨S_, .bf16⟩
  | 78 => ⟨S1081344, .bf16⟩
  | 79 => ⟨S1056x1024, .bf16⟩
  | 80 => ⟨S1024x352, .bf16⟩
  | 81 => ⟨S1024x352, .bf16⟩
  | 82 => ⟨S352x1024, .bf16⟩
  | 83 => ⟨S352x1024, .bf16⟩
  | 84 => ⟨S360448, .bf16⟩
  | 85 => ⟨S352x1024, .bf16⟩
  | 86 => ⟨S360448, .bf16⟩
  | 87 => ⟨S360448, .bf16⟩
  | 88 => ⟨S1081344, .bf16⟩
  | 89 => ⟨S_, .i32⟩
  | 90 => ⟨S_, .bf16⟩
  | 91 => ⟨S1081344, .bf16⟩
  | 92 => ⟨S1056x1024, .bf16⟩
  | 93 => ⟨S1024x352, .bf16⟩
  | 94 => ⟨S1024x352, .bf16⟩
  | 95 => ⟨S352x1024, .bf16⟩
  | 96 => ⟨S352x1024, .bf16⟩
  | 97 => ⟨S360448, .bf16⟩
  | 98 => ⟨S352x1024, .bf16⟩
  | 99 => ⟨S360448, .bf16⟩
  | 100 => ⟨S360448, .bf16⟩
  | 101 => ⟨S1081344, .bf16⟩
  | 102 => ⟨S_, .i32⟩
  | 103 => ⟨S_, .bf16⟩
  | 104 => ⟨S1081344, .bf16⟩
  | 105 => ⟨S1056x1024, .bf16⟩
  | 106 => ⟨S1024x352, .bf16⟩
  | 107 => ⟨S1024x352, .bf16⟩
  | 108 => ⟨S352x1024, .bf16⟩
  | 109 => ⟨S352x1024, .bf16⟩
  | 110 => ⟨S360448, .bf16⟩
  | 111 => ⟨S352x1024, .bf16⟩
  | 112 => ⟨S360448, .bf16⟩
  | 113 => ⟨S360448, .bf16⟩
  | 114 => ⟨S1081344, .bf16⟩
  | 115 => ⟨S_, .i32⟩
  | 116 => ⟨S_, .bf16⟩
  | 117 => ⟨S1081344, .bf16⟩
  | 118 => ⟨S1056x1024, .bf16⟩
  | 119 => ⟨S1024x352, .bf16⟩
  | 120 => ⟨S1024x352, .bf16⟩
  | 121 => ⟨S352x1024, .bf16⟩
  | 122 => ⟨S352x1024, .bf16⟩
  | 123 => ⟨S360448, .bf16⟩
  | 124 => ⟨S352x1024, .bf16⟩
  | 125 => ⟨S360448, .bf16⟩
  | 126 => ⟨S360448, .bf16⟩
  | 127 => ⟨S1081344, .bf16⟩
  | _ => ⟨S8192x1024, .f32⟩

abbrev hbmTy0_2 (i : Nat) : BufTy := match i % 128 with
  | 0 => ⟨S_, .i32⟩
  | 1 => ⟨S_, .bf16⟩
  | 2 => ⟨S1081344, .bf16⟩
  | 3 => ⟨S1056x1024, .bf16⟩
  | 4 => ⟨S1024x352, .bf16⟩
  | 5 => ⟨S1024x352, .bf16⟩
  | 6 => ⟨S352x1024, .bf16⟩
  | 7 => ⟨S352x1024, .bf16⟩
  | 8 => ⟨S360448, .bf16⟩
  | 9 => ⟨S352x1024, .bf16⟩
  | 10 => ⟨S360448, .bf16⟩
  | 11 => ⟨S360448, .bf16⟩
  | 12 => ⟨S1081344, .bf16⟩
  | 13 => ⟨S_, .i32⟩
  | 14 => ⟨S_, .bf16⟩
  | 15 => ⟨S1081344, .bf16⟩
  | 16 => ⟨S1056x1024, .bf16⟩
  | 17 => ⟨S1x1056x1024, .bf16⟩
  | 18 => ⟨S1x1056x1024, .bf16⟩
  | 19 => ⟨S1x1056x1024, .bf16⟩
  | 20 => ⟨S1x1056x1024, .bf16⟩
  | 21 => ⟨S1x1056x1024, .bf16⟩
  | 22 => ⟨S1x1056x1024, .bf16⟩
  | 23 => ⟨S1x1056x1024, .bf16⟩
  | 24 => ⟨S1x1056x1024, .bf16⟩
  | 25 => ⟨S8x1056x1024, .bf16⟩
  | 26 => ⟨S1024x352, .f32⟩
  | 27 => ⟨S1024x352, .f32⟩
  | 28 => ⟨S352x1024, .f32⟩
  | 29 => ⟨S1024x352, .f32⟩
  | 30 => ⟨S1024x352, .f32⟩
  | 31 => ⟨S352x1024, .f32⟩
  | 32 => ⟨S1024x352, .f32⟩
  | 33 => ⟨S1024x352, .f32⟩
  | 34 => ⟨S352x1024, .f32⟩
  | 35 => ⟨S1024x352, .f32⟩
  | 36 => ⟨S1024x352, .f32⟩
  | 37 => ⟨S352x1024, .f32⟩
  | 38 => ⟨S1024x352, .f32⟩
  | 39 => ⟨S1024x352, .f32⟩
  | 40 => ⟨S352x1024, .f32⟩
  | 41 => ⟨S1024x352, .f32⟩
  | 42 => ⟨S1024x352, .f32⟩
  | 43 => ⟨S352x1024, .f32⟩
  | 44 => ⟨S1024x352, .f32⟩
  | 45 => ⟨S1024x352, .f32⟩
  | 46 => ⟨S352x1024, .f32⟩
  | 47 => ⟨S1024x352, .f32⟩
  | 48 => ⟨S1024x352, .f32⟩
  | 49 => ⟨S352x1024, .f32⟩
  | 50 => ⟨S1024x352, .bf16⟩
  | 51 => ⟨S1024x352, .bf16⟩
  | 52 => ⟨S352x1024, .bf16⟩
  | 53 => ⟨S352x1024, .bf16⟩
  | 54 => ⟨S360448, .bf16⟩
  | 55 => ⟨S352x1024, .bf16⟩
  | 56 => ⟨S360448, .bf16⟩
  | 57 => ⟨S360448, .bf16⟩
  | 58 => ⟨S1081344, .bf16⟩
  | 59 => ⟨S_, .i32⟩
  | 60 => ⟨S_, .bf16⟩
  | 61 => ⟨S1081344, .bf16⟩
  | 62 => ⟨S1056x1024, .bf16⟩
  | 63 => ⟨S1024x352, .bf16⟩
  | 64 => ⟨S1024x352, .bf16⟩
  | 65 => ⟨S352x1024, .bf16⟩
  | 66 => ⟨S352x1024, .bf16⟩
  | 67 => ⟨S360448, .bf16⟩
  | 68 => ⟨S352x1024, .bf16⟩
  | 69 => ⟨S360448, .bf16⟩
  | 70 => ⟨S360448, .bf16⟩
  | 71 => ⟨S1081344, .bf16⟩
  | 72 => ⟨S_, .i32⟩
  | 73 => ⟨S_, .bf16⟩
  | 74 => ⟨S1081344, .bf16⟩
  | 75 => ⟨S1056x1024, .bf16⟩
  | 76 => ⟨S1024x352, .bf16⟩
  | 77 => ⟨S1024x352, .bf16⟩
  | 78 => ⟨S352x1024, .bf16⟩
  | 79 => ⟨S352x1024, .bf16⟩
  | 80 => ⟨S360448, .bf16⟩
  | 81 => ⟨S352x1024, .bf16⟩
  | 82 => ⟨S360448, .bf16⟩
  | 83 => ⟨S360448, .bf16⟩
  | 84 => ⟨S1081344, .bf16⟩
  | 85 => ⟨S_, .i32⟩
  | 86 => ⟨S_, .bf16⟩
  | 87 => ⟨S1081344, .bf16⟩
  | 88 => ⟨S1056x1024, .bf16⟩
  | 89 => ⟨S1024x352, .bf16⟩
  | 90 => ⟨S1024x352, .bf16⟩
  | 91 => ⟨S352x1024, .bf16⟩
  | 92 => ⟨S352x1024, .bf16⟩
  | 93 => ⟨S360448, .bf16⟩
  | 94 => ⟨S352x1024, .bf16⟩
  | 95 => ⟨S360448, .bf16⟩
  | 96 => ⟨S360448, .bf16⟩
  | 97 => ⟨S1081344, .bf16⟩
  | 98 => ⟨S_, .i32⟩
  | 99 => ⟨S_, .bf16⟩
  | 100 => ⟨S1081344, .bf16⟩
  | 101 => ⟨S1056x1024, .bf16⟩
  | 102 => ⟨S1024x352, .bf16⟩
  | 103 => ⟨S1024x352, .bf16⟩
  | 104 => ⟨S352x1024, .bf16⟩
  | 105 => ⟨S352x1024, .bf16⟩
  | 106 => ⟨S360448, .bf16⟩
  | 107 => ⟨S352x1024, .bf16⟩
  | 108 => ⟨S360448, .bf16⟩
  | 109 => ⟨S360448, .bf16⟩
  | 110 => ⟨S1081344, .bf16⟩
  | 111 => ⟨S_, .i32⟩
  | 112 => ⟨S_, .bf16⟩
  | 113 => ⟨S1081344, .bf16⟩
  | 114 => ⟨S1056x1024, .bf16⟩
  | 115 => ⟨S1024x352, .bf16⟩
  | 116 => ⟨S1024x352, .bf16⟩
  | 117 => ⟨S352x1024, .bf16⟩
  | 118 => ⟨S352x1024, .bf16⟩
  | 119 => ⟨S360448, .bf16⟩
  | 120 => ⟨S352x1024, .bf16⟩
  | 121 => ⟨S360448, .bf16⟩
  | 122 => ⟨S360448, .bf16⟩
  | 123 => ⟨S1081344, .bf16⟩
  | 124 => ⟨S_, .i32⟩
  | 125 => ⟨S_, .bf16⟩
  | 126 => ⟨S1081344, .bf16⟩
  | 127 => ⟨S1056x1024, .bf16⟩
  | _ => ⟨S8192x1024, .f32⟩

abbrev hbmTy0_3 (i : Nat) : BufTy := match i % 128 with
  | 0 => ⟨S1024x352, .bf16⟩
  | 1 => ⟨S1024x352, .bf16⟩
  | 2 => ⟨S352x1024, .bf16⟩
  | 3 => ⟨S352x1024, .bf16⟩
  | 4 => ⟨S360448, .bf16⟩
  | 5 => ⟨S352x1024, .bf16⟩
  | 6 => ⟨S360448, .bf16⟩
  | 7 => ⟨S360448, .bf16⟩
  | 8 => ⟨S1081344, .bf16⟩
  | 9 => ⟨S_, .i32⟩
  | 10 => ⟨S_, .bf16⟩
  | 11 => ⟨S1081344, .bf16⟩
  | 12 => ⟨S1056x1024, .bf16⟩
  | 13 => ⟨S1024x352, .bf16⟩
  | 14 => ⟨S1024x352, .bf16⟩
  | 15 => ⟨S352x1024, .bf16⟩
  | 16 => ⟨S352x1024, .bf16⟩
  | 17 => ⟨S360448, .bf16⟩
  | 18 => ⟨S352x1024, .bf16⟩
  | 19 => ⟨S360448, .bf16⟩
  | 20 => ⟨S360448, .bf16⟩
  | 21 => ⟨S1081344, .bf16⟩
  | 22 => ⟨S_, .i32⟩
  | 23 => ⟨S_, .bf16⟩
  | 24 => ⟨S1081344, .bf16⟩
  | 25 => ⟨S1056x1024, .bf16⟩
  | 26 => ⟨S1x1056x1024, .bf16⟩
  | 27 => ⟨S1x1056x1024, .bf16⟩
  | 28 => ⟨S1x1056x1024, .bf16⟩
  | 29 => ⟨S1x1056x1024, .bf16⟩
  | 30 => ⟨S1x1056x1024, .bf16⟩
  | 31 => ⟨S1x1056x1024, .bf16⟩
  | 32 => ⟨S1x1056x1024, .bf16⟩
  | 33 => ⟨S1x1056x1024, .bf16⟩
  | 34 => ⟨S8x1056x1024, .bf16⟩
  | 35 => ⟨S256x1024, .f32⟩
  | 36 => ⟨S256x1024, .bf16⟩
  | 37 => ⟨S262144, .bf16⟩
  | 38 => ⟨S_, .i32⟩
  | 39 => ⟨S_, .bf16⟩
  | 40 => ⟨S262144, .bf16⟩
  | 41 => ⟨S256x1024, .bf16⟩
  | 42 => ⟨S256x1024, .f32⟩
  | 43 => ⟨S256x1024, .bf16⟩
  | 44 => ⟨S262144, .bf16⟩
  | 45 => ⟨S_, .i32⟩
  | 46 => ⟨S_, .bf16⟩
  | 47 => ⟨S262144, .bf16⟩
  | 48 => ⟨S256x1024, .bf16⟩
  | 49 => ⟨S256x1024, .f32⟩
  | 50 => ⟨S256x1024, .bf16⟩
  | 51 => ⟨S262144, .bf16⟩
  | 52 => ⟨S_, .i32⟩
  | 53 => ⟨S_, .bf16⟩
  | 54 => ⟨S262144, .bf16⟩
  | 55 => ⟨S256x1024, .bf16⟩
  | 56 => ⟨S256x1024, .f32⟩
  | 57 => ⟨S256x1024, .bf16⟩
  | 58 => ⟨S262144, .bf16⟩
  | 59 => ⟨S_, .i32⟩
  | 60 => ⟨S_, .bf16⟩
  | 61 => ⟨S262144, .bf16⟩
  | 62 => ⟨S256x1024, .bf16⟩
  | 63 => ⟨S256x1024, .f32⟩
  | 64 => ⟨S256x1024, .bf16⟩
  | 65 => ⟨S262144, .bf16⟩
  | 66 => ⟨S_, .i32⟩
  | 67 => ⟨S_, .bf16⟩
  | 68 => ⟨S262144, .bf16⟩
  | 69 => ⟨S256x1024, .bf16⟩
  | 70 => ⟨S256x1024, .f32⟩
  | 71 => ⟨S256x1024, .bf16⟩
  | 72 => ⟨S262144, .bf16⟩
  | 73 => ⟨S_, .i32⟩
  | 74 => ⟨S_, .bf16⟩
  | 75 => ⟨S262144, .bf16⟩
  | 76 => ⟨S256x1024, .bf16⟩
  | 77 => ⟨S256x1024, .f32⟩
  | 78 => ⟨S256x1024, .bf16⟩
  | 79 => ⟨S262144, .bf16⟩
  | 80 => ⟨S_, .i32⟩
  | 81 => ⟨S_, .bf16⟩
  | 82 => ⟨S262144, .bf16⟩
  | 83 => ⟨S256x1024, .bf16⟩
  | 84 => ⟨S256x1024, .f32⟩
  | 85 => ⟨S256x1024, .bf16⟩
  | 86 => ⟨S262144, .bf16⟩
  | 87 => ⟨S_, .i32⟩
  | 88 => ⟨S_, .bf16⟩
  | 89 => ⟨S262144, .bf16⟩
  | 90 => ⟨S256x1024, .bf16⟩
  | 91 => ⟨S1x256x1024, .bf16⟩
  | 92 => ⟨S1x256x1024, .bf16⟩
  | 93 => ⟨S1x256x1024, .bf16⟩
  | 94 => ⟨S1x256x1024, .bf16⟩
  | 95 => ⟨S1x256x1024, .bf16⟩
  | 96 => ⟨S1x256x1024, .bf16⟩
  | 97 => ⟨S1x256x1024, .bf16⟩
  | 98 => ⟨S1x256x1024, .bf16⟩
  | 99 => ⟨S8x256x1024, .bf16⟩
  | 100 => ⟨S8192x1024, .f32⟩
  | 101 => ⟨S8192x1024, .bf16⟩
  | 102 => ⟨S8192x2816, .bf16⟩
  | 103 => ⟨S8192x2816, .bf16⟩
  | 104 => ⟨S8192x2816, .bf16⟩
  | 105 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | .local _ .vmem, ⟨22, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_call0_v0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_0 : Ref sig .tc := ⟨.hbm, 54, rfl⟩
abbrev main_call1_v0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_1 : Ref sig .tc := ⟨.hbm, 67, rfl⟩
abbrev main_call2_v0 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_c_2 : Ref sig .tc := ⟨.hbm, 80, rfl⟩
abbrev main_call3_v0 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_c_3 : Ref sig .tc := ⟨.hbm, 93, rfl⟩
abbrev main_call4_v0 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_c_4 : Ref sig .tc := ⟨.hbm, 106, rfl⟩
abbrev main_call5_v0 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_c_5 : Ref sig .tc := ⟨.hbm, 119, rfl⟩
abbrev main_call6_v0 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_c_6 : Ref sig .tc := ⟨.hbm, 132, rfl⟩
abbrev main_call7_v0 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_c_7 : Ref sig .tc := ⟨.hbm, 178, rfl⟩
abbrev main_call8_v0 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_c_8 : Ref sig .tc := ⟨.hbm, 191, rfl⟩
abbrev main_call9_v0 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_c_9 : Ref sig .tc := ⟨.hbm, 204, rfl⟩
abbrev main_call10_v0 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_c_10 : Ref sig .tc := ⟨.hbm, 217, rfl⟩
abbrev main_call11_v0 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_c_11 : Ref sig .tc := ⟨.hbm, 230, rfl⟩
abbrev main_call12_v0 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_c_12 : Ref sig .tc := ⟨.hbm, 243, rfl⟩
abbrev main_call13_v0 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_c_13 : Ref sig .tc := ⟨.hbm, 256, rfl⟩
abbrev main_call14_v0 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_c_14 : Ref sig .tc := ⟨.hbm, 269, rfl⟩
abbrev main_call15_v0 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_c_15 : Ref sig .tc := ⟨.hbm, 315, rfl⟩
abbrev main_call16_v0 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_c_16 : Ref sig .tc := ⟨.hbm, 328, rfl⟩
abbrev main_call17_v0 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_c_17 : Ref sig .tc := ⟨.hbm, 341, rfl⟩
abbrev main_call18_v0 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_c_18 : Ref sig .tc := ⟨.hbm, 354, rfl⟩
abbrev main_call19_v0 : Ref sig .tc := ⟨.hbm, 355, rfl⟩
abbrev main_v308 : Ref sig .tc := ⟨.hbm, 356, rfl⟩
abbrev main_v309 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_c_19 : Ref sig .tc := ⟨.hbm, 367, rfl⟩
abbrev main_call20_v0 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_c_20 : Ref sig .tc := ⟨.hbm, 380, rfl⟩
abbrev main_call21_v0 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_c_21 : Ref sig .tc := ⟨.hbm, 393, rfl⟩
abbrev main_call22_v0 : Ref sig .tc := ⟨.hbm, 394, rfl⟩
abbrev main_v341 : Ref sig .tc := ⟨.hbm, 395, rfl⟩
abbrev main_v342 : Ref sig .tc := ⟨.hbm, 396, rfl⟩
abbrev main_v343 : Ref sig .tc := ⟨.hbm, 397, rfl⟩
abbrev main_v344 : Ref sig .tc := ⟨.hbm, 398, rfl⟩
abbrev main_v345 : Ref sig .tc := ⟨.hbm, 399, rfl⟩
abbrev main_v346 : Ref sig .tc := ⟨.hbm, 400, rfl⟩
abbrev main_v347 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_v351 : Ref sig .tc := ⟨.hbm, 405, rfl⟩
abbrev main_c_22 : Ref sig .tc := ⟨.hbm, 406, rfl⟩
abbrev main_call23_v0 : Ref sig .tc := ⟨.hbm, 407, rfl⟩
abbrev main_v352 : Ref sig .tc := ⟨.hbm, 408, rfl⟩
abbrev main_v353 : Ref sig .tc := ⟨.hbm, 409, rfl⟩
abbrev main_v354 : Ref sig .tc := ⟨.hbm, 410, rfl⟩
abbrev main_v355 : Ref sig .tc := ⟨.hbm, 411, rfl⟩
abbrev main_v356 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_c_23 : Ref sig .tc := ⟨.hbm, 422, rfl⟩
abbrev main_call24_v0 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_v370 : Ref sig .tc := ⟨.hbm, 428, rfl⟩
abbrev main_c_24 : Ref sig .tc := ⟨.hbm, 429, rfl⟩
abbrev main_call25_v0 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_v375 : Ref sig .tc := ⟨.hbm, 435, rfl⟩
abbrev main_c_25 : Ref sig .tc := ⟨.hbm, 436, rfl⟩
abbrev main_call26_v0 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_c_26 : Ref sig .tc := ⟨.hbm, 443, rfl⟩
abbrev main_call27_v0 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_c_27 : Ref sig .tc := ⟨.hbm, 450, rfl⟩
abbrev main_call28_v0 : Ref sig .tc := ⟨.hbm, 451, rfl⟩
abbrev main_v386 : Ref sig .tc := ⟨.hbm, 452, rfl⟩
abbrev main_v387 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_c_28 : Ref sig .tc := ⟨.hbm, 457, rfl⟩
abbrev main_call29_v0 : Ref sig .tc := ⟨.hbm, 458, rfl⟩
abbrev main_v391 : Ref sig .tc := ⟨.hbm, 459, rfl⟩
abbrev main_v392 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_c_29 : Ref sig .tc := ⟨.hbm, 464, rfl⟩
abbrev main_call30_v0 : Ref sig .tc := ⟨.hbm, 465, rfl⟩
abbrev main_v396 : Ref sig .tc := ⟨.hbm, 466, rfl⟩
abbrev main_v397 : Ref sig .tc := ⟨.hbm, 467, rfl⟩
abbrev main_v398 : Ref sig .tc := ⟨.hbm, 468, rfl⟩
abbrev main_v399 : Ref sig .tc := ⟨.hbm, 469, rfl⟩
abbrev main_v400 : Ref sig .tc := ⟨.hbm, 470, rfl⟩
abbrev main_c_30 : Ref sig .tc := ⟨.hbm, 471, rfl⟩
abbrev main_call31_v0 : Ref sig .tc := ⟨.hbm, 472, rfl⟩
abbrev main_v401 : Ref sig .tc := ⟨.hbm, 473, rfl⟩
abbrev main_v402 : Ref sig .tc := ⟨.hbm, 474, rfl⟩
abbrev main_v403 : Ref sig .tc := ⟨.hbm, 475, rfl⟩
abbrev main_v404 : Ref sig .tc := ⟨.hbm, 476, rfl⟩
abbrev main_v405 : Ref sig .tc := ⟨.hbm, 477, rfl⟩
abbrev main_v406 : Ref sig .tc := ⟨.hbm, 478, rfl⟩
abbrev main_v407 : Ref sig .tc := ⟨.hbm, 479, rfl⟩
abbrev main_v408 : Ref sig .tc := ⟨.hbm, 480, rfl⟩
abbrev main_v409 : Ref sig .tc := ⟨.hbm, 481, rfl⟩
abbrev main_v410 : Ref sig .tc := ⟨.hbm, 482, rfl⟩
abbrev main_v411 : Ref sig .tc := ⟨.hbm, 483, rfl⟩
abbrev main_v412_0 : Ref sig .tc := ⟨.hbm, 484, rfl⟩
abbrev main_v412_1 : Ref sig .tc := ⟨.hbm, 485, rfl⟩
abbrev main_v412_2 : Ref sig .tc := ⟨.hbm, 486, rfl⟩
abbrev main_v412_3 : Ref sig .tc := ⟨.hbm, 487, rfl⟩
abbrev main_v412_4 : Ref sig .tc := ⟨.hbm, 488, rfl⟩
abbrev main_v412_5 : Ref sig .tc := ⟨.hbm, 489, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S8192x1024 : Shape := ⟨2, ![8192, 1024]⟩
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S2048x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x2048, .bf16⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | .hbm, ⟨47, _⟩ => ⟨S8192x2816, .bf16⟩
  | .hbm, ⟨48, _⟩ => ⟨S8192x2816, .bf16⟩
  | .hbm, ⟨49, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Proof.Body.lean ====
/-
  ONE GRID POINT OF THE KERNEL, NAMED. A grid point works on one chunk of 128 tokens: `Inp` is what it reads (the chunk's
  rows of the two projections and of the incoming gradient, and the whole weight arrays); each `vN` is the array that the
  printed body calls `%N`, as a function of those. The names only tie the printed payloads together; what they are worth
  entry by entry is proved in the modules `Forward`, `Backward` and `Heads`.
-/
module

public import proofs.«01_k».proof.Proof.Gen.KernelIdeal.Skeleton

@[expose] public section

noncomputable section

namespace Cert.KernelIdeal.Body

open Cert.KernelIdeal Cert.KernelIdeal.Gen Idealize.ShloMosaic Idealize.ShloMosaic.TcCoe

variable {F : FTy → Type} [FloatOps F]

/-- What one grid point reads: the chunk's rows of `u`, `v` and of the gradient of the unit's output, the layer norm's
    scale and shift, the mixing weights (one 128×128 matrix a head, here as the eight loads of the body), the mixing bias
    and the output norm's scale. -/
structure Inp (F : FTy → Type) where
  U : Vec F S128x1024 .f32
  V : Vec F S128x1024 .f32
  DY : Vec F S128x1024 .f32
  LG : Vec F S1x1024 .f32
  LB : Vec F S1x1024 .f32
  W0 : Vec F S1x128x128 .f32
  W1 : Vec F S1x128x128 .f32
  W2 : Vec F S1x128x128 .f32
  W3 : Vec F S1x128x128 .f32
  W4 : Vec F S1x128x128 .f32
  W5 : Vec F S1x128x128 .f32
  W6 : Vec F S1x128x128 .f32
  W7 : Vec F S1x128x128 .f32
  BS : Vec F S128x8 .f32
  OG : Vec F S1x1024 .f32

variable (x : Inp F)

/-- Head 0's mixing matrix. -/
def v4 : FVec F S128x128 .f32 := k0_pay9 x.W0
/-- Head 1's mixing matrix. -/
def v6 : FVec F S128x128 .f32 := k0_pay10 x.W1
/-- Head 2's mixing matrix. -/
def v8 : FVec F S128x128 .f32 := k0_pay11 x.W2
/-- Head 3's mixing matrix. -/
def v10 : FVec F S128x128 .f32 := k0_pay12 x.W3
/-- Head 4's mixing matrix. -/
def v12 : FVec F S128x128 .f32 := k0_pay13 x.W4
/-- Head 5's mixing matrix. -/
def v14 : FVec F S128x128 .f32 := k0_pay14 x.W5
/-- Head 6's mixing matrix. -/
def v16 : FVec F S128x128 .f32 := k0_pay15 x.W6
/-- Head 7's mixing matrix. -/
def v18 : FVec F S128x128 .f32 := k0_pay16 x.W7
def v24 : FVec F S128x8 .f32 := k0_pay17 x.BS
def v27 : FVec F S128x1024 .f32 := k0_pay18 x.U
def v34 : FVec F S128x1024 .f32 := k0_pay20 x.U
def v36 : FVec F S128x1024 .f32 := k0_pay21 x.U
/-- The gelu of `u`. -/
def v37 : FVec F S128x1024 .f32 := k0_pay22 x.U
def v39 : FVec F S128x1024 .f32 := k0_pay23 x.V
def v46 : FVec F S128x1024 .f32 := k0_pay25 x.V
def v48 : FVec F S128x1024 .f32 := k0_pay26 x.V
/-- The gelu of `v`, less its row mean. -/
def v55 : FVec F S128x1024 .f32 := k0_pay27 x.V
/-- The layer norm's reciprocal root of each row. -/
def v63 : FVec F S128x1 .f32 := k0_pay29 x.V
def v64 : FVec F S128x1 .f32 := k0_pay30 x.V
def v66 : FVec F S128x1 .f32 := k0_pay32 (v64 x) k0_pay31
def v68 : FVec F S128x1024 .f32 := k0_pay33 (v55 x) (v63 x)
/-- The layer norm of the gelu of `v`. -/
def v72 : FVec F S128x1024 .f32 := k0_pay34 x.LG x.LB (v55 x) (v63 x)
/-- The masked mixing matrices, and the heads' column blocks of the layer norm. -/
def v79 : FVec F S128x128 .bf16 := k0_pay36 (v4 x)
def v80 : FVec F S128x128 .bf16 := k0_pay37 x.LG x.LB (v55 x) (v63 x)
def v88 : FVec F S128x128 .bf16 := k0_pay39 (v6 x)
def v89 : FVec F S128x128 .bf16 := k0_pay40 x.LG x.LB (v55 x) (v63 x)
def v97 : FVec F S128x128 .bf16 := k0_pay42 (v8 x)
def v98 : FVec F S128x128 .bf16 := k0_pay43 x.LG x.LB (v55 x) (v63 x)
def v106 : FVec F S128x128 .bf16 := k0_pay45 (v10 x)
def v107 : FVec F S128x128 .bf16 := k0_pay46 x.LG x.LB (v55 x) (v63 x)
def v115 : FVec F S128x128 .bf16 := k0_pay48 (v12 x)
def v116 : FVec F S128x128 .bf16 := k0_pay49 x.LG x.LB (v55 x) (v63 x)
def v124 : FVec F S128x128 .bf16 := k0_pay50 (v14 x) k0_pay35
def v125 : FVec F S128x128 .bf16 := k0_pay51 (v72 x)
def v133 : FVec F S128x128 .bf16 := k0_pay52 (v16 x) k0_pay35
def v134 : FVec F S128x128 .bf16 := k0_pay53 (v72 x)
def v142 : FVec F S128x128 .bf16 := k0_pay54 (v18 x) k0_pay35
def v143 : FVec F S128x128 .bf16 := k0_pay55 (v72 x)
def v84 : FVec F S128x128 .f32 := k0_pay38 (v4 x) x.LG x.LB (v24 x) (v55 x) (v63 x)
def v93 : FVec F S128x128 .f32 := k0_pay41 (v6 x) x.LG x.LB (v24 x) (v55 x) (v63 x)
def v102 : FVec F S128x128 .f32 := k0_pay44 (v8 x) x.LG x.LB (v24 x) (v55 x) (v63 x)
def v111 : FVec F S128x128 .f32 := k0_pay47 (v10 x) x.LG x.LB (v24 x) (v55 x) (v63 x)
/-- The mixed tokens, all heads side by side. -/
def v148 : FVec F S128x1024 .f32 := k0_pay56 (v14 x) (v16 x) (v18 x) (v24 x) (v72 x) k0_pay35 (v84 x) (v93 x) (v102 x) (v111 x) (v115 x) (v116 x)
def v149 : FVec F S128x1024 .f32 := k0_pay57 (v14 x) (v16 x) (v18 x) (v24 x) (v37 x) (v72 x) k0_pay35 (v84 x) (v93 x) (v102 x) (v111 x) (v115 x) (v116 x)
def v156 : FVec F S128x1 .f32 := k0_pay58 (v14 x) (v16 x) (v18 x) (v24 x) (v37 x) (v72 x) k0_pay35 (v84 x) (v93 x) (v102 x) (v111 x) (v115 x) (v116 x)
def v157 : FVec F S128x1 .f32 := k0_pay59 (v14 x) (v16 x) (v18 x) (v24 x) (v37 x) (v72 x) k0_pay35 (v84 x) (v93 x) (v102 x) (v111 x) (v115 x) (v116 x)
def v160 : FVec F S128x1 .f32 := k0_pay60 (v14 x) (v16 x) (v18 x) (v24 x) (v37 x) (v72 x) k0_pay35 (v84 x) (v93 x) (v102 x) (v111 x) (v115 x) (v116 x)
def v162 : FVec F S128x1024 .f32 := k0_pay61 (v14 x) (v16 x) (v18 x) (v24 x) (v37 x) (v72 x) k0_pay35 (v84 x) (v93 x) (v102 x) (v111 x) (v115 x) (v116 x)
/-- What the chunk adds to the gradient of the output norm's scale. -/
def v166 : FVec F S1x1024 .f32 := k0_pay62 (v162 x) x.DY
/-- The gradient of the gated product. -/
def v183 : FVec F S128x1024 .f32 := k0_pay63 x.OG (v149 x) (v157 x) (v160 x) x.DY
def v184 : FVec F S128x1024 .f32 := k0_pay64 x.OG (v37 x) (v149 x) (v157 x) (v160 x) x.DY
def v185 : FVec F S128x1024 .f32 := k0_pay65 x.OG (v148 x) (v149 x) (v157 x) (v160 x) x.DY
def v186 : FVec F S128x128 .f32 := k0_pay66 x.OG (v37 x) (v149 x) (v157 x) (v160 x) x.DY
def v187 : FVec F S128x128 .f32 := k0_pay67 x.OG (v37 x) (v149 x) (v157 x) (v160 x) x.DY
def v188 : FVec F S128x128 .f32 := k0_pay68 x.OG (v37 x) (v149 x) (v157 x) (v160 x) x.DY
def v189 : FVec F S128x128 .f32 := k0_pay69 x.OG (v37 x) (v149 x) (v157 x) (v160 x) x.DY
def v190 : FVec F S128x128 .f32 := k0_pay70 x.OG (v37 x) (v149 x) (v157 x) (v160 x) x.DY
def v191 : FVec F S128x128 .f32 := k0_pay71 x.OG (v37 x) (v149 x) (v157 x) (v160 x) x.DY
def v192 : FVec F S128x128 .f32 := k0_pay72 x.OG (v37 x) (v149 x) (v157 x) (v160 x) x.DY
def v193 : FVec F S128x128 .f32 := k0_pay73 x.OG (v37 x) (v149 x) (v157 x) (v160 x) x.DY
def v197 : FVec F S128x8 .f32 := k0_pay74 x.OG (v37 x) (v149 x) (v157 x) (v160 x) x.DY
def v206 : FVec F S128x1024 .f32 := k0_pay75 x.OG (v37 x) (v142 x) (v149 x) (v157 x) (v160 x) x.DY
def v208 : FVec F S128x128 .f32 := k0_pay76 x.OG (v37 x) k0_pay35 (v143 x) (v149 x) (v157 x) (v160 x) x.DY
def v210 : FVec F S128x1 .f32 := k0_pay77 x.OG (v37 x) (v149 x) (v157 x) (v160 x) x.DY
def v229 : FVec F S128x128 .f32 := k0_pay79 k0_pay35 (v134 x) (v192 x)
def v248 : FVec F S128x1024 .f32 := k0_pay80 (v124 x) (v133 x) (v191 x) (v192 x) (v206 x)
def v250 : FVec F S128x128 .f32 := k0_pay81 k0_pay35 (v125 x) (v191 x)
def v257 : FVec F S128x8 .f32 := k0_pay82 (v190 x) (v191 x) (v197 x) (v210 x) (Scalar.ofBits .f32 0x00000000#32) k0_pay78
def v258 : FVec F S128x128 .f32 := k0_pay83 (v115 x) (v190 x)
def v271 : FVec F S128x128 .f32 := k0_pay84 k0_pay35 (v116 x) (v190 x)
def v290 : FVec F S128x1024 .f32 := k0_pay85 (v106 x) (v189 x) (v248 x) (v258 x)
def v292 : FVec F S128x128 .f32 := k0_pay86 k0_pay35 (v107 x) (v189 x)
def v299 : FVec F S128x8 .f32 := k0_pay87 (v188 x) (v189 x) (v257 x)
def v304 : FVec F S128x128 .bf16 := k0_pay88 (v98 x) (v188 x)
def v305 : FVec F S128x128 .f32 := k0_pay89 (v97 x) (v188 x)
def v313 : FVec F S128x128 .f32 := k0_pay90 k0_pay35 (v304 x)
def v334 : FVec F S128x128 .f32 := k0_pay91 k0_pay35 (v89 x) (v187 x)
/-- What the chunk adds to the gradient of the mixing bias. -/
def v339 : FVec F S128x8 .f32 := k0_pay92 (v186 x) (v187 x) (v299 x)
/-- The gradient of the layer norm's output. -/
def v349 : FVec F S128x1024 .f32 := k0_pay93 (v79 x) (v88 x) (v186 x) (v187 x) (v290 x) (v305 x)
def v351 : FVec F S128x128 .f32 := k0_pay94 k0_pay35 (v80 x) (v186 x)
def v353 : FVec F S1x1024 .f32 := k0_pay95 (v349 x)
def v356 : FVec F S1x1024 .f32 := k0_pay96 (v68 x) (v349 x)
def v393 : FVec F S128x1024 .f32 := k0_pay97 x.LG (v39 x) (v46 x) (v48 x) (v55 x) (v63 x) (v66 x) (v349 x)
def v395 : FVec F S128x1024 .f32 := k0_pay98 (v36 x) (v185 x)
def v398 : FVec F S128x1024 .f32 := k0_pay99 (v27 x) (v34 x) (v185 x)
/-- The gradient of `u`. -/
def v404 : FVec F S128x1024 .bf16 := k0_pay100 (v395 x) (v398 x)
/-- The gradient of `v`. -/
def v406 : FVec F S128x1024 .bf16 := k0_pay101 (v393 x)

end Cert.KernelIdeal.Body

end
-- ==== Proof.Outs.lean ====
module

public import proofs.«01_k».proof.Proof.Gen.KernelIdeal.Frame
public import proofs.«01_k».proof.Proof.Body
public import Idealize.ShloMosaic.Lib.Pipeline.Value
public import Idealize.ShloMosaic.Lib.Tactic
public import Idealize.ShloMosaic.Lib.Quiescent

@[expose] public section

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The head's matrix among the eight. -/
abbrev W (x5 : Vec F S8x128x128 .f32) (h : Nat) (inb : ∀ a, (![h, 0, 0] : Fin 3 → Nat) a + S1x128x128.size a ≤ S8x128x128.size a) :
    Vec F S1x128x128 .f32 :=
  View.ld x5 (Rect.unit (s := S8x128x128) ![h, 0, 0] S1x128x128.size inb)

/-- What a grid point reads, from its eight input blocks. -/
def inp (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) : Inp F :=
  { U := x0, V := x1, DY := x2, LG := x3, LB := x4,
    W0 := W x5 0 inb_S8x128x128_S1x128x128_0_0_0, W1 := W x5 1 inb_S8x128x128_S1x128x128_1_0_0, W2 := W x5 2 inb_S8x128x128_S1x128x128_2_0_0, W3 := W x5 3 inb_S8x128x128_S1x128x128_3_0_0, W4 := W x5 4 inb_S8x128x128_S1x128x128_4_0_0, W5 := W x5 5 inb_S8x128x128_S1x128x128_5_0_0, W6 := W x5 6 inb_S8x128x128_S1x128x128_6_0_0, W7 := W x5 7 inb_S8x128x128_S1x128x128_7_0_0, BS := x6, OG := x7 }

/-- What a later point leaves in the staging buffer of output 9: its own contribution added to what was there. -/
theorem out9_B (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : ¬cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) (o9 : Vec F S1x1024 .f32) (o10 : Vec F S1x1024 .f32) (o11 : Vec F S8x128x128 .f32) (o12 : Vec F S128x8 .f32) (o13 : Vec F S1x1024 .f32) :
    out0_B_9 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13 = k0_pay102 (v356 (inp x0 x1 x2 x3 x4 x5 x6 x7)) o9 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h13.read_unread, h14.read_unread, View.ld_unit_zero (S := S128x1024) hz, View.ld_unit_zero (S := S1x1024) hz, View.ld_unit_zero (S := S128x8) hz]
  rfl

/-- What the first point leaves in the staging buffer of output 9: its own contribution added to the zeros it stored. -/
theorem out9_A (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) :
    out0_A_9 c i a1 h1 a2 h2 a3 h3 a4 h4 a5 h5 a6 h6 a7 h7 a8 h8 a9 h9 a10 h10 a11 h11 a12 h12 a13 h13 a14 h14 hc0 x0 x1 x2 x3 x4 x5 x6 x7 = k0_pay102 (v356 (inp x0 x1 x2 x3 x4 x5 x6 x7)) k0_pay4 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, View.ld_unit_zero (S := S128x1024) hz, View.ld_unit_zero (S := S1x1024) hz, View.ld_unit_zero (S := S128x8) hz]
  rfl

/-- What a later point leaves in the staging buffer of output 10: its own contribution added to what was there. -/
theorem out10_B (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : ¬cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) (o9 : Vec F S1x1024 .f32) (o10 : Vec F S1x1024 .f32) (o11 : Vec F S8x128x128 .f32) (o12 : Vec F S128x8 .f32) (o13 : Vec F S1x1024 .f32) :
    out0_B_10 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13 = k0_pay103 (v353 (inp x0 x1 x2 x3 x4 x5 x6 x7)) o10 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h13.read_unread, h14.read_unread, View.ld_unit_zero (S := S128x1024) hz, View.ld_unit_zero (S := S1x1024) hz, View.ld_unit_zero (S := S128x8) hz]
  rfl

/-- What the first point leaves in the staging buffer of output 10: its own contribution added to the zeros it stored. -/
theorem out10_A (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) :
    out0_A_10 c i a1 h1 a2 h2 a3 h3 a4 h4 a5 h5 a6 h6 a7 h7 a8 h8 a9 h9 a10 h10 a11 h11 a12 h12 a13 h13 a14 h14 hc0 x0 x1 x2 x3 x4 x5 x6 x7 = k0_pay103 (v353 (inp x0 x1 x2 x3 x4 x5 x6 x7)) k0_pay5 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, View.ld_unit_zero (S := S128x1024) hz, View.ld_unit_zero (S := S1x1024) hz, View.ld_unit_zero (S := S128x8) hz]
  rfl

/-- What a later point leaves in the staging buffer of output 12: its own contribution added to what was there. -/
theorem out12_B (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : ¬cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) (o9 : Vec F S1x1024 .f32) (o10 : Vec F S1x1024 .f32) (o11 : Vec F S8x128x128 .f32) (o12 : Vec F S128x8 .f32) (o13 : Vec F S1x1024 .f32) :
    out0_B_12 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13 = k0_pay104 (v339 (inp x0 x1 x2 x3 x4 x5 x6 x7)) o12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h13.read_unread, h14.read_unread, View.ld_unit_zero (S := S128x1024) hz, View.ld_unit_zero (S := S1x1024) hz, View.ld_unit_zero (S := S128x8) hz]
  rfl

/-- What the first point leaves in the staging buffer of output 12: its own contribution added to the zeros it stored. -/
theorem out12_A (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) :
    out0_A_12 c i a1 h1 a2 h2 a3 h3 a4 h4 a5 h5 a6 h6 a7 h7 a8 h8 a9 h9 a10 h10 a11 h11 a12 h12 a13 h13 a14 h14 hc0 x0 x1 x2 x3 x4 x5 x6 x7 = k0_pay104 (v339 (inp x0 x1 x2 x3 x4 x5 x6 x7)) k0_pay7 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc0 x0 x1 x2 x3 x4 x5 x6 x7)]
  unfold kernelRun0_A
  dsimp only
  sl_unfold_words
  rw [View.canon_cons_unit_zero (S := S128x8) hz, View.readCov_unit_zero (S := S128x8) _ hz]
  simp only [View.readAt_eq_ld, h1.read_unread, h2.read_unread, h3.read_unread, h4.read_unread, h5.read_unread, h6.read_unread, h7.read_unread, h8.read_unread, View.ld_unit_zero (S := S128x1024) hz, View.ld_unit_zero (S := S1x1024) hz, View.ld_unit_zero (S := S128x8) hz]
  rfl

/-- What a later point leaves in the staging buffer of output 13: its own contribution added to what was there. -/
theorem out13_B (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : ¬cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) (o9 : Vec F S1x1024 .f32) (o10 : Vec F S1x1024 .f32) (o11 : Vec F S8x128x128 .f32) (o12 : Vec F S128x8 .f32) (o13 : Vec F S1x1024 .f32) :
    out0_B_13 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13 = k0_pay105 (v166 (inp x0 x1 x2 x3 x4 x5 x6 x7)) o13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h13.read_unread, h14.read_unread, View.ld_unit_zero (S := S128x1024) hz, View.ld_unit_zero (S := S1x1024) hz, View.ld_unit_zero (S := S128x8) hz]
  rfl

/-- What the first point leaves in the staging buffer of output 13: its own contribution added to the zeros it stored. -/
theorem out13_A (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) :
    out0_A_13 c i a1 h1 a2 h2 a3 h3 a4 h4 a5 h5 a6 h6 a7 h7 a8 h8 a9 h9 a10 h10 a11 h11 a12 h12 a13 h13 a14 h14 hc0 x0 x1 x2 x3 x4 x5 x6 x7 = k0_pay105 (v166 (inp x0 x1 x2 x3 x4 x5 x6 x7)) k0_pay8 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, View.ld_unit_zero (S := S128x1024) hz, View.ld_unit_zero (S := S1x1024) hz, View.ld_unit_zero (S := S128x8) hz]
  rfl
-- ==== Proof.Stores.lean ====
module

public import proofs.«01_k».proof.Proof.Gen.KernelIdeal.Frame
public import proofs.«01_k».proof.Proof.Outs
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.Quiescent

@[expose] public section

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F]

/-- Eight matrices stacked: what eight stores, one a head, leave in the buffer of the mixing weights' gradient. -/
def heads8 (p0 p1 p2 p3 p4 p5 p6 p7 : Vec F S1x128x128 .f32) : Vec F S8x128x128 .f32 :=
  fun i => (![p0, p1, p2, p3, p4, p5, p6, p7] : Fin 8 → Vec F S1x128x128 .f32) (i 0) (Idealize.ShloMosaic.ix3 0 (i 1) (i 2))

theorem emb8 (h : Nat) (h8 : h < 8) (inb : ∀ a, (![h, 0, 0] : Fin 3 → Nat) a + S1x128x128.size a ≤ S8x128x128.size a)
    (x : S1x128x128.Idx) :
    ((Rect.unit (s := S8x128x128) ![h, 0, 0] S1x128x128.size inb).emb x : S8x128x128.Idx) = Idealize.ShloMosaic.ix3 ⟨h, h8⟩ (x 1) (x 2) := by
  have h0 : (x 0 : Nat) < 1 := (x 0).isLt
  funext a
  match a with
  | ⟨0, _⟩ => exact Fin.ext (show h + 1 * (x 0 : Nat) = h by omega)
  | ⟨1, _⟩ => exact Fin.ext (show 0 + 1 * (x 1 : Nat) = (x 1 : Nat) by omega)
  | ⟨2, _⟩ => exact Fin.ext (show 0 + 1 * (x 2 : Nat) = (x 2 : Nat) by omega)

theorem eta1 (x : S1x128x128.Idx) : x = Idealize.ShloMosaic.ix3 0 (x 1) (x 2) := by
  have h0 : (x 0 : Nat) < 1 := (x 0).isLt
  funext a
  match a with
  | ⟨0, _⟩ => exact Fin.ext (show (x 0 : Nat) = 0 by omega)
  | ⟨1, _⟩ => rfl
  | ⟨2, _⟩ => rfl

/-- Stores at the eight heads, over any earlier stores, leave the stack. -/
theorem canon8 (p0 p1 p2 p3 p4 p5 p6 p7 : Vec F S1x128x128 .f32) (L : List (View.Piece (Elt F) S8x128x128 .f32)) :
    View.canon ([⟨Rect.unit (s := S8x128x128) ![7, 0, 0] S1x128x128.size inb_S8x128x128_S1x128x128_7_0_0, p7⟩, ⟨Rect.unit (s := S8x128x128) ![6, 0, 0] S1x128x128.size inb_S8x128x128_S1x128x128_6_0_0, p6⟩, ⟨Rect.unit (s := S8x128x128) ![5, 0, 0] S1x128x128.size inb_S8x128x128_S1x128x128_5_0_0, p5⟩, ⟨Rect.unit (s := S8x128x128) ![4, 0, 0] S1x128x128.size inb_S8x128x128_S1x128x128_4_0_0, p4⟩, ⟨Rect.unit (s := S8x128x128) ![3, 0, 0] S1x128x128.size inb_S8x128x128_S1x128x128_3_0_0, p3⟩, ⟨Rect.unit (s := S8x128x128) ![2, 0, 0] S1x128x128.size inb_S8x128x128_S1x128x128_2_0_0, p2⟩, ⟨Rect.unit (s := S8x128x128) ![1, 0, 0] S1x128x128.size inb_S8x128x128_S1x128x128_1_0_0, p1⟩, ⟨Rect.unit (s := S8x128x128) ![0, 0, 0] S1x128x128.size inb_S8x128x128_S1x128x128_0_0_0, p0⟩] ++ L)
      = heads8 p0 p1 p2 p3 p4 p5 p6 p7 := by
  funext y
  refine View.canon_append_of_piecesOf (heads8 p0 p1 p2 p3 p4 p5 p6 p7) L [⟨Rect.unit (s := S8x128x128) ![7, 0, 0] S1x128x128.size inb_S8x128x128_S1x128x128_7_0_0, p7⟩, ⟨Rect.unit (s := S8x128x128) ![6, 0, 0] S1x128x128.size inb_S8x128x128_S1x128x128_6_0_0, p6⟩, ⟨Rect.unit (s := S8x128x128) ![5, 0, 0] S1x128x128.size inb_S8x128x128_S1x128x128_5_0_0, p5⟩, ⟨Rect.unit (s := S8x128x128) ![4, 0, 0] S1x128x128.size inb_S8x128x128_S1x128x128_4_0_0, p4⟩, ⟨Rect.unit (s := S8x128x128) ![3, 0, 0] S1x128x128.size inb_S8x128x128_S1x128x128_3_0_0, p3⟩, ⟨Rect.unit (s := S8x128x128) ![2, 0, 0] S1x128x128.size inb_S8x128x128_S1x128x128_2_0_0, p2⟩, ⟨Rect.unit (s := S8x128x128) ![1, 0, 0] S1x128x128.size inb_S8x128x128_S1x128x128_1_0_0, p1⟩, ⟨Rect.unit (s := S8x128x128) ![0, 0, 0] S1x128x128.size inb_S8x128x128_S1x128x128_0_0_0, p0⟩]
    ⟨?_, ?_, ?_, ?_, ?_, ?_, ?_, ?_, trivial⟩ y ?_
  · intro x
    rw [emb8 7 (by decide)]
    exact congrArg p7 (eta1 x)
  · intro x
    rw [emb8 6 (by decide)]
    exact congrArg p6 (eta1 x)
  · intro x
    rw [emb8 5 (by decide)]
    exact congrArg p5 (eta1 x)
  · intro x
    rw [emb8 4 (by decide)]
    exact congrArg p4 (eta1 x)
  · intro x
    rw [emb8 3 (by decide)]
    exact congrArg p3 (eta1 x)
  · intro x
    rw [emb8 2 (by decide)]
    exact congrArg p2 (eta1 x)
  · intro x
    rw [emb8 1 (by decide)]
    exact congrArg p1 (eta1 x)
  · intro x
    rw [emb8 0 (by decide)]
    exact congrArg p0 (eta1 x)
  · exact View.cover_of_tiledL (s := S8x128x128) _ S1x128x128.size (by sl_kernel_rfl) y

/-- What a later point leaves in the buffer of the mixing weights' gradient: each head's contribution added to the head's matrix there. -/
theorem out11_B (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : ¬cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) (o9 : Vec F S1x1024 .f32) (o10 : Vec F S1x1024 .f32) (o11 : Vec F S8x128x128 .f32) (o12 : Vec F S128x8 .f32) (o13 : Vec F S1x1024 .f32) :
    out0_B_11 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13 =
      heads8 (k0_pay107 (k0_pay106 (v351 (inp x0 x1 x2 x3 x4 x5 x6 x7)) (W o11 0 inb_S8x128x128_S1x128x128_0_0_0))) (k0_pay108 (v334 (inp x0 x1 x2 x3 x4 x5 x6 x7)) (W o11 1 inb_S8x128x128_S1x128x128_1_0_0)) (k0_pay109 (v313 (inp x0 x1 x2 x3 x4 x5 x6 x7)) (W o11 2 inb_S8x128x128_S1x128x128_2_0_0)) (k0_pay110 (v292 (inp x0 x1 x2 x3 x4 x5 x6 x7)) (W o11 3 inb_S8x128x128_S1x128x128_3_0_0)) (k0_pay111 (v271 (inp x0 x1 x2 x3 x4 x5 x6 x7)) (W o11 4 inb_S8x128x128_S1x128x128_4_0_0)) (k0_pay1 (v250 (inp x0 x1 x2 x3 x4 x5 x6 x7)) (W o11 5 inb_S8x128x128_S1x128x128_5_0_0)) (k0_pay2 (v229 (inp x0 x1 x2 x3 x4 x5 x6 x7)) (W o11 6 inb_S8x128x128_S1x128x128_6_0_0)) (k0_pay3 (v208 (inp x0 x1 x2 x3 x4 x5 x6 x7)) (W o11 7 inb_S8x128x128_S1x128x128_7_0_0)) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13)]
  unfold kernelRun0_B
  dsimp only
  sl_unfold_words
  refine (canon8 _ _ _ _ _ _ _ _ []).trans ?_
  simp only [View.readAt_eq_ld, h1.read_unread, h2.read_unread, h3.read_unread, h4.read_unread, h5.read_unread, h6.read_unread, h7.read_unread, h8.read_unread, h10.read_unread, h11.read_unread, h12.read_unread, h13.read_unread, h14.read_unread, View.ld_unit_zero (S := S128x1024) hz, View.ld_unit_zero (S := S1x1024) hz, View.ld_unit_zero (S := S128x8) hz]
  rfl

/-- What the first point leaves in the buffer of the mixing weights' gradient: each head's contribution added to zeros. -/
theorem out11_A (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32)  :
    out0_A_11 c i a1 h1 a2 h2 a3 h3 a4 h4 a5 h5 a6 h6 a7 h7 a8 h8 a9 h9 a10 h10 a11 h11 a12 h12 a13 h13 a14 h14 hc0 x0 x1 x2 x3 x4 x5 x6 x7  =
      heads8 (k0_pay107 (k0_pay106 (v351 (inp x0 x1 x2 x3 x4 x5 x6 x7)) (W k0_pay6 0 inb_S8x128x128_S1x128x128_0_0_0))) (k0_pay108 (v334 (inp x0 x1 x2 x3 x4 x5 x6 x7)) (W k0_pay6 1 inb_S8x128x128_S1x128x128_1_0_0)) (k0_pay109 (v313 (inp x0 x1 x2 x3 x4 x5 x6 x7)) (W k0_pay6 2 inb_S8x128x128_S1x128x128_2_0_0)) (k0_pay110 (v292 (inp x0 x1 x2 x3 x4 x5 x6 x7)) (W k0_pay6 3 inb_S8x128x128_S1x128x128_3_0_0)) (k0_pay111 (v271 (inp x0 x1 x2 x3 x4 x5 x6 x7)) (W k0_pay6 4 inb_S8x128x128_S1x128x128_4_0_0)) (k0_pay1 (v250 (inp x0 x1 x2 x3 x4 x5 x6 x7)) (W k0_pay6 5 inb_S8x128x128_S1x128x128_5_0_0)) (k0_pay2 (v229 (inp x0 x1 x2 x3 x4 x5 x6 x7)) (W k0_pay6 6 inb_S8x128x128_S1x128x128_6_0_0)) (k0_pay3 (v208 (inp x0 x1 x2 x3 x4 x5 x6 x7)) (W k0_pay6 7 inb_S8x128x128_S1x128x128_7_0_0)) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc0 x0 x1 x2 x3 x4 x5 x6 x7 )]
  unfold kernelRun0_A
  dsimp only
  sl_unfold_words
  refine (canon8 _ _ _ _ _ _ _ _ [_]).trans ?_
  have e3 : ∀ a, (![0, 0, 0] : Fin 3 → Nat) a = 0 := by decide
  simp only [↓View.readCov_skip _ (Rect.unit (s := S8x128x128) ![0, 0, 0] ![1, 128, 128] inb_S8x128x128_S1x128x128_0_0_0) _ _ (Rect.unit (s := S8x128x128) ![1, 0, 0] ![1, 128, 128] inb_S8x128x128_S1x128x128_1_0_0).toLoadRect rfl, ↓View.readCov_skip _ (Rect.unit (s := S8x128x128) ![0, 0, 0] ![1, 128, 128] inb_S8x128x128_S1x128x128_0_0_0) _ _ (Rect.unit (s := S8x128x128) ![2, 0, 0] ![1, 128, 128] inb_S8x128x128_S1x128x128_2_0_0).toLoadRect rfl, ↓View.readCov_skip _ (Rect.unit (s := S8x128x128) ![1, 0, 0] ![1, 128, 128] inb_S8x128x128_S1x128x128_1_0_0) _ _ (Rect.unit (s := S8x128x128) ![2, 0, 0] ![1, 128, 128] inb_S8x128x128_S1x128x128_2_0_0).toLoadRect rfl, ↓View.readCov_skip _ (Rect.unit (s := S8x128x128) ![0, 0, 0] ![1, 128, 128] inb_S8x128x128_S1x128x128_0_0_0) _ _ (Rect.unit (s := S8x128x128) ![3, 0, 0] ![1, 128, 128] inb_S8x128x128_S1x128x128_3_0_0).toLoadRect rfl, ↓View.readCov_skip _ (Rect.unit (s := S8x128x128) ![1, 0, 0] ![1, 128, 128] inb_S8x128x128_S1x128x128_1_0_0) _ _ (Rect.unit (s := S8x128x128) ![3, 0, 0] ![1, 128, 128] inb_S8x128x128_S1x128x128_3_0_0).toLoadRect rfl, ↓View.readCov_skip _ (Rect.unit (s := S8x128x128) ![2, 0, 0] ![1, 128, 128] inb_S8x128x128_S1x128x128_2_0_0) _ _ (Rect.unit (s := S8x128x128) ![3, 0, 0] ![1, 128, 128] inb_S8x128x128_S1x128x128_3_0_0).toLoadRect rfl, ↓View.readCov_skip _ (Rect.unit (s := S8x128x128) ![0, 0, 0] ![1, 128, 128] inb_S8x128x128_S1x128x128_0_0_0) _ _ (Rect.unit (s := S8x128x128) ![4, 0, 0] ![1, 128, 128] inb_S8x128x128_S1x128x128_4_0_0).toLoadRect rfl, ↓View.readCov_skip _ (Rect.unit (s := S8x128x128) ![1, 0, 0] ![1, 128, 128] inb_S8x128x128_S1x128x128_1_0_0) _ _ (Rect.unit (s := S8x128x128) ![4, 0, 0] ![1, 128, 128] inb_S8x128x128_S1x128x128_4_0_0).toLoadRect rfl, ↓View.readCov_skip _ (Rect.unit (s := S8x128x128) ![2, 0, 0] ![1, 128, 128] inb_S8x128x128_S1x128x128_2_0_0) _ _ (Rect.unit (s := S8x128x128) ![4, 0, 0] ![1, 128, 128] inb_S8x128x128_S1x128x128_4_0_0).toLoadRect rfl, ↓View.readCov_skip _ (Rect.unit (s := S8x128x128) ![3, 0, 0] ![1, 128, 128] inb_S8x128x128_S1x128x128_3_0_0) _ _ (Rect.unit (s := S8x128x128) ![4, 0, 0] ![1, 128, 128] inb_S8x128x128_S1x128x128_4_0_0).toLoadRect rfl, ↓View.readCov_skip _ (Rect.unit (s := S8x128x128) ![0, 0, 0] ![1, 128, 128] inb_S8x128x128_S1x128x128_0_0_0) _ _ (Rect.unit (s := S8x128x128) ![5, 0, 0] ![1, 128, 128] inb_S8x128x128_S1x128x128_5_0_0).toLoadRect rfl, ↓View.readCov_skip _ (Rect.unit (s := S8x128x128) ![1, 0, 0] ![1, 128, 128] inb_S8x128x128_S1x128x128_1_0_0) _ _ (Rect.unit (s := S8x128x128) ![5, 0, 0] ![1, 128, 128] inb_S8x128x128_S1x128x128_5_0_0).toLoadRect rfl, ↓View.readCov_skip _ (Rect.unit (s := S8x128x128) ![2, 0, 0] ![1, 128, 128] inb_S8x128x128_S1x128x128_2_0_0) _ _ (Rect.unit (s := S8x128x128) ![5, 0, 0] ![1, 128, 128] inb_S8x128x128_S1x128x128_5_0_0).toLoadRect rfl, ↓View.readCov_skip _ (Rect.unit (s := S8x128x128) ![3, 0, 0] ![1, 128, 128] inb_S8x128x128_S1x128x128_3_0_0) _ _ (Rect.unit (s := S8x128x128) ![5, 0, 0] ![1, 128, 128] inb_S8x128x128_S1x128x128_5_0_0).toLoadRect rfl, ↓View.readCov_skip _ (Rect.unit (s := S8x128x128) ![4, 0, 0] ![1, 128, 128] inb_S8x128x128_S1x128x128_4_0_0) _ _ (Rect.unit (s := S8x128x128) ![5, 0, 0] ![1, 128, 128] inb_S8x128x128_S1x128x128_5_0_0).toLoadRect rfl, ↓View.readCov_skip _ (Rect.unit (s := S8x128x128) ![0, 0, 0] ![1, 128, 128] inb_S8x128x128_S1x128x128_0_0_0) _ _ (Rect.unit (s := S8x128x128) ![6, 0, 0] ![1, 128, 128] inb_S8x128x128_S1x128x128_6_0_0).toLoadRect rfl, ↓View.readCov_skip _ (Rect.unit (s := S8x128x128) ![1, 0, 0] ![1, 128, 128] inb_S8x128x128_S1x128x128_1_0_0) _ _ (Rect.unit (s := S8x128x128) ![6, 0, 0] ![1, 128, 128] inb_S8x128x128_S1x128x128_6_0_0).toLoadRect rfl, ↓View.readCov_skip _ (Rect.unit (s := S8x128x128) ![2, 0, 0] ![1, 128, 128] inb_S8x128x128_S1x128x128_2_0_0) _ _ (Rect.unit (s := S8x128x128) ![6, 0, 0] ![1, 128, 128] inb_S8x128x128_S1x128x128_6_0_0).toLoadRect rfl, ↓View.readCov_skip _ (Rect.unit (s := S8x128x128) ![3, 0, 0] ![1, 128, 128] inb_S8x128x128_S1x128x128_3_0_0) _ _ (Rect.unit (s := S8x128x128) ![6, 0, 0] ![1, 128, 128] inb_S8x128x128_S1x128x128_6_0_0).toLoadRect rfl, ↓View.readCov_skip _ (Rect.unit (s := S8x128x128) ![4, 0, 0] ![1, 128, 128] inb_S8x128x128_S1x128x128_4_0_0) _ _ (Rect.unit (s := S8x128x128) ![6, 0, 0] ![1, 128, 128] inb_S8x128x128_S1x128x128_6_0_0).toLoadRect rfl, ↓View.readCov_skip _ (Rect.unit (s := S8x128x128) ![5, 0, 0] ![1, 128, 128] inb_S8x128x128_S1x128x128_5_0_0) _ _ (Rect.unit (s := S8x128x128) ![6, 0, 0] ![1, 128, 128] inb_S8x128x128_S1x128x128_6_0_0).toLoadRect rfl, ↓View.readCov_skip _ (Rect.unit (s := S8x128x128) ![0, 0, 0] ![1, 128, 128] inb_S8x128x128_S1x128x128_0_0_0) _ _ (Rect.unit (s := S8x128x128) ![7, 0, 0] ![1, 128, 128] inb_S8x128x128_S1x128x128_7_0_0).toLoadRect rfl, ↓View.readCov_skip _ (Rect.unit (s := S8x128x128) ![1, 0, 0] ![1, 128, 128] inb_S8x128x128_S1x128x128_1_0_0) _ _ (Rect.unit (s := S8x128x128) ![7, 0, 0] ![1, 128, 128] inb_S8x128x128_S1x128x128_7_0_0).toLoadRect rfl, ↓View.readCov_skip _ (Rect.unit (s := S8x128x128) ![2, 0, 0] ![1, 128, 128] inb_S8x128x128_S1x128x128_2_0_0) _ _ (Rect.unit (s := S8x128x128) ![7, 0, 0] ![1, 128, 128] inb_S8x128x128_S1x128x128_7_0_0).toLoadRect rfl, ↓View.readCov_skip _ (Rect.unit (s := S8x128x128) ![3, 0, 0] ![1, 128, 128] inb_S8x128x128_S1x128x128_3_0_0) _ _ (Rect.unit (s := S8x128x128) ![7, 0, 0] ![1, 128, 128] inb_S8x128x128_S1x128x128_7_0_0).toLoadRect rfl, ↓View.readCov_skip _ (Rect.unit (s := S8x128x128) ![4, 0, 0] ![1, 128, 128] inb_S8x128x128_S1x128x128_4_0_0) _ _ (Rect.unit (s := S8x128x128) ![7, 0, 0] ![1, 128, 128] inb_S8x128x128_S1x128x128_7_0_0).toLoadRect rfl, ↓View.readCov_skip _ (Rect.unit (s := S8x128x128) ![5, 0, 0] ![1, 128, 128] inb_S8x128x128_S1x128x128_5_0_0) _ _ (Rect.unit (s := S8x128x128) ![7, 0, 0] ![1, 128, 128] inb_S8x128x128_S1x128x128_7_0_0).toLoadRect rfl, ↓View.readCov_skip _ (Rect.unit (s := S8x128x128) ![6, 0, 0] ![1, 128, 128] inb_S8x128x128_S1x128x128_6_0_0) _ _ (Rect.unit (s := S8x128x128) ![7, 0, 0] ![1, 128, 128] inb_S8x128x128_S1x128x128_7_0_0).toLoadRect rfl]
  simp only [View.readCov_fill (s := S8x128x128) _ _ _ _ _ e3]
  simp only [View.readAt_eq_ld, h1.read_unread, h2.read_unread, h3.read_unread, h4.read_unread, h5.read_unread, h6.read_unread, h7.read_unread, h8.read_unread, View.ld_unit_zero (S := S128x1024) hz, View.ld_unit_zero (S := S1x1024) hz, View.ld_unit_zero (S := S128x8) hz]
  rfl

/-- The two column halves of a block side by side. -/
def halves (p q : Vec F S128x1024 .bf16) : Vec F S128x2048 .bf16 :=
  fun i => if h : (i 1 : Nat) < 1024 then p (Idealize.ShloMosaic.ix2 (i 0) ⟨i 1, h⟩)
    else q (Idealize.ShloMosaic.ix2 (i 0) ⟨(i 1 : Nat) - 1024, by have := (i 1).isLt; change (i 1 : Nat) < 2048 at this; omega⟩)

/-- Stores of the two halves leave them side by side. -/
theorem canon2 (p q : Vec F S128x1024 .bf16) :
    View.canon [⟨Rect.unit (s := S128x2048) ![0, 1024] S128x1024.size inb_S128x2048_S128x1024_0_1024, q⟩,
        ⟨Rect.unit (s := S128x2048) ![0, 0] S128x1024.size inb_S128x2048_S128x1024_0_0, p⟩] = halves p q := by
  funext y
  refine View.canon_append_of_piecesOf (halves p q) [] [⟨Rect.unit (s := S128x2048) ![0, 1024] S128x1024.size inb_S128x2048_S128x1024_0_1024, q⟩,
        ⟨Rect.unit (s := S128x2048) ![0, 0] S128x1024.size inb_S128x2048_S128x1024_0_0, p⟩] ⟨?_, ?_, trivial⟩ y ?_
  · intro x
    have h1 : (x 1 : Nat) < 1024 := (x 1).isLt
    have e0 : ((Rect.unit (s := S128x2048) ![0, 1024] S128x1024.size inb_S128x2048_S128x1024_0_1024).emb x 0 : Nat) = (x 0 : Nat) :=
      show 0 + 1 * (x 0 : Nat) = (x 0 : Nat) by omega
    have e1 : ((Rect.unit (s := S128x2048) ![0, 1024] S128x1024.size inb_S128x2048_S128x1024_0_1024).emb x 1 : Nat) = 1024 + (x 1 : Nat) :=
      show 1024 + 1 * (x 1 : Nat) = 1024 + (x 1 : Nat) by omega
    show q x = halves p q _
    unfold halves
    rw [dif_neg (by rw [e1]; omega)]
    congr 1
    funext a
    match a with
    | ⟨0, _⟩ => exact Fin.ext e0.symm
    | ⟨1, _⟩ => exact Fin.ext (show (x 1 : Nat) = _ - 1024 by rw [e1]; omega)
  · intro x
    have h1 : (x 1 : Nat) < 1024 := (x 1).isLt
    have e0 : ((Rect.unit (s := S128x2048) ![0, 0] S128x1024.size inb_S128x2048_S128x1024_0_0).emb x 0 : Nat) = (x 0 : Nat) :=
      show 0 + 1 * (x 0 : Nat) = (x 0 : Nat) by omega
    have e1 : ((Rect.unit (s := S128x2048) ![0, 0] S128x1024.size inb_S128x2048_S128x1024_0_0).emb x 1 : Nat) = (x 1 : Nat) :=
      show 0 + 1 * (x 1 : Nat) = (x 1 : Nat) by omega
    show p x = halves p q _
    unfold halves
    rw [dif_pos (by rw [e1]; omega)]
    congr 1
    funext a
    match a with
    | ⟨0, _⟩ => exact Fin.ext e0.symm
    | ⟨1, _⟩ => exact Fin.ext e1.symm
  · exact View.cover_of_tiledL (s := S128x2048) _ S128x1024.size (by sl_kernel_rfl) y

/-- What any point leaves in the buffer of the projections' gradient: the two halves of its own rows. -/
theorem out8_B (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : ¬cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32) (o9 : Vec F S1x1024 .f32) (o10 : Vec F S1x1024 .f32) (o11 : Vec F S8x128x128 .f32) (o12 : Vec F S128x8 .f32) (o13 : Vec F S1x1024 .f32) :
    out0_B_8 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13 = halves (v404 (inp x0 x1 x2 x3 x4 x5 x6 x7)) (v406 (inp x0 x1 x2 x3 x4 x5 x6 x7)) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 hc0 x0 x1 x2 x3 x4 x5 x6 x7 o9 o10 o11 o12 o13)]
  unfold kernelRun0_B
  dsimp only
  sl_unfold_words
  refine (canon2 _ _).trans ?_
  simp only [View.readAt_eq_ld, h1.read_unread, h2.read_unread, h3.read_unread, h4.read_unread, h5.read_unread, h6.read_unread, h7.read_unread, h8.read_unread, h10.read_unread, h11.read_unread, h12.read_unread, h13.read_unread, h14.read_unread, View.ld_unit_zero (S := S128x1024) hz, View.ld_unit_zero (S := S1x1024) hz, View.ld_unit_zero (S := S128x8) hz]
  rfl

/-- What any point leaves in the buffer of the projections' gradient: the two halves of its own rows. -/
theorem out8_A (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x8 .f32) (h7 : a7.IsWhole) (a8 : Memref sig .tc .vmem S1x1024 .f32) (h8 : a8.IsWhole) (a9 : Memref sig .tc .vmem S128x2048 .bf16) (h9 : a9.IsWhole) (a10 : Memref sig .tc .vmem S1x1024 .f32) (h10 : a10.IsWhole) (a11 : Memref sig .tc .vmem S1x1024 .f32) (h11 : a11.IsWhole) (a12 : Memref sig .tc .vmem S8x128x128 .f32) (h12 : a12.IsWhole) (a13 : Memref sig .tc .vmem S128x8 .f32) (h13 : a13.IsWhole) (a14 : Memref sig .tc .vmem S1x1024 .f32) (h14 : a14.IsWhole) (hc0 : cond0_0 i)
    (x0 : Vec F S128x1024 .f32) (x1 : Vec F S128x1024 .f32) (x2 : Vec F S128x1024 .f32) (x3 : Vec F S1x1024 .f32) (x4 : Vec F S1x1024 .f32) (x5 : Vec F S8x128x128 .f32) (x6 : Vec F S128x8 .f32) (x7 : Vec F S1x1024 .f32)  :
    out0_A_8 c i a1 h1 a2 h2 a3 h3 a4 h4 a5 h5 a6 h6 a7 h7 a8 h8 a9 h9 a10 h10 a11 h11 a12 h12 a13 h13 a14 h14 hc0 x0 x1 x2 x3 x4 x5 x6 x7  = halves (v404 (inp x0 x1 x2 x3 x4 x5 x6 x7)) (v406 (inp x0 x1 x2 x3 x4 x5 x6 x7)) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 hc0 x0 x1 x2 x3 x4 x5 x6 x7 )]
  unfold kernelRun0_A
  dsimp only
  sl_unfold_words
  refine (canon2 _ _).trans ?_
  simp only [View.readAt_eq_ld, h1.read_unread, h2.read_unread, h3.read_unread, h4.read_unread, h5.read_unread, h6.read_unread, h7.read_unread, h8.read_unread, View.ld_unit_zero (S := S128x1024) hz, View.ld_unit_zero (S := S1x1024) hz, View.ld_unit_zero (S := S128x8) hz]
  rfl
-- ==== Proof.Forward.lean ====
module

public import proofs.«01_k».proof.Proof.Body
public import proofs.«01_k».proof.Proof.Gen.ReferenceIdeal.Read
public import Idealize.ShloMosaic.Lib.Pointwise

@[expose] public section

set_option maxRecDepth 16384

noncomputable section

namespace Cert.KernelIdeal.Body

open Cert.KernelIdeal Cert.KernelIdeal.Gen Cert.ReferenceIdeal.Read Idealize.ShloMosaic Idealize.ShloMosaic.TcCoe

/-- Row `r` of chunk `t` as a row of the whole arrays. -/
def row (t : Fin 64) (r : Fin 128) : Fin 8192 := ⟨t.val * 128 + r.val, by omega⟩

abbrev A0 := (⟨S8192x3200, .f32⟩ : BufTy).Contents (Elt Ideal)
abbrev A1 := (⟨S8192x1024, .f32⟩ : BufTy).Contents (Elt Ideal)
abbrev A2 := (⟨S1x1024, .f32⟩ : BufTy).Contents (Elt Ideal)
abbrev A4 := (⟨S1x8x128x128, .f32⟩ : BufTy).Contents (Elt Ideal)
abbrev A5 := (⟨S1x8x128, .f32⟩ : BufTy).Contents (Elt Ideal)

/-- The grid point's inputs are chunk `t` of the arguments. -/
structure At (x : Inp Ideal) (t : Fin 64) (a0 : A0) (a1 : A1) (a2 a3 : A2) (a4 : A4) (a5 : A5) (a6 : A2) : Prop where
  hU : ∀ (r : Fin 128) (c : Fin 1024), x.U (ix2 r c) = a0 (ix2 (row t r) ⟨c.val, by omega⟩)
  hV : ∀ (r : Fin 128) (c : Fin 1024), x.V (ix2 r c) = a0 (ix2 (row t r) ⟨1024 + c.val, by omega⟩)
  hDY : ∀ (r : Fin 128) (c : Fin 1024), x.DY (ix2 r c) = a1 (ix2 (row t r) c)
  hLG : ∀ c : Fin 1024, x.LG (ix2 0 c) = a2 (ix2 0 c)
  hLB : ∀ c : Fin 1024, x.LB (ix2 0 c) = a3 (ix2 0 c)
  hW0 : ∀ r s : Fin 128, x.W0 (ix3 0 r s) = a4 (ix4 0 0 r s)
  hW1 : ∀ r s : Fin 128, x.W1 (ix3 0 r s) = a4 (ix4 0 1 r s)
  hW2 : ∀ r s : Fin 128, x.W2 (ix3 0 r s) = a4 (ix4 0 2 r s)
  hW3 : ∀ r s : Fin 128, x.W3 (ix3 0 r s) = a4 (ix4 0 3 r s)
  hW4 : ∀ r s : Fin 128, x.W4 (ix3 0 r s) = a4 (ix4 0 4 r s)
  hW5 : ∀ r s : Fin 128, x.W5 (ix3 0 r s) = a4 (ix4 0 5 r s)
  hW6 : ∀ r s : Fin 128, x.W6 (ix3 0 r s) = a4 (ix4 0 6 r s)
  hW7 : ∀ r s : Fin 128, x.W7 (ix3 0 r s) = a4 (ix4 0 7 r s)
  hBS : ∀ (r : Fin 128) (h : Fin 8), x.BS (ix2 r h) = a5 (ix3 0 h r)
  hOG : ∀ c : Fin 1024, x.OG (ix2 0 c) = a6 (ix2 0 c)

variable {x : Inp Ideal} {t : Fin 64} {a0 : A0} {a1 : A1} {a2 a3 : A2} {a4 : A4} {a5 : A5} {a6 : A2}
  (H : At x t a0 a1 a2 a3 a4 a5 a6)
include H

omit H in
theorem erfc_side (u s : EReal) : 1 + Ideal.erf (u * s) = Ideal.erfc (-u * s) := by
  rw [EReal.neg_mul, Ideal.erfc_neg]

theorem v27_eq (r : Fin 128) (c : Fin 1024) : v27 x (ix2 r c) = val_main_v3 (F := Ideal) a0 (ix2 (row t r) c) := by
  pointwise [v27, k0_pay18, H.hU, val_main_v3, val_main_v2, val_main_v0, val_main_cst]

theorem v36_eq (r : Fin 128) (c : Fin 1024) : v36 x (ix2 r c) = val_main_v7 (F := Ideal) a0 (ix2 (row t r) c) := by
  pointwise [v36, k0_pay21, k0_pay19, H.hU, val_main_v7, val_main_v6, val_main_v5, val_main_v4, val_main_v0, val_main_cst_0]
  exact erfc_side _ _

theorem v34_eq (r : Fin 128) (c : Fin 1024) : v34 x (ix2 r c) = val_main_v10 (F := Ideal) a0 (ix2 (row t r) c) := by
  pointwise [v34, k0_pay20, k0_pay19, H.hU, val_main_v10, val_main_v9, val_main_v8, val_main_v6, val_main_v5, val_main_v4, val_main_v0, val_main_cst_0, neg_mul, mul_neg, neg_neg, zero_sub]

theorem v37_eq (r : Fin 128) (c : Fin 1024) : v37 x (ix2 r c) = val_main_v11 (F := Ideal) a0 (ix2 (row t r) c) := by
  have h1 := v27_eq H r c
  have h2 := v36_eq H r c
  unfold v27 at h1; unfold v36 at h2
  pointwise [v37, k0_pay22, val_main_v11, h1, h2]

theorem v39_eq (r : Fin 128) (c : Fin 1024) : v39 x (ix2 r c) = val_main_v13 (F := Ideal) a0 (ix2 (row t r) c) := by
  pointwise [v39, k0_pay23, H.hV, val_main_v13, val_main_v12, val_main_v1, val_main_cst_1]

theorem v48_eq (r : Fin 128) (c : Fin 1024) : v48 x (ix2 r c) = val_main_v17 (F := Ideal) a0 (ix2 (row t r) c) := by
  pointwise [v48, k0_pay26, k0_pay24, H.hV, val_main_v17, val_main_v16, val_main_v15, val_main_v14, val_main_v1, val_main_cst_2]
  exact erfc_side _ _

theorem v46_eq (r : Fin 128) (c : Fin 1024) : v46 x (ix2 r c) = val_main_v20 (F := Ideal) a0 (ix2 (row t r) c) := by
  pointwise [v46, k0_pay25, k0_pay24, H.hV, val_main_v20, val_main_v19, val_main_v18, val_main_v16, val_main_v15, val_main_v14, val_main_v1, val_main_cst_2, neg_mul, mul_neg, neg_neg, zero_sub]

theorem v55_eq (r : Fin 128) (c : Fin 1024) : v55 x (ix2 r c) = val_main_v31 (F := Ideal) a0 (ix2 (row t r) c) := by
  have h1 := v39_eq H
  have h2 := v48_eq H
  unfold v39 at h1; unfold v48 at h2
  pointwise [v55, k0_pay27, h1, h2, val_main_v31, val_main_v30, val_main_v29, val_main_v28, val_main_v27, val_main_v26, val_main_v21, val_main_cst_3, val_main_cst_4]

theorem pay28_eq (r : Fin 128) : k0_pay28 x.V (ix2 r 0) = val_main_v38 (F := Ideal) a0 (ix2 (row t r) 0) := by
  have h1 := v55_eq H
  unfold v55 at h1
  pointwise [k0_pay28, h1, val_main_v38, val_main_v37, val_main_v36, val_main_v35, val_main_v34, val_main_v33, val_main_v32, val_main_cst_5, val_main_cst_6, val_main_cst_7]

theorem v63_eq (r : Fin 128) : v63 x (ix2 r 0) = val_main_v39 (F := Ideal) a0 (ix2 (row t r) 0) := by
  have h1 := pay28_eq H r
  pointwise [v63, k0_pay29, h1, val_main_v39]

theorem v64_eq (r : Fin 128) : v64 x (ix2 r 0) = val_main_v40 (F := Ideal) a0 (ix2 (row t r) 0) := by
  have h1 := pay28_eq H r
  have h2 := v63_eq H r
  unfold v63 at h2
  pointwise [v64, k0_pay30, h1, h2, val_main_v40]

theorem v66_eq (r : Fin 128) (z : Fin 1) : v66 x (ix2 r z) = val_main_v42 (F := Ideal) a0 (ix2 (row t r) z) := by
  obtain rfl : z = 0 := Subsingleton.elim _ _
  have h2 := v64_eq H r
  pointwise [v66, k0_pay32, k0_pay31, h2, val_main_v42, val_main_v41, val_main_cst_8]

theorem v68_eq (r : Fin 128) (c : Fin 1024) : v68 x (ix2 r c) = val_main_v44 (F := Ideal) a0 (ix2 (row t r) c) := by
  have h1 := v55_eq H
  have h2 := v63_eq H
  pointwise [v68, k0_pay33, h1, h2, val_main_v44, val_main_v43]

theorem v72_eq (r : Fin 128) (c : Fin 1024) : v72 x (ix2 r c) = val_main_v50 (F := Ideal) a0 a2 a3 (ix2 (row t r) c) := by
  have h1 := v68_eq H
  unfold v68 at h1
  pointwise [v72, k0_pay34, h1, H.hLG, H.hLB, val_main_v50, val_main_v49, val_main_v48, val_main_v47, val_main_v46, val_main_v45, val_main_v22, val_main_v23]

end Cert.KernelIdeal.Body

end
-- ==== Proof.Point.lean ====
module

public import proofs.«01_k».proof.Proof.Gen.KernelIdeal.Frame
public import proofs.«01_k».proof.Proof.Stores
public import proofs.«01_k».proof.Proof.Forward
public import Idealize.ShloMosaic.Lib.Pipeline.Value
public import Idealize.ShloMosaic.Lib.Tactic
public import Idealize.ShloMosaic.Lib.Pointwise
public import Idealize.ShloMosaic.Lib.Quiescent

@[expose] public section

noncomputable section

namespace Cert.KernelIdeal.Body

open Cert.KernelIdeal Cert.KernelIdeal.Gen Idealize.ShloMosaic Idealize.ShloMosaic.TcCoe Idealize.SL.Sem
open Idealize.ShloMosaic.Pipeline (Dat)
open Idealize.ShloMosaic (ix2 ix3 ix4)

variable (m : (ℓ : Loc nD τ sig) → Buf (Elt Ideal) ℓ) (c : Dev nD)

/-! ## What the kernel's arrays hold when it starts -/

theorem V_v1 : V m c main_v1 = transpose S128x8 [1, 0] (shapeCast S8x128 (m ((c : Thread nD τ).loc main_arg5)) shapeCasts_S1x8x128_S8x128) transposes_S8x128_S128x8_1_0 := by
  show StableHlo.after hostOps0 (fun b => m (c, b)) main_v1 = _
  simp only [hostOps0, StableHlo.after_cons, StableHlo.after_nil]
  rfl

theorem V_v2 : V m c main_v2 = shapeCast S8x128x128 (m ((c : Thread nD τ).loc main_arg4)) shapeCasts_S1x8x128x128_S8x128x128 := by
  show StableHlo.after hostOps0 (fun b => m (c, b)) main_v2 = _
  simp only [hostOps0, StableHlo.after_cons, StableHlo.after_nil]
  rfl

/-! ## Each window's block at a point -/

theorem N64 : cfg0.N = 64 := N_0

theorem index0 : ∀ t : Fin cfg0.N, win0_0.index t 0 = t.val ∧ win0_0.index t 1 = 0 := by decide +kernel
theorem index1 : ∀ t : Fin cfg0.N, win0_1.index t 0 = t.val ∧ win0_1.index t 1 = 1 := by decide +kernel
theorem index2 : ∀ t : Fin cfg0.N, win0_2.index t 0 = t.val ∧ win0_2.index t 1 = 0 := by decide +kernel
theorem index8 : ∀ t : Fin cfg0.N, win0_8.index t 0 = t.val ∧ win0_8.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 ∧ win0_5.index t 2 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel

/-- The chunk of a grid point. -/
abbrev chunk (t : Fin cfg0.N) : Fin 64 := ⟨t.val, by have := t.isLt; have := N64; omega⟩

theorem X0_eq (t : Fin cfg0.N) (r : Fin 128) (k : Fin 1024) :
    X0_0 m c t (ix2 r k) = m ((c : Thread nD τ).loc main_arg0) (ix2 (row (chunk t) r) ⟨k.val, by omega⟩) := by
  obtain ⟨h0, h1⟩ := index0 t
  unfold X0_0 Pipeline.Window.fill
  rw [dif_pos (moved0_0 t _)]
  unfold iblk
  rw [View.read_apply]
  show V m c main_arg0 _ = _
  rw [V_main_arg0]
  congr 1
  funext a
  refine Fin.ext ?_
  match a with
  | ⟨0, _⟩ => show win0_0.index t 0 * 128 + 1 * r.val = t.val * 128 + r.val; omega
  | ⟨1, _⟩ => show win0_0.index t 1 * 1024 + 1 * k.val = k.val; omega

theorem X1_eq (t : Fin cfg0.N) (r : Fin 128) (k : Fin 1024) :
    X0_1 m c t (ix2 r k) = m ((c : Thread nD τ).loc main_arg0) (ix2 (row (chunk t) r) ⟨1024 + k.val, by omega⟩) := by
  obtain ⟨h0, h1⟩ := index1 t
  unfold X0_1 Pipeline.Window.fill
  rw [dif_pos (moved0_1 t _)]
  unfold iblk
  rw [View.read_apply]
  show V m c main_arg0 _ = _
  rw [V_main_arg0]
  congr 1
  funext a
  refine Fin.ext ?_
  match a with
  | ⟨0, _⟩ => show win0_1.index t 0 * 128 + 1 * r.val = t.val * 128 + r.val; omega
  | ⟨1, _⟩ => show win0_1.index t 1 * 1024 + 1 * k.val = 1024 + k.val; omega

theorem X2_eq (t : Fin cfg0.N) (r : Fin 128) (k : Fin 1024) :
    (iblk m c 2 t : Vec Ideal S128x1024 .f32) (ix2 r k) = m ((c : Thread nD τ).loc main_arg1) (ix2 (row (chunk t) r) k) := by
  obtain ⟨h0, h1⟩ := index2 t
  unfold iblk
  rw [View.read_apply]
  show V m c main_arg1 _ = _
  rw [V_main_arg1]
  congr 1
  funext a
  refine Fin.ext ?_
  match a with
  | ⟨0, _⟩ => show win0_2.index t 0 * 128 + 1 * r.val = t.val * 128 + r.val; omega
  | ⟨1, _⟩ => show win0_2.index t 1 * 1024 + 1 * k.val = k.val; omega

theorem X3_eq (t : Fin cfg0.N) (k : Fin 1024) :
    (iblk m c 3 t : Vec Ideal S1x1024 .f32) (ix2 0 k) = m ((c : Thread nD τ).loc main_arg2) (ix2 0 k) := by
  obtain ⟨h0, h1⟩ := index3 t
  unfold iblk
  rw [View.read_apply]
  show V m c main_arg2 _ = _
  rw [V_main_arg2]
  congr 1
  funext a
  refine Fin.ext ?_
  match a with
  | ⟨0, _⟩ => show win0_3.index t 0 * 1 + 1 * 0 = 0; omega
  | ⟨1, _⟩ => show win0_3.index t 1 * 1024 + 1 * k.val = k.val; omega

theorem X4_eq (t : Fin cfg0.N) (k : Fin 1024) :
    (iblk m c 4 t : Vec Ideal S1x1024 .f32) (ix2 0 k) = m ((c : Thread nD τ).loc main_arg3) (ix2 0 k) := by
  obtain ⟨h0, h1⟩ := index4 t
  unfold iblk
  rw [View.read_apply]
  show V m c main_arg3 _ = _
  rw [V_main_arg3]
  congr 1
  funext a
  refine Fin.ext ?_
  match a with
  | ⟨0, _⟩ => show win0_4.index t 0 * 1 + 1 * 0 = 0; omega
  | ⟨1, _⟩ => show win0_4.index t 1 * 1024 + 1 * k.val = k.val; omega

theorem X7_eq (t : Fin cfg0.N) (k : Fin 1024) :
    (iblk m c 7 t : Vec Ideal S1x1024 .f32) (ix2 0 k) = m ((c : Thread nD τ).loc main_arg6) (ix2 0 k) := by
  obtain ⟨h0, h1⟩ := index7 t
  unfold iblk
  rw [View.read_apply]
  show V m c main_arg6 _ = _
  rw [V_main_arg6]
  congr 1
  funext a
  refine Fin.ext ?_
  match a with
  | ⟨0, _⟩ => show win0_7.index t 0 * 1 + 1 * 0 = 0; omega
  | ⟨1, _⟩ => show win0_7.index t 1 * 1024 + 1 * k.val = k.val; omega

theorem turned (y : Vec Ideal S1x8x128 .f32) (r : Fin 128) (h : Fin 8) :
    transpose S128x8 [1, 0] (shapeCast S8x128 y shapeCasts_S1x8x128_S8x128) transposes_S8x128_S128x8_1_0 (ix2 r h) = y (ix3 0 h r) := by
  pointwise

theorem dropped (y : Vec Ideal S1x8x128x128 .f32) (h : Fin 8) (r s : Fin 128) :
    shapeCast S8x128x128 y shapeCasts_S1x8x128x128_S8x128x128 (ix3 h r s) = y (ix4 0 h r s) := by
  pointwise

theorem X6_eq (t : Fin cfg0.N) (r : Fin 128) (h : Fin 8) :
    (iblk m c 6 t : Vec Ideal S128x8 .f32) (ix2 r h) = m ((c : Thread nD τ).loc main_arg5) (ix3 0 h r) := by
  obtain ⟨h0, h1⟩ := index6 t
  have e : (iblk m c 6 t : Vec Ideal S128x8 .f32) (ix2 r h) = V m c main_v1 (ix2 r h) := by
    unfold iblk
    rw [View.read_apply]
    show V m c main_v1 _ = _
    congr 1
    funext a
    refine Fin.ext ?_
    match a with
    | ⟨0, _⟩ => show win0_6.index t 0 * 128 + 1 * r.val = r.val; omega
    | ⟨1, _⟩ => show win0_6.index t 1 * 8 + 1 * h.val = h.val; omega
  rw [e, V_v1]
  exact turned _ r h

theorem X5_eq (t : Fin cfg0.N) (h : Fin 8) (r s : Fin 128) :
    (iblk m c 5 t : Vec Ideal S8x128x128 .f32) (ix3 h r s) = m ((c : Thread nD τ).loc main_arg4) (ix4 0 h r s) := by
  obtain ⟨h0, h1, h2⟩ := index5 t
  have e : (iblk m c 5 t : Vec Ideal S8x128x128 .f32) (ix3 h r s) = V m c main_v2 (ix3 h r s) := by
    unfold iblk
    rw [View.read_apply]
    show V m c main_v2 _ = _
    congr 1
    funext a
    refine Fin.ext ?_
    match a with
    | ⟨0, _⟩ => show win0_5.index t 0 * 8 + 1 * h.val = h.val; omega
    | ⟨1, _⟩ => show win0_5.index t 1 * 128 + 1 * r.val = r.val; omega
    | ⟨2, _⟩ => show win0_5.index t 2 * 128 + 1 * s.val = s.val; omega
  rw [e, V_v2]
  exact dropped _ h r s

theorem W_eq (x5 : Vec Ideal S8x128x128 .f32) (h : Nat) (h8 : h < 8)
    (inb : ∀ a, (![h, 0, 0] : Fin 3 → Nat) a + S1x128x128.size a ≤ S8x128x128.size a) (r s : Fin 128) :
    W x5 h inb (ix3 0 r s) = x5 (ix3 ⟨h, h8⟩ r s) :=
  congrArg x5 (emb8 h h8 inb (ix3 0 r s))

/-- What a grid point reads. -/
abbrev inpAt (t : Fin cfg0.N) : Inp Ideal :=
  inp (X0_0 m c t) (X0_1 m c t) (iblk m c 2 t) (iblk m c 3 t) (iblk m c 4 t) (iblk m c 5 t) (iblk m c 6 t) (iblk m c 7 t)

/-- It is its chunk of the arguments. -/
theorem at_point (t : Fin cfg0.N) :
    At (inpAt m c t) (chunk t) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) where
  hU := X0_eq m c t
  hV := X1_eq m c t
  hDY := X2_eq m c t
  hLG := X3_eq m c t
  hLB := X4_eq m c t
  hW0 := fun r s => (W_eq (iblk m c 5 t) 0 (by decide) _ r s).trans (X5_eq m c t 0 r s)
  hW1 := fun r s => (W_eq (iblk m c 5 t) 1 (by decide) _ r s).trans (X5_eq m c t 1 r s)
  hW2 := fun r s => (W_eq (iblk m c 5 t) 2 (by decide) _ r s).trans (X5_eq m c t 2 r s)
  hW3 := fun r s => (W_eq (iblk m c 5 t) 3 (by decide) _ r s).trans (X5_eq m c t 3 r s)
  hW4 := fun r s => (W_eq (iblk m c 5 t) 4 (by decide) _ r s).trans (X5_eq m c t 4 r s)
  hW5 := fun r s => (W_eq (iblk m c 5 t) 5 (by decide) _ r s).trans (X5_eq m c t 5 r s)
  hW6 := fun r s => (W_eq (iblk m c 5 t) 6 (by decide) _ r s).trans (X5_eq m c t 6 r s)
  hW7 := fun r s => (W_eq (iblk m c 5 t) 7 (by decide) _ r s).trans (X5_eq m c t 7 r s)
  hBS := X6_eq m c t
  hOG := X7_eq m c t
-- ==== Proof.Accum.lean ====
module

public import proofs.«01_k».proof.Proof.Gen.KernelIdeal.Frame
public import proofs.«01_k».proof.Proof.Point
public import Idealize.ShloMosaic.Lib.Pipeline.Value
public import Idealize.ShloMosaic.Lib.Tactic
public import Idealize.ShloMosaic.Lib.Pointwise
public import Idealize.ShloMosaic.Lib.Quiescent

@[expose] public section

noncomputable section

namespace Cert.KernelIdeal.Body

open Cert.KernelIdeal Cert.KernelIdeal.Gen Idealize.ShloMosaic Idealize.ShloMosaic.TcCoe Idealize.SL.Sem
open Idealize.ShloMosaic.Pipeline (Dat)
open Idealize.ShloMosaic (ix2 ix3 ix4)

variable (m : (ℓ : Loc nD τ sig) → Buf (Elt Ideal) ℓ) (c : Dev nD)

/-- A running sum is the sum of what was added. -/
theorem sum_of_steps (X : (n : ℕ) → n < cfg0.N → EReal) (g : Fin cfg0.N → EReal) (h0 : ∀ h, X 0 h = g ⟨0, h⟩)
    (hs : ∀ n (h : n + 1 < cfg0.N), X (n + 1) h = X n (Nat.lt_of_succ_lt h) + g ⟨n + 1, h⟩) :
    ∀ n (h : n < cfg0.N), X n h = ∑ t : Fin (n + 1), g ⟨t.val, by omega⟩
  | 0, h => by rw [h0, Fin.sum_univ_one]; rfl
  | n + 1, h => by
    rw [hs, sum_of_steps X g h0 hs n, Fin.sum_univ_castSucc (n := n + 1)]
    rfl

theorem notFirst {n : ℕ} (h : n + 1 < cfg0.N) : ¬(⟨n + 1, h⟩ : Fin cfg0.N).val % 64 = 0 := by
  have : cfg0.N = 64 := N64
  dsimp only
  omega

/-- What the outputs' buffers hold after the first point. -/
theorem state_A (t : Fin cfg0.N) (h0 : t.val % 64 = 0) :
    outsAt0 m c t.val t.isLt = (halves (v404 (inpAt m c t)) (v406 (inpAt m c t)), k0_pay102 (v356 (inpAt m c t)) (k0_pay4 (F := Ideal)),
      k0_pay103 (v353 (inpAt m c t)) (k0_pay5 (F := Ideal)), heads8 (k0_pay107 (k0_pay106 (v351 (inpAt m c t)) (W (k0_pay6 (F := Ideal)) 0 inb_S8x128x128_S1x128x128_0_0_0))) (k0_pay108 (v334 (inpAt m c t)) (W (k0_pay6 (F := Ideal)) 1 inb_S8x128x128_S1x128x128_1_0_0)) (k0_pay109 (v313 (inpAt m c t)) (W (k0_pay6 (F := Ideal)) 2 inb_S8x128x128_S1x128x128_2_0_0)) (k0_pay110 (v292 (inpAt m c t)) (W (k0_pay6 (F := Ideal)) 3 inb_S8x128x128_S1x128x128_3_0_0)) (k0_pay111 (v271 (inpAt m c t)) (W (k0_pay6 (F := Ideal)) 4 inb_S8x128x128_S1x128x128_4_0_0)) (k0_pay1 (v250 (inpAt m c t)) (W (k0_pay6 (F := Ideal)) 5 inb_S8x128x128_S1x128x128_5_0_0)) (k0_pay2 (v229 (inpAt m c t)) (W (k0_pay6 (F := Ideal)) 6 inb_S8x128x128_S1x128x128_6_0_0)) (k0_pay3 (v208 (inpAt m c t)) (W (k0_pay6 (F := Ideal)) 7 inb_S8x128x128_S1x128x128_7_0_0)),
      k0_pay104 (v339 (inpAt m c t)) (k0_pay7 (F := Ideal)), k0_pay105 (v166 (inpAt m c t)) (k0_pay8 (F := Ideal))) := by
  rw [outsAt0_A m c t h0, out8_A, out9_A, out10_A, out11_A, out12_A, out13_A]

/-- What they hold after a later point, from what they held before it. -/
theorem state_B (t : Fin cfg0.N) (h0 : ¬t.val % 64 = 0) (o) (ho : outsAt0 m c (t.val - 1) (Nat.lt_of_le_of_lt (Nat.sub_le _ _) t.isLt) = o) :
    outsAt0 m c t.val t.isLt = (halves (v404 (inpAt m c t)) (v406 (inpAt m c t)), k0_pay102 (v356 (inpAt m c t)) o.2.1,
      k0_pay103 (v353 (inpAt m c t)) o.2.2.1, heads8 (k0_pay107 (k0_pay106 (v351 (inpAt m c t)) (W (o.2.2.2.1) 0 inb_S8x128x128_S1x128x128_0_0_0))) (k0_pay108 (v334 (inpAt m c t)) (W (o.2.2.2.1) 1 inb_S8x128x128_S1x128x128_1_0_0)) (k0_pay109 (v313 (inpAt m c t)) (W (o.2.2.2.1) 2 inb_S8x128x128_S1x128x128_2_0_0)) (k0_pay110 (v292 (inpAt m c t)) (W (o.2.2.2.1) 3 inb_S8x128x128_S1x128x128_3_0_0)) (k0_pay111 (v271 (inpAt m c t)) (W (o.2.2.2.1) 4 inb_S8x128x128_S1x128x128_4_0_0)) (k0_pay1 (v250 (inpAt m c t)) (W (o.2.2.2.1) 5 inb_S8x128x128_S1x128x128_5_0_0)) (k0_pay2 (v229 (inpAt m c t)) (W (o.2.2.2.1) 6 inb_S8x128x128_S1x128x128_6_0_0)) (k0_pay3 (v208 (inpAt m c t)) (W (o.2.2.2.1) 7 inb_S8x128x128_S1x128x128_7_0_0)),
      k0_pay104 (v339 (inpAt m c t)) o.2.2.2.2.1, k0_pay105 (v166 (inpAt m c t)) o.2.2.2.2.2) := by
  rw [outsAt0_B m c t h0, ho, out8_B, out9_B, out10_B, out11_B, out12_B, out13_B]

theorem pay102_zero (a : Vec Ideal S1x1024 .f32) (k : Fin 1024) : k0_pay102 (F := Ideal) a (k0_pay4 (F := Ideal)) (ix2 0 k) = a (ix2 0 k) := by
  pointwise [k0_pay102, k0_pay4]

theorem pay102_add (a o : Vec Ideal S1x1024 .f32) (k : Fin 1024) : k0_pay102 a o (ix2 0 k) = o (ix2 0 k) + a (ix2 0 k) := by
  pointwise [k0_pay102]

/-- Output 9's buffer after point `n` is the sum of the contributions of the points up to `n`. -/
theorem acc9 (k : Fin 1024) (n : ℕ) (h : n < cfg0.N) :
    (outsAt0 m c n h).2.1 (ix2 0 k) = ∑ t : Fin (n + 1), v356 (inpAt m c ⟨t.val, by omega⟩) (ix2 0 k) := by
  refine sum_of_steps (fun n h => (outsAt0 m c n h).2.1 (ix2 0 k)) (fun t => v356 (inpAt m c t) (ix2 0 k)) ?_ ?_ n h
  · intro h
    exact (congrArg (fun o => o.2.1 (ix2 0 k)) (state_A m c ⟨0, h⟩ rfl)).trans (pay102_zero _ k)
  · intro n h
    exact (congrArg (fun o => o.2.1 (ix2 0 k)) (state_B m c ⟨n + 1, h⟩ (notFirst h) (outsAt0 m c n (Nat.lt_of_succ_lt h)) rfl)).trans (pay102_add _ _ k)

theorem pay103_zero (a : Vec Ideal S1x1024 .f32) (k : Fin 1024) : k0_pay103 (F := Ideal) a (k0_pay5 (F := Ideal)) (ix2 0 k) = a (ix2 0 k) := by
  pointwise [k0_pay103, k0_pay5]

theorem pay103_add (a o : Vec Ideal S1x1024 .f32) (k : Fin 1024) : k0_pay103 a o (ix2 0 k) = o (ix2 0 k) + a (ix2 0 k) := by
  pointwise [k0_pay103]

/-- Output 10's buffer after point `n` is the sum of the contributions of the points up to `n`. -/
theorem acc10 (k : Fin 1024) (n : ℕ) (h : n < cfg0.N) :
    (outsAt0 m c n h).2.2.1 (ix2 0 k) = ∑ t : Fin (n + 1), v353 (inpAt m c ⟨t.val, by omega⟩) (ix2 0 k) := by
  refine sum_of_steps (fun n h => (outsAt0 m c n h).2.2.1 (ix2 0 k)) (fun t => v353 (inpAt m c t) (ix2 0 k)) ?_ ?_ n h
  · intro h
    exact (congrArg (fun o => o.2.2.1 (ix2 0 k)) (state_A m c ⟨0, h⟩ rfl)).trans (pay103_zero _ k)
  · intro n h
    exact (congrArg (fun o => o.2.2.1 (ix2 0 k)) (state_B m c ⟨n + 1, h⟩ (notFirst h) (outsAt0 m c n (Nat.lt_of_succ_lt h)) rfl)).trans (pay103_add _ _ k)

theorem pay104_zero (a : Vec Ideal S128x8 .f32) (r : Fin 128) (k : Fin 8) : k0_pay104 (F := Ideal) a (k0_pay7 (F := Ideal)) (ix2 r k) = a (ix2 r k) := by
  pointwise [k0_pay104, k0_pay7]

theorem pay104_add (a o : Vec Ideal S128x8 .f32) (r : Fin 128) (k : Fin 8) : k0_pay104 a o (ix2 r k) = o (ix2 r k) + a (ix2 r k) := by
  pointwise [k0_pay104]

/-- Output 12's buffer after point `n` is the sum of the contributions of the points up to `n`. -/
theorem acc12 (r : Fin 128) (k : Fin 8) (n : ℕ) (h : n < cfg0.N) :
    (outsAt0 m c n h).2.2.2.2.1 (ix2 r k) = ∑ t : Fin (n + 1), v339 (inpAt m c ⟨t.val, by omega⟩) (ix2 r k) := by
  refine sum_of_steps (fun n h => (outsAt0 m c n h).2.2.2.2.1 (ix2 r k)) (fun t => v339 (inpAt m c t) (ix2 r k)) ?_ ?_ n h
  · intro h
    exact (congrArg (fun o => o.2.2.2.2.1 (ix2 r k)) (state_A m c ⟨0, h⟩ rfl)).trans (pay104_zero _ r k)
  · intro n h
    exact (congrArg (fun o => o.2.2.2.2.1 (ix2 r k)) (state_B m c ⟨n + 1, h⟩ (notFirst h) (outsAt0 m c n (Nat.lt_of_succ_lt h)) rfl)).trans (pay104_add _ _ r k)

theorem pay105_zero (a : Vec Ideal S1x1024 .f32) (k : Fin 1024) : k0_pay105 (F := Ideal) a (k0_pay8 (F := Ideal)) (ix2 0 k) = a (ix2 0 k) := by
  pointwise [k0_pay105, k0_pay8]

theorem pay105_add (a o : Vec Ideal S1x1024 .f32) (k : Fin 1024) : k0_pay105 a o (ix2 0 k) = o (ix2 0 k) + a (ix2 0 k) := by
  pointwise [k0_pay105]

/-- Output 13's buffer after point `n` is the sum of the contributions of the points up to `n`. -/
theorem acc13 (k : Fin 1024) (n : ℕ) (h : n < cfg0.N) :
    (outsAt0 m c n h).2.2.2.2.2 (ix2 0 k) = ∑ t : Fin (n + 1), v166 (inpAt m c ⟨t.val, by omega⟩) (ix2 0 k) := by
  refine sum_of_steps (fun n h => (outsAt0 m c n h).2.2.2.2.2 (ix2 0 k)) (fun t => v166 (inpAt m c t) (ix2 0 k)) ?_ ?_ n h
  · intro h
    exact (congrArg (fun o => o.2.2.2.2.2 (ix2 0 k)) (state_A m c ⟨0, h⟩ rfl)).trans (pay105_zero _ k)
  · intro n h
    exact (congrArg (fun o => o.2.2.2.2.2 (ix2 0 k)) (state_B m c ⟨n + 1, h⟩ (notFirst h) (outsAt0 m c n (Nat.lt_of_succ_lt h)) rfl)).trans (pay105_add _ _ k)

/-- A point's contribution to the gradient of the mixing weights, head by head. -/
def dw (x : Inp Ideal) (h : Fin 8) : Vec Ideal S128x128 .f32 :=
  (![v351 x, v334 x, v313 x, v292 x, v271 x, v250 x, v229 x, v208 x] : Fin 8 → Vec Ideal S128x128 .f32) h

theorem pay6_eq (i : S8x128x128.Idx) : k0_pay6 (F := Ideal) i = 0 := by
  unfold k0_pay6
  exact Idealize.ShloMosaic.Ideal.ofBits_zero_f32

theorem head0_add (a : Vec Ideal S128x128 .f32) (o : Vec Ideal S1x128x128 .f32) (r s : Fin 128) :
    k0_pay107 (k0_pay106 a o) (ix3 0 r s) = o (ix3 0 r s) + a (ix2 r s) := by
  pointwise [k0_pay107, k0_pay106]

theorem head1_add (a : Vec Ideal S128x128 .f32) (o : Vec Ideal S1x128x128 .f32) (r s : Fin 128) :
    k0_pay108 a o (ix3 0 r s) = o (ix3 0 r s) + a (ix2 r s) := by
  pointwise [k0_pay108]

theorem head2_add (a : Vec Ideal S128x128 .f32) (o : Vec Ideal S1x128x128 .f32) (r s : Fin 128) :
    k0_pay109 a o (ix3 0 r s) = o (ix3 0 r s) + a (ix2 r s) := by
  pointwise [k0_pay109]

theorem head3_add (a : Vec Ideal S128x128 .f32) (o : Vec Ideal S1x128x128 .f32) (r s : Fin 128) :
    k0_pay110 a o (ix3 0 r s) = o (ix3 0 r s) + a (ix2 r s) := by
  pointwise [k0_pay110]

theorem head4_add (a : Vec Ideal S128x128 .f32) (o : Vec Ideal S1x128x128 .f32) (r s : Fin 128) :
    k0_pay111 a o (ix3 0 r s) = o (ix3 0 r s) + a (ix2 r s) := by
  pointwise [k0_pay111]

theorem head5_add (a : Vec Ideal S128x128 .f32) (o : Vec Ideal S1x128x128 .f32) (r s : Fin 128) :
    k0_pay1 a o (ix3 0 r s) = o (ix3 0 r s) + a (ix2 r s) := by
  pointwise [k0_pay1]

theorem head6_add (a : Vec Ideal S128x128 .f32) (o : Vec Ideal S1x128x128 .f32) (r s : Fin 128) :
    k0_pay2 a o (ix3 0 r s) = o (ix3 0 r s) + a (ix2 r s) := by
  pointwise [k0_pay2]

theorem head7_add (a : Vec Ideal S128x128 .f32) (o : Vec Ideal S1x128x128 .f32) (r s : Fin 128) :
    k0_pay3 a o (ix3 0 r s) = o (ix3 0 r s) + a (ix2 r s) := by
  pointwise [k0_pay3]

/-- One point's eight stores add its contributions, head by head. -/
theorem heads_add (x : Inp Ideal) (o : Vec Ideal S8x128x128 .f32) (h : Fin 8) (r s : Fin 128) :
    heads8 (k0_pay107 (k0_pay106 (v351 x) (W o 0 inb_S8x128x128_S1x128x128_0_0_0))) (k0_pay108 (v334 x) (W o 1 inb_S8x128x128_S1x128x128_1_0_0)) (k0_pay109 (v313 x) (W o 2 inb_S8x128x128_S1x128x128_2_0_0)) (k0_pay110 (v292 x) (W o 3 inb_S8x128x128_S1x128x128_3_0_0)) (k0_pay111 (v271 x) (W o 4 inb_S8x128x128_S1x128x128_4_0_0)) (k0_pay1 (v250 x) (W o 5 inb_S8x128x128_S1x128x128_5_0_0)) (k0_pay2 (v229 x) (W o 6 inb_S8x128x128_S1x128x128_6_0_0)) (k0_pay3 (v208 x) (W o 7 inb_S8x128x128_S1x128x128_7_0_0)) (ix3 h r s)
      = o (ix3 h r s) + dw x h (ix2 r s) := by
  match h with
  | ⟨0, h8⟩ => exact (head0_add _ _ r s).trans (congrArg (· + _) (W_eq o 0 h8 _ r s))
  | ⟨1, h8⟩ => exact (head1_add _ _ r s).trans (congrArg (· + _) (W_eq o 1 h8 _ r s))
  | ⟨2, h8⟩ => exact (head2_add _ _ r s).trans (congrArg (· + _) (W_eq o 2 h8 _ r s))
  | ⟨3, h8⟩ => exact (head3_add _ _ r s).trans (congrArg (· + _) (W_eq o 3 h8 _ r s))
  | ⟨4, h8⟩ => exact (head4_add _ _ r s).trans (congrArg (· + _) (W_eq o 4 h8 _ r s))
  | ⟨5, h8⟩ => exact (head5_add _ _ r s).trans (congrArg (· + _) (W_eq o 5 h8 _ r s))
  | ⟨6, h8⟩ => exact (head6_add _ _ r s).trans (congrArg (· + _) (W_eq o 6 h8 _ r s))
  | ⟨7, h8⟩ => exact (head7_add _ _ r s).trans (congrArg (· + _) (W_eq o 7 h8 _ r s))

/-- Output 11's buffer after point `n`: for each head the sum of the contributions of the points up to `n`. -/
theorem acc11 (h : Fin 8) (r s : Fin 128) (n : ℕ) (hn : n < cfg0.N) :
    (outsAt0 m c n hn).2.2.2.1 (ix3 h r s) = ∑ t : Fin (n + 1), dw (inpAt m c ⟨t.val, by omega⟩) h (ix2 r s) := by
  refine sum_of_steps (fun n hn => (outsAt0 m c n hn).2.2.2.1 (ix3 h r s)) (fun t => dw (inpAt m c t) h (ix2 r s)) ?_ ?_ n hn
  · intro hn
    refine (congrArg (fun o => o.2.2.2.1 (ix3 h r s)) (state_A m c ⟨0, hn⟩ rfl)).trans ?_
    refine (heads_add (inpAt m c ⟨0, hn⟩) (k0_pay6 (F := Ideal)) h r s).trans ?_
    rw [pay6_eq, zero_add]
  · intro n hn
    refine (congrArg (fun o => o.2.2.2.1 (ix3 h r s)) (state_B m c ⟨n + 1, hn⟩ (notFirst hn) (outsAt0 m c n (Nat.lt_of_succ_lt hn)) rfl)).trans ?_
    exact heads_add (inpAt m c ⟨n + 1, hn⟩) _ h r s

/-- Output 8's buffer after point `t`: the two halves of its own rows. -/
theorem rows8 (t : Fin cfg0.N) : (outsAt0 m c t.val t.isLt).1 = halves (v404 (inpAt m c t)) (v406 (inpAt m c t)) := by
  by_cases h0 : t.val % 64 = 0
  · rw [state_A m c t h0]
  · rw [state_B m c t h0 _ rfl]
-- ==== Proof.Mixing.lean ====
module

public import proofs.«01_k».proof.Proof.Forward

@[expose] public section

set_option maxRecDepth 16384

noncomputable section

namespace Cert.KernelIdeal.Body

open Cert.KernelIdeal Cert.KernelIdeal.Gen Cert.ReferenceIdeal.Read Idealize.ShloMosaic Idealize.ShloMosaic.TcCoe

theorem addi_zero (a : BitVec 32) : IntOp.addi a 0#32 = a := by
  simp [IntOp.addi]

theorem select_bit {α : Type} (b : BitVec 1) (u v : α) : Scalar.select (Scalar.select b 1#1 0#1) u v = Scalar.select b u v := by
  rcases (show b = 0#1 ∨ b = 1#1 by bv_omega) with rfl | rfl <;> rfl

/-- A mixed token of the reference, one head at a time. -/
theorem v61_head {a0 : A0} {a2 a3 : A2} {a4 : A4} {a5 : A5} (t : Fin 64) (r : Fin 128) (h : Fin 8) (s : Fin 128) :
    val_main_v61 (F := Ideal) a0 a2 a3 a4 a5 (ix4 t r h s)
      = ∑ k : Fin 128, val_main_v55_0 (F := Ideal) a4 (ix3 h r k) * val_main_v51 (F := Ideal) a0 a2 a3 (ix4 t k h s) + a5 (ix3 0 h r) := by
  pointwise [val_main_v61, val_main_v60, val_main_v59, val_main_v58, val_main_v57, val_main_v56, val_main_v25]
  simp only [mul_comm]

theorem v62_head {a0 : A0} {a2 a3 : A2} {a4 : A4} {a5 : A5} (t : Fin 64) (r : Fin 128) (c : Fin 1024) (h : Fin 8) (d : Fin 128)
    (hc : c.val = h.val * 128 + d.val) :
    val_main_v62 (F := Ideal) a0 a2 a3 a4 a5 (ix2 (row t r) c) = val_main_v61 (F := Ideal) a0 a2 a3 a4 a5 (ix4 t r h d) := by
  pointwise [val_main_v62]
  congr 1
  congr 1 <;> apply Fin.ext <;> simp only [row] <;> omega

variable {x : Inp Ideal} {t : Fin 64} {a0 : A0} {a1 : A1} {a2 a3 : A2} {a4 : A4} {a5 : A5} {a6 : A2}
  (H : At x t a0 a1 a2 a3 a4 a5 a6)
include H

theorem v79_eq (r s : Fin 128) : v79 x (ix2 r s) = val_main_v55_0 (F := Ideal) a4 (ix3 0 r s) := by
  pointwise [v79, v4, k0_pay36, k0_pay35, k0_pay9, H.hW0, val_main_v55_0, val_main_v55_1, val_main_v24, val_main_v54, val_main_v53, val_main_v52, val_main_call0_v5, val_main_call0_v4, val_main_call0_v3, val_main_call0_v2, val_main_call0_v1, val_main_call0_v0, val_main_call0_c, val_main_call0_c_0, val_main_c, val_main_cst_9, addi_zero, select_bit]

theorem v80_eq (r s : Fin 128) : v80 x (ix2 r s) = val_main_v51 (F := Ideal) a0 a2 a3 (ix4 t r 0 s) := by
  have h1 := v72_eq H
  unfold v72 at h1
  pointwise [v80, k0_pay37, h1, val_main_v51]
  rfl

theorem v88_eq (r s : Fin 128) : v88 x (ix2 r s) = val_main_v55_0 (F := Ideal) a4 (ix3 1 r s) := by
  pointwise [v88, v6, k0_pay39, k0_pay35, k0_pay10, H.hW1, val_main_v55_0, val_main_v55_1, val_main_v24, val_main_v54, val_main_v53, val_main_v52, val_main_call0_v5, val_main_call0_v4, val_main_call0_v3, val_main_call0_v2, val_main_call0_v1, val_main_call0_v0, val_main_call0_c, val_main_call0_c_0, val_main_c, val_main_cst_9, addi_zero, select_bit]

theorem v89_eq (r s : Fin 128) : v89 x (ix2 r s) = val_main_v51 (F := Ideal) a0 a2 a3 (ix4 t r 1 s) := by
  have h1 := v72_eq H
  unfold v72 at h1
  pointwise [v89, k0_pay40, h1, val_main_v51]
  rfl

theorem v97_eq (r s : Fin 128) : v97 x (ix2 r s) = val_main_v55_0 (F := Ideal) a4 (ix3 2 r s) := by
  pointwise [v97, v8, k0_pay42, k0_pay35, k0_pay11, H.hW2, val_main_v55_0, val_main_v55_1, val_main_v24, val_main_v54, val_main_v53, val_main_v52, val_main_call0_v5, val_main_call0_v4, val_main_call0_v3, val_main_call0_v2, val_main_call0_v1, val_main_call0_v0, val_main_call0_c, val_main_call0_c_0, val_main_c, val_main_cst_9, addi_zero, select_bit]

theorem v98_eq (r s : Fin 128) : v98 x (ix2 r s) = val_main_v51 (F := Ideal) a0 a2 a3 (ix4 t r 2 s) := by
  have h1 := v72_eq H
  unfold v72 at h1
  pointwise [v98, k0_pay43, h1, val_main_v51]
  rfl

theorem v106_eq (r s : Fin 128) : v106 x (ix2 r s) = val_main_v55_0 (F := Ideal) a4 (ix3 3 r s) := by
  pointwise [v106, v10, k0_pay45, k0_pay35, k0_pay12, H.hW3, val_main_v55_0, val_main_v55_1, val_main_v24, val_main_v54, val_main_v53, val_main_v52, val_main_call0_v5, val_main_call0_v4, val_main_call0_v3, val_main_call0_v2, val_main_call0_v1, val_main_call0_v0, val_main_call0_c, val_main_call0_c_0, val_main_c, val_main_cst_9, addi_zero, select_bit]

theorem v107_eq (r s : Fin 128) : v107 x (ix2 r s) = val_main_v51 (F := Ideal) a0 a2 a3 (ix4 t r 3 s) := by
  have h1 := v72_eq H
  unfold v72 at h1
  pointwise [v107, k0_pay46, h1, val_main_v51]
  rfl

theorem v115_eq (r s : Fin 128) : v115 x (ix2 r s) = val_main_v55_0 (F := Ideal) a4 (ix3 4 r s) := by
  pointwise [v115, v12, k0_pay48, k0_pay35, k0_pay13, H.hW4, val_main_v55_0, val_main_v55_1, val_main_v24, val_main_v54, val_main_v53, val_main_v52, val_main_call0_v5, val_main_call0_v4, val_main_call0_v3, val_main_call0_v2, val_main_call0_v1, val_main_call0_v0, val_main_call0_c, val_main_call0_c_0, val_main_c, val_main_cst_9, addi_zero, select_bit]

theorem v116_eq (r s : Fin 128) : v116 x (ix2 r s) = val_main_v51 (F := Ideal) a0 a2 a3 (ix4 t r 4 s) := by
  have h1 := v72_eq H
  unfold v72 at h1
  pointwise [v116, k0_pay49, h1, val_main_v51]
  rfl

theorem v124_eq (r s : Fin 128) : v124 x (ix2 r s) = val_main_v55_0 (F := Ideal) a4 (ix3 5 r s) := by
  pointwise [v124, v14, k0_pay50, k0_pay35, k0_pay14, H.hW5, val_main_v55_0, val_main_v55_1, val_main_v24, val_main_v54, val_main_v53, val_main_v52, val_main_call0_v5, val_main_call0_v4, val_main_call0_v3, val_main_call0_v2, val_main_call0_v1, val_main_call0_v0, val_main_call0_c, val_main_call0_c_0, val_main_c, val_main_cst_9, addi_zero, select_bit]

theorem v125_eq (r s : Fin 128) : v125 x (ix2 r s) = val_main_v51 (F := Ideal) a0 a2 a3 (ix4 t r 5 s) := by
  have h1 := v72_eq H

  pointwise [v125, k0_pay51, h1, val_main_v51]
  rfl

theorem v133_eq (r s : Fin 128) : v133 x (ix2 r s) = val_main_v55_0 (F := Ideal) a4 (ix3 6 r s) := by
  pointwise [v133, v16, k0_pay52, k0_pay35, k0_pay15, H.hW6, val_main_v55_0, val_main_v55_1, val_main_v24, val_main_v54, val_main_v53, val_main_v52, val_main_call0_v5, val_main_call0_v4, val_main_call0_v3, val_main_call0_v2, val_main_call0_v1, val_main_call0_v0, val_main_call0_c, val_main_call0_c_0, val_main_c, val_main_cst_9, addi_zero, select_bit]

theorem v134_eq (r s : Fin 128) : v134 x (ix2 r s) = val_main_v51 (F := Ideal) a0 a2 a3 (ix4 t r 6 s) := by
  have h1 := v72_eq H

  pointwise [v134, k0_pay53, h1, val_main_v51]
  rfl

theorem v142_eq (r s : Fin 128) : v142 x (ix2 r s) = val_main_v55_0 (F := Ideal) a4 (ix3 7 r s) := by
  pointwise [v142, v18, k0_pay54, k0_pay35, k0_pay16, H.hW7, val_main_v55_0, val_main_v55_1, val_main_v24, val_main_v54, val_main_v53, val_main_v52, val_main_call0_v5, val_main_call0_v4, val_main_call0_v3, val_main_call0_v2, val_main_call0_v1, val_main_call0_v0, val_main_call0_c, val_main_call0_c_0, val_main_c, val_main_cst_9, addi_zero, select_bit]

theorem v143_eq (r s : Fin 128) : v143 x (ix2 r s) = val_main_v51 (F := Ideal) a0 a2 a3 (ix4 t r 7 s) := by
  have h1 := v72_eq H

  pointwise [v143, k0_pay55, h1, val_main_v51]
  rfl

theorem v84_eq (r s : Fin 128) : v84 x (ix2 r s) = val_main_v61 (F := Ideal) a0 a2 a3 a4 a5 (ix4 t r 0 s) := by
  have h1 := v79_eq H
  have h2 := v80_eq H
  unfold v79 at h1
  unfold v80 at h2
  pointwise [v84, k0_pay38, h1, h2, v24, k0_pay17, H.hBS, val_main_v61, val_main_v60, val_main_v59, val_main_v58, val_main_v57, val_main_v56, val_main_v25]
  simp only [mul_comm]

theorem v93_eq (r s : Fin 128) : v93 x (ix2 r s) = val_main_v61 (F := Ideal) a0 a2 a3 a4 a5 (ix4 t r 1 s) := by
  have h1 := v88_eq H
  have h2 := v89_eq H
  unfold v88 at h1
  unfold v89 at h2
  pointwise [v93, k0_pay41, h1, h2, v24, k0_pay17, H.hBS, val_main_v61, val_main_v60, val_main_v59, val_main_v58, val_main_v57, val_main_v56, val_main_v25]
  simp only [mul_comm]

theorem v102_eq (r s : Fin 128) : v102 x (ix2 r s) = val_main_v61 (F := Ideal) a0 a2 a3 a4 a5 (ix4 t r 2 s) := by
  have h1 := v97_eq H
  have h2 := v98_eq H
  unfold v97 at h1
  unfold v98 at h2
  pointwise [v102, k0_pay44, h1, h2, v24, k0_pay17, H.hBS, val_main_v61, val_main_v60, val_main_v59, val_main_v58, val_main_v57, val_main_v56, val_main_v25]
  simp only [mul_comm]

theorem v111_eq (r s : Fin 128) : v111 x (ix2 r s) = val_main_v61 (F := Ideal) a0 a2 a3 a4 a5 (ix4 t r 3 s) := by
  have h1 := v106_eq H
  have h2 := v107_eq H
  unfold v106 at h1
  unfold v107 at h2
  pointwise [v111, k0_pay47, h1, h2, v24, k0_pay17, H.hBS, val_main_v61, val_main_v60, val_main_v59, val_main_v58, val_main_v57, val_main_v56, val_main_v25]
  simp only [mul_comm]

theorem v148_eq (r : Fin 128) (c : Fin 1024) :
    v148 x (ix2 r c) = val_main_v62 (F := Ideal) a0 a2 a3 a4 a5 (ix2 (row t r) c) := by
  have g84 := v84_eq H
  have g93 := v93_eq H
  have g102 := v102_eq H
  have g111 := v111_eq H
  have g115 := v115_eq H
  have g116 := v116_eq H
  have g124 := v124_eq H
  unfold v124 at g124
  have g125 := v125_eq H
  unfold v125 at g125
  have g133 := v133_eq H
  unfold v133 at g133
  have g134 := v134_eq H
  unfold v134 at g134
  have g142 := v142_eq H
  unfold v142 at g142
  have g143 := v143_eq H
  unfold v143 at g143
  pointwise [v148, k0_pay56, v24, k0_pay17, H.hBS, g84, g93, g102, g111, g115, g116, g124, g125, g133, g134, g142, g143]
  split_ifs
  all_goals first
    | exact absurd rfl (by assumption)
    | rw [v62_head t r c 0 ⟨c.val, by omega⟩ (by show c.val = 0 * 128 + (c.val); omega)]
    | rw [v62_head t r c 1 ⟨c.val - 128, by omega⟩ (by show c.val = 1 * 128 + (c.val - 128); omega)]
    | rw [v62_head t r c 2 ⟨c.val - 128 - 128, by omega⟩ (by show c.val = 2 * 128 + (c.val - 128 - 128); omega)]
    | rw [v62_head t r c 3 ⟨c.val - 128 - 128 - 128, by omega⟩ (by show c.val = 3 * 128 + (c.val - 128 - 128 - 128); omega)]
    | rw [v62_head t r c 4 ⟨c.val - 128 - 128 - 128 - 128, by omega⟩ (by show c.val = 4 * 128 + (c.val - 128 - 128 - 128 - 128); omega), v61_head]
    | rw [v62_head t r c 5 ⟨c.val - 128 - 128 - 128 - 128 - 128, by omega⟩ (by show c.val = 5 * 128 + (c.val - 128 - 128 - 128 - 128 - 128); omega), v61_head]
    | rw [v62_head t r c 6 ⟨c.val - 128 - 128 - 128 - 128 - 128 - 128, by omega⟩ (by show c.val = 6 * 128 + (c.val - 128 - 128 - 128 - 128 - 128 - 128); omega), v61_head]
    | rw [v62_head t r c 7 ⟨c.val - 128 - 128 - 128 - 128 - 128 - 128 - 128, by omega⟩ (by show c.val = 7 * 128 + (c.val - 128 - 128 - 128 - 128 - 128 - 128 - 128); omega), v61_head]

end Cert.KernelIdeal.Body

end
-- ==== Proof.Totals.lean ====
module

public import proofs.«01_k».proof.Proof.Mixing

@[expose] public section

set_option maxRecDepth 16384

noncomputable section

namespace Cert.KernelIdeal.Body

open Cert.KernelIdeal Cert.KernelIdeal.Gen Cert.ReferenceIdeal.Read Idealize.ShloMosaic Idealize.ShloMosaic.TcCoe

/-- A sum over all rows is the sum over the chunks of the sums over each chunk's rows. -/
theorem sum_rows {M : Type*} [AddCommMonoid M] (f : Fin 8192 → M) : ∑ R : Fin 8192, f R = ∑ t : Fin 64, ∑ r : Fin 128, f (row t r) := by
  rw [← Fintype.sum_prod_type']
  refine (Fintype.sum_equiv (finProdFinEquiv (m := 64) (n := 128)) _ _ fun p => ?_).symm
  obtain ⟨t, r⟩ := p
  show f (row t r) = f _
  congr 1
  refine Fin.ext ?_
  show t.val * 128 + r.val = r.val + 128 * t.val
  omega

section outer

variable {n0 n1 n2 n3 : Nat}

/-- An index of rank 4 loses its first and last coordinate to `(r, c)` just when `r` and `c` are its two middle ones. -/
theorem drop_outer (h : (⟨4, ![n0, n1, n2, n3]⟩ : Shape).ReducesTo [0, 3] ⟨2, ![n1, n2]⟩) (r : Fin n1) (c : Fin n2) (i : (⟨4, ![n0, n1, n2, n3]⟩ : Shape).Idx) :
    h.drop i = ix2 r c ↔ ∃ k : Fin n0 × Fin n3, ix4 k.1 r c k.2 = i := by
  refine ⟨fun e => ⟨(i 0, i 3), funext fun a => Fin.ext ?_⟩, ?_⟩
  · match a with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ => rfl
  · rintro ⟨k, rfl⟩
    refine funext fun b => Fin.ext ?_
    match b with
    | ⟨0, _⟩ => rfl
    | ⟨1, _⟩ => rfl

/-- A sum over the first and the last axis of an array of rank 4. -/
theorem sum_outer (h : (⟨4, ![n0, n1, n2, n3]⟩ : Shape).ReducesTo [0, 3] ⟨2, ![n1, n2]⟩) (v : (⟨4, ![n0, n1, n2, n3]⟩ : Shape).Idx → EReal) (z : EReal) (r : Fin n1) (c : Fin n2) :
    Ideal.hostReduceAdd h v z (ix2 r c) = z + ∑ k : Fin n0, ∑ d : Fin n3, v (ix4 k r c d) := by
  unfold Ideal.hostReduceAdd
  refine congrArg (z + ·) ?_
  refine (Finset.sum_filter_eq_sum_of_fiber _ (fun k : Fin n0 × Fin n3 => ix4 k.1 r c k.2) (fun _ _ e => Prod.ext (congrFun e 0) (congrFun e 3)) (drop_outer h r c) v).trans ?_
  exact Fintype.sum_prod_type _

end outer

variable (a0 : A0) (a1 : A1) (a2 a3 : A2) (a4 : A4) (a5 : A5) (a6 : A2)

theorem dg_eq (k : Fin 1024) : val_main_v149 (F := Ideal) a0 a1 a2 a3 a4 a5 a6 (ix2 0 k)
    = ∑ t : Fin 64, ∑ r : Fin 128, val_main_v118 (F := Ideal) a0 a1 a2 a3 a4 a5 a6 (ix2 (row t r) k) := by
  rw [← sum_rows fun R => val_main_v118 (F := Ideal) a0 a1 a2 a3 a4 a5 a6 (ix2 R k)]
  pointwise [val_main_v149, val_main_v123, val_main_v120, val_main_v119, val_main_cst_23, val_main_cst_24]
  exact Fin.sum_univ_one _

theorem db_eq (k : Fin 1024) : val_main_v148 (F := Ideal) a0 a1 a2 a3 a4 a5 a6 (ix2 0 k)
    = ∑ t : Fin 64, ∑ r : Fin 128, val_main_v114 (F := Ideal) a0 a1 a2 a3 a4 a5 a6 (ix2 (row t r) k) := by
  rw [← sum_rows fun R => val_main_v114 (F := Ideal) a0 a1 a2 a3 a4 a5 a6 (ix2 R k)]
  pointwise [val_main_v148, val_main_v117, val_main_v116, val_main_v115, val_main_cst_21, val_main_cst_22]
  exact Fin.sum_univ_one _

theorem dog_eq (k : Fin 1024) : val_main_v101 (F := Ideal) a0 a1 a2 a3 a4 a5 (ix2 0 k)
    = ∑ t : Fin 64, ∑ r : Fin 128, val_main_v81 (F := Ideal) a0 a1 a2 a3 a4 a5 (ix2 (row t r) k) := by
  rw [← sum_rows fun R => val_main_v81 (F := Ideal) a0 a1 a2 a3 a4 a5 (ix2 R k)]
  pointwise [val_main_v101, val_main_v86, val_main_v83, val_main_v82, val_main_cst_14, val_main_cst_15]
  exact Fin.sum_univ_one _

theorem dbs_eq (r : Fin 128) (h : Fin 8) : val_main_v176 (F := Ideal) a0 a1 a2 a3 a4 a5 a6 (ix2 r h)
    = ∑ t : Fin 64, ∑ d : Fin 128, val_main_v104 (F := Ideal) a0 a1 a2 a3 a4 a5 a6 (ix4 t r h d) := by
  pointwise [val_main_v176, val_main_v175, val_main_v146, val_main_v108, val_main_v107, val_main_v106, val_main_v105, val_main_cst_19, val_main_cst_20]
  erw [sum_outer]
  pointwise []
  erw [sum_outer]
  pointwise []
  exact (Fin.sum_univ_one _).trans (Fin.sum_univ_one _)

theorem masked_sum (b : BitVec 1) (f : Fin 64 → EReal) : Scalar.select b (∑ t, f t) 0 = ∑ t, Scalar.select b (f t) 0 := by
  unfold Scalar.select
  split_ifs <;> simp

theorem dw_eq (h : Fin 8) (r s : Fin 128) : val_main_v174 (F := Ideal) a0 a1 a2 a3 a4 a5 a6 (ix3 h r s)
    = ∑ t : Fin 64, Scalar.select (IntOp.cmpi .sge (BitVec.ofNat 32 r.val) (BitVec.ofNat 32 s.val))
        (∑ d : Fin 128, val_main_v104 (F := Ideal) a0 a1 a2 a3 a4 a5 a6 (ix4 t r h d) * val_main_v51 (F := Ideal) a0 a2 a3 (ix4 t s h d)) 0 := by
  rw [← masked_sum]
  pointwise [val_main_v174, val_main_v147, val_main_v113, val_main_v110, val_main_v109, val_main_v55_1, val_main_call2_v0, val_main_call2_cst, val_main_v53, val_main_v52, val_main_call0_v5, val_main_call0_v4, val_main_call0_v3, val_main_call0_v2, val_main_call0_v1, val_main_call0_v0, val_main_call0_c, val_main_call0_c_0, val_main_c, addi_zero, select_bit]

theorem duv_left (R : Fin 8192) (k : Fin 1024) : val_main_v173 (F := Ideal) a0 a1 a2 a3 a4 a5 a6 (ix2 R ⟨k.val, by omega⟩)
    = val_main_v171 (F := Ideal) a0 a1 a2 a3 a4 a5 a6 (ix2 R k) := by
  pointwise [val_main_v173, val_main_v172]

theorem duv_right (R : Fin 8192) (k : Fin 1024) : val_main_v173 (F := Ideal) a0 a1 a2 a3 a4 a5 a6 (ix2 R ⟨1024 + k.val, by omega⟩)
    = val_main_v160 (F := Ideal) a0 a1 a2 a3 a4 a5 a6 (ix2 R k) := by
  pointwise [val_main_v173, val_main_v172]

end Cert.KernelIdeal.Body
-- ==== Proof.Gate.lean ====
module

public import proofs.«01_k».proof.Proof.Mixing

@[expose] public section

set_option maxRecDepth 16384

noncomputable section

namespace Cert.KernelIdeal.Body

open Cert.KernelIdeal Cert.KernelIdeal.Gen Cert.ReferenceIdeal.Read Idealize.ShloMosaic Idealize.ShloMosaic.TcCoe

variable {x : Inp Ideal} {t : Fin 64} {a0 : A0} {a1 : A1} {a2 a3 : A2} {a4 : A4} {a5 : A5} {a6 : A2}
  (H : At x t a0 a1 a2 a3 a4 a5 a6)
include H

theorem v149_eq (r : Fin 128) (c : Fin 1024) :
    v149 x (ix2 r c) = val_main_v63 (F := Ideal) a0 a2 a3 a4 a5 (ix2 (row t r) c) := by
  have h1 := v148_eq H
  have h2 := v37_eq H
  unfold v148 at h1
  pointwise [v149, k0_pay57, h1, h2, val_main_v63]

theorem v156_eq (r : Fin 128) : v156 x (ix2 r 0) = val_main_v71 (F := Ideal) a0 a2 a3 a4 a5 (ix2 (row t r) 0) := by
  have h1 := v149_eq H
  unfold v149 at h1
  pointwise [v156, k0_pay58, h1, val_main_v71, val_main_v70, val_main_v69, val_main_v68, val_main_v67, val_main_v66, val_main_v65, val_main_cst_10, val_main_cst_11, val_main_cst_12]

theorem v157_eq (r : Fin 128) : v157 x (ix2 r 0) = val_main_v72 (F := Ideal) a0 a2 a3 a4 a5 (ix2 (row t r) 0) := by
  have h1 := v156_eq H
  unfold v156 at h1
  pointwise [v157, k0_pay59, h1, val_main_v72]

theorem v160_eq (r : Fin 128) (z : Fin 1) : v160 x (ix2 r z) = val_main_v75 (F := Ideal) a0 a2 a3 a4 a5 (ix2 (row t r) z) := by
  obtain rfl : z = 0 := Subsingleton.elim _ _
  have h1 := v156_eq H
  unfold v156 at h1
  have h2 := v157_eq H
  unfold v157 at h2
  pointwise [v160, k0_pay60, h1, h2, val_main_v75, val_main_v74, val_main_v73, val_main_cst_13]

theorem v162_eq (r : Fin 128) (c : Fin 1024) :
    v162 x (ix2 r c) = val_main_v77 (F := Ideal) a0 a2 a3 a4 a5 (ix2 (row t r) c) := by
  have h1 := v149_eq H
  unfold v149 at h1
  have h2 := v157_eq H
  unfold v157 at h2
  pointwise [v162, k0_pay61, h1, h2, val_main_v77, val_main_v76]

theorem v166_eq (c : Fin 1024) :
    v166 x (ix2 0 c) = ∑ r : Fin 128, val_main_v81 (F := Ideal) a0 a1 a2 a3 a4 a5 (ix2 (row t r) c) := by
  have h1 := v162_eq H
  pointwise [v166, k0_pay62, h1, H.hDY, val_main_v81]

theorem v183_eq (r : Fin 128) (c : Fin 1024) :
    v183 x (ix2 r c) = val_main_v100 (F := Ideal) a0 a1 a2 a3 a4 a5 a6 (ix2 (row t r) c) := by
  have h1 := v149_eq H
  have h2 := v157_eq H
  have h3 := v160_eq H
  pointwise [v183, k0_pay63, h1, h2, h3, H.hDY, H.hOG]
  pointwise [val_main_v100, val_main_v99, val_main_v98, val_main_v97, val_main_v96, val_main_v95, val_main_v94, val_main_v93, val_main_v92, val_main_v91, val_main_v90, val_main_v89, val_main_v88, val_main_v87, val_main_v85, val_main_v84, val_main_v78, val_main_v64, val_main_cst_16, val_main_cst_17, val_main_cst_18]

theorem v184_eq (r : Fin 128) (c : Fin 1024) :
    v184 x (ix2 r c) = val_main_v102 (F := Ideal) a0 a1 a2 a3 a4 a5 a6 (ix2 (row t r) c) := by
  have h1 := v183_eq H
  have h2 := v37_eq H
  unfold v183 at h1
  pointwise [v184, k0_pay64, h1, h2, val_main_v102]

theorem v185_eq (r : Fin 128) (c : Fin 1024) :
    v185 x (ix2 r c) = val_main_v103 (F := Ideal) a0 a1 a2 a3 a4 a5 a6 (ix2 (row t r) c) := by
  have h1 := v183_eq H
  have h2 := v148_eq H
  unfold v183 at h1
  pointwise [v185, k0_pay65, h1, h2, val_main_v103]

theorem v395_eq (r : Fin 128) (c : Fin 1024) :
    v395 x (ix2 r c) = val_main_v162 (F := Ideal) a0 a1 a2 a3 a4 a5 a6 (ix2 (row t r) c) := by
  have h1 := v185_eq H
  have h2 := v36_eq H
  pointwise [v395, k0_pay98, h1, h2, val_main_v162]

omit H in
/-- The two constants of the gelu's slope, one with a sign. -/
theorem slope_neg : Ideal.ofBits .f32 0xBF906EBB#32 = -Ideal.ofBits .f32 0x3F906EBB#32 := by
  simp [Ideal.ofBits, Ideal.ieee, -EReal.coe_mul, ← EReal.coe_neg]

theorem v404_eq (r : Fin 128) (c : Fin 1024) :
    v404 x (ix2 r c) = val_main_v171 (F := Ideal) a0 a1 a2 a3 a4 a5 a6 (ix2 (row t r) c) := by
  have h1 := v185_eq H
  have h2 := v395_eq H
  have h3 := v27_eq H
  have h4 := v34_eq H
  pointwise [v404, k0_pay100, h2, v398, k0_pay99, h1, h3, h4, val_main_v171, val_main_v170, val_main_v169, val_main_v168, val_main_v167, val_main_v166, val_main_v165, val_main_v164, val_main_v163, val_main_v161, val_main_cst_34, val_main_cst_35, val_main_cst_36, slope_neg, neg_mul, neg_neg]

end Cert.KernelIdeal.Body

end
-- ==== Proof.Backward.lean ====
module

public import proofs.«01_k».proof.Proof.Gate

@[expose] public section

set_option maxRecDepth 16384

noncomputable section

namespace Cert.KernelIdeal.Body

open Cert.KernelIdeal Cert.KernelIdeal.Gen Cert.ReferenceIdeal.Read Idealize.ShloMosaic Idealize.ShloMosaic.TcCoe

variable {a0 : A0} {a1 : A1} {a2 a3 : A2} {a4 : A4} {a5 : A5} {a6 : A2}

/-- The reference's gradient of the layer norm's output, one head at a time. -/
theorem v114_head (t : Fin 64) (r : Fin 128) (c : Fin 1024) (h : Fin 8) (d : Fin 128) (hc : c.val = h.val * 128 + d.val) :
    val_main_v114 (F := Ideal) a0 a1 a2 a3 a4 a5 a6 (ix2 (row t r) c)
      = ∑ k : Fin 128, val_main_v104 (F := Ideal) a0 a1 a2 a3 a4 a5 a6 (ix4 t k h d) * val_main_v55_0 (F := Ideal) a4 (ix3 h k r) := by
  have e : val_main_v114 (F := Ideal) a0 a1 a2 a3 a4 a5 a6 (ix2 (row t r) c)
      = val_main_v112 (F := Ideal) a0 a1 a2 a3 a4 a5 a6 (ix4 t r h d) := by
    pointwise [val_main_v114]
    congr 1
    congr 1 <;> apply Fin.ext <;> simp only [row] <;> omega
  rw [e]
  pointwise [val_main_v112, val_main_v111, val_main_v109]

variable {x : Inp Ideal} {t : Fin 64} (H : At x t a0 a1 a2 a3 a4 a5 a6)
include H

theorem v186_eq (r s : Fin 128) : v186 x (ix2 r s) = val_main_v104 (F := Ideal) a0 a1 a2 a3 a4 a5 a6 (ix4 t r 0 s) := by
  have h1 := v184_eq H
  unfold v184 at h1
  pointwise [v186, k0_pay66, h1, val_main_v104]
  rfl

theorem v187_eq (r s : Fin 128) : v187 x (ix2 r s) = val_main_v104 (F := Ideal) a0 a1 a2 a3 a4 a5 a6 (ix4 t r 1 s) := by
  have h1 := v184_eq H
  unfold v184 at h1
  pointwise [v187, k0_pay67, h1, val_main_v104]
  rfl

theorem v188_eq (r s : Fin 128) : v188 x (ix2 r s) = val_main_v104 (F := Ideal) a0 a1 a2 a3 a4 a5 a6 (ix4 t r 2 s) := by
  have h1 := v184_eq H
  unfold v184 at h1
  pointwise [v188, k0_pay68, h1, val_main_v104]
  rfl

theorem v189_eq (r s : Fin 128) : v189 x (ix2 r s) = val_main_v104 (F := Ideal) a0 a1 a2 a3 a4 a5 a6 (ix4 t r 3 s) := by
  have h1 := v184_eq H
  unfold v184 at h1
  pointwise [v189, k0_pay69, h1, val_main_v104]
  rfl

theorem v190_eq (r s : Fin 128) : v190 x (ix2 r s) = val_main_v104 (F := Ideal) a0 a1 a2 a3 a4 a5 a6 (ix4 t r 4 s) := by
  have h1 := v184_eq H
  unfold v184 at h1
  pointwise [v190, k0_pay70, h1, val_main_v104]
  rfl

theorem v191_eq (r s : Fin 128) : v191 x (ix2 r s) = val_main_v104 (F := Ideal) a0 a1 a2 a3 a4 a5 a6 (ix4 t r 5 s) := by
  have h1 := v184_eq H
  unfold v184 at h1
  pointwise [v191, k0_pay71, h1, val_main_v104]
  rfl

theorem v192_eq (r s : Fin 128) : v192 x (ix2 r s) = val_main_v104 (F := Ideal) a0 a1 a2 a3 a4 a5 a6 (ix4 t r 6 s) := by
  have h1 := v184_eq H
  unfold v184 at h1
  pointwise [v192, k0_pay72, h1, val_main_v104]
  rfl

theorem v193_eq (r s : Fin 128) : v193 x (ix2 r s) = val_main_v104 (F := Ideal) a0 a1 a2 a3 a4 a5 a6 (ix4 t r 7 s) := by
  have h1 := v184_eq H
  unfold v184 at h1
  pointwise [v193, k0_pay73, h1, val_main_v104]
  rfl

theorem v349_eq (r : Fin 128) (c : Fin 1024) :
    v349 x (ix2 r c) = val_main_v114 (F := Ideal) a0 a1 a2 a3 a4 a5 a6 (ix2 (row t r) c) := by
  have g79 := v79_eq H
  have g88 := v88_eq H
  have g97 := v97_eq H
  have g106 := v106_eq H
  have g115 := v115_eq H
  have g124 := v124_eq H
  have g133 := v133_eq H
  have g142 := v142_eq H
  have g186 := v186_eq H
  have g187 := v187_eq H
  have g188 := v188_eq H
  have g189 := v189_eq H
  have g190 := v190_eq H
  have g191 := v191_eq H
  have g192 := v192_eq H
  have g193 := v193_eq H
  unfold v193 at g193
  pointwise [v206, k0_pay75, v248, k0_pay80, v258, k0_pay83, v290, k0_pay85, v305, k0_pay89, v349, k0_pay93, g79, g88, g97, g106, g115, g124, g133, g142, g186, g187, g188, g189, g190, g191, g192, g193]
  obtain ⟨h, d, hc⟩ : ∃ (h : Fin 8) (d : Fin 128), c.val = h.val * 128 + d.val :=
    ⟨⟨c.val / 128, by omega⟩, ⟨c.val % 128, by omega⟩, by simp only []; omega⟩
  rw [v114_head t r c h d hc]
  fin_cases h <;> simp only [] at hc <;> simp (disch := omega) only [dif_pos, dif_neg, zero_add, add_zero]
  · have hd : ∀ p, (⟨c.val, p⟩ : Fin 128) = d := fun p => Fin.ext (by show c.val = d.val; omega)
    simp only [hd]
    rfl
  · have hd : ∀ p, (⟨c.val - 128, p⟩ : Fin 128) = d := fun p => Fin.ext (by show c.val - 128 = d.val; omega)
    simp only [hd]
    rfl
  · have hd : ∀ p, (⟨c.val - 256, p⟩ : Fin 128) = d := fun p => Fin.ext (by show c.val - 256 = d.val; omega)
    simp only [hd]
    rfl
  · have hd : ∀ p, (⟨c.val - 384, p⟩ : Fin 128) = d := fun p => Fin.ext (by show c.val - 384 = d.val; omega)
    simp only [hd]
    rfl
  · have hd : ∀ p, (⟨c.val - 512, p⟩ : Fin 128) = d := fun p => Fin.ext (by show c.val - 512 = d.val; omega)
    simp only [hd]
    rfl
  · have hd : ∀ p, (⟨c.val - 640, p⟩ : Fin 128) = d := fun p => Fin.ext (by show c.val - 640 = d.val; omega)
    simp only [hd]
    rfl
  · have hd : ∀ p, (⟨c.val - 768, p⟩ : Fin 128) = d := fun p => Fin.ext (by show c.val - 768 = d.val; omega)
    simp only [hd]
    rfl
  · have hd : ∀ p, (⟨c.val - 896, p⟩ : Fin 128) = d := fun p => Fin.ext (by show c.val - 896 = d.val; omega)
    simp only [hd]
    rfl

theorem v351_eq (r s : Fin 128) : v351 x (ix2 r s)
    = Scalar.select (IntOp.cmpi .sge (BitVec.ofNat 32 r.val) (BitVec.ofNat 32 s.val))
        (∑ d : Fin 128, val_main_v104 (F := Ideal) a0 a1 a2 a3 a4 a5 a6 (ix4 t r 0 d) * val_main_v51 (F := Ideal) a0 a2 a3 (ix4 t s 0 d)) 0 := by
  have g80 := v80_eq H
  have g186 := v186_eq H
  pointwise [v351, k0_pay94, k0_pay35, g80, g186]

theorem v334_eq (r s : Fin 128) : v334 x (ix2 r s)
    = Scalar.select (IntOp.cmpi .sge (BitVec.ofNat 32 r.val) (BitVec.ofNat 32 s.val))
        (∑ d : Fin 128, val_main_v104 (F := Ideal) a0 a1 a2 a3 a4 a5 a6 (ix4 t r 1 d) * val_main_v51 (F := Ideal) a0 a2 a3 (ix4 t s 1 d)) 0 := by
  have g89 := v89_eq H
  have g187 := v187_eq H
  pointwise [v334, k0_pay91, k0_pay35, g89, g187]

theorem v313_eq (r s : Fin 128) : v313 x (ix2 r s)
    = Scalar.select (IntOp.cmpi .sge (BitVec.ofNat 32 r.val) (BitVec.ofNat 32 s.val))
        (∑ d : Fin 128, val_main_v104 (F := Ideal) a0 a1 a2 a3 a4 a5 a6 (ix4 t r 2 d) * val_main_v51 (F := Ideal) a0 a2 a3 (ix4 t s 2 d)) 0 := by
  have g98 := v98_eq H
  have g188 := v188_eq H
  pointwise [v313, k0_pay90, v304, k0_pay88, k0_pay35, g98, g188]

theorem v292_eq (r s : Fin 128) : v292 x (ix2 r s)
    = Scalar.select (IntOp.cmpi .sge (BitVec.ofNat 32 r.val) (BitVec.ofNat 32 s.val))
        (∑ d : Fin 128, val_main_v104 (F := Ideal) a0 a1 a2 a3 a4 a5 a6 (ix4 t r 3 d) * val_main_v51 (F := Ideal) a0 a2 a3 (ix4 t s 3 d)) 0 := by
  have g107 := v107_eq H
  have g189 := v189_eq H
  pointwise [v292, k0_pay86, k0_pay35, g107, g189]

theorem v271_eq (r s : Fin 128) : v271 x (ix2 r s)
    = Scalar.select (IntOp.cmpi .sge (BitVec.ofNat 32 r.val) (BitVec.ofNat 32 s.val))
        (∑ d : Fin 128, val_main_v104 (F := Ideal) a0 a1 a2 a3 a4 a5 a6 (ix4 t r 4 d) * val_main_v51 (F := Ideal) a0 a2 a3 (ix4 t s 4 d)) 0 := by
  have g116 := v116_eq H
  have g190 := v190_eq H
  pointwise [v271, k0_pay84, k0_pay35, g116, g190]

theorem v250_eq (r s : Fin 128) : v250 x (ix2 r s)
    = Scalar.select (IntOp.cmpi .sge (BitVec.ofNat 32 r.val) (BitVec.ofNat 32 s.val))
        (∑ d : Fin 128, val_main_v104 (F := Ideal) a0 a1 a2 a3 a4 a5 a6 (ix4 t r 5 d) * val_main_v51 (F := Ideal) a0 a2 a3 (ix4 t s 5 d)) 0 := by
  have g125 := v125_eq H
  have g191 := v191_eq H
  pointwise [v250, k0_pay81, k0_pay35, g125, g191]

theorem v229_eq (r s : Fin 128) : v229 x (ix2 r s)
    = Scalar.select (IntOp.cmpi .sge (BitVec.ofNat 32 r.val) (BitVec.ofNat 32 s.val))
        (∑ d : Fin 128, val_main_v104 (F := Ideal) a0 a1 a2 a3 a4 a5 a6 (ix4 t r 6 d) * val_main_v51 (F := Ideal) a0 a2 a3 (ix4 t s 6 d)) 0 := by
  have g134 := v134_eq H
  have g192 := v192_eq H
  pointwise [v229, k0_pay79, k0_pay35, g134, g192]

theorem v208_eq (r s : Fin 128) : v208 x (ix2 r s)
    = Scalar.select (IntOp.cmpi .sge (BitVec.ofNat 32 r.val) (BitVec.ofNat 32 s.val))
        (∑ d : Fin 128, val_main_v104 (F := Ideal) a0 a1 a2 a3 a4 a5 a6 (ix4 t r 7 d) * val_main_v51 (F := Ideal) a0 a2 a3 (ix4 t s 7 d)) 0 := by
  have g143 := v143_eq H
  have g193 := v193_eq H
  unfold v193 at g193
  pointwise [v208, k0_pay76, k0_pay35, g143, g193]

theorem v339_eq (r : Fin 128) (h : Fin 8) : v339 x (ix2 r h) = ∑ d : Fin 128, val_main_v104 (F := Ideal) a0 a1 a2 a3 a4 a5 a6 (ix4 t r h d) := by
  have g186 := v186_eq H
  have g187 := v187_eq H
  have g188 := v188_eq H
  have g189 := v189_eq H
  have g190 := v190_eq H
  have g191 := v191_eq H
  have g192 := v192_eq H
  unfold v192 at g192
  have g193 := v193_eq H
  unfold v193 at g193
  pointwise [v339, k0_pay92, v299, k0_pay87, v257, k0_pay82, k0_pay78, v210, k0_pay77, v197, k0_pay74, g186, g187, g188, g189, g190, g191, g192, g193]
  fin_cases h <;> simp

theorem v353_eq (c : Fin 1024) : v353 x (ix2 0 c) = ∑ r : Fin 128, val_main_v114 (F := Ideal) a0 a1 a2 a3 a4 a5 a6 (ix2 (row t r) c) := by
  have h1 := v349_eq H
  pointwise [v353, k0_pay95, h1]

theorem v356_eq (c : Fin 1024) : v356 x (ix2 0 c) = ∑ r : Fin 128, val_main_v118 (F := Ideal) a0 a1 a2 a3 a4 a5 a6 (ix2 (row t r) c) := by
  have h1 := v349_eq H
  have h2 := v68_eq H
  pointwise [v356, k0_pay96, h1, h2, val_main_v118]

theorem v393_eq (r : Fin 128) (c : Fin 1024) :
    v393 x (ix2 r c) = val_main_v160 (F := Ideal) a0 a1 a2 a3 a4 a5 a6 (ix2 (row t r) c) := by
  have h1 := v349_eq H
  have h2 := v39_eq H
  have h3 := v46_eq H
  have h4 := v48_eq H
  have h5 := v55_eq H
  have h6 := v63_eq H
  have h7 := v66_eq H
  pointwise [v393, k0_pay97, h1, h2, h3, h4, h5, h6, h7, H.hLG, zero_sub]
  pointwise [val_main_v160, val_main_v159, val_main_v158, val_main_v157, val_main_v156, val_main_v155, val_main_v154, val_main_v153, val_main_v152, val_main_v151, val_main_v150, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v122, val_main_v121, val_main_v45, val_main_v22, val_main_cst_25, val_main_cst_26, val_main_cst_27, val_main_cst_28, val_main_cst_29, val_main_cst_30, val_main_cst_31, val_main_cst_32, val_main_cst_33, slope_neg, neg_mul, neg_neg]

theorem v406_eq (r : Fin 128) (c : Fin 1024) :
    v406 x (ix2 r c) = val_main_v160 (F := Ideal) a0 a1 a2 a3 a4 a5 a6 (ix2 (row t r) c) := by
  have h1 := v393_eq H
  pointwise [v406, k0_pay101, h1]

end Cert.KernelIdeal.Body

end
-- ==== Proof.Final.lean ====
module

public import proofs.«01_k».proof.Proof.Accum
public import proofs.«01_k».proof.Proof.Totals
public import proofs.«01_k».proof.Proof.Gate
public import proofs.«01_k».proof.Proof.Backward
public import Idealize.ShloMosaic.Lib.Pipeline.ValueKit

@[expose] public section

noncomputable section

namespace Cert.KernelIdeal.Body

open Cert.KernelIdeal Cert.KernelIdeal.Gen Idealize.ShloMosaic Idealize.ShloMosaic.TcCoe Idealize.SL.Sem
open Idealize.ShloMosaic.Pipeline (Dat)
open Idealize.ShloMosaic (ix2 ix3 ix4)

variable (m : (ℓ : Loc nD τ sig) → Buf (Elt Ideal) ℓ) (c : Dev nD)

/-- A grid point's number as a point. -/
abbrev pt (t : Fin 64) : Fin cfg0.N := ⟨t.val, by have := N64; omega⟩

theorem sum_to_last (g : Fin cfg0.N → EReal) (t : Fin cfg0.N) (ht : t.val = 63) :
    ∑ s : Fin (t.val + 1), g ⟨s.val, by omega⟩ = ∑ s : Fin 64, g (pt s) := by
  obtain ⟨n, hn⟩ := t
  dsimp only at ht
  subst ht
  rfl

theorem is_last {t : Fin cfg0.N} (h : t.val % 64 = 63) : t.val = 63 := by
  have := t.isLt
  have := N64
  omega

theorem index9 : ∀ t : Fin cfg0.N, win0_9.index t 0 = 0 ∧ win0_9.index t 1 = 0 := by decide +kernel
theorem index10 : ∀ t : Fin cfg0.N, win0_10.index t 0 = 0 ∧ win0_10.index t 1 = 0 := by decide +kernel
theorem index11 : ∀ t : Fin cfg0.N, win0_11.index t 0 = 0 ∧ win0_11.index t 1 = 0 ∧ win0_11.index t 2 = 0 := by decide +kernel
theorem index12 : ∀ t : Fin cfg0.N, win0_12.index t 0 = 0 ∧ win0_12.index t 1 = 0 := by decide +kernel
theorem index13 : ∀ t : Fin cfg0.N, win0_13.index t 0 = 0 ∧ win0_13.index t 1 = 0 := by decide +kernel

variable (t : Fin cfg0.N) (ht : t.val = 63)
include ht

/-! ## The accumulators after the last point are the reference's sums -/

theorem total9 (k : Fin 1024) : (outsAt0 m c t.val t.isLt).2.1 (ix2 0 k)
    = Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 0 k) :=
  (((acc9 m c k t.val t.isLt).trans (sum_to_last (fun t => v356 (inpAt m c t) (ix2 0 k)) t ht)).trans (Finset.sum_congr rfl fun t _ => v356_eq (at_point m c (pt t)) k)).trans (dg_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k).symm

theorem total10 (k : Fin 1024) : (outsAt0 m c t.val t.isLt).2.2.1 (ix2 0 k)
    = Cert.ReferenceIdeal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 0 k) :=
  (((acc10 m c k t.val t.isLt).trans (sum_to_last (fun t => v353 (inpAt m c t) (ix2 0 k)) t ht)).trans (Finset.sum_congr rfl fun t _ => v353_eq (at_point m c (pt t)) k)).trans (db_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k).symm

theorem total12 (r : Fin 128) (k : Fin 8) : (outsAt0 m c t.val t.isLt).2.2.2.2.1 (ix2 r k)
    = Cert.ReferenceIdeal.Read.val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r k) :=
  (((acc12 m c r k t.val t.isLt).trans (sum_to_last (fun t => v339 (inpAt m c t) (ix2 r k)) t ht)).trans (Finset.sum_congr rfl fun t _ => v339_eq (at_point m c (pt t)) r k)).trans (dbs_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r k).symm

theorem total13 (k : Fin 1024) : (outsAt0 m c t.val t.isLt).2.2.2.2.2 (ix2 0 k)
    = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 0 k) :=
  (((acc13 m c k t.val t.isLt).trans (sum_to_last (fun t => v166 (inpAt m c t) (ix2 0 k)) t ht)).trans (Finset.sum_congr rfl fun t _ => v166_eq (at_point m c (pt t)) k)).trans (dog_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k).symm

omit ht in
/-- One point's contribution to head `h`'s weight gradient. -/
theorem dw_at {t : Fin 64} {x : Inp Ideal} {a0 : A0} {a1 : A1} {a2 a3 a6 : A2} {a4 : A4} {a5 : A5} (H : At x t a0 a1 a2 a3 a4 a5 a6) (h : Fin 8) (r s : Fin 128) :
    dw x h (ix2 r s) = Scalar.select (IntOp.cmpi .sge (BitVec.ofNat 32 r.val) (BitVec.ofNat 32 s.val))
        (∑ d : Fin 128, Cert.ReferenceIdeal.Read.val_main_v104 (F := Ideal) a0 a1 a2 a3 a4 a5 a6 (ix4 t r h d) * Cert.ReferenceIdeal.Read.val_main_v51 (F := Ideal) a0 a2 a3 (ix4 t s h d)) 0 :=
  match h with
  | ⟨0, _⟩ => v351_eq H r s
  | ⟨1, _⟩ => v334_eq H r s
  | ⟨2, _⟩ => v313_eq H r s
  | ⟨3, _⟩ => v292_eq H r s
  | ⟨4, _⟩ => v271_eq H r s
  | ⟨5, _⟩ => v250_eq H r s
  | ⟨6, _⟩ => v229_eq H r s
  | ⟨7, _⟩ => v208_eq H r s

theorem total11 (h : Fin 8) (r s : Fin 128) : (outsAt0 m c t.val t.isLt).2.2.2.1 (ix3 h r s)
    = Cert.ReferenceIdeal.Read.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 h r s) :=
  (((acc11 m c h r s t.val t.isLt).trans (sum_to_last (fun t => dw (inpAt m c t) h (ix2 r s)) t ht)).trans (Finset.sum_congr rfl fun t _ => dw_at (at_point m c (pt t)) h r s)).trans (dw_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) h r s).symm

omit ht

/-! ## The result arrays after the run -/

theorem final9 : (dats m 0 c).arrAt 9 cfg0.N = Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have ht := is_last ((flush0_9 t).mp hf)
  blk_simp
  rw [after0_9]
  have e : y = ix2 (0 : Fin 1) (y 1) := funext fun a => match a with
    | ⟨0, _⟩ => Fin.ext (show (y 0 : Nat) = 0 by have h : (y 0 : Nat) < 1 := (y 0).isLt; omega)
    | ⟨1, _⟩ => rfl
  rw [e]
  refine (total9 m c t ht (y 1)).trans (congrArg _ ?_)
  obtain ⟨h0, h1⟩ := index9 t
  refine funext fun a => Fin.ext ?_
  match a with
  | ⟨0, _⟩ => show (0 : Nat) = win0_9.index t 0 * 1 + 1 * 0; rw [h0]
  | ⟨1, _⟩ => show (y 1 : Nat) = win0_9.index t 1 * 1024 + 1 * (y 1 : Nat); rw [h1]; omega

theorem final10 : (dats m 0 c).arrAt 10 cfg0.N = Cert.ReferenceIdeal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  have ht := is_last ((flush0_10 t).mp hf)
  blk_simp
  rw [after0_10]
  have e : y = ix2 (0 : Fin 1) (y 1) := funext fun a => match a with
    | ⟨0, _⟩ => Fin.ext (show (y 0 : Nat) = 0 by have h : (y 0 : Nat) < 1 := (y 0).isLt; omega)
    | ⟨1, _⟩ => rfl
  rw [e]
  refine (total10 m c t ht (y 1)).trans (congrArg _ ?_)
  obtain ⟨h0, h1⟩ := index10 t
  refine funext fun a => Fin.ext ?_
  match a with
  | ⟨0, _⟩ => show (0 : Nat) = win0_10.index t 0 * 1 + 1 * 0; rw [h0]
  | ⟨1, _⟩ => show (y 1 : Nat) = win0_10.index t 1 * 1024 + 1 * (y 1 : Nat); rw [h1]; omega

theorem final11 : (dats m 0 c).arrAt 11 cfg0.N = Cert.ReferenceIdeal.Read.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  have ht := is_last ((flush0_11 t).mp hf)
  blk_simp
  rw [after0_11]
  have e : y = ix3 (y 0) (y 1) (y 2) := funext fun a => match a with
    | ⟨0, _⟩ => rfl
    | ⟨1, _⟩ => rfl
    | ⟨2, _⟩ => rfl
  rw [e]
  refine (total11 m c t ht (y 0) (y 1) (y 2)).trans (congrArg _ ?_)
  obtain ⟨h0, h1, h2⟩ := index11 t
  refine funext fun a => Fin.ext ?_
  match a with
  | ⟨0, _⟩ => show (y 0 : Nat) = win0_11.index t 0 * 8 + 1 * (y 0 : Nat); rw [h0]; omega
  | ⟨1, _⟩ => show (y 1 : Nat) = win0_11.index t 1 * 128 + 1 * (y 1 : Nat); rw [h1]; omega
  | ⟨2, _⟩ => show (y 2 : Nat) = win0_11.index t 2 * 128 + 1 * (y 2 : Nat); rw [h2]; omega

theorem final12 : (dats m 0 c).arrAt 12 cfg0.N = Cert.ReferenceIdeal.Read.val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  have ht := is_last ((flush0_12 t).mp hf)
  blk_simp
  rw [after0_12]
  have e : y = ix2 (y 0) (y 1) := funext fun a => match a with
    | ⟨0, _⟩ => rfl
    | ⟨1, _⟩ => rfl
  rw [e]
  refine (total12 m c t ht (y 0) (y 1)).trans (congrArg _ ?_)
  obtain ⟨h0, h1⟩ := index12 t
  refine funext fun a => Fin.ext ?_
  match a with
  | ⟨0, _⟩ => show (y 0 : Nat) = win0_12.index t 0 * 128 + 1 * (y 0 : Nat); rw [h0]; omega
  | ⟨1, _⟩ => show (y 1 : Nat) = win0_12.index t 1 * 8 + 1 * (y 1 : Nat); rw [h1]; omega

theorem final13 : (dats m 0 c).arrAt 13 cfg0.N = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 13 _ (by decide +kernel) fun t hf y => ?_
  have ht := is_last ((flush0_13 t).mp hf)
  blk_simp
  rw [after0_13]
  have e : y = ix2 (0 : Fin 1) (y 1) := funext fun a => match a with
    | ⟨0, _⟩ => Fin.ext (show (y 0 : Nat) = 0 by have h : (y 0 : Nat) < 1 := (y 0).isLt; omega)
    | ⟨1, _⟩ => rfl
  rw [e]
  refine (total13 m c t ht (y 1)).trans (congrArg _ ?_)
  obtain ⟨h0, h1⟩ := index13 t
  refine funext fun a => Fin.ext ?_
  match a with
  | ⟨0, _⟩ => show (0 : Nat) = win0_13.index t 0 * 1 + 1 * 0; rw [h0]
  | ⟨1, _⟩ => show (y 1 : Nat) = win0_13.index t 1 * 1024 + 1 * (y 1 : Nat); rw [h1]; omega

/-- One point's block of the input gradient is the reference's rows of the point's chunk. -/
theorem halves_at {t : Fin 64} {x : Inp Ideal} {a0 : A0} {a1 : A1} {a2 a3 a6 : A2} {a4 : A4} {a5 : A5} (H : At x t a0 a1 a2 a3 a4 a5 a6) (r : Fin 128) (k : Fin 2048) :
    halves (v404 x) (v406 x) (ix2 r k) = Cert.ReferenceIdeal.Read.val_main_v173 (F := Ideal) a0 a1 a2 a3 a4 a5 a6 (ix2 (row t r) k) := by
  by_cases hk : k.val < 1024
  · refine ((dif_pos hk : halves (v404 x) (v406 x) (ix2 r k) = _).trans (v404_eq H r ⟨k.val, hk⟩)).trans ?_
    exact (duv_left a0 a1 a2 a3 a4 a5 a6 (row t r) ⟨k.val, hk⟩).symm
  · have h2 : k.val - 1024 < 1024 := by have := k.isLt; omega
    refine ((dif_neg hk : halves (v404 x) (v406 x) (ix2 r k) = _).trans (v406_eq H r ⟨k.val - 1024, h2⟩)).trans ?_
    refine (duv_right a0 a1 a2 a3 a4 a5 a6 (row t r) ⟨k.val - 1024, h2⟩).symm.trans ?_
    have e : (⟨1024 + (k.val - 1024), by omega⟩ : Fin 2048) = k := Fin.ext (by show 1024 + (k.val - 1024) = k.val; omega)
    exact congrArg (fun z : Fin 2048 => Cert.ReferenceIdeal.Read.val_main_v173 (F := Ideal) a0 a1 a2 a3 a4 a5 a6 (ix2 (row t r) z)) e

theorem final8 : (dats m 0 c).arrAt 8 cfg0.N = Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8, rows8]
  have e : y = ix2 (y 0) (y 1) := funext fun a => match a with
    | ⟨0, _⟩ => rfl
    | ⟨1, _⟩ => rfl
  rw [e]
  refine (halves_at (at_point m c t) (y 0) (y 1)).trans (congrArg _ ?_)
  obtain ⟨h0, h1⟩ := index8 t
  refine funext fun a => Fin.ext ?_
  match a with
  | ⟨0, _⟩ => show t.val * 128 + (y 0 : Nat) = win0_8.index t 0 * 128 + 1 * (y 0 : Nat); rw [h0]; omega
  | ⟨1, _⟩ => show (y 1 : Nat) = win0_8.index t 1 * 2048 + 1 * (y 1 : Nat); rw [h1]; omega

end Cert.KernelIdeal.Body
-- ==== Proof.Ffn.Ideal.RunA.lean ====
module

public import proofs.«01_k».proof.Proof.Gen.Kernel2Ideal.Frame.Runs

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1508000 in set_option sl_exec.dmaWindow true in set_option sl_exec.dmaWindowSet true in
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) (fh1 : HbBuf0 (F := F) c hbM0_1) (fh2 : HbBuf0 (F := F) c hbM0_2) :
    Σ' (L5 : List (View.Piece (Elt F) S256x1024 .f32)), Σ' (L6 : List (View.Piece (Elt F) S256x2816 .bf16)), Σ' (L7 : List (View.Piece (Elt F) S256x2816 .bf16)), Σ' (L8 : List (View.Piece (Elt F) S1x1024 .f32)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn2_dgrad i arg1 harg1 arg2 harg2 arg3 harg3 arg4 harg4 arg5 harg5 (Memref.whole main_v136) (Memref.isWhole_whole _) (Memref.whole main_v257) (Memref.isWhole_whole _) (Memref.whole main_v378) (Memref.isWhole_whole _) arg9 harg9 arg10 harg10 arg11 harg11 arg12 harg12 arg13 harg13 arg14 harg14 arg15 harg15 cc0_scratch3) K } := by
  refine ⟨?_, ?_, ?_, ?_, ?_, ?_, ?_, fun W K => ?run⟩
  case run =>
    simp only [cc0_ffn2_dgrad_eq_skeleton]; unfold cc0_ffn2_dgrad_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [Hh1]; · iexact Hh1
    isplitl [Hh2]; · iexact Hh2
    iexists _; iexact HW

end Cert.Kernel2Ideal.Gen

end
-- ==== Proof.Ffn.Ideal.RunB.lean ====
module

public import proofs.«01_k».proof.Proof.Ffn.Ideal.RunA

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1200000 in
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S256x2816 .bf16) (x3 : Vec F S256x2816 .bf16) (x4 : Vec F S1x1024 .f32) (xo8 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    Σ' (L5 : List (View.Piece (Elt F) S256x1024 .f32)), Σ' (L6 : List (View.Piece (Elt F) S256x2816 .bf16)), Σ' (L7 : List (View.Piece (Elt F) S256x2816 .bf16)), Σ' (L8 : List (View.Piece (Elt F) S1x1024 .f32)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo8 ∗ owns (c : Thread nD τ) arg13 fullShare xs0 ∗ owns (c : Thread nD τ) arg14 fullShare xs1 ∗ owns (c : Thread nD τ) arg15 fullShare xs2 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ owns (c : Thread nD τ) arg13 fullShare xs0 ∗ owns (c : Thread nD τ) arg14 fullShare xs1 ∗ owns (c : Thread nD τ) arg15 fullShare xs2 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn2_dgrad i arg1 harg1 arg2 harg2 arg3 harg3 arg4 harg4 arg5 harg5 (Memref.whole main_v136) (Memref.isWhole_whole _) (Memref.whole main_v257) (Memref.isWhole_whole _) (Memref.whole main_v378) (Memref.isWhole_whole _) arg9 harg9 arg10 harg10 arg11 harg11 arg12 harg12 arg13 harg13 arg14 harg14 arg15 harg15 cc0_scratch3) K } := by
  refine ⟨?_, ?_, ?_, ?_, [], [], [], fun W K => ?run⟩
  case run =>
    simp only [cc0_ffn2_dgrad_eq_skeleton]; unfold cc0_ffn2_dgrad_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%fs0, %hfs0, HS0⟩, ⟨%fs1, %hfs1, HS1⟩, ⟨%fs2, %hfs2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, HW, Hk⟩
    obtain rfl := harg1.eq_unread hf0; obtain rfl := harg2.eq_unread hf1; obtain rfl := harg3.eq_unread hf2; obtain rfl := harg4.eq_unread hf3; obtain rfl := harg5.eq_unread hf4; obtain rfl := harg12.eq_unread hf8; obtain rfl := harg13.eq_unread hfs0; obtain rfl := harg14.eq_unread hfs1; obtain rfl := harg15.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]
    · iexists _; isplitr; · ipureintro; exact harg13.read_unread _
      iexact HS0
    isplitl [HS1]
    · iexists _; isplitr; · ipureintro; exact harg14.read_unread _
      iexact HS1
    isplitl [HS2]
    · iexists _; isplitr; · ipureintro; exact harg15.read_unread _
      iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [Hh1]; · iexact Hh1
    isplitl [Hh2]; · iexact Hh2
    iexists _; iexact HW

end Cert.Kernel2Ideal.Gen

end
-- ==== Proof.Ffn.Ideal.Frame.lean ====
module

public import proofs.«01_k».proof.Proof.Ffn.Ideal.RunB
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) (fh1 : HbBuf0 (F := F) c hbM0_1) (fh2 : HbBuf0 (F := F) c hbM0_2)

theorem cover0_A_5 (y : S256x1024.Idx) :
    ∃ pc ∈ (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).1, y ∈ pc.1.set :=
  View.cover_of_tiledL (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).1 S256x1024.size (by sl_kernel_rfl) y

def out0_A_5 : Vec F S256x1024 .f32 :=
  VO0_5.read (Elt F) (VO0_5.writes (Elt F) VO0_5.junk (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).1)

theorem cover0_A_6 (y : S256x2816.Idx) :
    ∃ pc ∈ (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.1, y ∈ pc.1.set :=
  View.cover_of_tiledBy (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.1 ![256, 256] (by sl_kernel_rfl) y

def out0_A_6 : Vec F S256x2816 .bf16 :=
  VO0_6.read (Elt F) (VO0_6.writes (Elt F) VO0_6.junk (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.1)

theorem cover0_A_7 (y : S256x2816.Idx) :
    ∃ pc ∈ (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.1, y ∈ pc.1.set :=
  View.cover_of_tiledBy (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.1 ![256, 256] (by sl_kernel_rfl) y

def out0_A_7 : Vec F S256x2816 .bf16 :=
  VO0_7.read (Elt F) (VO0_7.writes (Elt F) VO0_7.junk (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.1)

theorem cover0_A_8 (y : S1x1024.Idx) :
    ∃ pc ∈ (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.1, y ∈ pc.1.set :=
  View.cover_of_tiledL (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.1 S1x1024.size (by sl_kernel_rfl) y

def out0_A_8 : Vec F S1x1024 .f32 :=
  VO0_8.read (Elt F) (VO0_8.writes (Elt F) VO0_8.junk (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.1)

theorem scover0_A_0 (y : S2816x1024.Idx) :
    ∃ pc ∈ (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.1, y ∈ pc.1.set :=
  View.cover_of_tiledL (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.1 S352x1024.size (by sl_kernel_rfl) y

def sout0_A_0 : Vec F S2816x1024 .bf16 :=
  VS0_0.read (Elt F) (VS0_0.writes (Elt F) VS0_0.junk (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.1)

theorem scover0_A_1 (y : S2816x1024.Idx) :
    ∃ pc ∈ (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.2.1, y ∈ pc.1.set :=
  View.cover_of_tiledL (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.2.1 S352x1024.size (by sl_kernel_rfl) y

def sout0_A_1 : Vec F S2816x1024 .bf16 :=
  VS0_1.read (Elt F) (VS0_1.writes (Elt F) VS0_1.junk (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.2.1)

theorem scover0_A_2 (y : S2816x1024.Idx) :
    ∃ pc ∈ (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.2.2.1, y ∈ pc.1.set :=
  View.cover_of_tiledL (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.2.2.1 S352x1024.size (by sl_kernel_rfl) y

def sout0_A_2 : Vec F S2816x1024 .bf16 :=
  VS0_2.read (Elt F) (VS0_2.writes (Elt F) VS0_2.junk (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.2.2.1)

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S256x2816 .bf16) (x3 : Vec F S256x2816 .bf16) (x4 : Vec F S1x1024 .f32) (xo8 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2)

theorem cover0_B_5 (y : S256x1024.Idx) :
    ∃ pc ∈ (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).1, y ∈ pc.1.set :=
  View.cover_of_tiledL (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).1 S256x1024.size (by sl_kernel_rfl) y

def out0_B_5 : Vec F S256x1024 .f32 :=
  VO0_5.read (Elt F) (VO0_5.writes (Elt F) VO0_5.junk (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).1)

theorem cover0_B_6 (y : S256x2816.Idx) :
    ∃ pc ∈ (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.1, y ∈ pc.1.set :=
  View.cover_of_tiledBy (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.1 ![256, 256] (by sl_kernel_rfl) y

def out0_B_6 : Vec F S256x2816 .bf16 :=
  VO0_6.read (Elt F) (VO0_6.writes (Elt F) VO0_6.junk (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.1)

theorem cover0_B_7 (y : S256x2816.Idx) :
    ∃ pc ∈ (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.2.1, y ∈ pc.1.set :=
  View.cover_of_tiledBy (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.2.1 ![256, 256] (by sl_kernel_rfl) y

def out0_B_7 : Vec F S256x2816 .bf16 :=
  VO0_7.read (Elt F) (VO0_7.writes (Elt F) VO0_7.junk (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.2.1)

theorem cover0_B_8 (y : S1x1024.Idx) :
    ∃ pc ∈ (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.2.2.1, y ∈ pc.1.set :=
  View.cover_of_tiledL (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.2.2.1 S1x1024.size (by sl_kernel_rfl) y

def out0_B_8 : Vec F S1x1024 .f32 :=
  VO0_8.read (Elt F) (VO0_8.writes (Elt F) VO0_8.junk (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.2.2.1)

end

def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S256x2816 .bf16) (x3 : Vec F S256x2816 .bf16) (x4 : Vec F S1x1024 .f32) (xo8 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S2816x1024 .bf16 := xs0

def sout0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S256x2816 .bf16) (x3 : Vec F S256x2816 .bf16) (x4 : Vec F S1x1024 .f32) (xo8 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S2816x1024 .bf16 := xs1

def sout0_B_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S256x2816 .bf16) (x3 : Vec F S256x2816 .bf16) (x4 : Vec F S1x1024 .f32) (xo8 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S2816x1024 .bf16 := xs2

/-! ## What the outputs hold after each point -/

def outA (c : Dev nD) (t : Fin cfg0.N) (h : cond0_0 (grid0.coords t)) : Vec F S256x1024 .f32 × Vec F S256x2816 .bf16 × Vec F S256x2816 .bf16 × Vec F S1x1024 .f32 × Vec F S2816x1024 .bf16 × Vec F S2816x1024 .bf16 × Vec F S2816x1024 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) (V m c main_v136) (V m c main_v257) (V m c main_v378), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) (V m c main_v136) (V m c main_v257) (V m c main_v378), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) (V m c main_v136) (V m c main_v257) (V m c main_v378), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) (V m c main_v136) (V m c main_v257) (V m c main_v378), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) (V m c main_v136) (V m c main_v257) (V m c main_v378), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) (V m c main_v136) (V m c main_v257) (V m c main_v378), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) (V m c main_v136) (V m c main_v257) (V m c main_v378))

def outB (c : Dev nD) (t : Fin cfg0.N) (h : ¬cond0_0 (grid0.coords t)) (o : Vec F S256x1024 .f32 × Vec F S256x2816 .bf16 × Vec F S256x2816 .bf16 × Vec F S1x1024 .f32 × Vec F S2816x1024 .bf16 × Vec F S2816x1024 .bf16 × Vec F S2816x1024 .bf16) : Vec F S256x1024 .f32 × Vec F S256x2816 .bf16 × Vec F S256x2816 .bf16 × Vec F S1x1024 .f32 × Vec F S2816x1024 .bf16 × Vec F S2816x1024 .bf16 × Vec F S2816x1024 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) o.2.2.2.1 o.2.2.2.2.1 o.2.2.2.2.2.1 o.2.2.2.2.2.2 (V m c main_v136) (V m c main_v257) (V m c main_v378), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) o.2.2.2.1 o.2.2.2.2.1 o.2.2.2.2.2.1 o.2.2.2.2.2.2 (V m c main_v136) (V m c main_v257) (V m c main_v378), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) o.2.2.2.1 o.2.2.2.2.1 o.2.2.2.2.2.1 o.2.2.2.2.2.2 (V m c main_v136) (V m c main_v257) (V m c main_v378), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) o.2.2.2.1 o.2.2.2.2.1 o.2.2.2.2.2.1 o.2.2.2.2.2.2 (V m c main_v136) (V m c main_v257) (V m c main_v378), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) o.2.2.2.1 o.2.2.2.2.1 o.2.2.2.2.2.1 o.2.2.2.2.2.2 (V m c main_v136) (V m c main_v257) (V m c main_v378), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) o.2.2.2.1 o.2.2.2.2.1 o.2.2.2.2.2.1 o.2.2.2.2.2.2 (V m c main_v136) (V m c main_v257) (V m c main_v378), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h (iblk m c 0 t) (iblk m c 1 t) (iblk m c 2 t) (iblk m c 3 t) (iblk m c 4 t) o.2.2.2.1 o.2.2.2.2.1 o.2.2.2.2.2.1 o.2.2.2.2.2.2 (V m c main_v136) (V m c main_v257) (V m c main_v378))

def outsAt0 (c : Dev nD) : (n : ℕ) → n < cfg0.N → Vec F S256x1024 .f32 × Vec F S256x2816 .bf16 × Vec F S256x2816 .bf16 × Vec F S1x1024 .f32 × Vec F S2816x1024 .bf16 × Vec F S2816x1024 .bf16 × Vec F S2816x1024 .bf16
  | 0, hn => outA m c ⟨0, hn⟩ ((hcond0_0 ⟨0, hn⟩).mpr (Nat.zero_mod _))
  | n + 1, hn =>
    if h0 : (n + 1) % 32 = 0 then
      outA m c ⟨n + 1, hn⟩ ((hcond0_0 ⟨n + 1, hn⟩).mpr h0)
    else
      outB m c ⟨n + 1, hn⟩ (fun h => h0 ((hcond0_0 ⟨n + 1, hn⟩).mp h)) (outsAt0 c n (Nat.lt_of_succ_lt hn))

theorem outsAt0_A (c : Dev nD) (t : Fin cfg0.N) (h0 : t.val % 32 = 0) :
    outsAt0 m c t.val t.isLt = outA m c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = outB m c t (fun h => h0 ((hcond0_0 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_v136) ∗ hbPt0 c hbM0_1 (V m c main_v257) ∗ hbPt0 c hbM0_2 (V m c main_v378)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_v136) ∗ hbPt0 c hbM0_1 (V m c main_v257) ∗ hbPt0 c hbM0_2 (V m c main_v378))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_v136) ∗ hbPt0 c hbM0_1 (V m c main_v257) ∗ hbPt0 c hbM0_2 (V m c main_v378))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_8_B (c : Dev nD) (t : Fin cfg0.N) (h0 : ¬t.val % 32 = 0) (d) :
    (dats m 0 c).before 8 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0]; unfold outA
      unfold out0_A_5 out0_A_6 out0_A_7 out0_A_8 sout0_A_0 sout0_A_1 sout0_A_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (V m c main_v136) (V m c main_v257) (V m c main_v378)).2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hh0]; · iexact Hh0
      isplitl [Hh1]; · iexact Hh1
      isplitl [Hh2]; · iexact Hh2
      isplitl [HW]; · iexact HW
      iintro ⟨H0, H1, H2, H3, H4, ⟨%e5, H5⟩, ⟨%e6, H6⟩, ⟨%e7, H7⟩, ⟨%e8, H8⟩, ⟨%es0, HS0⟩, ⟨%es1, HS1⟩, ⟨%es2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0 Hh1 Hh2]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _)
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          iexact Hq23
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]; unfold outB
      simp only [before0_8_B m c t h0]
      unfold out0_B_5 out0_B_6 out0_B_7 out0_B_8 sout0_B_0 sout0_B_1 sout0_B_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ (V m c main_v136) (V m c main_v257) (V m c main_v378)).2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hh0]; · iexact Hh0
      isplitl [Hh1]; · iexact Hh1
      isplitl [Hh2]; · iexact Hh2
      isplitl [HW]; · iexact HW
      iintro ⟨H0, H1, H2, H3, H4, ⟨%e5, H5⟩, ⟨%e6, H6⟩, ⟨%e7, H7⟩, ⟨%e8, H8⟩, HS0, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0 Hh1 Hh2]
      · isplitl [HS0 HS1 HS2]
        · isplitl [HS0]; · iexact HS0
          isplitl [HS1]; · iexact HS1
          iexact HS2
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          iexact Hq23
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, ⟨Hh0, Hh1, Hh2⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  isplitl [Hh0]; · iexact Hh0
  isplitl [Hh1]; · iexact Hh1
  iexact Hh2

theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel2Ideal.Gen

end
-- ==== Proof.Ffn.Same.lean ====
/- The two programs of the feed-forward backward call have the same text, so the run proved for the ideal one over any float values is the other's too. -/
module

public import proofs.«01_k».proof.Kernel2
public import proofs.«01_k».proof.Proof.Gen.Kernel2
public import proofs.«01_k».proof.Proof.Ffn.Ideal.Frame

@[expose] public section

set_option maxRecDepth 16384

noncomputable section

namespace Cert.Kernel2.Same

open Idealize.ShloMosaic Idealize.ShloMosaic.TcCoe Idealize.SL.Sem

variable {F : FTy → Type} [FloatOps F]

set_option maxHeartbeats 4000000 in
theorem body : @Cert.Kernel2.cc0_ffn2_dgrad F _ _ = @Cert.Kernel2Ideal.cc0_ffn2_dgrad F _ _ := by rfl

set_option maxHeartbeats 4000000 in
theorem bodies : Cert.Kernel2.defs₀ (F := F) = Cert.Kernel2Ideal.defs₀ (F := F) := by
  unfold Cert.Kernel2.defs₀ Cert.Kernel2Ideal.defs₀
  refine congrArg Defs.onTc (funext fun l => ?_)
  match l with
  | 0 =>
    funext x
    obtain ⟨t, s⟩ := x
    dsimp only
    rw [body]
    rfl

set_option maxHeartbeats 4000000 in
theorem calls : Cert.Kernel2.pcfgs (F := F) = Cert.Kernel2Ideal.pcfgs (F := F) := by rfl

set_option maxHeartbeats 4000000 in
theorem table : Cert.Kernel2.defs (F := F) = Cert.Kernel2Ideal.defs (F := F) := by
  unfold Cert.Kernel2.defs Cert.Kernel2Ideal.defs
  exact congrArg (Pipeline.defs Cert.Kernel2Ideal.pcfgs) bodies

set_option maxHeartbeats 4000000 in
theorem host : Cert.Kernel2.main (F := F) = Cert.Kernel2Ideal.main (F := F) := by
  unfold Cert.Kernel2.main Cert.Kernel2Ideal.main
  rfl

variable (m : (ℓ : Loc Cert.Kernel2Ideal.nD Cert.Kernel2Ideal.τ Cert.Kernel2Ideal.sig) → Buf (Elt F) ℓ) (ρ : Dev Cert.Kernel2Ideal.nD → PrngReg)

theorem carried (d) (hd : d = Cert.Kernel2Ideal.defs (F := F)) (p) (hp : p = Cert.Kernel2Ideal.main (F := F)) :
    θ_run d (onTc (τ := Cert.Kernel2Ideal.τ) p) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
        ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0) := by
  subst hd hp
  exact Cert.Kernel2Ideal.Gen.frame m ρ

end Cert.Kernel2.Same

end
-- ==== Proof.Ffn.Ideal.Value.lean ====
module

public import proofs.«01_k».proof.Proof.Ffn.Ideal.Frame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post5 (r : PUnit × MemSt nD τ sig (Elt F)) (h : Pipeline.FramePost cfgs (dats m) 0 (V m) r) (c : Dev nD) :
    r.2.mem ((c : Thread nD τ).loc main_v381_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v381_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v381_2) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v381_3) = (dats m 0 c).arrAt 8 cfg0.N :=
  (h c).1 8

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem run_blocks : θ_run defs (onTc (τ := τ) (main (F := F))) ⟨m, fun _ => 0, ρ⟩ fun r => ∀ c : Dev nD,
      r.2.mem ((c : Thread nD τ).loc main_v381_0) = (dats m 0 c).arrAt 5 cfg0.N
      ∧ r.2.mem ((c : Thread nD τ).loc main_v381_1) = (dats m 0 c).arrAt 6 cfg0.N
      ∧ r.2.mem ((c : Thread nD τ).loc main_v381_2) = (dats m 0 c).arrAt 7 cfg0.N
      ∧ r.2.mem ((c : Thread nD τ).loc main_v381_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)
-- ==== Proof.Ffn.Stores.lean ====
module

public import proofs.«01_k».proof.Proof.Ffn.Ideal.Frame
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.Quiescent

@[expose] public section

noncomputable section

namespace Cert.Kernel2Ideal.Body

open Cert.Kernel2Ideal Cert.Kernel2Ideal.Gen Idealize.ShloMosaic Idealize.ShloMosaic.TcCoe Idealize.SL.Sem
open Idealize.ShloMosaic.Pipeline (Dat)
open Idealize.ShloMosaic (ix1 ix2 ix3 ix4)

variable {F : FTy → Type} [FloatOps F]

theorem hz : (![0, 0] : Fin 2 → Nat) = fun _ => 0 := by decide

/-! ## Pieces of the buffers -/

/-- The three column blocks of a block of the wide arrays. -/
abbrev cols0 (x : Vec F S256x2816 .bf16) : Vec F S256x1024 .bf16 := View.ld x (Rect.unit (s := S256x2816) ![0, 0] S256x1024.size inb_S256x2816_S256x1024_0_0)
abbrev cols1 (x : Vec F S256x2816 .bf16) : Vec F S256x1024 .bf16 := View.ld x (Rect.unit (s := S256x2816) ![0, 1024] S256x1024.size inb_S256x2816_S256x1024_0_1024)
abbrev cols2 (x : Vec F S256x2816 .bf16) : Vec F S256x768 .bf16 := View.ld x (Rect.unit (s := S256x2816) ![0, 2048] S256x768.size inb_S256x2816_S256x768_0_2048)

/-- The three row blocks of a weight. -/
abbrev rows0 (w : Vec F S2816x1024 .bf16) : Vec F S1024x1024 .bf16 := View.ld w (Rect.unit (s := S2816x1024) ![0, 0] S1024x1024.size inb_S2816x1024_S1024x1024_0_0)
abbrev rows1 (w : Vec F S2816x1024 .bf16) : Vec F S1024x1024 .bf16 := View.ld w (Rect.unit (s := S2816x1024) ![1024, 0] S1024x1024.size inb_S2816x1024_S1024x1024_1024_0)
abbrev rows2 (w : Vec F S2816x1024 .bf16) : Vec F S768x1024 .bf16 := View.ld w (Rect.unit (s := S2816x1024) ![2048, 0] S768x1024.size inb_S2816x1024_S768x1024_2048_0)

/-- Rows taken out of one layer of a stack. -/
abbrev cut (f : Vec F S8x1056x1024 .bf16) (off : Fin 3 → Nat) (inb : ∀ a, off a + S1x352x1024.size a ≤ S8x1056x1024.size a) : Vec F S352x1024 .bf16 :=
  shapeCast S352x1024 (View.ld f (Rect.unit (s := S8x1056x1024) off S1x352x1024.size inb) : Vec F S1x352x1024 .bf16) (squeezes_S1x352x1024_S352x1024 : Shape.Squeezes S1x352x1024 S352x1024).numel_eq

/-- What the first point's copies leave in scratch 0. -/
def copied0 (f : Vec F S8x1056x1024 .bf16) : Vec F S2816x1024 .bf16 :=
  View.canon (Val := Elt F) [⟨Rect.unit (s := S2816x1024) ![2464, 0] S352x1024.size inb_S2816x1024_S352x1024_2464_0, cut f ![7, 0, 0] inb_S8x1056x1024_S1x352x1024_7_0_0⟩,
    ⟨Rect.unit (s := S2816x1024) ![2112, 0] S352x1024.size inb_S2816x1024_S352x1024_2112_0, cut f ![6, 0, 0] inb_S8x1056x1024_S1x352x1024_6_0_0⟩,
    ⟨Rect.unit (s := S2816x1024) ![1760, 0] S352x1024.size inb_S2816x1024_S352x1024_1760_0, cut f ![5, 0, 0] inb_S8x1056x1024_S1x352x1024_5_0_0⟩,
    ⟨Rect.unit (s := S2816x1024) ![1408, 0] S352x1024.size inb_S2816x1024_S352x1024_1408_0, cut f ![4, 0, 0] inb_S8x1056x1024_S1x352x1024_4_0_0⟩,
    ⟨Rect.unit (s := S2816x1024) ![1056, 0] S352x1024.size inb_S2816x1024_S352x1024_1056_0, cut f ![3, 0, 0] inb_S8x1056x1024_S1x352x1024_3_0_0⟩,
    ⟨Rect.unit (s := S2816x1024) ![704, 0] S352x1024.size inb_S2816x1024_S352x1024_704_0, cut f ![2, 0, 0] inb_S8x1056x1024_S1x352x1024_2_0_0⟩,
    ⟨Rect.unit (s := S2816x1024) ![352, 0] S352x1024.size inb_S2816x1024_S352x1024_352_0, cut f ![1, 0, 0] inb_S8x1056x1024_S1x352x1024_1_0_0⟩,
    ⟨Rect.unit (s := S2816x1024) ![0, 0] S352x1024.size inb_S2816x1024_S352x1024_0_0, cut f ![0, 0, 0] inb_S8x1056x1024_S1x352x1024_0_0_0⟩]

/-- What the first point's copies leave in scratch 1. -/
def copied1 (f : Vec F S8x1056x1024 .bf16) : Vec F S2816x1024 .bf16 :=
  View.canon (Val := Elt F) [⟨Rect.unit (s := S2816x1024) ![2464, 0] S352x1024.size inb_S2816x1024_S352x1024_2464_0, cut f ![7, 352, 0] inb_S8x1056x1024_S1x352x1024_7_352_0⟩,
    ⟨Rect.unit (s := S2816x1024) ![2112, 0] S352x1024.size inb_S2816x1024_S352x1024_2112_0, cut f ![6, 352, 0] inb_S8x1056x1024_S1x352x1024_6_352_0⟩,
    ⟨Rect.unit (s := S2816x1024) ![1760, 0] S352x1024.size inb_S2816x1024_S352x1024_1760_0, cut f ![5, 352, 0] inb_S8x1056x1024_S1x352x1024_5_352_0⟩,
    ⟨Rect.unit (s := S2816x1024) ![1408, 0] S352x1024.size inb_S2816x1024_S352x1024_1408_0, cut f ![4, 352, 0] inb_S8x1056x1024_S1x352x1024_4_352_0⟩,
    ⟨Rect.unit (s := S2816x1024) ![1056, 0] S352x1024.size inb_S2816x1024_S352x1024_1056_0, cut f ![3, 352, 0] inb_S8x1056x1024_S1x352x1024_3_352_0⟩,
    ⟨Rect.unit (s := S2816x1024) ![704, 0] S352x1024.size inb_S2816x1024_S352x1024_704_0, cut f ![2, 352, 0] inb_S8x1056x1024_S1x352x1024_2_352_0⟩,
    ⟨Rect.unit (s := S2816x1024) ![352, 0] S352x1024.size inb_S2816x1024_S352x1024_352_0, cut f ![1, 352, 0] inb_S8x1056x1024_S1x352x1024_1_352_0⟩,
    ⟨Rect.unit (s := S2816x1024) ![0, 0] S352x1024.size inb_S2816x1024_S352x1024_0_0, cut f ![0, 352, 0] inb_S8x1056x1024_S1x352x1024_0_352_0⟩]

/-- What the first point's copies leave in scratch 2. -/
def copied2 (f : Vec F S8x1056x1024 .bf16) : Vec F S2816x1024 .bf16 :=
  View.canon (Val := Elt F) [⟨Rect.unit (s := S2816x1024) ![2464, 0] S352x1024.size inb_S2816x1024_S352x1024_2464_0, cut f ![7, 704, 0] inb_S8x1056x1024_S1x352x1024_7_704_0⟩,
    ⟨Rect.unit (s := S2816x1024) ![2112, 0] S352x1024.size inb_S2816x1024_S352x1024_2112_0, cut f ![6, 704, 0] inb_S8x1056x1024_S1x352x1024_6_704_0⟩,
    ⟨Rect.unit (s := S2816x1024) ![1760, 0] S352x1024.size inb_S2816x1024_S352x1024_1760_0, cut f ![5, 704, 0] inb_S8x1056x1024_S1x352x1024_5_704_0⟩,
    ⟨Rect.unit (s := S2816x1024) ![1408, 0] S352x1024.size inb_S2816x1024_S352x1024_1408_0, cut f ![4, 704, 0] inb_S8x1056x1024_S1x352x1024_4_704_0⟩,
    ⟨Rect.unit (s := S2816x1024) ![1056, 0] S352x1024.size inb_S2816x1024_S352x1024_1056_0, cut f ![3, 704, 0] inb_S8x1056x1024_S1x352x1024_3_704_0⟩,
    ⟨Rect.unit (s := S2816x1024) ![704, 0] S352x1024.size inb_S2816x1024_S352x1024_704_0, cut f ![2, 704, 0] inb_S8x1056x1024_S1x352x1024_2_704_0⟩,
    ⟨Rect.unit (s := S2816x1024) ![352, 0] S352x1024.size inb_S2816x1024_S352x1024_352_0, cut f ![1, 704, 0] inb_S8x1056x1024_S1x352x1024_1_704_0⟩,
    ⟨Rect.unit (s := S2816x1024) ![0, 0] S352x1024.size inb_S2816x1024_S352x1024_0_0, cut f ![0, 704, 0] inb_S8x1056x1024_S1x352x1024_0_704_0⟩]

/-! ## What a point computes from its blocks and the weights -/

section Blocks
variable (x0 x1 : Vec F S256x1024 .f32) (x2 x3 : Vec F S256x2816 .bf16) (x4 : Vec F S1x1024 .f32) (w0 w1 w2 : Vec F S2816x1024 .bf16)

abbrev db0 : FVec F S256x1024 .bf16 := k0_pay14 x1 (cols0 x2) (rows0 w2)
abbrev db1 : FVec F S256x1024 .bf16 := k0_pay21 (k0_pay9 x1) (cols1 x2) (rows1 w2)
abbrev db2 : FVec F S256x768 .bf16 := k0_pay26 (k0_pay9 x1) (cols2 x2) (rows2 w2)
abbrev da0 : FVec F S256x1024 .bf16 := k0_pay16 (k0_pay11 (cols0 x2)) (k0_pay12 (cols0 x2)) (k0_pay15 x1 (cols0 x3) (rows0 w2)) (FloatOps.ofBits FTy.f32 1065353216#32)
abbrev da1 : FVec F S256x1024 .bf16 := k0_pay22 (k0_pay9 x1) (cols1 x2) (cols1 x3) (rows1 w2)
abbrev da2 : FVec F S256x768 .bf16 := k0_pay27 (k0_pay9 x1) (cols2 x2) (cols2 x3) (rows2 w2)
/-- Most of the normalised rows' gradient. -/
abbrev most : FVec F S256x1024 .f32 :=
  k0_pay28 (k0_pay9 x1) (k0_pay17 k0_pay10 (k0_pay11 (cols0 x2)) (k0_pay12 (cols0 x2)) (k0_pay14 x1 (cols0 x2) (rows0 w2)) (k0_pay15 x1 (cols0 x3) (rows0 w2)) (FloatOps.ofBits FTy.f32 1065353216#32) (rows0 w0) (rows0 w1))
    (db1 x1 x2 w2) (da1 x1 x2 x3 w2) (rows1 w0) (rows1 w1) (cols2 x2) (cols2 x3) (rows2 w2) (rows2 w0)
/-- The last part of it. -/
abbrev rest : FVec F S256x1024 .f32 := k0_pay29 (k0_pay9 x1) (cols2 x2) (rows2 w2) (rows2 w1)
/-- The rows' gradient. -/
abbrev dhV : FVec F S256x1024 .f32 := k0_pay2 x1 x0 x4 (k0_pay6 x0) (k0_pay7 x0) (most x1 x2 x3 w0 w1 w2) (rest x1 x2 w1 w2)
/-- The gain's gradient with this point's part. -/
abbrev dgV (acc : Vec F S1x1024 .f32) : FVec F S1x1024 .f32 := k0_pay3 (k0_pay8 x0) (most x1 x2 x3 w0 w1 w2) (rest x1 x2 w1 w2) acc
end Blocks

/-- Three column blocks side by side. -/
def thirds (p q : Vec F S256x1024 .bf16) (r : Vec F S256x768 .bf16) : Vec F S256x2816 .bf16 :=
  View.canon (Val := Elt F) [⟨Rect.unit (s := S256x2816) ![0, 2048] S256x768.size inb_S256x2816_S256x768_0_2048, r⟩,
    ⟨Rect.unit (s := S256x2816) ![0, 1024] S256x1024.size inb_S256x2816_S256x1024_0_1024, q⟩,
    ⟨Rect.unit (s := S256x2816) ![0, 0] S256x1024.size inb_S256x2816_S256x1024_0_0, p⟩]

/-! ## What each kind of point leaves -/

set_option maxHeartbeats 400000 in
theorem out0_B_5_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S256x2816 .bf16) (x3 : Vec F S256x2816 .bf16) (x4 : Vec F S1x1024 .f32) (xo8 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_5 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 = dhV x0 x1 x2 x3 x4 xs0 xs1 xs2 := by
  unfold out0_B_5
  rw [View.read_writes_junk_eq_canon]
  unfold kernelRun0_B
  dsimp only
  sl_unfold_words
  refine (View.canon_cons_unit_zero hz _ _ _).trans ?_
  simp only [View.readAt_eq_ld, harg1.read_unread, harg2.read_unread, harg3.read_unread, harg4.read_unread, harg5.read_unread, harg12.read_unread, harg13.read_unread, harg14.read_unread, harg15.read_unread, View.ld_unit_zero (S := S256x1024) hz, View.ld_unit_zero (S := S1x1024) hz]

set_option maxHeartbeats 400000 in
theorem out0_B_6_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S256x2816 .bf16) (x3 : Vec F S256x2816 .bf16) (x4 : Vec F S1x1024 .f32) (xo8 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_6 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 = thirds (da0 x1 x2 x3 xs2) (da1 x1 x2 x3 xs2) (da2 x1 x2 x3 xs2) := by
  unfold out0_B_6
  rw [View.read_writes_junk_eq_canon]
  unfold kernelRun0_B
  dsimp only
  sl_unfold_words
  simp only [View.readAt_eq_ld, harg1.read_unread, harg2.read_unread, harg3.read_unread, harg4.read_unread, harg5.read_unread, harg12.read_unread, harg13.read_unread, harg14.read_unread, harg15.read_unread, View.ld_unit_zero (S := S256x1024) hz, View.ld_unit_zero (S := S1x1024) hz]
  rfl

set_option maxHeartbeats 400000 in
theorem out0_B_7_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S256x2816 .bf16) (x3 : Vec F S256x2816 .bf16) (x4 : Vec F S1x1024 .f32) (xo8 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_7 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 = thirds (db0 x1 x2 xs2) (db1 x1 x2 xs2) (db2 x1 x2 xs2) := by
  unfold out0_B_7
  rw [View.read_writes_junk_eq_canon]
  unfold kernelRun0_B
  dsimp only
  sl_unfold_words
  simp only [View.readAt_eq_ld, harg1.read_unread, harg2.read_unread, harg3.read_unread, harg4.read_unread, harg5.read_unread, harg12.read_unread, harg13.read_unread, harg14.read_unread, harg15.read_unread, View.ld_unit_zero (S := S256x1024) hz, View.ld_unit_zero (S := S1x1024) hz]
  rfl

set_option maxHeartbeats 400000 in
theorem out0_B_8_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S256x2816 .bf16) (x3 : Vec F S256x2816 .bf16) (x4 : Vec F S1x1024 .f32) (xo8 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_8 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 = dgV x0 x1 x2 x3 xs0 xs1 xs2 xo8 := by
  unfold out0_B_8
  rw [View.read_writes_junk_eq_canon]
  unfold kernelRun0_B
  dsimp only
  sl_unfold_words
  refine (View.canon_cons_unit_zero hz _ _ _).trans ?_
  simp only [View.readAt_eq_ld, harg1.read_unread, harg2.read_unread, harg3.read_unread, harg4.read_unread, harg5.read_unread, harg12.read_unread, harg13.read_unread, harg14.read_unread, harg15.read_unread, View.ld_unit_zero (S := S256x1024) hz, View.ld_unit_zero (S := S1x1024) hz]

set_option maxHeartbeats 400000 in
theorem sout0_A_0_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) (fh1 : HbBuf0 (F := F) c hbM0_1) (fh2 : HbBuf0 (F := F) c hbM0_2) :
    sout0_A_0 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = copied0 fh0 := by
  unfold sout0_A_0
  rw [View.read_writes_junk_eq_canon]
  unfold kernelRun0_A
  dsimp only
  sl_unfold_words
  rfl

set_option maxHeartbeats 400000 in
theorem sout0_A_1_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) (fh1 : HbBuf0 (F := F) c hbM0_1) (fh2 : HbBuf0 (F := F) c hbM0_2) :
    sout0_A_1 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = copied1 fh1 := by
  unfold sout0_A_1
  rw [View.read_writes_junk_eq_canon]
  unfold kernelRun0_A
  dsimp only
  sl_unfold_words
  rfl

set_option maxHeartbeats 400000 in
theorem sout0_A_2_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) (fh1 : HbBuf0 (F := F) c hbM0_1) (fh2 : HbBuf0 (F := F) c hbM0_2) :
    sout0_A_2 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = copied2 fh2 := by
  unfold sout0_A_2
  rw [View.read_writes_junk_eq_canon]
  unfold kernelRun0_A
  dsimp only
  sl_unfold_words
  rfl

set_option maxHeartbeats 400000 in
theorem out0_A_5_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) (fh1 : HbBuf0 (F := F) c hbM0_1) (fh2 : HbBuf0 (F := F) c hbM0_2) :
    out0_A_5 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = dhV x0 x1 x2 x3 x4 (copied0 fh0) (copied1 fh1) (copied2 fh2) := by
  unfold out0_A_5
  rw [View.read_writes_junk_eq_canon]
  unfold kernelRun0_A
  dsimp only
  sl_unfold_words
  refine (View.canon_cons_unit_zero hz _ _ _).trans ?_
  simp only [View.readAt_eq_ld, harg1.read_unread, harg2.read_unread, harg3.read_unread, harg4.read_unread, harg5.read_unread, View.ld_unit_zero (S := S256x1024) hz, View.ld_unit_zero (S := S1x1024) hz, View.readCov_eq_canon']
  rfl

set_option maxHeartbeats 400000 in
theorem out0_A_6_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) (fh1 : HbBuf0 (F := F) c hbM0_1) (fh2 : HbBuf0 (F := F) c hbM0_2) :
    out0_A_6 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = thirds (da0 x1 x2 x3 (copied2 fh2)) (da1 x1 x2 x3 (copied2 fh2)) (da2 x1 x2 x3 (copied2 fh2)) := by
  unfold out0_A_6
  rw [View.read_writes_junk_eq_canon]
  unfold kernelRun0_A
  dsimp only
  sl_unfold_words
  simp only [View.readAt_eq_ld, harg1.read_unread, harg2.read_unread, harg3.read_unread, harg4.read_unread, harg5.read_unread, View.ld_unit_zero (S := S256x1024) hz, View.ld_unit_zero (S := S1x1024) hz, View.readCov_eq_canon']
  rfl

set_option maxHeartbeats 400000 in
theorem out0_A_7_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) (fh1 : HbBuf0 (F := F) c hbM0_1) (fh2 : HbBuf0 (F := F) c hbM0_2) :
    out0_A_7 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = thirds (db0 x1 x2 (copied2 fh2)) (db1 x1 x2 (copied2 fh2)) (db2 x1 x2 (copied2 fh2)) := by
  unfold out0_A_7
  rw [View.read_writes_junk_eq_canon]
  unfold kernelRun0_A
  dsimp only
  sl_unfold_words
  simp only [View.readAt_eq_ld, harg1.read_unread, harg2.read_unread, harg3.read_unread, harg4.read_unread, harg5.read_unread, View.ld_unit_zero (S := S256x1024) hz, View.ld_unit_zero (S := S1x1024) hz, View.readCov_eq_canon']
  rfl

set_option maxHeartbeats 400000 in
theorem out0_A_8_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) (fh1 : HbBuf0 (F := F) c hbM0_1) (fh2 : HbBuf0 (F := F) c hbM0_2) :
    out0_A_8 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = dgV x0 x1 x2 x3 (copied0 fh0) (copied1 fh1) (copied2 fh2) k0_pay4 := by
  unfold out0_A_8
  rw [View.read_writes_junk_eq_canon]
  unfold kernelRun0_A
  dsimp only
  sl_unfold_words
  refine (View.canon_cons_unit_zero hz _ _ _).trans ?_
  simp only [View.readAt_eq_ld, harg1.read_unread, harg2.read_unread, harg3.read_unread, harg4.read_unread, harg5.read_unread, View.ld_unit_zero (S := S256x1024) hz, View.ld_unit_zero (S := S1x1024) hz, View.canon_unit_zero (S := S1x1024) hz, View.readCov_eq_canon']
  rfl

end Cert.Kernel2Ideal.Body
-- ==== Proof.Half.lean ====
module

public import proofs.«01_k».proof.Proof.Gen.Reference2Ideal.Read
public import Idealize.ShloMosaic.Lib.Pointwise
public import Idealize.ShloMosaic.Lib.Tactic

@[expose] public section

noncomputable section

namespace Cert.Half

open Idealize.ShloMosaic
open Idealize.ShloMosaic (ix1 ix2 ix3 ix4)

/-! ## The gradient of one row of the half step, in the kernel's form -/

/-- The mean square of a row and its small constant. -/
def ms (h : Fin 1024 → EReal) : EReal :=
  Ideal.div (∑ k, h k * h k) (Ideal.ofBits FTy.f32 0x44800000#32) + Ideal.ofBits FTy.f32 0x358637BD#32

def rs (h : Fin 1024 → EReal) : EReal := Ideal.rsqrt (ms h)

/-- The cotangent of the gated product. -/
def ds (d : Fin 1024 → EReal) (wd : Fin 2816 → Fin 1024 → EReal) (j : Fin 2816) : EReal :=
  ∑ k, Ideal.ofBits FTy.f32 0x3F000000#32 * d k * wd j k

/-- The cotangent of the up projection. -/
def db (d : Fin 1024 → EReal) (a : Fin 2816 → EReal) (wd : Fin 2816 → Fin 1024 → EReal) (j : Fin 2816) : EReal :=
  ds d wd j * (a j * Ideal.logistic (a j))

/-- The cotangent of the gate projection. -/
def da (d : Fin 1024 → EReal) (a b : Fin 2816 → EReal) (wd : Fin 2816 → Fin 1024 → EReal) (j : Fin 2816) : EReal :=
  ds d wd j * b j * (Ideal.logistic (a j) * (1 + a j * (1 - Ideal.logistic (a j))))

/-- The cotangent of the normalised row. -/
def dn (d : Fin 1024 → EReal) (a b : Fin 2816 → EReal) (wg wu wd : Fin 2816 → Fin 1024 → EReal) (c : Fin 1024) : EReal :=
  ∑ j, da d a b wd j * wg j c + ∑ j, db d a wd j * wu j c

/-- What the mean square carries back to the row. -/
def back (h g n : Fin 1024 → EReal) : EReal :=
  ∑ x : Fin 1, Ideal.div ((∑ k, h k * (n k * g k)) * (Ideal.ofBits FTy.f32 0xBF000000#32 * Ideal.div (rs h) (ms h)))
    (Ideal.ofBits FTy.f32 0x44800000#32)

/-- The cotangent of the row, from that of the normalised row. -/
def dh (h d g n : Fin 1024 → EReal) (c : Fin 1024) : EReal :=
  d c + (n c * g c * rs h + h c * back h g n + back h g n * h c)

/-- A row's part of the cotangent of the gain. -/
def dg (h n : Fin 1024 → EReal) (c : Fin 1024) : EReal := h c * rs h * n c

/-! ## The reference's stages -/

open Cert.Reference2Ideal Cert.Reference2Ideal.Read

variable (x0 x1 : Vec Ideal S8192x1024 .f32) (x2 : Vec Ideal S1x1024 .f32) (x3 x4 : Vec Ideal S1024x2816 .f32) (x5 : Vec Ideal S2816x1024 .f32)

abbrev rowH (x : Vec Ideal S8192x1024 .f32) (r : Fin 8192) (k : Fin 1024) : EReal := x (ix2 r k)
abbrev gain (x2 : Vec Ideal S1x1024 .f32) (k : Fin 1024) : EReal := x2 (ix2 0 k)
abbrev turned (w : Vec Ideal S1024x2816 .f32) (j : Fin 2816) (k : Fin 1024) : EReal := w (ix2 k j)
abbrev down (w : Vec Ideal S2816x1024 .f32) (j : Fin 2816) (k : Fin 1024) : EReal := w (ix2 j k)
abbrev pa (r : Fin 8192) (j : Fin 2816) : EReal := val_main_v17 (F := Ideal) x0 x2 x3 (ix2 r j)
abbrev pb (r : Fin 8192) (j : Fin 2816) : EReal := val_main_v19 (F := Ideal) x0 x2 x4 (ix2 r j)

theorem v7_at (r : Fin 8192) : val_main_v7 (F := Ideal) x0 (ix2 r 0) = ms (rowH x0 r) := by
  unfold ms
  pointwise [val_main_v7, val_main_v5, val_main_v3, val_main_v2, val_main_v1, val_main_v4, val_main_v6, val_main_cst, val_main_cst_0, val_main_cst_1]

theorem v8_at (r : Fin 8192) : val_main_v8 (F := Ideal) x0 (ix2 r 0) = rs (rowH x0 r) := by
  unfold rs
  rw [← v7_at]
  pointwise [val_main_v8]

theorem v11_at (r : Fin 8192) : val_main_v11 (F := Ideal) x0 (ix2 r 0) = Ideal.ofBits FTy.f32 0xBF000000#32 * Ideal.div (rs (rowH x0 r)) (ms (rowH x0 r)) := by
  rw [← v7_at, ← v8_at]
  pointwise [val_main_v11, val_main_v9, val_main_v10, val_main_cst_2]

theorem v13_at (r : Fin 8192) (k : Fin 1024) : val_main_v13 (F := Ideal) x0 (ix2 r k) = x0 (ix2 r k) * rs (rowH x0 r) := by
  rw [← v8_at]
  pointwise [val_main_v13, val_main_v12]

theorem v14_at (k : Fin 1024) : val_main_v14 (F := Ideal) x2 (ix2 0 k) = x2 (ix2 0 k) := by
  pointwise [val_main_v14, val_main_v0]

theorem v16_at (r : Fin 8192) (k : Fin 1024) : val_main_v16 (F := Ideal) x0 x2 (ix2 r k) = x0 (ix2 r k) * rs (rowH x0 r) * x2 (ix2 0 k) := by
  rw [← v13_at, ← v14_at x2]
  pointwise [val_main_v16, val_main_v15]

theorem v17_at (r : Fin 8192) (j : Fin 2816) : val_main_v17 (F := Ideal) x0 x2 x3 (ix2 r j) = ∑ k : Fin 1024, x0 (ix2 r k) * rs (rowH x0 r) * x2 (ix2 0 k) * x3 (ix2 k j) := by
  refine Eq.trans (b := ∑ k : Fin 1024, val_main_v16 (F := Ideal) x0 x2 (ix2 r k) * x3 (ix2 k j)) ?_ (Finset.sum_congr rfl fun k _ => by rw [v16_at])
  pointwise [val_main_v17]

theorem v19_at (r : Fin 8192) (j : Fin 2816) : val_main_v19 (F := Ideal) x0 x2 x4 (ix2 r j) = ∑ k : Fin 1024, x0 (ix2 r k) * rs (rowH x0 r) * x2 (ix2 0 k) * x4 (ix2 k j) := by
  refine Eq.trans (b := ∑ k : Fin 1024, val_main_v16 (F := Ideal) x0 x2 (ix2 r k) * x4 (ix2 k j)) ?_ (Finset.sum_congr rfl fun k _ => by rw [v16_at])
  pointwise [val_main_v19]

theorem v28_at (r : Fin 8192) (j : Fin 2816) : val_main_v28 (F := Ideal) x1 x5 (ix2 r j) = ds (rowH x1 r) (down x5) j := by
  unfold ds
  pointwise [val_main_v28, val_main_v27, val_main_v26, val_main_v25, val_main_cst_4]

/-- The quotient the reference writes for the logistic function. -/
theorem sig_at (r : Fin 8192) (j : Fin 2816) : val_main_v18_2 (F := Ideal) x0 x2 x3 (ix2 r j) = Ideal.logistic (pa x0 x2 x3 r j) := by
  pointwise [val_main_v18_2, val_main_call0_v4, val_main_call0_v3, val_main_call0_v2, val_main_call0_v1, val_main_call0_v0, val_main_call0_cst, val_main_call0_cst_0]
  rfl

theorem v29_at (r : Fin 8192) (j : Fin 2816) : val_main_v29 (F := Ideal) x0 x1 x2 x3 x5 (ix2 r j) = db (rowH x1 r) (pa x0 x2 x3 r) (down x5) j := by
  unfold db
  rw [← v28_at, ← sig_at, mul_comm]
  pointwise [val_main_v29, val_main_v18_0]

theorem v32_form (r : Fin 8192) (j : Fin 2816) : val_main_v32 (F := Ideal) x0 x1 x2 x3 x4 x5 (ix2 r j)
    = ds (rowH x1 r) (down x5) j * pb x0 x2 x4 r j * Ideal.logistic (pa x0 x2 x3 r j)
      + pa x0 x2 x3 r j * (ds (rowH x1 r) (down x5) j * pb x0 x2 x4 r j) * (Ideal.logistic (pa x0 x2 x3 r j) * (1 - Ideal.logistic (pa x0 x2 x3 r j))) := by
  rw [← v28_at, ← sig_at]
  pointwise [val_main_v32, val_main_call1_v0, val_main_call1_v1, val_main_call1_v2, val_main_v30, val_main_v18_1, val_main_call0_v7, val_main_call0_v6, val_main_call0_cst_1]

/-! ## Finite values -/

/-- A value that is a real number. -/
def Fin' (x : EReal) : Prop := ∃ r : ℝ, x = (r : EReal)

theorem Fin'.add {x y : EReal} : Fin' x → Fin' y → Fin' (x + y) := by
  rintro ⟨a, rfl⟩ ⟨b, rfl⟩; exact ⟨a + b, (EReal.coe_add a b).symm⟩

theorem Fin'.mul {x y : EReal} : Fin' x → Fin' y → Fin' (x * y) := by
  rintro ⟨a, rfl⟩ ⟨b, rfl⟩; exact ⟨a * b, (EReal.coe_mul a b).symm⟩

theorem Fin'.sum {n : ℕ} {f : Fin n → EReal} (h : ∀ k, Fin' (f k)) : Fin' (∑ k, f k) := by
  choose g hg using h
  refine ⟨∑ k, g k, ?_⟩
  rw [Finset.sum_congr rfl fun k _ => hg k]
  exact (map_sum (⟨⟨Real.toEReal, EReal.coe_zero⟩, EReal.coe_add⟩ : ℝ →+ EReal) g Finset.univ).symm

theorem Fin'.logistic {x : EReal} : Fin' x → Fin' (Ideal.logistic x) := by
  rintro ⟨a, rfl⟩
  have e : (1 : EReal) + Ideal.exp (-(a : EReal)) = ((1 + Real.exp (-a) : ℝ) : EReal) := by
    rw [← EReal.coe_neg, Ideal.exp_coe, EReal.coe_add]; rfl
  show Fin' (Ideal.div 1 (1 + Ideal.exp (-(a : EReal))))
  rw [e, Ideal.div_coe (by positivity)]
  exact ⟨1 / (1 + Real.exp (-a)), one_mul _⟩

theorem half_fin : Fin' (Ideal.ofBits FTy.f32 0x3F000000#32) := ⟨_, rfl⟩

theorem width : Ideal.ofBits FTy.f32 0x44800000#32 = ((1024 : ℝ) : EReal) := by
  simp [Ideal.ofBits, Ideal.ieee, -EReal.coe_mul]
  norm_num

theorem small : ∃ e : ℝ, 0 < e ∧ Ideal.ofBits FTy.f32 0x358637BD#32 = (e : EReal) := by
  refine ⟨8796093 * (2 : ℝ) ^ (-43 : ℤ), by positivity, ?_⟩
  simp [Ideal.ofBits, Ideal.ieee, -EReal.coe_mul]

theorem rs_fin {h : Fin 1024 → EReal} (hh : ∀ k, Fin' (h k)) : Fin' (rs h) := by
  choose g hg using hh
  obtain ⟨e, he, ee⟩ := small
  have es : (∑ k, h k * h k) = ((∑ k, g k * g k : ℝ) : EReal) := by
    rw [Finset.sum_congr rfl fun k _ => by rw [hg k, ← EReal.coe_mul]]
    exact (map_sum (⟨⟨Real.toEReal, EReal.coe_zero⟩, EReal.coe_add⟩ : ℝ →+ EReal) (fun k => g k * g k) Finset.univ).symm
  have em : ms h = (((∑ k, g k * g k) * (1 / 1024) + e : ℝ) : EReal) := by
    unfold ms
    rw [es, width, ee, Ideal.div_coe (by norm_num), ← EReal.coe_mul, ← EReal.coe_add]
  have pos : 0 < (∑ k, g k * g k) * (1 / 1024) + e := by
    have : 0 ≤ ∑ k, g k * g k := Finset.sum_nonneg fun k _ => mul_self_nonneg _
    positivity
  unfold rs
  rw [em, Ideal.rsqrt_coe, if_neg (not_lt.mpr pos.le), if_neg pos.ne']
  exact ⟨_, rfl⟩

/-- With every factor real, the reference's sum of two products is the kernel's product. -/
theorem gate_form {s b a l : EReal} (hs : Fin' s) (hb : Fin' b) (ha : Fin' a) (hl : Fin' l) :
    s * b * l + a * (s * b) * (l * (1 - l)) = s * b * (l * (1 + a * (1 - l))) := by
  obtain ⟨s, rfl⟩ := hs; obtain ⟨b, rfl⟩ := hb; obtain ⟨a, rfl⟩ := ha; obtain ⟨l, rfl⟩ := hl
  rw [show (1 : EReal) = ((1 : ℝ) : EReal) from rfl]
  simp only [← EReal.coe_mul, ← EReal.coe_add, ← EReal.coe_sub]
  congr 1
  ring

/-- Every entry of the six arguments is real. -/
structure Reals : Prop where
  h0 : ∀ i, Fin' (x0 i)
  h1 : ∀ i, Fin' (x1 i)
  h2 : ∀ i, Fin' (x2 i)
  h3 : ∀ i, Fin' (x3 i)
  h4 : ∀ i, Fin' (x4 i)
  h5 : ∀ i, Fin' (x5 i)

variable {x0 x1 x2 x3 x4 x5}

theorem Reals.pa (R : Reals x0 x1 x2 x3 x4 x5) (r : Fin 8192) (j : Fin 2816) : Fin' (pa x0 x2 x3 r j) := by
  unfold Half.pa
  rw [v17_at]
  exact Fin'.sum fun k => (((R.h0 _).mul (rs_fin fun k => R.h0 _)).mul (R.h2 _)).mul (R.h3 _)

theorem Reals.pb (R : Reals x0 x1 x2 x3 x4 x5) (r : Fin 8192) (j : Fin 2816) : Fin' (pb x0 x2 x4 r j) := by
  unfold Half.pb
  rw [v19_at]
  exact Fin'.sum fun k => (((R.h0 _).mul (rs_fin fun k => R.h0 _)).mul (R.h2 _)).mul (R.h4 _)

theorem Reals.ds (R : Reals x0 x1 x2 x3 x4 x5) (r : Fin 8192) (j : Fin 2816) : Fin' (ds (rowH x1 r) (down x5) j) :=
  Fin'.sum fun k => (half_fin.mul (R.h1 _)).mul (R.h5 _)

theorem v32_at (R : Reals x0 x1 x2 x3 x4 x5) (r : Fin 8192) (j : Fin 2816) :
    val_main_v32 (F := Ideal) x0 x1 x2 x3 x4 x5 (ix2 r j) = da (rowH x1 r) (pa x0 x2 x3 r) (pb x0 x2 x4 r) (down x5) j :=
  (v32_form x0 x1 x2 x3 x4 x5 r j).trans (gate_form (R.ds r j) (R.pb r j) (R.pa r j) (R.pa r j).logistic)

theorem v34_at (R : Reals x0 x1 x2 x3 x4 x5) (r : Fin 8192) (c : Fin 1024) :
    val_main_v34 (F := Ideal) x0 x1 x2 x3 x4 x5 (ix2 r c) = dn (rowH x1 r) (pa x0 x2 x3 r) (pb x0 x2 x4 r) (turned x3) (turned x4) (down x5) c := by
  unfold dn
  refine Eq.trans (b := ∑ j : Fin 2816, val_main_v29 (F := Ideal) x0 x1 x2 x3 x5 (ix2 r j) * x4 (ix2 c j) + ∑ j : Fin 2816, val_main_v32 (F := Ideal) x0 x1 x2 x3 x4 x5 (ix2 r j) * x3 (ix2 c j)) ?_ ?_
  · pointwise [val_main_v34, val_main_v31, val_main_v33]
  · rw [add_comm]
    exact congrArg₂ (· + ·) (Finset.sum_congr rfl fun j _ => by rw [v32_at R]) (Finset.sum_congr rfl fun j _ => by rw [v29_at])

/-- The reference computes the projections a second time for these two results, from the same lines. -/
theorem again_norm : val_main_v70 (F := Ideal) x0 x2 = val_main_v16 (F := Ideal) x0 x2 := rfl

theorem again_gate : val_main_v71 (F := Ideal) x0 x2 x3 = val_main_v17 (F := Ideal) x0 x2 x3 := by
  unfold val_main_v71 val_main_v17
  rw [again_norm]

theorem again_up : val_main_v72 (F := Ideal) x0 x2 x4 = val_main_v19 (F := Ideal) x0 x2 x4 := by
  unfold val_main_v72 val_main_v19
  rw [again_norm]

theorem v80_at (r : Fin 8192) (j : Fin 2816) : val_main_v80 (F := Ideal) x1 x5 (ix2 r j) = ds (rowH x1 r) (down x5) j := by
  unfold ds
  pointwise [val_main_v80, val_main_v79, val_main_v78, val_main_cst_14]

theorem again_sig (r : Fin 8192) (j : Fin 2816) : val_main_v73_2 (F := Ideal) x0 x2 x3 (ix2 r j) = Ideal.logistic (pa x0 x2 x3 r j) := by
  unfold Half.pa
  rw [← again_gate]
  pointwise [val_main_v73_2, val_main_call2_v4, val_main_call2_v3, val_main_call2_v2, val_main_call2_v1, val_main_call2_v0, val_main_call2_cst, val_main_call2_cst_0]
  rfl

/-- The reference's gradient of the gate projection. -/
theorem v84_at (R : Reals x0 x1 x2 x3 x4 x5) (r : Fin 8192) (j : Fin 2816) :
    val_main_v84 (F := Ideal) x0 x1 x2 x3 x4 x5 (ix2 r j) = da (rowH x1 r) (pa x0 x2 x3 r) (pb x0 x2 x4 r) (down x5) j := by
  refine Eq.trans ?_ (gate_form (R.ds r j) (R.pb r j) (R.pa r j) (R.pa r j).logistic)
  rw [← v80_at, ← again_sig]
  unfold Half.pa Half.pb
  rw [← again_gate, ← again_up]
  pointwise [val_main_v84, val_main_v83, val_main_call3_v0, val_main_call3_v1, val_main_call3_v2, val_main_v82, val_main_v73_1, val_main_call2_v7, val_main_call2_v6, val_main_call2_cst_1]

/-- The reference's gradient of the up projection. -/
theorem v85_at (r : Fin 8192) (j : Fin 2816) :
    val_main_v85 (F := Ideal) x0 x1 x2 x3 x5 (ix2 r j) = db (rowH x1 r) (pa x0 x2 x3 r) (down x5) j := by
  unfold db
  rw [← v80_at, ← again_sig, mul_comm]
  unfold Half.pa
  rw [← again_gate]
  pointwise [val_main_v85, val_main_v81, val_main_v73_0]

theorem v50_at (R : Reals x0 x1 x2 x3 x4 x5) (r : Fin 8192) :
    val_main_v50 (F := Ideal) x0 x1 x2 x3 x4 x5 (ix1 r) = back (rowH x0 r) (gain x2) (dn (rowH x1 r) (pa x0 x2 x3 r) (pb x0 x2 x4 r) (turned x3) (turned x4) (down x5)) := by
  unfold back
  rw [← v11_at]
  refine Eq.trans (b := ∑ x : Fin 1, Ideal.div ((∑ k : Fin 1024, x0 (ix2 r k) * (val_main_v34 (F := Ideal) x0 x1 x2 x3 x4 x5 (ix2 r k) * x2 (ix2 0 k))) * val_main_v11 (F := Ideal) x0 (ix2 r 0)) (Ideal.ofBits FTy.f32 0x44800000#32)) ?_ ?_
  · pointwise [val_main_v50, val_main_v49, val_main_v48, val_main_v47, val_main_v43, val_main_v42, val_main_v41, val_main_v39, val_main_v38, val_main_v14, val_main_v0, val_main_cst_7, val_main_cst_8, val_main_cst_9]
    exact Finset.sum_congr rfl fun x _ => by rw [Subsingleton.elim x 0]
  · simp only [v34_at R]

/-- The reference's gradient of the rows. -/
theorem v55_at (R : Reals x0 x1 x2 x3 x4 x5) (r : Fin 8192) (c : Fin 1024) :
    val_main_v55 (F := Ideal) x0 x1 x2 x3 x4 x5 (ix2 r c) = dh (rowH x0 r) (rowH x1 r) (gain x2) (dn (rowH x1 r) (pa x0 x2 x3 r) (pb x0 x2 x4 r) (turned x3) (turned x4) (down x5)) c := by
  unfold dh
  rw [← v50_at R, ← v34_at R, ← v8_at]
  pointwise [val_main_v55, val_main_v54, val_main_v53, val_main_v52, val_main_v51, val_main_v46, val_main_v45, val_main_v44, val_main_v39, val_main_v38, val_main_v14, val_main_v0]
  simp only [add_assoc]

/-- The reference's gradient of the gain. -/
theorem v56_at (R : Reals x0 x1 x2 x3 x4 x5) (c : Fin 1024) :
    val_main_v56 (F := Ideal) x0 x1 x2 x3 x4 x5 (ix2 0 c) = ∑ r : Fin 8192, dg (rowH x0 r) (dn (rowH x1 r) (pa x0 x2 x3 r) (pb x0 x2 x4 r) (turned x3) (turned x4) (down x5)) c := by
  refine Eq.trans (b := ∑ r : Fin 8192, val_main_v13 (F := Ideal) x0 (ix2 r c) * val_main_v34 (F := Ideal) x0 x1 x2 x3 x4 x5 (ix2 r c)) ?_ ?_
  · pointwise [val_main_v56, val_main_v40, val_main_v37, val_main_v36, val_main_v35, val_main_cst_5, val_main_cst_6]
    exact Fin.sum_univ_one _
  · exact Finset.sum_congr rfl fun r _ => by rw [v34_at R, v13_at]; rfl

end Cert.Half
-- ==== Proof.Host.lean ====
module

public import proofs.«01_k».proof.Proof.Gen.Kernel2Ideal.Frame.Runs
public import Idealize.ShloMosaic.Lib.StableHlo.RunRead
public import Idealize.ShloMosaic.Lib.StableHlo.ReadAt
public import Idealize.ShloMosaic.Lib.Pointwise
public import Idealize.ShloMosaic.Lib.Tactic

@[expose] public section

noncomputable section

namespace Cert.Kernel2Ideal.Host

open Cert.Kernel2Ideal Cert.Kernel2Ideal.Gen Idealize.ShloMosaic Idealize.ShloMosaic.TcCoe Idealize.SL.Sem
open Idealize.ShloMosaic (ix1 ix2 ix3 ix4)

variable (m : (ℓ : Loc nD τ sig) → Buf (Elt Ideal) ℓ) (c : Dev nD)

/-- Three rows of numbers one after another, cut into rows of 1024. -/
def join (x y z : Vec Ideal S360448 .bf16) : Vec Ideal S1056x1024 .bf16 :=
  shapeCast S1056x1024 (pad S1081344 ![0] ![0] ![0]
    (concatenate S1081344 0 [⟨S360448, x⟩, ⟨S360448, y⟩, ⟨S360448, z⟩] concatenates_S360448_S360448_S360448_S1081344_d0 : Vec Ideal S1081344 .bf16)
    (sitofp (F := Ideal) .bf16 (constantI S_ 32 0#32)) pads_S1081344_S1081344_000 h_S_) shapeCasts_S1081344_S1056x1024

/-- The columns of a shard as rows of numbers. -/
def turned (g : Vec Ideal S1024x352 .f32) : Vec Ideal S360448 .bf16 :=
  shapeCast S360448 (transpose S352x1024 [1, 0] (truncf (F := Ideal) .bf16 g bitsLt_bf16_f32) transposes_S1024x352_S352x1024_1_0 : Vec Ideal S352x1024 .bf16) shapeCasts_S352x1024_S360448

/-- The rows of a shard. -/
def straight (d : Vec Ideal S352x1024 .f32) : Vec Ideal S360448 .bf16 :=
  shapeCast S360448 (truncf (F := Ideal) .bf16 d bitsLt_bf16_f32) shapeCasts_S352x1024_S360448

theorem turned_at (g : Vec Ideal S1024x352 .f32) (r : Fin 352) (k : Fin 1024) : turned g (ix1 ⟨r.val * 1024 + k.val, by omega⟩) = g (ix2 k r) := by
  pointwise [turned]

theorem straight_at (g : Vec Ideal S352x1024 .f32) (r : Fin 352) (k : Fin 1024) : straight g (ix1 ⟨r.val * 1024 + k.val, by omega⟩) = g (ix2 r k) := by
  pointwise [straight]

theorem join0 (x y z : Vec Ideal S360448 .bf16) (r : Fin 352) (k : Fin 1024) :
    join x y z (ix2 ⟨r.val, by omega⟩ k) = x (ix1 ⟨r.val * 1024 + k.val, by omega⟩) := by
  pointwise [join]
  rw [dif_pos (by omega), dif_pos (by omega)]

theorem join1 (x y z : Vec Ideal S360448 .bf16) (r : Fin 352) (k : Fin 1024) :
    join x y z (ix2 ⟨352 + r.val, by omega⟩ k) = y (ix1 ⟨r.val * 1024 + k.val, by omega⟩) := by
  pointwise [join]
  rw [dif_pos (by omega), dif_neg (by omega), dif_pos (by omega)]
  exact congrArg (fun i => y (ix1 i)) (Fin.ext (by show _ = r.val * 1024 + k.val; simp only; omega))

theorem join2 (x y z : Vec Ideal S360448 .bf16) (r : Fin 352) (k : Fin 1024) :
    join x y z (ix2 ⟨704 + r.val, by omega⟩ k) = z (ix1 ⟨r.val * 1024 + k.val, by omega⟩) := by
  pointwise [join]
  rw [dif_pos (by omega), dif_neg (by omega), dif_neg (by omega)]
  exact congrArg (fun i => z (ix1 i)) (Fin.ext (by show _ = r.val * 1024 + k.val; simp only; omega))

/-- A shard's packed weights. -/
def pack (g u : Vec Ideal S1024x352 .f32) (d : Vec Ideal S352x1024 .f32) : Vec Ideal S1056x1024 .bf16 := join (turned g) (turned u) (straight d)

/-- One layer of a stack. -/
def layer (x : Vec Ideal S1056x1024 .bf16) : Vec Ideal S1x1056x1024 .bf16 := broadcastInDim S1x1056x1024 ![1, 2] bcast_S1056x1024_S1x1056x1024_1_2 x

/-- Eight shards one on another. -/
def stack (x0 x1 x2 x3 x4 x5 x6 x7 : Vec Ideal S1x1056x1024 .bf16) : Vec Ideal S8x1056x1024 .bf16 :=
  concatenate S8x1056x1024 0 [⟨S1x1056x1024, x0⟩, ⟨S1x1056x1024, x1⟩, ⟨S1x1056x1024, x2⟩, ⟨S1x1056x1024, x3⟩, ⟨S1x1056x1024, x4⟩, ⟨S1x1056x1024, x5⟩, ⟨S1x1056x1024, x6⟩, ⟨S1x1056x1024, x7⟩]
    concatenates_S1x1056x1024_S1x1056x1024_S1x1056x1024_S1x1056x1024_S1x1056x1024_S1x1056x1024_S1x1056x1024_S1x1056x1024_S8x1056x1024_d0

abbrev H : Vec Ideal S8192x1024 .f32 := m ((c : Thread nD τ).loc main_arg0)
abbrev NormW : Vec Ideal S1x1024 .f32 := m ((c : Thread nD τ).loc main_arg2)
abbrev WG : Vec Ideal S1024x2816 .f32 := m ((c : Thread nD τ).loc main_arg3)
abbrev WU : Vec Ideal S1024x2816 .f32 := m ((c : Thread nD τ).loc main_arg4)
abbrev WD : Vec Ideal S2816x1024 .f32 := m ((c : Thread nD τ).loc main_arg5)

/-- The stack of the weights' shards. -/
def shards (g u : Vec Ideal S1024x2816 .f32) (d : Vec Ideal S2816x1024 .f32) : Vec Ideal S8x1056x1024 .bf16 :=
  stack (layer (pack (extractStridedSlice S1024x352 ![0, 0] g slices_S1024x2816_S1024x352_0_0) (extractStridedSlice S1024x352 ![0, 0] u slices_S1024x2816_S1024x352_0_0) (extractStridedSlice S352x1024 ![0, 0] d slices_S2816x1024_S352x1024_0_0)))
    (layer (pack (extractStridedSlice S1024x352 ![0, 352] g slices_S1024x2816_S1024x352_0_352) (extractStridedSlice S1024x352 ![0, 352] u slices_S1024x2816_S1024x352_0_352) (extractStridedSlice S352x1024 ![352, 0] d slices_S2816x1024_S352x1024_352_0)))
    (layer (pack (extractStridedSlice S1024x352 ![0, 704] g slices_S1024x2816_S1024x352_0_704) (extractStridedSlice S1024x352 ![0, 704] u slices_S1024x2816_S1024x352_0_704) (extractStridedSlice S352x1024 ![704, 0] d slices_S2816x1024_S352x1024_704_0)))
    (layer (pack (extractStridedSlice S1024x352 ![0, 1056] g slices_S1024x2816_S1024x352_0_1056) (extractStridedSlice S1024x352 ![0, 1056] u slices_S1024x2816_S1024x352_0_1056) (extractStridedSlice S352x1024 ![1056, 0] d slices_S2816x1024_S352x1024_1056_0)))
    (layer (pack (extractStridedSlice S1024x352 ![0, 1408] g slices_S1024x2816_S1024x352_0_1408) (extractStridedSlice S1024x352 ![0, 1408] u slices_S1024x2816_S1024x352_0_1408) (extractStridedSlice S352x1024 ![1408, 0] d slices_S2816x1024_S352x1024_1408_0)))
    (layer (pack (extractStridedSlice S1024x352 ![0, 1760] g slices_S1024x2816_S1024x352_0_1760) (extractStridedSlice S1024x352 ![0, 1760] u slices_S1024x2816_S1024x352_0_1760) (extractStridedSlice S352x1024 ![1760, 0] d slices_S2816x1024_S352x1024_1760_0)))
    (layer (pack (extractStridedSlice S1024x352 ![0, 2112] g slices_S1024x2816_S1024x352_0_2112) (extractStridedSlice S1024x352 ![0, 2112] u slices_S1024x2816_S1024x352_0_2112) (extractStridedSlice S352x1024 ![2112, 0] d slices_S2816x1024_S352x1024_2112_0)))
    (layer (pack (extractStridedSlice S1024x352 ![0, 2464] g slices_S1024x2816_S1024x352_0_2464) (extractStridedSlice S1024x352 ![0, 2464] u slices_S1024x2816_S1024x352_0_2464) (extractStridedSlice S352x1024 ![2464, 0] d slices_S2816x1024_S352x1024_2464_0)))

set_option maxHeartbeats 16000000 in
theorem v136 : V m c main_v136 = shards (WG m c) (WU m c) (WD m c) := by
  unfold V
  after_reads_simp
  show stack _ _ _ _ _ _ _ _ = stack _ _ _ _ _ _ _ _
  congr 1

set_option maxHeartbeats 16000000 in
theorem v257 : V m c main_v257 = shards (WG m c) (WU m c) (WD m c) := by
  unfold V
  after_reads_simp
  show stack _ _ _ _ _ _ _ _ = stack _ _ _ _ _ _ _ _
  congr 1

set_option maxHeartbeats 16000000 in
theorem v378 : V m c main_v378 = shards (WG m c) (WU m c) (WD m c) := by
  unfold V
  after_reads_simp
  show stack _ _ _ _ _ _ _ _ = stack _ _ _ _ _ _ _ _
  congr 1

/-- A product of the normalised rows, narrowed. -/
def product (h : Vec Ideal S8192x1024 .f32) (n : Vec Ideal S1x1024 .f32) (w : Vec Ideal S1024x2816 .f32) : Vec Ideal S8192x2816 .bf16 :=
  truncf (F := Ideal) .bf16 (Host.dotGeneral (F := Ideal) (φ₁ := .f32) (φ₂ := .f32) dot_S8192x1024_S1024x2816_S8192x2816_1_0_0_1_n_n none
    (mulf (mulf h (broadcastInDim S8192x1024 ![0, 1] bcast_S8192x1_S8192x1024_0_1 (Host.rsqrt (F := Ideal) (addf
        (Host.divf (F := Ideal) (broadcastInDim S8192x1 ![0] bcast_S8192_S8192x1_0
            (Host.reduceAdd (F := Ideal) (mulf h h) (constant S_ FTy.f32 0#32) reducesTo_S8192x1024_S8192_d1 h_S_))
          (broadcastInDim S8192x1 ![] bcast_S_S8192x1 (constant S_ FTy.f32 1149239296#32)))
        (broadcastInDim S8192x1 ![] bcast_S_S8192x1 (constant S_ FTy.f32 897988541#32))))))
      (broadcastInDim S8192x1024 ![0, 1] bcast_S1x1024_S8192x1024_0_1 (broadcastInDim S1x1024 ![1] bcast_S1024_S1x1024_1
        (shapeCast S1024 n shapeCasts_S1x1024_S1024 : Vec Ideal S1024 .f32)))) w) bitsLt_bf16_f32

theorem product_at (h : Vec Ideal S8192x1024 .f32) (n : Vec Ideal S1x1024 .f32) (w : Vec Ideal S1024x2816 .f32) (r : Fin 8192) (j : Fin 2816) :
    product h n w (ix2 r j) = ∑ x : Fin 1024, h (ix2 r x) * Ideal.rsqrt (Ideal.div (∑ x : Fin 1024, h (ix2 r x) * h (ix2 r x)) (Ideal.ofBits FTy.f32 1149239296#32) + Ideal.ofBits FTy.f32 897988541#32) * n (ix2 0 x) * w (ix2 x j) := by
  pointwise [product]

set_option maxHeartbeats 16000000 in
theorem v379 : V m c main_v379 = product (H m c) (NormW m c) (WG m c) := by
  unfold V
  after_reads_simp
  try rfl

set_option maxHeartbeats 16000000 in
theorem v380 : V m c main_v380 = product (H m c) (NormW m c) (WU m c) := by
  unfold V
  after_reads_simp
  try rfl

theorem layer_at (x : Vec Ideal S1056x1024 .bf16) (r : Fin 1056) (k : Fin 1024) : layer x (ix3 0 r k) = x (ix2 r k) := by
  pointwise [layer]

theorem shards_gate (g u : Vec Ideal S1024x2816 .f32) (d : Vec Ideal S2816x1024 .f32) (j : Fin 8) (r : Fin 352) (k : Fin 1024) :
    shards g u d (ix3 j ⟨r.val, by omega⟩ k) = g (ix2 k ⟨352 * j.val + r.val, by omega⟩) := by
  fin_cases j
  · refine (show shards g u d (ix3 0 ⟨r.val, by omega⟩ k) = layer (pack (extractStridedSlice S1024x352 ![0, 0] g slices_S1024x2816_S1024x352_0_0) (extractStridedSlice S1024x352 ![0, 0] u slices_S1024x2816_S1024x352_0_0) (extractStridedSlice S352x1024 ![0, 0] d slices_S2816x1024_S352x1024_0_0)) (ix3 0 ⟨r.val, by omega⟩ k) by pointwise [shards, stack]).trans ?_
    rw [layer_at]
    unfold pack
    rw [join0, turned_at]
    pointwise []
  · refine (show shards g u d (ix3 1 ⟨r.val, by omega⟩ k) = layer (pack (extractStridedSlice S1024x352 ![0, 352] g slices_S1024x2816_S1024x352_0_352) (extractStridedSlice S1024x352 ![0, 352] u slices_S1024x2816_S1024x352_0_352) (extractStridedSlice S352x1024 ![352, 0] d slices_S2816x1024_S352x1024_352_0)) (ix3 0 ⟨r.val, by omega⟩ k) by pointwise [shards, stack]).trans ?_
    rw [layer_at]
    unfold pack
    rw [join0, turned_at]
    pointwise []
  · refine (show shards g u d (ix3 2 ⟨r.val, by omega⟩ k) = layer (pack (extractStridedSlice S1024x352 ![0, 704] g slices_S1024x2816_S1024x352_0_704) (extractStridedSlice S1024x352 ![0, 704] u slices_S1024x2816_S1024x352_0_704) (extractStridedSlice S352x1024 ![704, 0] d slices_S2816x1024_S352x1024_704_0)) (ix3 0 ⟨r.val, by omega⟩ k) by pointwise [shards, stack]).trans ?_
    rw [layer_at]
    unfold pack
    rw [join0, turned_at]
    pointwise []
  · refine (show shards g u d (ix3 3 ⟨r.val, by omega⟩ k) = layer (pack (extractStridedSlice S1024x352 ![0, 1056] g slices_S1024x2816_S1024x352_0_1056) (extractStridedSlice S1024x352 ![0, 1056] u slices_S1024x2816_S1024x352_0_1056) (extractStridedSlice S352x1024 ![1056, 0] d slices_S2816x1024_S352x1024_1056_0)) (ix3 0 ⟨r.val, by omega⟩ k) by pointwise [shards, stack]).trans ?_
    rw [layer_at]
    unfold pack
    rw [join0, turned_at]
    pointwise []
  · refine (show shards g u d (ix3 4 ⟨r.val, by omega⟩ k) = layer (pack (extractStridedSlice S1024x352 ![0, 1408] g slices_S1024x2816_S1024x352_0_1408) (extractStridedSlice S1024x352 ![0, 1408] u slices_S1024x2816_S1024x352_0_1408) (extractStridedSlice S352x1024 ![1408, 0] d slices_S2816x1024_S352x1024_1408_0)) (ix3 0 ⟨r.val, by omega⟩ k) by pointwise [shards, stack]).trans ?_
    rw [layer_at]
    unfold pack
    rw [join0, turned_at]
    pointwise []
  · refine (show shards g u d (ix3 5 ⟨r.val, by omega⟩ k) = layer (pack (extractStridedSlice S1024x352 ![0, 1760] g slices_S1024x2816_S1024x352_0_1760) (extractStridedSlice S1024x352 ![0, 1760] u slices_S1024x2816_S1024x352_0_1760) (extractStridedSlice S352x1024 ![1760, 0] d slices_S2816x1024_S352x1024_1760_0)) (ix3 0 ⟨r.val, by omega⟩ k) by pointwise [shards, stack]).trans ?_
    rw [layer_at]
    unfold pack
    rw [join0, turned_at]
    pointwise []
  · refine (show shards g u d (ix3 6 ⟨r.val, by omega⟩ k) = layer (pack (extractStridedSlice S1024x352 ![0, 2112] g slices_S1024x2816_S1024x352_0_2112) (extractStridedSlice S1024x352 ![0, 2112] u slices_S1024x2816_S1024x352_0_2112) (extractStridedSlice S352x1024 ![2112, 0] d slices_S2816x1024_S352x1024_2112_0)) (ix3 0 ⟨r.val, by omega⟩ k) by pointwise [shards, stack]).trans ?_
    rw [layer_at]
    unfold pack
    rw [join0, turned_at]
    pointwise []
  · refine (show shards g u d (ix3 7 ⟨r.val, by omega⟩ k) = layer (pack (extractStridedSlice S1024x352 ![0, 2464] g slices_S1024x2816_S1024x352_0_2464) (extractStridedSlice S1024x352 ![0, 2464] u slices_S1024x2816_S1024x352_0_2464) (extractStridedSlice S352x1024 ![2464, 0] d slices_S2816x1024_S352x1024_2464_0)) (ix3 0 ⟨r.val, by omega⟩ k) by pointwise [shards, stack]).trans ?_
    rw [layer_at]
    unfold pack
    rw [join0, turned_at]
    pointwise []

theorem shards_up (g u : Vec Ideal S1024x2816 .f32) (d : Vec Ideal S2816x1024 .f32) (j : Fin 8) (r : Fin 352) (k : Fin 1024) :
    shards g u d (ix3 j ⟨352 + r.val, by omega⟩ k) = u (ix2 k ⟨352 * j.val + r.val, by omega⟩) := by
  fin_cases j
  · refine (show shards g u d (ix3 0 ⟨352 + r.val, by omega⟩ k) = layer (pack (extractStridedSlice S1024x352 ![0, 0] g slices_S1024x2816_S1024x352_0_0) (extractStridedSlice S1024x352 ![0, 0] u slices_S1024x2816_S1024x352_0_0) (extractStridedSlice S352x1024 ![0, 0] d slices_S2816x1024_S352x1024_0_0)) (ix3 0 ⟨352 + r.val, by omega⟩ k) by pointwise [shards, stack]).trans ?_
    rw [layer_at]
    unfold pack
    rw [join1, turned_at]
    pointwise []
  · refine (show shards g u d (ix3 1 ⟨352 + r.val, by omega⟩ k) = layer (pack (extractStridedSlice S1024x352 ![0, 352] g slices_S1024x2816_S1024x352_0_352) (extractStridedSlice S1024x352 ![0, 352] u slices_S1024x2816_S1024x352_0_352) (extractStridedSlice S352x1024 ![352, 0] d slices_S2816x1024_S352x1024_352_0)) (ix3 0 ⟨352 + r.val, by omega⟩ k) by pointwise [shards, stack]).trans ?_
    rw [layer_at]
    unfold pack
    rw [join1, turned_at]
    pointwise []
  · refine (show shards g u d (ix3 2 ⟨352 + r.val, by omega⟩ k) = layer (pack (extractStridedSlice S1024x352 ![0, 704] g slices_S1024x2816_S1024x352_0_704) (extractStridedSlice S1024x352 ![0, 704] u slices_S1024x2816_S1024x352_0_704) (extractStridedSlice S352x1024 ![704, 0] d slices_S2816x1024_S352x1024_704_0)) (ix3 0 ⟨352 + r.val, by omega⟩ k) by pointwise [shards, stack]).trans ?_
    rw [layer_at]
    unfold pack
    rw [join1, turned_at]
    pointwise []
  · refine (show shards g u d (ix3 3 ⟨352 + r.val, by omega⟩ k) = layer (pack (extractStridedSlice S1024x352 ![0, 1056] g slices_S1024x2816_S1024x352_0_1056) (extractStridedSlice S1024x352 ![0, 1056] u slices_S1024x2816_S1024x352_0_1056) (extractStridedSlice S352x1024 ![1056, 0] d slices_S2816x1024_S352x1024_1056_0)) (ix3 0 ⟨352 + r.val, by omega⟩ k) by pointwise [shards, stack]).trans ?_
    rw [layer_at]
    unfold pack
    rw [join1, turned_at]
    pointwise []
  · refine (show shards g u d (ix3 4 ⟨352 + r.val, by omega⟩ k) = layer (pack (extractStridedSlice S1024x352 ![0, 1408] g slices_S1024x2816_S1024x352_0_1408) (extractStridedSlice S1024x352 ![0, 1408] u slices_S1024x2816_S1024x352_0_1408) (extractStridedSlice S352x1024 ![1408, 0] d slices_S2816x1024_S352x1024_1408_0)) (ix3 0 ⟨352 + r.val, by omega⟩ k) by pointwise [shards, stack]).trans ?_
    rw [layer_at]
    unfold pack
    rw [join1, turned_at]
    pointwise []
  · refine (show shards g u d (ix3 5 ⟨352 + r.val, by omega⟩ k) = layer (pack (extractStridedSlice S1024x352 ![0, 1760] g slices_S1024x2816_S1024x352_0_1760) (extractStridedSlice S1024x352 ![0, 1760] u slices_S1024x2816_S1024x352_0_1760) (extractStridedSlice S352x1024 ![1760, 0] d slices_S2816x1024_S352x1024_1760_0)) (ix3 0 ⟨352 + r.val, by omega⟩ k) by pointwise [shards, stack]).trans ?_
    rw [layer_at]
    unfold pack
    rw [join1, turned_at]
    pointwise []
  · refine (show shards g u d (ix3 6 ⟨352 + r.val, by omega⟩ k) = layer (pack (extractStridedSlice S1024x352 ![0, 2112] g slices_S1024x2816_S1024x352_0_2112) (extractStridedSlice S1024x352 ![0, 2112] u slices_S1024x2816_S1024x352_0_2112) (extractStridedSlice S352x1024 ![2112, 0] d slices_S2816x1024_S352x1024_2112_0)) (ix3 0 ⟨352 + r.val, by omega⟩ k) by pointwise [shards, stack]).trans ?_
    rw [layer_at]
    unfold pack
    rw [join1, turned_at]
    pointwise []
  · refine (show shards g u d (ix3 7 ⟨352 + r.val, by omega⟩ k) = layer (pack (extractStridedSlice S1024x352 ![0, 2464] g slices_S1024x2816_S1024x352_0_2464) (extractStridedSlice S1024x352 ![0, 2464] u slices_S1024x2816_S1024x352_0_2464) (extractStridedSlice S352x1024 ![2464, 0] d slices_S2816x1024_S352x1024_2464_0)) (ix3 0 ⟨352 + r.val, by omega⟩ k) by pointwise [shards, stack]).trans ?_
    rw [layer_at]
    unfold pack
    rw [join1, turned_at]
    pointwise []

theorem shards_down (g u : Vec Ideal S1024x2816 .f32) (d : Vec Ideal S2816x1024 .f32) (j : Fin 8) (r : Fin 352) (k : Fin 1024) :
    shards g u d (ix3 j ⟨704 + r.val, by omega⟩ k) = d (ix2 ⟨352 * j.val + r.val, by omega⟩ k) := by
  fin_cases j
  · refine (show shards g u d (ix3 0 ⟨704 + r.val, by omega⟩ k) = layer (pack (extractStridedSlice S1024x352 ![0, 0] g slices_S1024x2816_S1024x352_0_0) (extractStridedSlice S1024x352 ![0, 0] u slices_S1024x2816_S1024x352_0_0) (extractStridedSlice S352x1024 ![0, 0] d slices_S2816x1024_S352x1024_0_0)) (ix3 0 ⟨704 + r.val, by omega⟩ k) by pointwise [shards, stack]).trans ?_
    rw [layer_at]
    unfold pack
    rw [join2, straight_at]
    pointwise []
  · refine (show shards g u d (ix3 1 ⟨704 + r.val, by omega⟩ k) = layer (pack (extractStridedSlice S1024x352 ![0, 352] g slices_S1024x2816_S1024x352_0_352) (extractStridedSlice S1024x352 ![0, 352] u slices_S1024x2816_S1024x352_0_352) (extractStridedSlice S352x1024 ![352, 0] d slices_S2816x1024_S352x1024_352_0)) (ix3 0 ⟨704 + r.val, by omega⟩ k) by pointwise [shards, stack]).trans ?_
    rw [layer_at]
    unfold pack
    rw [join2, straight_at]
    pointwise []
  · refine (show shards g u d (ix3 2 ⟨704 + r.val, by omega⟩ k) = layer (pack (extractStridedSlice S1024x352 ![0, 704] g slices_S1024x2816_S1024x352_0_704) (extractStridedSlice S1024x352 ![0, 704] u slices_S1024x2816_S1024x352_0_704) (extractStridedSlice S352x1024 ![704, 0] d slices_S2816x1024_S352x1024_704_0)) (ix3 0 ⟨704 + r.val, by omega⟩ k) by pointwise [shards, stack]).trans ?_
    rw [layer_at]
    unfold pack
    rw [join2, straight_at]
    pointwise []
  · refine (show shards g u d (ix3 3 ⟨704 + r.val, by omega⟩ k) = layer (pack (extractStridedSlice S1024x352 ![0, 1056] g slices_S1024x2816_S1024x352_0_1056) (extractStridedSlice S1024x352 ![0, 1056] u slices_S1024x2816_S1024x352_0_1056) (extractStridedSlice S352x1024 ![1056, 0] d slices_S2816x1024_S352x1024_1056_0)) (ix3 0 ⟨704 + r.val, by omega⟩ k) by pointwise [shards, stack]).trans ?_
    rw [layer_at]
    unfold pack
    rw [join2, straight_at]
    pointwise []
  · refine (show shards g u d (ix3 4 ⟨704 + r.val, by omega⟩ k) = layer (pack (extractStridedSlice S1024x352 ![0, 1408] g slices_S1024x2816_S1024x352_0_1408) (extractStridedSlice S1024x352 ![0, 1408] u slices_S1024x2816_S1024x352_0_1408) (extractStridedSlice S352x1024 ![1408, 0] d slices_S2816x1024_S352x1024_1408_0)) (ix3 0 ⟨704 + r.val, by omega⟩ k) by pointwise [shards, stack]).trans ?_
    rw [layer_at]
    unfold pack
    rw [join2, straight_at]
    pointwise []
  · refine (show shards g u d (ix3 5 ⟨704 + r.val, by omega⟩ k) = layer (pack (extractStridedSlice S1024x352 ![0, 1760] g slices_S1024x2816_S1024x352_0_1760) (extractStridedSlice S1024x352 ![0, 1760] u slices_S1024x2816_S1024x352_0_1760) (extractStridedSlice S352x1024 ![1760, 0] d slices_S2816x1024_S352x1024_1760_0)) (ix3 0 ⟨704 + r.val, by omega⟩ k) by pointwise [shards, stack]).trans ?_
    rw [layer_at]
    unfold pack
    rw [join2, straight_at]
    pointwise []
  · refine (show shards g u d (ix3 6 ⟨704 + r.val, by omega⟩ k) = layer (pack (extractStridedSlice S1024x352 ![0, 2112] g slices_S1024x2816_S1024x352_0_2112) (extractStridedSlice S1024x352 ![0, 2112] u slices_S1024x2816_S1024x352_0_2112) (extractStridedSlice S352x1024 ![2112, 0] d slices_S2816x1024_S352x1024_2112_0)) (ix3 0 ⟨704 + r.val, by omega⟩ k) by pointwise [shards, stack]).trans ?_
    rw [layer_at]
    unfold pack
    rw [join2, straight_at]
    pointwise []
  · refine (show shards g u d (ix3 7 ⟨704 + r.val, by omega⟩ k) = layer (pack (extractStridedSlice S1024x352 ![0, 2464] g slices_S1024x2816_S1024x352_0_2464) (extractStridedSlice S1024x352 ![0, 2464] u slices_S1024x2816_S1024x352_0_2464) (extractStridedSlice S352x1024 ![2464, 0] d slices_S2816x1024_S352x1024_2464_0)) (ix3 0 ⟨704 + r.val, by omega⟩ k) by pointwise [shards, stack]).trans ?_
    rw [layer_at]
    unfold pack
    rw [join2, straight_at]
    pointwise []

end Cert.Kernel2Ideal.Host
-- ==== Proof.Ffn.Block.lean ====
module

public import proofs.«01_k».proof.Proof.Ffn.Stores
public import proofs.«01_k».proof.Proof.Half
public import proofs.«01_k».proof.Proof.Host
public import Idealize.ShloMosaic.Lib.Pointwise
public import Idealize.ShloMosaic.Lib.Tactic

@[expose] public section

noncomputable section

namespace Cert.Kernel2Ideal.Body

open Cert.Kernel2Ideal Cert.Kernel2Ideal.Gen Idealize.ShloMosaic Idealize.ShloMosaic.TcCoe Idealize.SL.Sem
open Idealize.ShloMosaic.Pipeline (Dat)
open Idealize.ShloMosaic (ix1 ix2 ix3 ix4)

/-! ## The copied weights -/

/-- Eight groups of rows one after another. -/
def groups (p : Fin 8 → Vec Ideal S352x1024 .bf16) : Vec Ideal S2816x1024 .bf16 :=
  fun i => p ⟨(i 0 : Nat) / 352, by have := (i 0).isLt; change (i 0 : Nat) < 2816 at this; omega⟩ (ix2 ⟨(i 0 : Nat) % 352, by omega⟩ (i 1))

theorem groups_emb (p : Fin 8 → Vec Ideal S352x1024 .bf16) (j : Nat) (hj : j < 8) (o : Nat) (ho : o = 352 * j) (inb : ∀ a, (![o, 0] : Fin 2 → Nat) a + S352x1024.size a ≤ S2816x1024.size a)
    (x : S352x1024.Idx) : p ⟨j, hj⟩ x = groups p ((Rect.unit (s := S2816x1024) ![o, 0] S352x1024.size inb).emb x) := by
  have h0 : (x 0 : Nat) < 352 := (x 0).isLt
  have e0 : ((Rect.unit (s := S2816x1024) ![o, 0] S352x1024.size inb).emb x 0 : Nat) = o + (x 0 : Nat) := show o + 1 * (x 0 : Nat) = _ by omega
  have e1 : ((Rect.unit (s := S2816x1024) ![o, 0] S352x1024.size inb).emb x 1 : Nat) = (x 1 : Nat) := show 0 + 1 * (x 1 : Nat) = _ by omega
  unfold groups
  have a : (⟨((Rect.unit (s := S2816x1024) ![o, 0] S352x1024.size inb).emb x 0 : Nat) / 352, by rw [e0]; omega⟩ : Fin 8) = ⟨j, hj⟩ := Fin.ext (by show _ / 352 = j; rw [e0]; omega)
  rw [a]
  congr 1
  funext b
  match b with
  | ⟨0, _⟩ => exact Fin.ext (show (x 0 : Nat) = _ % 352 by rw [e0]; omega)
  | ⟨1, _⟩ => exact Fin.ext e1.symm

theorem canon_groups (p0 p1 p2 p3 p4 p5 p6 p7 : Vec Ideal S352x1024 .bf16) :
    View.canon (Val := Elt Ideal) [⟨Rect.unit (s := S2816x1024) ![2464, 0] S352x1024.size inb_S2816x1024_S352x1024_2464_0, p7⟩,
      ⟨Rect.unit (s := S2816x1024) ![2112, 0] S352x1024.size inb_S2816x1024_S352x1024_2112_0, p6⟩,
      ⟨Rect.unit (s := S2816x1024) ![1760, 0] S352x1024.size inb_S2816x1024_S352x1024_1760_0, p5⟩,
      ⟨Rect.unit (s := S2816x1024) ![1408, 0] S352x1024.size inb_S2816x1024_S352x1024_1408_0, p4⟩,
      ⟨Rect.unit (s := S2816x1024) ![1056, 0] S352x1024.size inb_S2816x1024_S352x1024_1056_0, p3⟩,
      ⟨Rect.unit (s := S2816x1024) ![704, 0] S352x1024.size inb_S2816x1024_S352x1024_704_0, p2⟩,
      ⟨Rect.unit (s := S2816x1024) ![352, 0] S352x1024.size inb_S2816x1024_S352x1024_352_0, p1⟩,
      ⟨Rect.unit (s := S2816x1024) ![0, 0] S352x1024.size inb_S2816x1024_S352x1024_0_0, p0⟩] = groups ![p0, p1, p2, p3, p4, p5, p6, p7] := by
  funext y
  refine View.canon_append_of_piecesOf (groups ![p0, p1, p2, p3, p4, p5, p6, p7]) [] [⟨Rect.unit (s := S2816x1024) ![2464, 0] S352x1024.size inb_S2816x1024_S352x1024_2464_0, p7⟩,
      ⟨Rect.unit (s := S2816x1024) ![2112, 0] S352x1024.size inb_S2816x1024_S352x1024_2112_0, p6⟩,
      ⟨Rect.unit (s := S2816x1024) ![1760, 0] S352x1024.size inb_S2816x1024_S352x1024_1760_0, p5⟩,
      ⟨Rect.unit (s := S2816x1024) ![1408, 0] S352x1024.size inb_S2816x1024_S352x1024_1408_0, p4⟩,
      ⟨Rect.unit (s := S2816x1024) ![1056, 0] S352x1024.size inb_S2816x1024_S352x1024_1056_0, p3⟩,
      ⟨Rect.unit (s := S2816x1024) ![704, 0] S352x1024.size inb_S2816x1024_S352x1024_704_0, p2⟩,
      ⟨Rect.unit (s := S2816x1024) ![352, 0] S352x1024.size inb_S2816x1024_S352x1024_352_0, p1⟩,
      ⟨Rect.unit (s := S2816x1024) ![0, 0] S352x1024.size inb_S2816x1024_S352x1024_0_0, p0⟩]
    ⟨?_, ?_, ?_, ?_, ?_, ?_, ?_, ?_, trivial⟩ y ?_
  · exact fun x => (congrFun (show p7 = ![p0, p1, p2, p3, p4, p5, p6, p7] ⟨7, by decide⟩ from rfl) x).trans (groups_emb ![p0, p1, p2, p3, p4, p5, p6, p7] 7 (by decide) 2464 rfl inb_S2816x1024_S352x1024_2464_0 x)
  · exact fun x => (congrFun (show p6 = ![p0, p1, p2, p3, p4, p5, p6, p7] ⟨6, by decide⟩ from rfl) x).trans (groups_emb ![p0, p1, p2, p3, p4, p5, p6, p7] 6 (by decide) 2112 rfl inb_S2816x1024_S352x1024_2112_0 x)
  · exact fun x => (congrFun (show p5 = ![p0, p1, p2, p3, p4, p5, p6, p7] ⟨5, by decide⟩ from rfl) x).trans (groups_emb ![p0, p1, p2, p3, p4, p5, p6, p7] 5 (by decide) 1760 rfl inb_S2816x1024_S352x1024_1760_0 x)
  · exact fun x => (congrFun (show p4 = ![p0, p1, p2, p3, p4, p5, p6, p7] ⟨4, by decide⟩ from rfl) x).trans (groups_emb ![p0, p1, p2, p3, p4, p5, p6, p7] 4 (by decide) 1408 rfl inb_S2816x1024_S352x1024_1408_0 x)
  · exact fun x => (congrFun (show p3 = ![p0, p1, p2, p3, p4, p5, p6, p7] ⟨3, by decide⟩ from rfl) x).trans (groups_emb ![p0, p1, p2, p3, p4, p5, p6, p7] 3 (by decide) 1056 rfl inb_S2816x1024_S352x1024_1056_0 x)
  · exact fun x => (congrFun (show p2 = ![p0, p1, p2, p3, p4, p5, p6, p7] ⟨2, by decide⟩ from rfl) x).trans (groups_emb ![p0, p1, p2, p3, p4, p5, p6, p7] 2 (by decide) 704 rfl inb_S2816x1024_S352x1024_704_0 x)
  · exact fun x => (congrFun (show p1 = ![p0, p1, p2, p3, p4, p5, p6, p7] ⟨1, by decide⟩ from rfl) x).trans (groups_emb ![p0, p1, p2, p3, p4, p5, p6, p7] 1 (by decide) 352 rfl inb_S2816x1024_S352x1024_352_0 x)
  · exact fun x => (congrFun (show p0 = ![p0, p1, p2, p3, p4, p5, p6, p7] ⟨0, by decide⟩ from rfl) x).trans (groups_emb ![p0, p1, p2, p3, p4, p5, p6, p7] 0 (by decide) 0 rfl inb_S2816x1024_S352x1024_0_0 x)
  · exact View.cover_of_tiledL (s := S2816x1024) _ S352x1024.size (by sl_kernel_rfl) y

theorem groups_at (p : Fin 8 → Vec Ideal S352x1024 .bf16) (j : Fin 8) (r : Fin 352) (k : Fin 1024) :
    groups p (ix2 ⟨352 * j.val + r.val, by omega⟩ k) = p j (ix2 r k) := by
  have e1 : (⟨(352 * j.val + r.val) / 352, by omega⟩ : Fin 8) = j := Fin.ext (by show (352 * j.val + r.val) / 352 = j.val; omega)
  have e2 : (⟨(352 * j.val + r.val) % 352, by omega⟩ : Fin 352) = r := Fin.ext (by show (352 * j.val + r.val) % 352 = r.val; omega)
  show p (⟨(352 * j.val + r.val) / 352, by omega⟩ : Fin 8) (ix2 (⟨(352 * j.val + r.val) % 352, by omega⟩ : Fin 352) k) = _
  rw [e1, e2]

theorem cast_at (v : Vec Ideal S1x352x1024 .bf16) (h : S1x352x1024.ShapeCasts S352x1024) (r : Fin 352) (k : Fin 1024) :
    shapeCast S352x1024 v h (ix2 r k) = v (ix3 0 r k) := by
  pointwise []

theorem cut_at (f : Vec Ideal S8x1056x1024 .bf16) (j o : Nat) (hj : j < 8) (ho : o + 352 ≤ 1056) (inb : ∀ a, (![j, o, 0] : Fin 3 → Nat) a + S1x352x1024.size a ≤ S8x1056x1024.size a)
    (r : Fin 352) (k : Fin 1024) : cut f ![j, o, 0] inb (ix2 r k) = f (ix3 ⟨j, hj⟩ ⟨o + r.val, by omega⟩ k) := by
  refine (cast_at _ _ r k).trans ?_
  show f _ = f _
  congr 1
  funext a
  match a with
  | ⟨0, _⟩ => exact Fin.ext (show j + 1 * 0 = j by omega)
  | ⟨1, _⟩ => exact Fin.ext (show o + 1 * r.val = o + r.val by omega)
  | ⟨2, _⟩ => exact Fin.ext (show 0 + 1 * k.val = k.val by omega)

theorem copied0_groups (f : Vec Ideal S8x1056x1024 .bf16) :
    copied0 (F := Ideal) f = groups ![cut f ![0, 0, 0] inb_S8x1056x1024_S1x352x1024_0_0_0, cut f ![1, 0, 0] inb_S8x1056x1024_S1x352x1024_1_0_0, cut f ![2, 0, 0] inb_S8x1056x1024_S1x352x1024_2_0_0, cut f ![3, 0, 0] inb_S8x1056x1024_S1x352x1024_3_0_0, cut f ![4, 0, 0] inb_S8x1056x1024_S1x352x1024_4_0_0, cut f ![5, 0, 0] inb_S8x1056x1024_S1x352x1024_5_0_0, cut f ![6, 0, 0] inb_S8x1056x1024_S1x352x1024_6_0_0, cut f ![7, 0, 0] inb_S8x1056x1024_S1x352x1024_7_0_0] :=
  canon_groups _ _ _ _ _ _ _ _

theorem copied0_cut (f : Vec Ideal S8x1056x1024 .bf16) (j : Fin 8) (r : Fin 352) (k : Fin 1024) :
    copied0 (F := Ideal) f (ix2 ⟨352 * j.val + r.val, by omega⟩ k) = f (ix3 j ⟨0 + r.val, by omega⟩ k) := by
  rw [copied0_groups, groups_at]
  fin_cases j
  · exact cut_at f 0 0 (by decide) (by decide) inb_S8x1056x1024_S1x352x1024_0_0_0 r k
  · exact cut_at f 1 0 (by decide) (by decide) inb_S8x1056x1024_S1x352x1024_1_0_0 r k
  · exact cut_at f 2 0 (by decide) (by decide) inb_S8x1056x1024_S1x352x1024_2_0_0 r k
  · exact cut_at f 3 0 (by decide) (by decide) inb_S8x1056x1024_S1x352x1024_3_0_0 r k
  · exact cut_at f 4 0 (by decide) (by decide) inb_S8x1056x1024_S1x352x1024_4_0_0 r k
  · exact cut_at f 5 0 (by decide) (by decide) inb_S8x1056x1024_S1x352x1024_5_0_0 r k
  · exact cut_at f 6 0 (by decide) (by decide) inb_S8x1056x1024_S1x352x1024_6_0_0 r k
  · exact cut_at f 7 0 (by decide) (by decide) inb_S8x1056x1024_S1x352x1024_7_0_0 r k

theorem copied0_at (g u : Vec Ideal S1024x2816 .f32) (d : Vec Ideal S2816x1024 .f32) (q : Fin 2816) (k : Fin 1024) :
    copied0 (F := Ideal) (Host.shards g u d) (ix2 q k) = g (ix2 k q) := by
  obtain ⟨j, r, rfl⟩ : ∃ (j : Fin 8) (r : Fin 352), q = ⟨352 * j.val + r.val, by omega⟩ :=
    ⟨⟨q.val / 352, by omega⟩, ⟨q.val % 352, by omega⟩, Fin.ext (show q.val = 352 * (q.val / 352) + q.val % 352 by omega)⟩
  exact (copied0_cut _ j r k).trans ((congrArg (fun z => Host.shards g u d (ix3 j z k)) (Fin.ext (show 0 + r.val = r.val by omega))).trans (Host.shards_gate g u d j r k))

theorem copied1_groups (f : Vec Ideal S8x1056x1024 .bf16) :
    copied1 (F := Ideal) f = groups ![cut f ![0, 352, 0] inb_S8x1056x1024_S1x352x1024_0_352_0, cut f ![1, 352, 0] inb_S8x1056x1024_S1x352x1024_1_352_0, cut f ![2, 352, 0] inb_S8x1056x1024_S1x352x1024_2_352_0, cut f ![3, 352, 0] inb_S8x1056x1024_S1x352x1024_3_352_0, cut f ![4, 352, 0] inb_S8x1056x1024_S1x352x1024_4_352_0, cut f ![5, 352, 0] inb_S8x1056x1024_S1x352x1024_5_352_0, cut f ![6, 352, 0] inb_S8x1056x1024_S1x352x1024_6_352_0, cut f ![7, 352, 0] inb_S8x1056x1024_S1x352x1024_7_352_0] :=
  canon_groups _ _ _ _ _ _ _ _

theorem copied1_cut (f : Vec Ideal S8x1056x1024 .bf16) (j : Fin 8) (r : Fin 352) (k : Fin 1024) :
    copied1 (F := Ideal) f (ix2 ⟨352 * j.val + r.val, by omega⟩ k) = f (ix3 j ⟨352 + r.val, by omega⟩ k) := by
  rw [copied1_groups, groups_at]
  fin_cases j
  · exact cut_at f 0 352 (by decide) (by decide) inb_S8x1056x1024_S1x352x1024_0_352_0 r k
  · exact cut_at f 1 352 (by decide) (by decide) inb_S8x1056x1024_S1x352x1024_1_352_0 r k
  · exact cut_at f 2 352 (by decide) (by decide) inb_S8x1056x1024_S1x352x1024_2_352_0 r k
  · exact cut_at f 3 352 (by decide) (by decide) inb_S8x1056x1024_S1x352x1024_3_352_0 r k
  · exact cut_at f 4 352 (by decide) (by decide) inb_S8x1056x1024_S1x352x1024_4_352_0 r k
  · exact cut_at f 5 352 (by decide) (by decide) inb_S8x1056x1024_S1x352x1024_5_352_0 r k
  · exact cut_at f 6 352 (by decide) (by decide) inb_S8x1056x1024_S1x352x1024_6_352_0 r k
  · exact cut_at f 7 352 (by decide) (by decide) inb_S8x1056x1024_S1x352x1024_7_352_0 r k

theorem copied1_at (g u : Vec Ideal S1024x2816 .f32) (d : Vec Ideal S2816x1024 .f32) (q : Fin 2816) (k : Fin 1024) :
    copied1 (F := Ideal) (Host.shards g u d) (ix2 q k) = u (ix2 k q) := by
  obtain ⟨j, r, rfl⟩ : ∃ (j : Fin 8) (r : Fin 352), q = ⟨352 * j.val + r.val, by omega⟩ :=
    ⟨⟨q.val / 352, by omega⟩, ⟨q.val % 352, by omega⟩, Fin.ext (show q.val = 352 * (q.val / 352) + q.val % 352 by omega)⟩
  exact (copied1_cut _ j r k).trans ((Host.shards_up g u d j r k))

theorem copied2_groups (f : Vec Ideal S8x1056x1024 .bf16) :
    copied2 (F := Ideal) f = groups ![cut f ![0, 704, 0] inb_S8x1056x1024_S1x352x1024_0_704_0, cut f ![1, 704, 0] inb_S8x1056x1024_S1x352x1024_1_704_0, cut f ![2, 704, 0] inb_S8x1056x1024_S1x352x1024_2_704_0, cut f ![3, 704, 0] inb_S8x1056x1024_S1x352x1024_3_704_0, cut f ![4, 704, 0] inb_S8x1056x1024_S1x352x1024_4_704_0, cut f ![5, 704, 0] inb_S8x1056x1024_S1x352x1024_5_704_0, cut f ![6, 704, 0] inb_S8x1056x1024_S1x352x1024_6_704_0, cut f ![7, 704, 0] inb_S8x1056x1024_S1x352x1024_7_704_0] :=
  canon_groups _ _ _ _ _ _ _ _

theorem copied2_cut (f : Vec Ideal S8x1056x1024 .bf16) (j : Fin 8) (r : Fin 352) (k : Fin 1024) :
    copied2 (F := Ideal) f (ix2 ⟨352 * j.val + r.val, by omega⟩ k) = f (ix3 j ⟨704 + r.val, by omega⟩ k) := by
  rw [copied2_groups, groups_at]
  fin_cases j
  · exact cut_at f 0 704 (by decide) (by decide) inb_S8x1056x1024_S1x352x1024_0_704_0 r k
  · exact cut_at f 1 704 (by decide) (by decide) inb_S8x1056x1024_S1x352x1024_1_704_0 r k
  · exact cut_at f 2 704 (by decide) (by decide) inb_S8x1056x1024_S1x352x1024_2_704_0 r k
  · exact cut_at f 3 704 (by decide) (by decide) inb_S8x1056x1024_S1x352x1024_3_704_0 r k
  · exact cut_at f 4 704 (by decide) (by decide) inb_S8x1056x1024_S1x352x1024_4_704_0 r k
  · exact cut_at f 5 704 (by decide) (by decide) inb_S8x1056x1024_S1x352x1024_5_704_0 r k
  · exact cut_at f 6 704 (by decide) (by decide) inb_S8x1056x1024_S1x352x1024_6_704_0 r k
  · exact cut_at f 7 704 (by decide) (by decide) inb_S8x1056x1024_S1x352x1024_7_704_0 r k

theorem copied2_at (g u : Vec Ideal S1024x2816 .f32) (d : Vec Ideal S2816x1024 .f32) (q : Fin 2816) (k : Fin 1024) :
    copied2 (F := Ideal) (Host.shards g u d) (ix2 q k) = d (ix2 q k) := by
  obtain ⟨j, r, rfl⟩ : ∃ (j : Fin 8) (r : Fin 352), q = ⟨352 * j.val + r.val, by omega⟩ :=
    ⟨⟨q.val / 352, by omega⟩, ⟨q.val % 352, by omega⟩, Fin.ext (show q.val = 352 * (q.val / 352) + q.val % 352 by omega)⟩
  exact (copied2_cut _ j r k).trans ((Host.shards_down g u d j r k))

/-! ## A row of a point's results -/

section Rows
variable (x0 x1 : Vec Ideal S256x1024 .f32) (x2 x3 : Vec Ideal S256x2816 .bf16) (x4 : Vec Ideal S1x1024 .f32) (w0 w1 w2 : Vec Ideal S2816x1024 .bf16) (r : Fin 256)

abbrev rw1 (x : Vec Ideal S256x1024 .f32) (k : Fin 1024) : EReal := x (ix2 r k)
abbrev rw2 (x : Vec Ideal S256x2816 .bf16) (k : Fin 2816) : EReal := x (ix2 r k)
abbrev wt (w : Vec Ideal S2816x1024 .bf16) (j : Fin 2816) (k : Fin 1024) : EReal := w (ix2 j k)

theorem rows0_at (w : Vec Ideal S2816x1024 .bf16) (j : Fin 1024) (k : Fin 1024) : rows0 w (ix2 j k) = w (ix2 ⟨j.val, by omega⟩ k) := by
  show w _ = w _
  congr 1
  funext a
  match a with
  | ⟨0, _⟩ => exact Fin.ext (show 0 + 1 * j.val = j.val by omega)
  | ⟨1, _⟩ => exact Fin.ext (show 0 + 1 * k.val = k.val by omega)

theorem rows1_at (w : Vec Ideal S2816x1024 .bf16) (j : Fin 1024) (k : Fin 1024) : rows1 w (ix2 j k) = w (ix2 ⟨1024 + j.val, by omega⟩ k) := by
  show w _ = w _
  congr 1
  funext a
  match a with
  | ⟨0, _⟩ => exact Fin.ext (show 1024 + 1 * j.val = 1024 + j.val by omega)
  | ⟨1, _⟩ => exact Fin.ext (show 0 + 1 * k.val = k.val by omega)

theorem rows2_at (w : Vec Ideal S2816x1024 .bf16) (j : Fin 768) (k : Fin 1024) : rows2 w (ix2 j k) = w (ix2 ⟨2048 + j.val, by omega⟩ k) := by
  show w _ = w _
  congr 1
  funext a
  match a with
  | ⟨0, _⟩ => exact Fin.ext (show 2048 + 1 * j.val = 2048 + j.val by omega)
  | ⟨1, _⟩ => exact Fin.ext (show 0 + 1 * k.val = k.val by omega)

theorem cols0_at (w : Vec Ideal S256x2816 .bf16) (r : Fin 256) (j : Fin 1024) : cols0 w (ix2 r j) = w (ix2 r ⟨j.val, by omega⟩) := by
  show w _ = w _
  congr 1
  funext a
  match a with
  | ⟨0, _⟩ => exact Fin.ext (show 0 + 1 * r.val = r.val by omega)
  | ⟨1, _⟩ => exact Fin.ext (show 0 + 1 * j.val = j.val by omega)

theorem cols1_at (w : Vec Ideal S256x2816 .bf16) (r : Fin 256) (j : Fin 1024) : cols1 w (ix2 r j) = w (ix2 r ⟨1024 + j.val, by omega⟩) := by
  show w _ = w _
  congr 1
  funext a
  match a with
  | ⟨0, _⟩ => exact Fin.ext (show 0 + 1 * r.val = r.val by omega)
  | ⟨1, _⟩ => exact Fin.ext (show 1024 + 1 * j.val = 1024 + j.val by omega)

theorem cols2_at (w : Vec Ideal S256x2816 .bf16) (r : Fin 256) (j : Fin 768) : cols2 w (ix2 r j) = w (ix2 r ⟨2048 + j.val, by omega⟩) := by
  show w _ = w _
  congr 1
  funext a
  match a with
  | ⟨0, _⟩ => exact Fin.ext (show 0 + 1 * r.val = r.val by omega)
  | ⟨1, _⟩ => exact Fin.ext (show 2048 + 1 * j.val = 2048 + j.val by omega)

/-! ### Each stage on variables -/

section Stages
variable (y : Vec Ideal S256x1024 .f32) (p q : Vec Ideal S256x1024 .bf16) (p' q' : Vec Ideal S256x768 .bf16) (w wg wu : Vec Ideal S1024x1024 .bf16) (w' wg' wu' : Vec Ideal S768x1024 .bf16)

theorem pay14_at (j : Fin 1024) : k0_pay14 y p w (ix2 r j) = (∑ k : Fin 1024, Ideal.ofBits FTy.f32 0x3F000000#32 * y (ix2 r k) * w (ix2 j k)) * (p (ix2 r j) * Ideal.logistic (p (ix2 r j))) := by
  pointwise [k0_pay14, k0_pay13, k0_pay11, k0_pay12, k0_pay9]

theorem pay21_at (j : Fin 1024) : k0_pay21 (k0_pay9 y) p w (ix2 r j) = (∑ k : Fin 1024, Ideal.ofBits FTy.f32 0x3F000000#32 * y (ix2 r k) * w (ix2 j k)) * (p (ix2 r j) * Ideal.logistic (p (ix2 r j))) := by
  pointwise [k0_pay21, k0_pay20, k0_pay18, k0_pay19, k0_pay9]

theorem pay26_at (j : Fin 768) : k0_pay26 (k0_pay9 y) p' w' (ix2 r j) = (∑ k : Fin 1024, Ideal.ofBits FTy.f32 0x3F000000#32 * y (ix2 r k) * w' (ix2 j k)) * (p' (ix2 r j) * Ideal.logistic (p' (ix2 r j))) := by
  pointwise [k0_pay26, k0_pay25, k0_pay23, k0_pay24, k0_pay9]

theorem pay16_at (j : Fin 1024) : k0_pay16 (k0_pay11 p) (k0_pay12 p) (k0_pay15 y q w) (FloatOps.ofBits FTy.f32 1065353216#32) (ix2 r j) = (∑ k : Fin 1024, Ideal.ofBits FTy.f32 0x3F000000#32 * y (ix2 r k) * w (ix2 j k)) * q (ix2 r j) * (Ideal.logistic (p (ix2 r j)) * (1 + p (ix2 r j) * (1 - Ideal.logistic (p (ix2 r j))))) := by
  pointwise [k0_pay16, k0_pay11, k0_pay12, k0_pay15, k0_pay13, k0_pay9]

theorem pay22_at (j : Fin 1024) : k0_pay22 (k0_pay9 y) p q w (ix2 r j) = (∑ k : Fin 1024, Ideal.ofBits FTy.f32 0x3F000000#32 * y (ix2 r k) * w (ix2 j k)) * q (ix2 r j) * (Ideal.logistic (p (ix2 r j)) * (1 + p (ix2 r j) * (1 - Ideal.logistic (p (ix2 r j))))) := by
  pointwise [k0_pay22, k0_pay20, k0_pay18, k0_pay19, k0_pay9]

theorem pay27_at (j : Fin 768) : k0_pay27 (k0_pay9 y) p' q' w' (ix2 r j) = (∑ k : Fin 1024, Ideal.ofBits FTy.f32 0x3F000000#32 * y (ix2 r k) * w' (ix2 j k)) * q' (ix2 r j) * (Ideal.logistic (p' (ix2 r j)) * (1 + p' (ix2 r j) * (1 - Ideal.logistic (p' (ix2 r j))))) := by
  pointwise [k0_pay27, k0_pay25, k0_pay23, k0_pay24, k0_pay9]

theorem pay17_at (k : Fin 1024) : k0_pay17 k0_pay10 (k0_pay11 p) (k0_pay12 p) (k0_pay14 y p w) (k0_pay15 y q w) (FloatOps.ofBits FTy.f32 1065353216#32) wg wu (ix2 r k)
    = ∑ x : Fin 1024, k0_pay16 (k0_pay11 p) (k0_pay12 p) (k0_pay15 y q w) (FloatOps.ofBits FTy.f32 1065353216#32) (ix2 r x) * wg (ix2 x k) + ∑ x : Fin 1024, k0_pay14 y p w (ix2 r x) * wu (ix2 x k) := by
  pointwise [k0_pay17, k0_pay10]

theorem pay28_at (z : FVec Ideal S256x1024 .bf16) (k : Fin 1024) (a : Vec Ideal S256x1024 .f32) (d e : Vec Ideal S256x1024 .bf16) : k0_pay28 z a d e wg wu p' q' w' wg' (ix2 r k)
    = a (ix2 r k) + ∑ x : Fin 1024, e (ix2 r x) * wg (ix2 x k) + ∑ x : Fin 1024, d (ix2 r x) * wu (ix2 x k) + ∑ x : Fin 768, k0_pay27 z p' q' w' (ix2 r x) * wg' (ix2 x k) := by
  pointwise [k0_pay28]

theorem pay29_at (z : FVec Ideal S256x1024 .bf16) (k : Fin 1024) : k0_pay29 z p' w' wu' (ix2 r k) = ∑ x : Fin 768, k0_pay26 z p' w' (ix2 r x) * wu' (ix2 x k) := by
  pointwise [k0_pay29]

theorem pay5_at (x : Fin 1) : k0_pay5 x0 (ix2 r x) = Half.ms (rw1 r x0) := by
  obtain rfl : x = 0 := Subsingleton.elim x 0
  unfold Half.ms
  pointwise [k0_pay5]

theorem pay2_at (k : Fin 1024) (a b : Vec Ideal S256x1024 .f32) :
    k0_pay2 x1 x0 x4 (k0_pay6 x0) (k0_pay7 x0) a b (ix2 r k) = Half.dh (rw1 r x0) (rw1 r x1) (fun k => x4 (ix2 0 k)) (fun k => a (ix2 r k) + b (ix2 r k)) k := by
  unfold Half.dh Half.back Half.rs
  pointwise [k0_pay2, k0_pay6, k0_pay7, k0_pay1]
  simp only [pay5_at]

theorem pay3_at (k : Fin 1024) (a b : Vec Ideal S256x1024 .f32) (acc : Vec Ideal S1x1024 .f32) :
    k0_pay3 (k0_pay8 x0) a b acc (ix2 0 k) = acc (ix2 0 k) + ∑ r : Fin 256, Half.dg (rw1 r x0) (fun k => a (ix2 r k) + b (ix2 r k)) k := by
  unfold Half.dg Half.rs
  pointwise [k0_pay3, k0_pay8, k0_pay6, k0_pay1]
  simp only [pay5_at]

end Stages

/-! ### The pieces together -/

abbrev at0 (j : Fin 1024) : Fin 2816 := ⟨j.val, by omega⟩
abbrev at1 (j : Fin 1024) : Fin 2816 := ⟨1024 + j.val, by omega⟩
abbrev at2 (j : Fin 768) : Fin 2816 := ⟨2048 + j.val, by omega⟩

theorem sum_thirds (f : Fin 2816 → EReal) : ∑ j, f j = (∑ j : Fin 1024, f (at0 j)) + (∑ j : Fin 1024, f (at1 j)) + ∑ j : Fin 768, f (at2 j) := by
  refine (Fin.sum_univ_add (a := 2048) (b := 768) f).trans ?_
  refine congrArg (· + _) ?_
  exact Fin.sum_univ_add (a := 1024) (b := 1024) fun j => f ⟨j.val, by omega⟩

variable (j0 : Fin 1024) (j2 : Fin 768)

theorem db_form {d ws ws' : Fin 1024 → EReal} {z z' : EReal} (hw : ∀ k, ws k = ws' k) (hz : z = z') :
    (∑ k : Fin 1024, Ideal.ofBits FTy.f32 0x3F000000#32 * d k * ws k) * (z * Ideal.logistic z) = (∑ k : Fin 1024, Ideal.ofBits FTy.f32 0x3F000000#32 * d k * ws' k) * (z' * Ideal.logistic z') := by
  rw [funext hw, hz]

theorem da_form {d ws ws' : Fin 1024 → EReal} {y y' z z' : EReal} (hw : ∀ k, ws k = ws' k) (hy : y = y') (hz : z = z') :
    (∑ k : Fin 1024, Ideal.ofBits FTy.f32 0x3F000000#32 * d k * ws k) * y * (Ideal.logistic z * (1 + z * (1 - Ideal.logistic z)))
      = (∑ k : Fin 1024, Ideal.ofBits FTy.f32 0x3F000000#32 * d k * ws' k) * y' * (Ideal.logistic z' * (1 + z' * (1 - Ideal.logistic z'))) := by
  rw [funext hw, hy, hz]

theorem db0_at : db0 x1 x2 w2 (ix2 r j0) = Half.db (rw1 r x1) (rw2 r x2) (wt w2) (at0 j0) :=
  (pay14_at r x1 _ _ j0).trans (db_form (d := fun k => x1 (ix2 r k)) (fun k => rows0_at w2 j0 k) (cols0_at x2 r j0))

theorem da0_at : da0 x1 x2 x3 w2 (ix2 r j0) = Half.da (rw1 r x1) (rw2 r x2) (rw2 r x3) (wt w2) (at0 j0) :=
  (pay16_at r x1 _ _ _ j0).trans (da_form (d := fun k => x1 (ix2 r k)) (fun k => rows0_at w2 j0 k) (cols0_at x3 r j0) (cols0_at x2 r j0))

theorem db1_at : db1 x1 x2 w2 (ix2 r j0) = Half.db (rw1 r x1) (rw2 r x2) (wt w2) (at1 j0) :=
  (pay21_at r x1 _ _ j0).trans (db_form (d := fun k => x1 (ix2 r k)) (fun k => rows1_at w2 j0 k) (cols1_at x2 r j0))

theorem da1_at : da1 x1 x2 x3 w2 (ix2 r j0) = Half.da (rw1 r x1) (rw2 r x2) (rw2 r x3) (wt w2) (at1 j0) :=
  (pay22_at r x1 _ _ _ j0).trans (da_form (d := fun k => x1 (ix2 r k)) (fun k => rows1_at w2 j0 k) (cols1_at x3 r j0) (cols1_at x2 r j0))

theorem db2_at : db2 x1 x2 w2 (ix2 r j2) = Half.db (rw1 r x1) (rw2 r x2) (wt w2) (at2 j2) :=
  (pay26_at r x1 _ _ j2).trans (db_form (d := fun k => x1 (ix2 r k)) (fun k => rows2_at w2 j2 k) (cols2_at x2 r j2))

theorem da2_at : da2 x1 x2 x3 w2 (ix2 r j2) = Half.da (rw1 r x1) (rw2 r x2) (rw2 r x3) (wt w2) (at2 j2) :=
  (pay27_at r x1 _ _ _ j2).trans (da_form (d := fun k => x1 (ix2 r k)) (fun k => rows2_at w2 j2 k) (cols2_at x3 r j2) (cols2_at x2 r j2))

theorem most_at (k : Fin 1024) : most x1 x2 x3 w0 w1 w2 (ix2 r k)
    = ∑ x : Fin 1024, Half.da (rw1 r x1) (rw2 r x2) (rw2 r x3) (wt w2) (at0 x) * wt w0 (at0 x) k + ∑ x : Fin 1024, Half.db (rw1 r x1) (rw2 r x2) (wt w2) (at0 x) * wt w1 (at0 x) k + ∑ x : Fin 1024, Half.da (rw1 r x1) (rw2 r x2) (rw2 r x3) (wt w2) (at1 x) * wt w0 (at1 x) k + ∑ x : Fin 1024, Half.db (rw1 r x1) (rw2 r x2) (wt w2) (at1 x) * wt w1 (at1 x) k + ∑ x : Fin 768, Half.da (rw1 r x1) (rw2 r x2) (rw2 r x3) (wt w2) (at2 x) * wt w0 (at2 x) k := by
  refine (pay28_at r _ _ _ _ _ _ _ k _ _ _).trans ?_
  refine congrArg₂ (· + ·) (congrArg₂ (· + ·) (congrArg₂ (· + ·) ((pay17_at r _ _ _ _ _ _ k).trans (congrArg₂ (· + ·) ?_ ?_)) ?_) ?_) ?_
  · exact Finset.sum_congr rfl fun x _ => congrArg₂ (· * ·) (da0_at x1 x2 x3 w2 r x) (rows0_at w0 x k)
  · exact Finset.sum_congr rfl fun x _ => congrArg₂ (· * ·) (db0_at x1 x2 w2 r x) (rows0_at w1 x k)
  · exact Finset.sum_congr rfl fun x _ => congrArg₂ (· * ·) (da1_at x1 x2 x3 w2 r x) (rows1_at w0 x k)
  · exact Finset.sum_congr rfl fun x _ => congrArg₂ (· * ·) (db1_at x1 x2 w2 r x) (rows1_at w1 x k)
  · exact Finset.sum_congr rfl fun x _ => congrArg₂ (· * ·) (da2_at x1 x2 x3 w2 r x) (rows2_at w0 x k)

theorem rest_at (k : Fin 1024) : rest x1 x2 w1 w2 (ix2 r k) = ∑ x : Fin 768, Half.db (rw1 r x1) (rw2 r x2) (wt w2) (at2 x) * wt w1 (at2 x) k :=
  (pay29_at r _ _ _ _ k).trans (Finset.sum_congr rfl fun x _ => congrArg₂ (· * ·) (db2_at x1 x2 w2 r x) (rows2_at w1 x k))

theorem most_rest_at (k : Fin 1024) : most x1 x2 x3 w0 w1 w2 (ix2 r k) + rest x1 x2 w1 w2 (ix2 r k)
    = Half.dn (rw1 r x1) (rw2 r x2) (rw2 r x3) (wt w0) (wt w1) (wt w2) k := by
  rw [most_at, rest_at]
  unfold Half.dn
  rw [sum_thirds (fun j => Half.da _ _ _ _ j * _), sum_thirds (fun j => Half.db _ _ _ j * _)]
  ac_rfl

theorem dh_at (k : Fin 1024) : dhV x0 x1 x2 x3 x4 w0 w1 w2 (ix2 r k)
    = Half.dh (rw1 r x0) (rw1 r x1) (fun k => x4 (ix2 0 k)) (Half.dn (rw1 r x1) (rw2 r x2) (rw2 r x3) (wt w0) (wt w1) (wt w2)) k := by
  refine (pay2_at x0 x1 x4 r k _ _).trans ?_
  rw [funext fun k => most_rest_at x1 x2 x3 w0 w1 w2 r k]

theorem dg_at (acc : Vec Ideal S1x1024 .f32) (k : Fin 1024) : dgV x0 x1 x2 x3 w0 w1 w2 acc (ix2 0 k)
    = acc (ix2 0 k) + ∑ r : Fin 256, Half.dg (rw1 r x0) (Half.dn (rw1 r x1) (rw2 r x2) (rw2 r x3) (wt w0) (wt w1) (wt w2)) k := by
  refine (pay3_at x0 k _ _ acc).trans ?_
  refine congrArg (_ + ·) (Finset.sum_congr rfl fun r _ => ?_)
  rw [funext fun k => most_rest_at x1 x2 x3 w0 w1 w2 r k]

end Rows

/-- Three blocks side by side, at a column. -/
def side (p q : Vec Ideal S256x1024 .bf16) (r : Vec Ideal S256x768 .bf16) : Vec Ideal S256x2816 .bf16 :=
  fun i => if h : (i 1 : Nat) < 1024 then p (ix2 (i 0) ⟨i 1, h⟩) else if h2 : (i 1 : Nat) < 2048 then q (ix2 (i 0) ⟨(i 1 : Nat) - 1024, by omega⟩)
    else r (ix2 (i 0) ⟨(i 1 : Nat) - 2048, by have := (i 1).isLt; change (i 1 : Nat) < 2816 at this; omega⟩)

theorem thirds_eq (p q : Vec Ideal S256x1024 .bf16) (r : Vec Ideal S256x768 .bf16) : thirds (F := Ideal) p q r = side p q r := by
  funext y
  refine View.canon_append_of_piecesOf (side p q r) [] [⟨Rect.unit (s := S256x2816) ![0, 2048] S256x768.size inb_S256x2816_S256x768_0_2048, r⟩,
    ⟨Rect.unit (s := S256x2816) ![0, 1024] S256x1024.size inb_S256x2816_S256x1024_0_1024, q⟩,
    ⟨Rect.unit (s := S256x2816) ![0, 0] S256x1024.size inb_S256x2816_S256x1024_0_0, p⟩] ⟨?_, ?_, ?_, trivial⟩ y ?_
  · intro x
    have h1 : (x 1 : Nat) < 768 := (x 1).isLt
    have e0 : ((Rect.unit (s := S256x2816) ![0, 2048] S256x768.size inb_S256x2816_S256x768_0_2048).emb x 0 : Nat) = (x 0 : Nat) := show 0 + 1 * (x 0 : Nat) = (x 0 : Nat) by omega
    have e1 : ((Rect.unit (s := S256x2816) ![0, 2048] S256x768.size inb_S256x2816_S256x768_0_2048).emb x 1 : Nat) = 2048 + (x 1 : Nat) := show 2048 + 1 * (x 1 : Nat) = 2048 + (x 1 : Nat) by omega
    show r x = side p q r _
    unfold side
    rw [dif_neg (by rw [e1]; omega), dif_neg (by rw [e1]; omega)]
    congr 1
    funext a
    match a with
    | ⟨0, _⟩ => exact Fin.ext e0.symm
    | ⟨1, _⟩ => exact Fin.ext (show (x 1 : Nat) = _ - 2048 by rw [e1]; omega)
  · intro x
    have h1 : (x 1 : Nat) < 1024 := (x 1).isLt
    have e0 : ((Rect.unit (s := S256x2816) ![0, 1024] S256x1024.size inb_S256x2816_S256x1024_0_1024).emb x 0 : Nat) = (x 0 : Nat) := show 0 + 1 * (x 0 : Nat) = (x 0 : Nat) by omega
    have e1 : ((Rect.unit (s := S256x2816) ![0, 1024] S256x1024.size inb_S256x2816_S256x1024_0_1024).emb x 1 : Nat) = 1024 + (x 1 : Nat) := show 1024 + 1 * (x 1 : Nat) = 1024 + (x 1 : Nat) by omega
    show q x = side p q r _
    unfold side
    rw [dif_neg (by rw [e1]; omega), dif_pos (by rw [e1]; omega)]
    congr 1
    funext a
    match a with
    | ⟨0, _⟩ => exact Fin.ext e0.symm
    | ⟨1, _⟩ => exact Fin.ext (show (x 1 : Nat) = _ - 1024 by rw [e1]; omega)
  · intro x
    have h1 : (x 1 : Nat) < 1024 := (x 1).isLt
    have e0 : ((Rect.unit (s := S256x2816) ![0, 0] S256x1024.size inb_S256x2816_S256x1024_0_0).emb x 0 : Nat) = (x 0 : Nat) := show 0 + 1 * (x 0 : Nat) = (x 0 : Nat) by omega
    have e1 : ((Rect.unit (s := S256x2816) ![0, 0] S256x1024.size inb_S256x2816_S256x1024_0_0).emb x 1 : Nat) = 0 + (x 1 : Nat) := show 0 + 1 * (x 1 : Nat) = 0 + (x 1 : Nat) by omega
    show p x = side p q r _
    unfold side
    rw [dif_pos (by rw [e1]; omega)]
    congr 1
    funext a
    match a with
    | ⟨0, _⟩ => exact Fin.ext e0.symm
    | ⟨1, _⟩ => exact Fin.ext ((Nat.zero_add _).symm.trans e1.symm)
  · exact View.cover_of_tiledBy (s := S256x2816) _ ![256, 256] (by sl_kernel_rfl) y

theorem thirds_at (p q : Vec Ideal S256x1024 .bf16) (r : Vec Ideal S256x768 .bf16) (f : Fin 2816 → EReal) (i : Fin 256)
    (hp : ∀ j, p (ix2 i j) = f (at0 j)) (hq : ∀ j, q (ix2 i j) = f (at1 j)) (hr : ∀ j, r (ix2 i j) = f (at2 j)) (j : Fin 2816) :
    thirds (F := Ideal) p q r (ix2 i j) = f j := by
  rw [thirds_eq]
  show (if h : j.val < 1024 then p (ix2 i ⟨j.val, h⟩) else if h2 : j.val < 2048 then q (ix2 i ⟨j.val - 1024, by omega⟩)
    else r (ix2 i ⟨j.val - 2048, by omega⟩)) = f j
  split
  · exact hp _
  · split
    · exact (hq _).trans (congrArg f (Fin.ext (show 1024 + (j.val - 1024) = j.val by omega)))
    · exact (hr _).trans (congrArg f (Fin.ext (show 2048 + (j.val - 2048) = j.val by omega)))

end Cert.Kernel2Ideal.Body
-- ==== Proof.Ffn.Points.lean ====
module

public import proofs.«01_k».proof.Proof.Ffn.Block
public import proofs.«01_k».proof.Proof.Ffn.Ideal.Value
public import Idealize.ShloMosaic.Lib.Pipeline.ValueKit
public import Idealize.ShloMosaic.Lib.Pipeline.Value
public import Idealize.ShloMosaic.Lib.Pointwise
public import Idealize.ShloMosaic.Lib.Tactic

@[expose] public section

set_option maxRecDepth 16384

noncomputable section

namespace Cert.Kernel2Ideal.Body

open Cert.Kernel2Ideal Cert.Kernel2Ideal.Gen Idealize.ShloMosaic Idealize.ShloMosaic.TcCoe Idealize.SL.Sem
open Idealize.ShloMosaic.Pipeline (Dat)
open Idealize.ShloMosaic (ix1 ix2 ix3 ix4)
open Cert.Kernel2Ideal.Host (H NormW WG WU WD)

section Tuples
variable {A B C D E F G : Type} {x : A × B × C × D × E × F × G} {a : A} {b : B} {c : C} {d : D} {e : E} {f : F} {g : G}

theorem part1 (k : x = (a, b, c, d, e, f, g)) : x.1 = a := by rw [k]
theorem part2 (k : x = (a, b, c, d, e, f, g)) : x.2.1 = b := by rw [k]
theorem part3 (k : x = (a, b, c, d, e, f, g)) : x.2.2.1 = c := by rw [k]
theorem part4 (k : x = (a, b, c, d, e, f, g)) : x.2.2.2.1 = d := by rw [k]
theorem tail_part (k : x = (a, b, c, d, e, f, g)) : x.2.2.2.2 = (e, f, g) := by rw [k]
theorem with_tail (k : x.2.2.2.2 = (e, f, g)) : x = (x.1, x.2.1, x.2.2.1, x.2.2.2.1, e, f, g) := by rw [← k]

end Tuples

variable (m : (ℓ : Loc nD τ sig) → Buf (Elt Ideal) ℓ) (c : Dev nD)

theorem N32 : cfg0.N = 32 := N_0

/-! ## What the buffers hold after each point -/

abbrev B0 (t : Fin cfg0.N) : Vec Ideal S256x1024 .f32 := iblk m c 0 t
abbrev B1 (t : Fin cfg0.N) : Vec Ideal S256x1024 .f32 := iblk m c 1 t
abbrev B2 (t : Fin cfg0.N) : Vec Ideal S256x2816 .bf16 := iblk m c 2 t
abbrev B3 (t : Fin cfg0.N) : Vec Ideal S256x2816 .bf16 := iblk m c 3 t
abbrev B4 (t : Fin cfg0.N) : Vec Ideal S1x1024 .f32 := iblk m c 4 t

/-- The copies of the weights. -/
abbrev wG : Vec Ideal S2816x1024 .bf16 := copied0 (F := Ideal) (V m c main_v136)
abbrev wU : Vec Ideal S2816x1024 .bf16 := copied1 (F := Ideal) (V m c main_v257)
abbrev wD : Vec Ideal S2816x1024 .bf16 := copied2 (F := Ideal) (V m c main_v378)

/-- The three blocks a point writes, from the copies `p`, `q`, `s`. -/
abbrev Dh (t : Fin cfg0.N) (p q s : Vec Ideal S2816x1024 .bf16) : Vec Ideal S256x1024 .f32 := dhV (B0 m c t) (B1 m c t) (B2 m c t) (B3 m c t) (B4 m c t) p q s
abbrev Da (t : Fin cfg0.N) (s : Vec Ideal S2816x1024 .bf16) : Vec Ideal S256x2816 .bf16 := thirds (F := Ideal) (da0 (B1 m c t) (B2 m c t) (B3 m c t) s) (da1 (B1 m c t) (B2 m c t) (B3 m c t) s) (da2 (B1 m c t) (B2 m c t) (B3 m c t) s)
abbrev Db (t : Fin cfg0.N) (s : Vec Ideal S2816x1024 .bf16) : Vec Ideal S256x2816 .bf16 := thirds (F := Ideal) (db0 (B1 m c t) (B2 m c t) s) (db1 (B1 m c t) (B2 m c t) s) (db2 (B1 m c t) (B2 m c t) s)
abbrev Dg (t : Fin cfg0.N) (p q s : Vec Ideal S2816x1024 .bf16) (acc : Vec Ideal S1x1024 .f32) : Vec Ideal S1x1024 .f32 := dgV (B0 m c t) (B1 m c t) (B2 m c t) (B3 m c t) p q s acc

set_option maxHeartbeats 4000000 in
theorem state_A (t : Fin cfg0.N) (h0 : t.val % 32 = 0) :
    outsAt0 m c t.val t.isLt = (Dh m c t (wG m c) (wU m c) (wD m c), Da m c t (wD m c), Db m c t (wD m c), Dg m c t (wG m c) (wU m c) (wD m c) (k0_pay4 (F := Ideal)), wG m c, wU m c, wD m c) := by
  rw [outsAt0_A m c t h0]
  unfold outA
  rw [out0_A_5_eq, out0_A_6_eq, out0_A_7_eq, out0_A_8_eq, sout0_A_0_eq, sout0_A_1_eq, sout0_A_2_eq]

set_option maxHeartbeats 4000000 in
theorem state_B (t : Fin cfg0.N) (h0 : ¬t.val % 32 = 0) (o) (ho : outsAt0 m c (t.val - 1) (Nat.lt_of_le_of_lt (Nat.sub_le _ _) t.isLt) = o) :
    outsAt0 m c t.val t.isLt = (Dh m c t o.2.2.2.2.1 o.2.2.2.2.2.1 o.2.2.2.2.2.2, Da m c t o.2.2.2.2.2.2, Db m c t o.2.2.2.2.2.2,
      Dg m c t o.2.2.2.2.1 o.2.2.2.2.2.1 o.2.2.2.2.2.2 o.2.2.2.1, o.2.2.2.2.1, o.2.2.2.2.2.1, o.2.2.2.2.2.2) := by
  rw [outsAt0_B m c t h0, ho]
  unfold outB
  rw [out0_B_5_eq, out0_B_6_eq, out0_B_7_eq, out0_B_8_eq]
  rfl

theorem first_point (h : 0 < cfg0.N) : (⟨0, h⟩ : Fin cfg0.N).val % 32 = 0 := rfl

theorem notFirst {n : ℕ} (h : n + 1 < cfg0.N) : ¬(⟨n + 1, h⟩ : Fin cfg0.N).val % 32 = 0 := by
  have : cfg0.N = 32 := N32
  dsimp only
  omega

/-- The copies made at the first point stay. -/
theorem copies : ∀ (n : ℕ) (h : n < cfg0.N), (outsAt0 m c n h).2.2.2.2 = (wG m c, wU m c, wD m c)
  | 0, h => congrArg (fun o => o.2.2.2.2) (state_A m c ⟨0, h⟩ rfl)
  | n + 1, h => (congrArg (fun o => o.2.2.2.2) (state_B m c ⟨n + 1, h⟩ (notFirst h) (outsAt0 m c n (Nat.lt_of_succ_lt h)) rfl)).trans (copies n (Nat.lt_of_succ_lt h))

/-- A later point, from what the one before it held, with the copies made at the first. -/
theorem later (n : ℕ) (h : n + 1 < cfg0.N) (o1 : Vec Ideal S256x1024 .f32) (o2 o3 : Vec Ideal S256x2816 .bf16) (o4 : Vec Ideal S1x1024 .f32)
    (g u d : Vec Ideal S2816x1024 .bf16) (ho : outsAt0 m c n (Nat.lt_of_succ_lt h) = (o1, o2, o3, o4, g, u, d)) :
    outsAt0 m c (n + 1) h = (Dh m c ⟨n + 1, h⟩ g u d, Da m c ⟨n + 1, h⟩ d, Db m c ⟨n + 1, h⟩ d, Dg m c ⟨n + 1, h⟩ g u d o4, g, u, d) :=
  state_B m c ⟨n + 1, h⟩ (notFirst h) (o1, o2, o3, o4, g, u, d) ho

theorem step (n : ℕ) (h : n + 1 < cfg0.N) : outsAt0 m c (n + 1) h = (Dh m c ⟨n + 1, h⟩ (wG m c) (wU m c) (wD m c), Da m c ⟨n + 1, h⟩ (wD m c), Db m c ⟨n + 1, h⟩ (wD m c),
    Dg m c ⟨n + 1, h⟩ (wG m c) (wU m c) (wD m c) (outsAt0 m c n (Nat.lt_of_succ_lt h)).2.2.2.1, wG m c, wU m c, wD m c) :=
  later m c n h _ _ _ _ _ _ _ (with_tail (copies m c n (Nat.lt_of_succ_lt h)))

theorem start (h : 0 < cfg0.N) : outsAt0 m c 0 h = (Dh m c ⟨0, h⟩ (wG m c) (wU m c) (wD m c), Da m c ⟨0, h⟩ (wD m c), Db m c ⟨0, h⟩ (wD m c),
    Dg m c ⟨0, h⟩ (wG m c) (wU m c) (wD m c) (k0_pay4 (F := Ideal)), wG m c, wU m c, wD m c) :=
  state_A m c ⟨0, h⟩ rfl

/-- A point's results, with the copies made at the first point. -/
theorem state_dh (n : ℕ) (h : n < cfg0.N) : (outsAt0 m c n h).1 = Dh m c ⟨n, h⟩ (wG m c) (wU m c) (wD m c) := by
  cases n with
  | zero => exact part1 (start m c h)
  | succ n => exact part1 (step m c n h)

theorem state_da (n : ℕ) (h : n < cfg0.N) : (outsAt0 m c n h).2.1 = Da m c ⟨n, h⟩ (wD m c) := by
  cases n with
  | zero => exact part2 (start m c h)
  | succ n => exact part2 (step m c n h)

theorem state_db (n : ℕ) (h : n < cfg0.N) : (outsAt0 m c n h).2.2.1 = Db m c ⟨n, h⟩ (wD m c) := by
  cases n with
  | zero => exact part3 (start m c h)
  | succ n => exact part3 (step m c n h)

/-- The gain's gradient after the first point, and from point to point. -/
theorem gain_first (h : 0 < cfg0.N) : (outsAt0 m c 0 h).2.2.2.1 = Dg m c ⟨0, h⟩ (wG m c) (wU m c) (wD m c) (k0_pay4 (F := Ideal)) :=
  part4 (start m c h)

theorem gain_next (n : ℕ) (h : n + 1 < cfg0.N) : (outsAt0 m c (n + 1) h).2.2.2.1 = Dg m c ⟨n + 1, h⟩ (wG m c) (wU m c) (wD m c) (outsAt0 m c n (Nat.lt_of_succ_lt h)).2.2.2.1 :=
  part4 (step m c n h)

/-! ## The blocks -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index4 : ∀ t : Fin cfg0.N, win0_4.index t 0 = 0 ∧ win0_4.index t 1 = 0 := by decide +kernel
theorem index8 : ∀ t : Fin cfg0.N, win0_8.index t 0 = 0 ∧ win0_8.index t 1 = 0 := by decide +kernel

/-- The row of the array a point's row is. -/
abbrev at_row (t : Fin cfg0.N) (r : Fin 256) : Fin 8192 := ⟨t.val * 256 + r.val, by have := t.isLt; have := N32; omega⟩

abbrev D : Vec Ideal S8192x1024 .f32 := m ((c : Thread nD τ).loc main_arg1)

theorem block0 (t : Fin cfg0.N) (r : Fin 256) (k : Fin 1024) : B0 m c t (ix2 r k) = (H m c : Vec Ideal S8192x1024 .f32) (ix2 (at_row t r) k) := by
  obtain ⟨h0, h1⟩ := index0 t
  unfold B0 iblk
  rw [View.read_apply]
  show V m c main_arg0 _ = _
  rw [V_main_arg0]
  congr 1
  funext a
  refine Fin.ext ?_
  match a with
  | ⟨0, _⟩ => show win0_0.index t 0 * 256 + 1 * r.val = t.val * 256 + r.val; omega
  | ⟨1, _⟩ => show win0_0.index t 1 * 1024 + 1 * k.val = k.val; omega

theorem block1 (t : Fin cfg0.N) (r : Fin 256) (k : Fin 1024) : B1 m c t (ix2 r k) = (D m c : Vec Ideal S8192x1024 .f32) (ix2 (at_row t r) k) := by
  obtain ⟨h0, h1⟩ := index1 t
  unfold B1 iblk
  rw [View.read_apply]
  show V m c main_arg1 _ = _
  rw [V_main_arg1]
  congr 1
  funext a
  refine Fin.ext ?_
  match a with
  | ⟨0, _⟩ => show win0_1.index t 0 * 256 + 1 * r.val = t.val * 256 + r.val; omega
  | ⟨1, _⟩ => show win0_1.index t 1 * 1024 + 1 * k.val = k.val; omega

theorem block2 (t : Fin cfg0.N) (r : Fin 256) (k : Fin 2816) : B2 m c t (ix2 r k) = (V m c main_v379 : Vec Ideal S8192x2816 .bf16) (ix2 (at_row t r) k) := by
  obtain ⟨h0, h1⟩ := index2 t
  unfold B2 iblk
  rw [View.read_apply]
  show V m c main_v379 _ = _
  congr 1
  funext a
  refine Fin.ext ?_
  match a with
  | ⟨0, _⟩ => show win0_2.index t 0 * 256 + 1 * r.val = t.val * 256 + r.val; omega
  | ⟨1, _⟩ => show win0_2.index t 1 * 2816 + 1 * k.val = k.val; omega

theorem block3 (t : Fin cfg0.N) (r : Fin 256) (k : Fin 2816) : B3 m c t (ix2 r k) = (V m c main_v380 : Vec Ideal S8192x2816 .bf16) (ix2 (at_row t r) k) := by
  obtain ⟨h0, h1⟩ := index3 t
  unfold B3 iblk
  rw [View.read_apply]
  show V m c main_v380 _ = _
  congr 1
  funext a
  refine Fin.ext ?_
  match a with
  | ⟨0, _⟩ => show win0_3.index t 0 * 256 + 1 * r.val = t.val * 256 + r.val; omega
  | ⟨1, _⟩ => show win0_3.index t 1 * 2816 + 1 * k.val = k.val; omega

theorem block4 (t : Fin cfg0.N) (k : Fin 1024) : B4 m c t (ix2 0 k) = NormW m c (ix2 0 k) := by
  obtain ⟨h0, h1⟩ := index4 t
  unfold B4 iblk
  rw [View.read_apply]
  show V m c main_arg2 _ = _
  rw [V_main_arg2]
  congr 1
  funext a
  refine Fin.ext ?_
  match a with
  | ⟨0, _⟩ => show win0_4.index t 0 * 1 + 1 * 0 = 0; omega
  | ⟨1, _⟩ => show win0_4.index t 1 * 1024 + 1 * k.val = k.val; omega

/-! ## A point's rows are the reference's -/

theorem row_h (t : Fin cfg0.N) (r : Fin 256) : rw1 r (B0 m c t) = Half.rowH (H m c) (at_row t r) := funext fun k => block0 m c t r k
theorem row_d (t : Fin cfg0.N) (r : Fin 256) : rw1 r (B1 m c t) = Half.rowH (D m c) (at_row t r) := funext fun k => block1 m c t r k
theorem row_g (t : Fin cfg0.N) : (fun k => B4 m c t (ix2 0 k)) = Half.gain (NormW m c) := funext fun k => block4 m c t k

theorem row_a (t : Fin cfg0.N) (r : Fin 256) : rw2 r (B2 m c t) = Half.pa (H m c) (NormW m c) (WG m c) (at_row t r) := by
  funext j
  refine (block2 m c t r j).trans ?_
  rw [Host.v379, Host.product_at]
  exact (Half.v17_at _ _ _ _ _).symm

theorem row_b (t : Fin cfg0.N) (r : Fin 256) : rw2 r (B3 m c t) = Half.pb (H m c) (NormW m c) (WU m c) (at_row t r) := by
  funext j
  refine (block3 m c t r j).trans ?_
  rw [Host.v380, Host.product_at]
  exact (Half.v19_at _ _ _ _ _).symm

theorem weight_g : wt (wG m c) = Half.turned (WG m c) := by
  funext j k
  show copied0 (F := Ideal) (V m c main_v136) (ix2 j k) = _
  rw [Host.v136]
  exact copied0_at _ _ _ j k

theorem weight_u : wt (wU m c) = Half.turned (WU m c) := by
  funext j k
  show copied1 (F := Ideal) (V m c main_v257) (ix2 j k) = _
  rw [Host.v257]
  exact copied1_at _ _ _ j k

theorem weight_d : wt (wD m c) = Half.down (WD m c) := by
  funext j k
  show copied2 (F := Ideal) (V m c main_v378) (ix2 j k) = _
  rw [Host.v378]
  exact copied2_at _ _ _ j k

/-- The cotangent of a normalised row. -/
abbrev Dn (R : Fin 8192) : Fin 1024 → EReal :=
  Half.dn (Half.rowH (D m c) R) (Half.pa (H m c) (NormW m c) (WG m c) R) (Half.pb (H m c) (NormW m c) (WU m c) R) (Half.turned (WG m c)) (Half.turned (WU m c)) (Half.down (WD m c))

theorem Dh_at (t : Fin cfg0.N) (r : Fin 256) (k : Fin 1024) : Dh m c t (wG m c) (wU m c) (wD m c) (ix2 r k)
    = Half.dh (Half.rowH (H m c) (at_row t r)) (Half.rowH (D m c) (at_row t r)) (Half.gain (NormW m c)) (Dn m c (at_row t r)) k := by
  refine (dh_at (B0 m c t) (B1 m c t) (B2 m c t) (B3 m c t) (B4 m c t) (wG m c) (wU m c) (wD m c) r k).trans ?_
  rw [row_h, row_d, row_g, row_a, row_b, weight_g, weight_u, weight_d]

theorem Da_at (t : Fin cfg0.N) (r : Fin 256) (j : Fin 2816) : Da m c t (wD m c) (ix2 r j)
    = Half.da (Half.rowH (D m c) (at_row t r)) (Half.pa (H m c) (NormW m c) (WG m c) (at_row t r)) (Half.pb (H m c) (NormW m c) (WU m c) (at_row t r)) (Half.down (WD m c)) j := by
  refine (thirds_at _ _ _ (Half.da (rw1 r (B1 m c t)) (rw2 r (B2 m c t)) (rw2 r (B3 m c t)) (wt (wD m c))) r (fun j => da0_at _ _ _ _ r j) (fun j => da1_at _ _ _ _ r j) (fun j => da2_at _ _ _ _ r j) j).trans ?_
  rw [row_d, row_a, row_b, weight_d]

theorem Db_at (t : Fin cfg0.N) (r : Fin 256) (j : Fin 2816) : Db m c t (wD m c) (ix2 r j)
    = Half.db (Half.rowH (D m c) (at_row t r)) (Half.pa (H m c) (NormW m c) (WG m c) (at_row t r)) (Half.down (WD m c)) j := by
  refine (thirds_at _ _ _ (Half.db (rw1 r (B1 m c t)) (rw2 r (B2 m c t)) (wt (wD m c))) r (fun j => db0_at _ _ _ r j) (fun j => db1_at _ _ _ r j) (fun j => db2_at _ _ _ r j) j).trans ?_
  rw [row_d, row_a, weight_d]

theorem Dg_at (t : Fin cfg0.N) (acc : Vec Ideal S1x1024 .f32) (k : Fin 1024) : Dg m c t (wG m c) (wU m c) (wD m c) acc (ix2 0 k)
    = acc (ix2 0 k) + ∑ r : Fin 256, Half.dg (Half.rowH (H m c) (at_row t r)) (Dn m c (at_row t r)) k := by
  refine (dg_at (B0 m c t) (B1 m c t) (B2 m c t) (B3 m c t) (wG m c) (wU m c) (wD m c) acc k).trans ?_
  refine congrArg (_ + ·) (Finset.sum_congr rfl fun r _ => ?_)
  rw [row_h, row_d, row_a, row_b, weight_g, weight_u, weight_d]

/-! ## The gain's gradient after the last point -/

/-- A running sum is the sum of what was added. -/
theorem sum_of_steps (X : (n : ℕ) → n < cfg0.N → EReal) (g : Fin cfg0.N → EReal) (h0 : ∀ h, X 0 h = g ⟨0, h⟩)
    (hs : ∀ n (h : n + 1 < cfg0.N), X (n + 1) h = X n (Nat.lt_of_succ_lt h) + g ⟨n + 1, h⟩) :
    ∀ n (h : n < cfg0.N), X n h = ∑ t : Fin (n + 1), g ⟨t.val, by omega⟩
  | 0, h => by rw [h0, Fin.sum_univ_one]; rfl
  | n + 1, h => by
    rw [hs, sum_of_steps X g h0 hs n, Fin.sum_univ_castSucc (n := n + 1)]
    rfl

theorem zero_at (i : S1x1024.Idx) : k0_pay4 (F := Ideal) i = 0 := by
  unfold k0_pay4
  exact Idealize.ShloMosaic.Ideal.ofBits_zero_f32

theorem gain_sum (k : Fin 1024) (n : ℕ) (h : n < cfg0.N) : (outsAt0 m c n h).2.2.2.1 (ix2 0 k)
    = ∑ t : Fin (n + 1), ∑ r : Fin 256, Half.dg (Half.rowH (H m c) (at_row ⟨t.val, by omega⟩ r)) (Dn m c (at_row ⟨t.val, by omega⟩ r)) k := by
  refine sum_of_steps (fun n h => (outsAt0 m c n h).2.2.2.1 (ix2 0 k)) (fun t => ∑ r : Fin 256, Half.dg (Half.rowH (H m c) (at_row t r)) (Dn m c (at_row t r)) k) ?_ ?_ n h
  · intro h
    refine (congrFun (gain_first m c h) (ix2 0 k)).trans ((Dg_at m c ⟨0, h⟩ _ k).trans ?_)
    rw [zero_at, zero_add]
  · intro n h
    exact (congrFun (gain_next m c n h) (ix2 0 k)).trans (Dg_at m c ⟨n + 1, h⟩ _ k)

/-- A sum over all rows, point by point. -/
theorem sum_rows (f : Fin 8192 → EReal) : ∑ R : Fin 8192, f R = ∑ t : Fin 32, ∑ r : Fin 256, f ⟨t.val * 256 + r.val, by omega⟩ := by
  rw [← Fintype.sum_prod_type']
  refine (Fintype.sum_equiv (finProdFinEquiv (m := 32) (n := 256)) _ _ fun p => ?_).symm
  obtain ⟨t, r⟩ := p
  show f _ = f _
  congr 1
  refine Fin.ext ?_
  show t.val * 256 + r.val = r.val + 256 * t.val
  omega

theorem sum_to_last (g : Fin cfg0.N → EReal) (t : Fin cfg0.N) (ht : t.val = 31) :
    ∑ s : Fin (t.val + 1), g ⟨s.val, by omega⟩ = ∑ s : Fin 32, g ⟨s.val, by have := N32; omega⟩ := by
  obtain ⟨n, hn⟩ := t
  dsimp only at ht
  subst ht
  rfl

theorem is_last {t : Fin cfg0.N} (h : t.val % 32 = 31) : t.val = 31 := by
  have := t.isLt
  have := N32
  omega

theorem gain_total (t : Fin cfg0.N) (ht : t.val = 31) (k : Fin 1024) : (outsAt0 m c t.val t.isLt).2.2.2.1 (ix2 0 k)
    = ∑ R : Fin 8192, Half.dg (Half.rowH (H m c) R) (Dn m c R) k :=
  ((gain_sum m c k t.val t.isLt).trans (sum_to_last (fun t => ∑ r : Fin 256, Half.dg (Half.rowH (H m c) (at_row t r)) (Dn m c (at_row t r)) k) t ht)).trans
    (sum_rows fun R => Half.dg (Half.rowH (H m c) R) (Dn m c R) k).symm

/-! ## The result arrays after the run -/

section Finals
variable (R : Half.Reals (H m c) (D m c) (NormW m c) (WG m c) (WU m c) (WD m c))
include R

theorem final5 : (dats m 0 c).arrAt 5 cfg0.N = Cert.Reference2Ideal.Read.val_main_v55 (F := Ideal) (H m c) (D m c) (NormW m c) (WG m c) (WU m c) (WD m c) := by
  refine (dats m 0 c).arrAt_eq_of_covers 5 _ (by decide +kernel) fun t hf y => ?_
  blk_simp
  rw [after0_5, state_dh m c t.val t.isLt]
  have e : y = ix2 (y 0) (y 1) := funext fun a => match a with
    | ⟨0, _⟩ => rfl
    | ⟨1, _⟩ => rfl
  rw [e]
  refine (((Dh_at m c t (y 0) (y 1)).trans (Half.v55_at R (at_row t (y 0)) (y 1)).symm)).trans (congrArg _ ?_)
  obtain ⟨h0, h1⟩ := index5 t
  refine funext fun a => Fin.ext ?_
  match a with
  | ⟨0, _⟩ => show t.val * 256 + (y 0 : Nat) = win0_5.index t 0 * 256 + 1 * (y 0 : Nat); rw [h0]; omega
  | ⟨1, _⟩ => show (y 1 : Nat) = win0_5.index t 1 * 1024 + 1 * (y 1 : Nat); rw [h1]; omega

theorem final6 : (dats m 0 c).arrAt 6 cfg0.N = Cert.Reference2Ideal.Read.val_main_v84 (F := Ideal) (H m c) (D m c) (NormW m c) (WG m c) (WU m c) (WD m c) := by
  refine (dats m 0 c).arrAt_eq_of_covers 6 _ (by decide +kernel) fun t hf y => ?_
  blk_simp
  rw [after0_6, state_da m c t.val t.isLt]
  have e : y = ix2 (y 0) (y 1) := funext fun a => match a with
    | ⟨0, _⟩ => rfl
    | ⟨1, _⟩ => rfl
  rw [e]
  refine (((Da_at m c t (y 0) (y 1)).trans (Half.v84_at R (at_row t (y 0)) (y 1)).symm)).trans (congrArg _ ?_)
  obtain ⟨h0, h1⟩ := index6 t
  refine funext fun a => Fin.ext ?_
  match a with
  | ⟨0, _⟩ => show t.val * 256 + (y 0 : Nat) = win0_6.index t 0 * 256 + 1 * (y 0 : Nat); rw [h0]; omega
  | ⟨1, _⟩ => show (y 1 : Nat) = win0_6.index t 1 * 2816 + 1 * (y 1 : Nat); rw [h1]; omega

omit R in
theorem final7 : (dats m 0 c).arrAt 7 cfg0.N = Cert.Reference2Ideal.Read.val_main_v85 (F := Ideal) (H m c) (D m c) (NormW m c) (WG m c) (WD m c) := by
  refine (dats m 0 c).arrAt_eq_of_covers 7 _ (by decide +kernel) fun t hf y => ?_
  blk_simp
  rw [after0_7, state_db m c t.val t.isLt]
  have e : y = ix2 (y 0) (y 1) := funext fun a => match a with
    | ⟨0, _⟩ => rfl
    | ⟨1, _⟩ => rfl
  rw [e]
  refine (((Db_at m c t (y 0) (y 1)).trans (Half.v85_at (at_row t (y 0)) (y 1)).symm)).trans (congrArg _ ?_)
  obtain ⟨h0, h1⟩ := index7 t
  refine funext fun a => Fin.ext ?_
  match a with
  | ⟨0, _⟩ => show t.val * 256 + (y 0 : Nat) = win0_7.index t 0 * 256 + 1 * (y 0 : Nat); rw [h0]; omega
  | ⟨1, _⟩ => show (y 1 : Nat) = win0_7.index t 1 * 2816 + 1 * (y 1 : Nat); rw [h1]; omega

theorem final8 : (dats m 0 c).arrAt 8 cfg0.N = Cert.Reference2Ideal.Read.val_main_v56 (F := Ideal) (H m c) (D m c) (NormW m c) (WG m c) (WU m c) (WD m c) := by
  refine (dats m 0 c).arrAt_eq_of_covers 8 _ (by decide +kernel) fun t hf y => ?_
  have ht := is_last ((flush0_8 t).mp hf)
  blk_simp
  rw [after0_8]
  have e : y = ix2 (0 : Fin 1) (y 1) := funext fun a => match a with
    | ⟨0, _⟩ => Fin.ext (show (y 0 : Nat) = 0 by have h : (y 0 : Nat) < 1 := (y 0).isLt; omega)
    | ⟨1, _⟩ => rfl
  rw [e]
  refine ((gain_total m c t ht (y 1)).trans (Half.v56_at R (y 1)).symm).trans (congrArg _ ?_)
  obtain ⟨h0, h1⟩ := index8 t
  refine funext fun a => Fin.ext ?_
  match a with
  | ⟨0, _⟩ => show (0 : Nat) = win0_8.index t 0 * 1 + 1 * 0; rw [h0]
  | ⟨1, _⟩ => show (y 1 : Nat) = win0_8.index t 1 * 1024 + 1 * (y 1 : Nat); rw [h1]; omega

end Finals

end Cert.Kernel2Ideal.Body
-- ==== Proof.Ffn.Claims.lean ====
/- The claims of the feed-forward backward call (`Kernel2`): the runs' frames, what the precondition gives, and the equality of its
   four results with the reference's. -/
module

public import proofs.«01_k».proof.Defs
public import proofs.«01_k».proof.Proof.Ffn.Same
public import proofs.«01_k».proof.Proof.Ffn.Ideal.Value
public import proofs.«01_k».proof.Proof.Ffn.Points
public import proofs.«01_k».proof.Proof.Gen.Reference2Ideal.Run
public import proofs.«01_k».proof.Proof.Gen.Reference2Ideal.Read
public import Idealize.ShloMosaic.Lib.Pointwise

@[expose] public section

noncomputable section

namespace Cert.Proof.Second

open Idealize.ShloMosaic Idealize.ShloMosaic.TcCoe Idealize.SL.Sem
open Cert.Kernel2Ideal.Host (H NormW WG WU WD)

theorem facts : Cert.Pre_finite.Facts := ⟨by decide, by decide, by decide, by decide⟩

/-- A number whose absolute value lies below infinity is a real. -/
theorem real_of_lt {x : EReal} (h : Ideal.cmp .olt (max x (-x)) (Ideal.ofBits FTy.f32 0x7F800000#32) = 1#1) : Half.Fin' x := by
  have e : Ideal.ofBits FTy.f32 0x7F800000#32 = (⊤ : EReal) := by
    show Ideal.ieee 8 23 (0x7F800000#32) = ⊤
    unfold Ideal.ieee
    dsimp only
    rw [if_pos (by decide), if_pos (by decide), if_neg (by decide)]
  rw [e] at h
  induction x using EReal.rec with
  | bot => simp [Ideal.cmp] at h
  | top => simp [Ideal.cmp] at h
  | coe r => exact ⟨r, rfl⟩

theorem reals [Cert.Pre_finite.Facts] (m : (ℓ : Loc Cert.Kernel2Ideal.nD Cert.Kernel2Ideal.τ Cert.Kernel2Ideal.sig) → Buf (Elt Ideal) ℓ)
    (h : Cert.Pre_Kernel2Ideal_finite m) (c : Dev Cert.Kernel2Ideal.nD) :
    Half.Reals (H m c) (Cert.Kernel2Ideal.Body.D m c) (NormW m c) (WG m c) (WU m c) (WD m c) := by
  obtain ⟨h0, h1, h2, h3, h4, h5⟩ := h c
  exact ⟨fun i => real_of_lt (congrFun h0 i), fun i => real_of_lt (congrFun h1 i), fun i => real_of_lt (congrFun h2 i),
    fun i => real_of_lt (congrFun h3 i), fun i => real_of_lt (congrFun h4 i), fun i => real_of_lt (congrFun h5 i)⟩

set_option maxRecDepth 16384 in
set_option maxHeartbeats 4000000 in
theorem frame_p : Cert.quiescent_Kernel2 := fun m ρ _ => Cert.Kernel2.Same.carried (F := Bits) m ρ _ Cert.Kernel2.Same.table _ Cert.Kernel2.Same.host

theorem frame_pi : Cert.quiescent_Kernel2Ideal := fun m ρ _ => Cert.Kernel2Ideal.Gen.frame m ρ

theorem frame_pi_finite [Cert.Pre_finite.Facts] : Cert.quiescent_Kernel2Ideal_pre_finite := fun m ρ _ => Cert.Kernel2Ideal.Gen.frame m ρ

theorem frame_ri : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem frame_ri_finite [Cert.Pre_finite.Facts] : Cert.quiescent_Reference2Ideal_pre_finite := fun m ρ _ => frame_ri m ρ trivial

theorem algebraic [Cert.Pre_finite.Facts] : Cert.algebraic_Kernel2Ideal_Reference2Ideal_pre_finite := by
  intro m ρ m' ρ' hfin hagree
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    fun c => (Cert.Kernel2Ideal.Gen.dats m 0 c).arrAt 7 Cert.Kernel2Ideal.cfg0.N, fun c => (Cert.Kernel2Ideal.Gen.dats m 0 c).arrAt 8 Cert.Kernel2Ideal.cfg0.N,
    Cert.Kernel2Ideal.Value.run_blocks (F := Ideal) m ρ, ?_⟩
  refine (θ_run Cert.Reference2Ideal.defs _ _).mono (fun r h c => ?_) (Cert.Reference2Ideal.Value.run (F := Ideal) m' ρ')
  obtain ⟨h0, h1, h2, h3, hk⟩ := h c
  obtain ⟨a0, a1, a2, a3, a4, a5⟩ := hagree c
  have R := reals m hfin c
  have e0 : _ = _ := h0.trans (Cert.Reference2Ideal.Read.val_main_v55_eq m' c)
  have e1 : _ = _ := h1.trans (Cert.Reference2Ideal.Read.val_main_v84_eq m' c)
  have e2 : _ = _ := h2.trans (Cert.Reference2Ideal.Read.val_main_v85_eq _ _ _ _ _)
  have e3 : _ = _ := h3.trans (Cert.Reference2Ideal.Read.val_main_v56_eq m' c)
  rw [a0, a1, a2, a3, a4, a5] at e0 e1 e3
  rw [a0, a1, a2, a3, a5] at e2
  exact ⟨e0.trans (Cert.Kernel2Ideal.Body.final5 m c R).symm, e1.trans (Cert.Kernel2Ideal.Body.final6 m c R).symm,
    e2.trans (Cert.Kernel2Ideal.Body.final7 m c).symm, e3.trans (Cert.Kernel2Ideal.Body.final8 m c R).symm, hk⟩

end Cert.Proof.Second

end
-- ==== Proof.Feed.Pieces.lean ====
module

public import proofs.«01_k».proof.Proof.Gen.Kernel8Ideal.Skeleton
public import proofs.«01_k».proof.Proof.Ffn.Stores
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.Quiescent

@[expose] public section

noncomputable section

namespace Cert.Kernel8Ideal.Body

open Cert.Kernel8Ideal Cert.Kernel8Ideal.Gen Idealize.ShloMosaic Idealize.ShloMosaic.TcCoe Idealize.SL.Sem
open Idealize.ShloMosaic.Pipeline (Dat)
open Idealize.ShloMosaic (ix1 ix2 ix3 ix4)

variable {F : FTy → Type} [FloatOps F]

theorem hz : (![0, 0] : Fin 2 → Nat) = fun _ => 0 := by decide

/-! ## Pieces of the weights -/

/-- The two row blocks of a weight. -/
abbrev rowsA (w : Vec F S2816x1024 .bf16) : Vec F S1536x1024 .bf16 := View.ld w (Rect.unit (s := S2816x1024) ![0, 0] S1536x1024.size inb_S2816x1024_S1536x1024_0_0)
abbrev rowsB (w : Vec F S2816x1024 .bf16) : Vec F S1280x1024 .bf16 := View.ld w (Rect.unit (s := S2816x1024) ![1536, 0] S1280x1024.size inb_S2816x1024_S1280x1024_1536_0)

/-- The two halves of the mixer's output projection. -/
abbrev upper (w : Vec F S2048x1024 .bf16) : Vec F S1024x1024 .bf16 := View.ld w (Rect.unit (s := S2048x1024) ![0, 0] S1024x1024.size inb_S2048x1024_S1024x1024_0_0)
abbrev lower (w : Vec F S2048x1024 .bf16) : Vec F S1024x1024 .bf16 := View.ld w (Rect.unit (s := S2048x1024) ![1024, 0] S1024x1024.size inb_S2048x1024_S1024x1024_1024_0)

/-- One layer of a stack. -/
abbrev cut (f : Vec F S8x256x1024 .bf16) (off : Fin 3 → Nat) (inb : ∀ a, off a + S1x256x1024.size a ≤ S8x256x1024.size a) : Vec F S256x1024 .bf16 :=
  shapeCast S256x1024 (View.ld f (Rect.unit (s := S8x256x1024) off S1x256x1024.size inb) : Vec F S1x256x1024 .bf16) (squeezes_S1x256x1024_S256x1024 : Shape.Squeezes S1x256x1024 S256x1024).numel_eq

/-- What the first point's copies leave in the scratches. -/
abbrev copied0 (f : Vec F S8x1056x1024 .bf16) : Vec F S2816x1024 .bf16 := Cert.Kernel2Ideal.Body.copied0 (F := F) f
abbrev copied1 (f : Vec F S8x1056x1024 .bf16) : Vec F S2816x1024 .bf16 := Cert.Kernel2Ideal.Body.copied1 (F := F) f
abbrev copied2 (f : Vec F S8x1056x1024 .bf16) : Vec F S2816x1024 .bf16 := Cert.Kernel2Ideal.Body.copied2 (F := F) f
def copied3 (f : Vec F S8x256x1024 .bf16) : Vec F S2048x1024 .bf16 :=
  View.canon (Val := Elt F) [⟨Rect.unit (s := S2048x1024) ![1792, 0] S256x1024.size inb_S2048x1024_S256x1024_1792_0, cut f ![7, 0, 0] inb_S8x256x1024_S1x256x1024_7_0_0⟩,
    ⟨Rect.unit (s := S2048x1024) ![1536, 0] S256x1024.size inb_S2048x1024_S256x1024_1536_0, cut f ![6, 0, 0] inb_S8x256x1024_S1x256x1024_6_0_0⟩,
    ⟨Rect.unit (s := S2048x1024) ![1280, 0] S256x1024.size inb_S2048x1024_S256x1024_1280_0, cut f ![5, 0, 0] inb_S8x256x1024_S1x256x1024_5_0_0⟩,
    ⟨Rect.unit (s := S2048x1024) ![1024, 0] S256x1024.size inb_S2048x1024_S256x1024_1024_0, cut f ![4, 0, 0] inb_S8x256x1024_S1x256x1024_4_0_0⟩,
    ⟨Rect.unit (s := S2048x1024) ![768, 0] S256x1024.size inb_S2048x1024_S256x1024_768_0, cut f ![3, 0, 0] inb_S8x256x1024_S1x256x1024_3_0_0⟩,
    ⟨Rect.unit (s := S2048x1024) ![512, 0] S256x1024.size inb_S2048x1024_S256x1024_512_0, cut f ![2, 0, 0] inb_S8x256x1024_S1x256x1024_2_0_0⟩,
    ⟨Rect.unit (s := S2048x1024) ![256, 0] S256x1024.size inb_S2048x1024_S256x1024_256_0, cut f ![1, 0, 0] inb_S8x256x1024_S1x256x1024_1_0_0⟩,
    ⟨Rect.unit (s := S2048x1024) ![0, 0] S256x1024.size inb_S2048x1024_S256x1024_0_0, cut f ![0, 0, 0] inb_S8x256x1024_S1x256x1024_0_0_0⟩]

/-! ## What a point computes from its blocks and the weights -/

section Blocks
variable (x0 : Vec F S256x1024 .f32) (x1 x2 : Vec F S256x1024 .bf16) (x3 : Vec F S1x1024 .f32) (w0 w1 w2 : Vec F S2816x1024 .bf16) (w3 : Vec F S2048x1024 .bf16)

/-- The mixed rows, and the normalised ones. -/
abbrev xV : FVec F S256x1024 .f32 := k0_pay2 x0 x1 (upper w3) x2 (lower w3)
abbrev nV : FVec F S256x1024 .bf16 := k0_pay3 x0 x1 (upper w3) x2 (lower w3) x3

section
variable (n : FVec F S256x1024 .bf16)
abbrev a0 : FVec F S256x1536 .bf16 := k0_pay8 n (rowsA w0)
abbrev a1 : FVec F S256x1280 .bf16 := k0_pay14 n (rowsB w0)
abbrev b0 : FVec F S256x1536 .bf16 := k0_pay9 n (rowsA w1)
abbrev b1 : FVec F S256x1280 .bf16 := k0_pay15 n (rowsB w1)
abbrev s0 : FVec F S256x1536 .bf16 := k0_pay7 n (rowsA w0) (rowsA w1)
abbrev s1 : FVec F S256x1280 .bf16 := k0_pay13 n (rowsB w0) (rowsB w1)
abbrev oV (x : FVec F S256x1024 .f32) : FVec F S256x1024 .f32 := k0_pay1 x (k0_pay10 n k0_pay4 (rowsA w0) (rowsA w1) (rowsA w2)) (s1 w0 w1 n) (rowsB w2)
end
end Blocks

/-- Two column blocks side by side. -/
def halves (p : Vec F S256x1536 .bf16) (q : Vec F S256x1280 .bf16) : Vec F S256x2816 .bf16 :=
  View.canon (Val := Elt F) [⟨Rect.unit (s := S256x2816) ![0, 1536] S256x1280.size inb_S256x2816_S256x1280_0_1536, q⟩,
    ⟨Rect.unit (s := S256x2816) ![0, 0] S256x1536.size inb_S256x2816_S256x1536_0_0, p⟩]

end Cert.Kernel8Ideal.Body
-- ==== Proof.Feed.Rows.lean ====
module

public import proofs.«01_k».proof.Proof.Half
public import proofs.«01_k».proof.Proof.Gen.Reference8Ideal.Read
public import Idealize.ShloMosaic.Lib.Pointwise
public import Idealize.ShloMosaic.Lib.Tactic

@[expose] public section

noncomputable section

namespace Cert.Feed

open Idealize.ShloMosaic
open Idealize.ShloMosaic (ix1 ix2 ix3 ix4)

/-! ## One row of the forward half step -/

/-- The two halves of the mixer's columns. -/
abbrev lo (k : Fin 1024) : Fin 2048 := ⟨k.val, by omega⟩
abbrev hi (k : Fin 1024) : Fin 2048 := ⟨1024 + k.val, by omega⟩

/-- A row with the mixer's output added. -/
def mix (h a b : Fin 1024 → EReal) (w : Fin 2048 → Fin 1024 → EReal) (c : Fin 1024) : EReal :=
  h c + ∑ k, a k * w (lo k) c + ∑ k, b k * w (hi k) c

/-- The normalised row. -/
def norm (x g : Fin 1024 → EReal) (c : Fin 1024) : EReal := x c * Half.rs x * g c

/-- A projection of a normalised row. -/
def proj (n : Fin 1024 → EReal) (w : Fin 2816 → Fin 1024 → EReal) (j : Fin 2816) : EReal := ∑ k, n k * w j k

/-- The gated product. -/
def gated (n : Fin 1024 → EReal) (wg wu : Fin 2816 → Fin 1024 → EReal) (j : Fin 2816) : EReal :=
  proj n wg j * Ideal.logistic (proj n wg j) * proj n wu j

/-- The row after the half step. -/
def out (x : Fin 1024 → EReal) (s : Fin 2816 → EReal) (wd : Fin 2816 → Fin 1024 → EReal) (c : Fin 1024) : EReal :=
  x c + Ideal.ofBits FTy.f32 0x3F000000#32 * ∑ j, s j * wd j c

/-! ## The reference's stages -/

open Cert.Reference8Ideal Cert.Reference8Ideal.Read

variable (x0 : Vec Ideal S8192x1024 .f32) (x1 x2 : Vec Ideal S8192x1024 .bf16) (x3 : Vec Ideal S2048x1024 .f32) (x4 : Vec Ideal S1x1024 .f32)
  (x5 x6 : Vec Ideal S1024x2816 .f32) (x7 : Vec Ideal S2816x1024 .f32) (R : Fin 8192)

abbrev rowF (x : Vec Ideal S8192x1024 .f32) (k : Fin 1024) : EReal := x (ix2 R k)
abbrev rowB (x : Vec Ideal S8192x1024 .bf16) (k : Fin 1024) : EReal := x (ix2 R k)
abbrev gain (x : Vec Ideal S1x1024 .f32) (k : Fin 1024) : EReal := x (ix2 0 k)
abbrev turned (w : Vec Ideal S1024x2816 .f32) (j : Fin 2816) (k : Fin 1024) : EReal := w (ix2 k j)
abbrev down (w : Vec Ideal S2816x1024 .f32) (j : Fin 2816) (k : Fin 1024) : EReal := w (ix2 j k)
abbrev both (w : Vec Ideal S2048x1024 .f32) (j : Fin 2048) (k : Fin 1024) : EReal := w (ix2 j k)

theorem v1_lo (k : Fin 1024) : val_main_v1 (F := Ideal) x1 x2 (ix2 R (lo k)) = x1 (ix2 R k) := by
  pointwise [val_main_v1, val_main_v0]

theorem v1_hi (k : Fin 1024) : val_main_v1 (F := Ideal) x1 x2 (ix2 R (hi k)) = x2 (ix2 R k) := by
  pointwise [val_main_v1, val_main_v0]

theorem sum_halves (f : Fin 2048 → EReal) : ∑ j, f j = (∑ k, f (lo k)) + ∑ k, f (hi k) :=
  Fin.sum_univ_add (a := 1024) (b := 1024) f

theorem v2_at (k : Fin 1024) : val_main_v2 (F := Ideal) x1 x2 x3 (ix2 R k) = ∑ j : Fin 2048, val_main_v1 (F := Ideal) x1 x2 (ix2 R j) * x3 (ix2 j k) := by
  pointwise [val_main_v2]

/-- The mixed row. -/
abbrev X : Fin 1024 → EReal := mix (rowF R x0) (rowB R x1) (rowB R x2) (both x3)

theorem v3_at (k : Fin 1024) : val_main_v3 (F := Ideal) x0 x1 x2 x3 (ix2 R k) = X x0 x1 x2 x3 R k := by
  refine Eq.trans (b := x0 (ix2 R k) + val_main_v2 (F := Ideal) x1 x2 x3 (ix2 R k)) (by pointwise [val_main_v3]) ?_
  rw [v2_at, sum_halves]
  simp only [v1_lo, v1_hi]
  exact (add_assoc _ _ _).symm

theorem v11_at : val_main_v11 (F := Ideal) x0 x1 x2 x3 (ix2 R 0) = Half.ms (X x0 x1 x2 x3 R) := by
  refine Eq.trans (b := Half.ms fun k => val_main_v3 (F := Ideal) x0 x1 x2 x3 (ix2 R k)) ?_ (congrArg Half.ms (funext fun k => v3_at x0 x1 x2 x3 R k))
  unfold Half.ms
  pointwise [val_main_v11, val_main_v9, val_main_v7, val_main_v6, val_main_v5, val_main_v8, val_main_v10, val_main_cst, val_main_cst_0, val_main_cst_1]

/-- The normalised row. -/
abbrev N : Fin 1024 → EReal := norm (X x0 x1 x2 x3 R) (gain x4)

theorem v17_at (k : Fin 1024) : val_main_v17 (F := Ideal) x0 x1 x2 x3 x4 (ix2 R k) = N x0 x1 x2 x3 x4 R k := by
  refine Eq.trans (b := val_main_v3 (F := Ideal) x0 x1 x2 x3 (ix2 R k) * Ideal.rsqrt (val_main_v11 (F := Ideal) x0 x1 x2 x3 (ix2 R 0)) * x4 (ix2 0 k)) ?_ ?_
  · pointwise [val_main_v17, val_main_v14, val_main_v13, val_main_v12, val_main_v16, val_main_v15, val_main_v4]
  · rw [v3_at, v11_at]
    rfl

theorem v18_at (j : Fin 2816) : val_main_v18 (F := Ideal) x0 x1 x2 x3 x4 x5 (ix2 R j) = proj (N x0 x1 x2 x3 x4 R) (turned x5) j := by
  refine Eq.trans (b := ∑ k : Fin 1024, val_main_v17 (F := Ideal) x0 x1 x2 x3 x4 (ix2 R k) * x5 (ix2 k j)) ?_ (Finset.sum_congr rfl fun k _ => by rw [v17_at])
  pointwise [val_main_v18]

theorem v19_at (j : Fin 2816) : val_main_v19 (F := Ideal) x0 x1 x2 x3 x4 x6 (ix2 R j) = proj (N x0 x1 x2 x3 x4 R) (turned x6) j := by
  refine Eq.trans (b := ∑ k : Fin 1024, val_main_v17 (F := Ideal) x0 x1 x2 x3 x4 (ix2 R k) * x6 (ix2 k j)) ?_ (Finset.sum_congr rfl fun k _ => by rw [v17_at])
  pointwise [val_main_v19]

theorem sig_at (j : Fin 2816) : val_main_call0_v5 (F := Ideal) x0 x1 x2 x3 x4 x5 (ix2 R j) = Ideal.logistic (val_main_v18 (F := Ideal) x0 x1 x2 x3 x4 x5 (ix2 R j)) := by
  pointwise [val_main_call0_v5, val_main_call0_v4, val_main_call0_v3, val_main_call0_v2, val_main_call0_v1, val_main_call0_v0, val_main_call0_cst, val_main_call0_cst_0]
  rfl

/-- The gated row. -/
abbrev S : Fin 2816 → EReal := gated (N x0 x1 x2 x3 x4 R) (turned x5) (turned x6)

theorem v21_at (j : Fin 2816) : val_main_v21 (F := Ideal) x0 x1 x2 x3 x4 x5 x6 (ix2 R j) = S x0 x1 x2 x3 x4 x5 x6 R j := by
  refine Eq.trans (b := val_main_v18 (F := Ideal) x0 x1 x2 x3 x4 x5 (ix2 R j) * val_main_call0_v5 (F := Ideal) x0 x1 x2 x3 x4 x5 (ix2 R j) * val_main_v19 (F := Ideal) x0 x1 x2 x3 x4 x6 (ix2 R j)) ?_ ?_
  · pointwise [val_main_v21, val_main_v20]
  · rw [sig_at, v18_at, v19_at]
    rfl

theorem v22_at (k : Fin 1024) : val_main_v22 (F := Ideal) x0 x1 x2 x3 x4 x5 x6 x7 (ix2 R k) = ∑ j, S x0 x1 x2 x3 x4 x5 x6 R j * down x7 j k := by
  refine Eq.trans (b := ∑ j : Fin 2816, val_main_v21 (F := Ideal) x0 x1 x2 x3 x4 x5 x6 (ix2 R j) * x7 (ix2 j k)) ?_ (Finset.sum_congr rfl fun j _ => by rw [v21_at])
  pointwise [val_main_v22]

theorem v25_at (k : Fin 1024) : val_main_v25 (F := Ideal) x0 x1 x2 x3 x4 x5 x6 x7 (ix2 R k) = out (X x0 x1 x2 x3 R) (S x0 x1 x2 x3 x4 x5 x6 R) (down x7) k := by
  refine Eq.trans (b := val_main_v3 (F := Ideal) x0 x1 x2 x3 (ix2 R k) + Ideal.ofBits FTy.f32 0x3F000000#32 * val_main_v22 (F := Ideal) x0 x1 x2 x3 x4 x5 x6 x7 (ix2 R k)) ?_ ?_
  · pointwise [val_main_v25, val_main_v24, val_main_v23, val_main_cst_2]
  · rw [v3_at, v22_at]
    rfl

theorem v26_at (k : Fin 1024) : val_main_v26 (F := Ideal) x0 x1 x2 x3 x4 (ix2 R k) = N x0 x1 x2 x3 x4 R k :=
  Eq.trans (by pointwise [val_main_v26]) (v17_at x0 x1 x2 x3 x4 R k)

theorem v27_at (j : Fin 2816) : val_main_v27 (F := Ideal) x0 x1 x2 x3 x4 x5 (ix2 R j) = proj (N x0 x1 x2 x3 x4 R) (turned x5) j :=
  Eq.trans (by pointwise [val_main_v27]) (v18_at x0 x1 x2 x3 x4 x5 R j)

theorem v28_at (j : Fin 2816) : val_main_v28 (F := Ideal) x0 x1 x2 x3 x4 x6 (ix2 R j) = proj (N x0 x1 x2 x3 x4 R) (turned x6) j :=
  Eq.trans (by pointwise [val_main_v28]) (v19_at x0 x1 x2 x3 x4 x6 R j)

theorem v29_at (j : Fin 2816) : val_main_v29 (F := Ideal) x0 x1 x2 x3 x4 x5 x6 (ix2 R j) = S x0 x1 x2 x3 x4 x5 x6 R j :=
  Eq.trans (by pointwise [val_main_v29]) (v21_at x0 x1 x2 x3 x4 x5 x6 R j)

end Cert.Feed
-- ==== Proof.Feed.Block.lean ====
module

public import proofs.«01_k».proof.Proof.Feed.Pieces
public import proofs.«01_k».proof.Proof.Feed.Rows
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.Quiescent

@[expose] public section

noncomputable section

namespace Cert.Kernel8Ideal.Body

open Cert.Kernel8Ideal Cert.Kernel8Ideal.Gen Idealize.ShloMosaic Idealize.ShloMosaic.TcCoe Idealize.SL.Sem
open Idealize.ShloMosaic (ix1 ix2 ix3 ix4)

/-! ## The copied output projection -/

/-- Eight groups of rows one after another. -/
def groups (p : Fin 8 → Vec Ideal S256x1024 .bf16) : Vec Ideal S2048x1024 .bf16 :=
  fun i => p ⟨(i 0 : Nat) / 256, by have := (i 0).isLt; change (i 0 : Nat) < 2048 at this; omega⟩ (ix2 ⟨(i 0 : Nat) % 256, by omega⟩ (i 1))

theorem groups_emb (p : Fin 8 → Vec Ideal S256x1024 .bf16) (j : Nat) (hj : j < 8) (o : Nat) (ho : o = 256 * j) (inb : ∀ a, (![o, 0] : Fin 2 → Nat) a + S256x1024.size a ≤ S2048x1024.size a)
    (x : S256x1024.Idx) : p ⟨j, hj⟩ x = groups p ((Rect.unit (s := S2048x1024) ![o, 0] S256x1024.size inb).emb x) := by
  have h0 : (x 0 : Nat) < 256 := (x 0).isLt
  have e0 : ((Rect.unit (s := S2048x1024) ![o, 0] S256x1024.size inb).emb x 0 : Nat) = o + (x 0 : Nat) := show o + 1 * (x 0 : Nat) = _ by omega
  have e1 : ((Rect.unit (s := S2048x1024) ![o, 0] S256x1024.size inb).emb x 1 : Nat) = (x 1 : Nat) := show 0 + 1 * (x 1 : Nat) = _ by omega
  unfold groups
  have a : (⟨((Rect.unit (s := S2048x1024) ![o, 0] S256x1024.size inb).emb x 0 : Nat) / 256, by rw [e0]; omega⟩ : Fin 8) = ⟨j, hj⟩ := Fin.ext (by show _ / 256 = j; rw [e0]; omega)
  rw [a]
  congr 1
  funext b
  match b with
  | ⟨0, _⟩ => exact Fin.ext (show (x 0 : Nat) = _ % 256 by rw [e0]; omega)
  | ⟨1, _⟩ => exact Fin.ext e1.symm

theorem canon_groups (p0 p1 p2 p3 p4 p5 p6 p7 : Vec Ideal S256x1024 .bf16) :
    View.canon (Val := Elt Ideal) [⟨Rect.unit (s := S2048x1024) ![1792, 0] S256x1024.size inb_S2048x1024_S256x1024_1792_0, p7⟩,
      ⟨Rect.unit (s := S2048x1024) ![1536, 0] S256x1024.size inb_S2048x1024_S256x1024_1536_0, p6⟩,
      ⟨Rect.unit (s := S2048x1024) ![1280, 0] S256x1024.size inb_S2048x1024_S256x1024_1280_0, p5⟩,
      ⟨Rect.unit (s := S2048x1024) ![1024, 0] S256x1024.size inb_S2048x1024_S256x1024_1024_0, p4⟩,
      ⟨Rect.unit (s := S2048x1024) ![768, 0] S256x1024.size inb_S2048x1024_S256x1024_768_0, p3⟩,
      ⟨Rect.unit (s := S2048x1024) ![512, 0] S256x1024.size inb_S2048x1024_S256x1024_512_0, p2⟩,
      ⟨Rect.unit (s := S2048x1024) ![256, 0] S256x1024.size inb_S2048x1024_S256x1024_256_0, p1⟩,
      ⟨Rect.unit (s := S2048x1024) ![0, 0] S256x1024.size inb_S2048x1024_S256x1024_0_0, p0⟩] = groups ![p0, p1, p2, p3, p4, p5, p6, p7] := by
  funext y
  refine View.canon_append_of_piecesOf (groups ![p0, p1, p2, p3, p4, p5, p6, p7]) [] [⟨Rect.unit (s := S2048x1024) ![1792, 0] S256x1024.size inb_S2048x1024_S256x1024_1792_0, p7⟩,
      ⟨Rect.unit (s := S2048x1024) ![1536, 0] S256x1024.size inb_S2048x1024_S256x1024_1536_0, p6⟩,
      ⟨Rect.unit (s := S2048x1024) ![1280, 0] S256x1024.size inb_S2048x1024_S256x1024_1280_0, p5⟩,
      ⟨Rect.unit (s := S2048x1024) ![1024, 0] S256x1024.size inb_S2048x1024_S256x1024_1024_0, p4⟩,
      ⟨Rect.unit (s := S2048x1024) ![768, 0] S256x1024.size inb_S2048x1024_S256x1024_768_0, p3⟩,
      ⟨Rect.unit (s := S2048x1024) ![512, 0] S256x1024.size inb_S2048x1024_S256x1024_512_0, p2⟩,
      ⟨Rect.unit (s := S2048x1024) ![256, 0] S256x1024.size inb_S2048x1024_S256x1024_256_0, p1⟩,
      ⟨Rect.unit (s := S2048x1024) ![0, 0] S256x1024.size inb_S2048x1024_S256x1024_0_0, p0⟩]
    ⟨?_, ?_, ?_, ?_, ?_, ?_, ?_, ?_, trivial⟩ y ?_
  · exact fun x => (congrFun (show p7 = ![p0, p1, p2, p3, p4, p5, p6, p7] ⟨7, by decide⟩ from rfl) x).trans (groups_emb ![p0, p1, p2, p3, p4, p5, p6, p7] 7 (by decide) 1792 rfl inb_S2048x1024_S256x1024_1792_0 x)
  · exact fun x => (congrFun (show p6 = ![p0, p1, p2, p3, p4, p5, p6, p7] ⟨6, by decide⟩ from rfl) x).trans (groups_emb ![p0, p1, p2, p3, p4, p5, p6, p7] 6 (by decide) 1536 rfl inb_S2048x1024_S256x1024_1536_0 x)
  · exact fun x => (congrFun (show p5 = ![p0, p1, p2, p3, p4, p5, p6, p7] ⟨5, by decide⟩ from rfl) x).trans (groups_emb ![p0, p1, p2, p3, p4, p5, p6, p7] 5 (by decide) 1280 rfl inb_S2048x1024_S256x1024_1280_0 x)
  · exact fun x => (congrFun (show p4 = ![p0, p1, p2, p3, p4, p5, p6, p7] ⟨4, by decide⟩ from rfl) x).trans (groups_emb ![p0, p1, p2, p3, p4, p5, p6, p7] 4 (by decide) 1024 rfl inb_S2048x1024_S256x1024_1024_0 x)
  · exact fun x => (congrFun (show p3 = ![p0, p1, p2, p3, p4, p5, p6, p7] ⟨3, by decide⟩ from rfl) x).trans (groups_emb ![p0, p1, p2, p3, p4, p5, p6, p7] 3 (by decide) 768 rfl inb_S2048x1024_S256x1024_768_0 x)
  · exact fun x => (congrFun (show p2 = ![p0, p1, p2, p3, p4, p5, p6, p7] ⟨2, by decide⟩ from rfl) x).trans (groups_emb ![p0, p1, p2, p3, p4, p5, p6, p7] 2 (by decide) 512 rfl inb_S2048x1024_S256x1024_512_0 x)
  · exact fun x => (congrFun (show p1 = ![p0, p1, p2, p3, p4, p5, p6, p7] ⟨1, by decide⟩ from rfl) x).trans (groups_emb ![p0, p1, p2, p3, p4, p5, p6, p7] 1 (by decide) 256 rfl inb_S2048x1024_S256x1024_256_0 x)
  · exact fun x => (congrFun (show p0 = ![p0, p1, p2, p3, p4, p5, p6, p7] ⟨0, by decide⟩ from rfl) x).trans (groups_emb ![p0, p1, p2, p3, p4, p5, p6, p7] 0 (by decide) 0 rfl inb_S2048x1024_S256x1024_0_0 x)
  · exact View.cover_of_tiledL (s := S2048x1024) _ S256x1024.size (by sl_kernel_rfl) y

theorem groups_at (p : Fin 8 → Vec Ideal S256x1024 .bf16) (j : Fin 8) (r : Fin 256) (k : Fin 1024) :
    groups p (ix2 ⟨256 * j.val + r.val, by omega⟩ k) = p j (ix2 r k) := by
  have e1 : (⟨(256 * j.val + r.val) / 256, by omega⟩ : Fin 8) = j := Fin.ext (by show (256 * j.val + r.val) / 256 = j.val; omega)
  have e2 : (⟨(256 * j.val + r.val) % 256, by omega⟩ : Fin 256) = r := Fin.ext (by show (256 * j.val + r.val) % 256 = r.val; omega)
  show p (⟨(256 * j.val + r.val) / 256, by omega⟩ : Fin 8) (ix2 (⟨(256 * j.val + r.val) % 256, by omega⟩ : Fin 256) k) = _
  rw [e1, e2]

theorem cast_at (v : Vec Ideal S1x256x1024 .bf16) (h : S1x256x1024.ShapeCasts S256x1024) (r : Fin 256) (k : Fin 1024) :
    shapeCast S256x1024 v h (ix2 r k) = v (ix3 0 r k) := by
  pointwise []

theorem cut_at (f : Vec Ideal S8x256x1024 .bf16) (j : Nat) (hj : j < 8) (inb : ∀ a, (![j, 0, 0] : Fin 3 → Nat) a + S1x256x1024.size a ≤ S8x256x1024.size a)
    (r : Fin 256) (k : Fin 1024) : cut f ![j, 0, 0] inb (ix2 r k) = f (ix3 ⟨j, hj⟩ r k) := by
  refine (cast_at _ _ r k).trans ?_
  show f _ = f _
  congr 1
  funext a
  match a with
  | ⟨0, _⟩ => exact Fin.ext (show j + 1 * 0 = j by omega)
  | ⟨1, _⟩ => exact Fin.ext (show 0 + 1 * r.val = r.val by omega)
  | ⟨2, _⟩ => exact Fin.ext (show 0 + 1 * k.val = k.val by omega)

theorem copied3_groups (f : Vec Ideal S8x256x1024 .bf16) :
    copied3 (F := Ideal) f = groups ![cut f ![0, 0, 0] inb_S8x256x1024_S1x256x1024_0_0_0, cut f ![1, 0, 0] inb_S8x256x1024_S1x256x1024_1_0_0, cut f ![2, 0, 0] inb_S8x256x1024_S1x256x1024_2_0_0, cut f ![3, 0, 0] inb_S8x256x1024_S1x256x1024_3_0_0, cut f ![4, 0, 0] inb_S8x256x1024_S1x256x1024_4_0_0, cut f ![5, 0, 0] inb_S8x256x1024_S1x256x1024_5_0_0, cut f ![6, 0, 0] inb_S8x256x1024_S1x256x1024_6_0_0, cut f ![7, 0, 0] inb_S8x256x1024_S1x256x1024_7_0_0] :=
  canon_groups _ _ _ _ _ _ _ _

theorem copied3_cut (f : Vec Ideal S8x256x1024 .bf16) (j : Fin 8) (r : Fin 256) (k : Fin 1024) :
    copied3 (F := Ideal) f (ix2 ⟨256 * j.val + r.val, by omega⟩ k) = f (ix3 j r k) := by
  rw [copied3_groups, groups_at]
  fin_cases j
  · exact cut_at f 0 (by decide) inb_S8x256x1024_S1x256x1024_0_0_0 r k
  · exact cut_at f 1 (by decide) inb_S8x256x1024_S1x256x1024_1_0_0 r k
  · exact cut_at f 2 (by decide) inb_S8x256x1024_S1x256x1024_2_0_0 r k
  · exact cut_at f 3 (by decide) inb_S8x256x1024_S1x256x1024_3_0_0 r k
  · exact cut_at f 4 (by decide) inb_S8x256x1024_S1x256x1024_4_0_0 r k
  · exact cut_at f 5 (by decide) inb_S8x256x1024_S1x256x1024_5_0_0 r k
  · exact cut_at f 6 (by decide) inb_S8x256x1024_S1x256x1024_6_0_0 r k
  · exact cut_at f 7 (by decide) inb_S8x256x1024_S1x256x1024_7_0_0 r k

/-! ## A row of a point's results -/

section Rows
variable (x0 : Vec Ideal S256x1024 .f32) (x1 x2 : Vec Ideal S256x1024 .bf16) (x3 : Vec Ideal S1x1024 .f32) (w0 w1 w2 : Vec Ideal S2816x1024 .bf16) (w3 : Vec Ideal S2048x1024 .bf16) (r : Fin 256)

abbrev rwF (x : Vec Ideal S256x1024 .f32) (k : Fin 1024) : EReal := x (ix2 r k)
abbrev rwB (x : Vec Ideal S256x1024 .bf16) (k : Fin 1024) : EReal := x (ix2 r k)
abbrev wt (w : Vec Ideal S2816x1024 .bf16) (j : Fin 2816) (k : Fin 1024) : EReal := w (ix2 j k)
abbrev wo (w : Vec Ideal S2048x1024 .bf16) (j : Fin 2048) (k : Fin 1024) : EReal := w (ix2 j k)

abbrev atA (j : Fin 1536) : Fin 2816 := ⟨j.val, by omega⟩
abbrev atB (j : Fin 1280) : Fin 2816 := ⟨1536 + j.val, by omega⟩

theorem rowsA_at (w : Vec Ideal S2816x1024 .bf16) (j : Fin 1536) (k : Fin 1024) : rowsA w (ix2 j k) = w (ix2 (atA j) k) := by
  show w _ = w _
  congr 1
  funext a
  match a with
  | ⟨0, _⟩ => exact Fin.ext (show 0 + 1 * j.val = j.val by omega)
  | ⟨1, _⟩ => exact Fin.ext (show 0 + 1 * k.val = k.val by omega)

theorem rowsB_at (w : Vec Ideal S2816x1024 .bf16) (j : Fin 1280) (k : Fin 1024) : rowsB w (ix2 j k) = w (ix2 (atB j) k) := by
  show w _ = w _
  congr 1
  funext a
  match a with
  | ⟨0, _⟩ => exact Fin.ext (show 1536 + 1 * j.val = 1536 + j.val by omega)
  | ⟨1, _⟩ => exact Fin.ext (show 0 + 1 * k.val = k.val by omega)

theorem upper_at (w : Vec Ideal S2048x1024 .bf16) (j : Fin 1024) (k : Fin 1024) : upper w (ix2 j k) = w (ix2 (Feed.lo j) k) := by
  show w _ = w _
  congr 1
  funext a
  match a with
  | ⟨0, _⟩ => exact Fin.ext (show 0 + 1 * j.val = j.val by omega)
  | ⟨1, _⟩ => exact Fin.ext (show 0 + 1 * k.val = k.val by omega)

theorem lower_at (w : Vec Ideal S2048x1024 .bf16) (j : Fin 1024) (k : Fin 1024) : lower w (ix2 j k) = w (ix2 (Feed.hi j) k) := by
  show w _ = w _
  congr 1
  funext a
  match a with
  | ⟨0, _⟩ => exact Fin.ext (show 1024 + 1 * j.val = 1024 + j.val by omega)
  | ⟨1, _⟩ => exact Fin.ext (show 0 + 1 * k.val = k.val by omega)

theorem sum_halves (f : Fin 2816 → EReal) : ∑ j, f j = (∑ j : Fin 1536, f (atA j)) + ∑ j : Fin 1280, f (atB j) :=
  Fin.sum_univ_add (a := 1536) (b := 1280) f

theorem pay2_at (p q : Vec Ideal S1024x1024 .bf16) (k : Fin 1024) : k0_pay2 x0 x1 p x2 q (ix2 r k)
    = x0 (ix2 r k) + ∑ j : Fin 1024, x1 (ix2 r j) * p (ix2 j k) + ∑ j : Fin 1024, x2 (ix2 r j) * q (ix2 j k) := by
  pointwise [k0_pay2]

theorem xV_at (k : Fin 1024) : xV x0 x1 x2 w3 (ix2 r k) = Feed.mix (rwF r x0) (rwB r x1) (rwB r x2) (wo w3) k := by
  refine (pay2_at x0 x1 x2 r _ _ k).trans ?_
  refine congrArg₂ (· + ·) (congrArg (_ + ·) ?_) ?_
  · exact Finset.sum_congr rfl fun j _ => congrArg (_ * ·) (upper_at w3 j k)
  · exact Finset.sum_congr rfl fun j _ => congrArg (_ * ·) (lower_at w3 j k)

theorem pay3_at (p q : Vec Ideal S1024x1024 .bf16) (k : Fin 1024) : k0_pay3 x0 x1 p x2 q x3 (ix2 r k)
    = Feed.norm (fun k => k0_pay2 x0 x1 p x2 q (ix2 r k)) (fun k => x3 (ix2 0 k)) k := by
  unfold Feed.norm Half.rs Half.ms
  unfold k0_pay3
  generalize k0_pay2 x0 x1 p x2 q = x
  pointwise []

theorem nV_at (k : Fin 1024) : nV x0 x1 x2 x3 w3 (ix2 r k)
    = Feed.norm (Feed.mix (rwF r x0) (rwB r x1) (rwB r x2) (wo w3)) (fun k => x3 (ix2 0 k)) k :=
  (pay3_at x0 x1 x2 x3 r _ _ k).trans (congrArg (fun x => Feed.norm x (fun k => x3 (ix2 0 k)) k) (funext fun k => xV_at x0 x1 x2 w3 r k))

section Columns
variable (n : FVec Ideal S256x1024 .bf16) (wA wA' wA'' : Vec Ideal S1536x1024 .bf16) (wB wB' : Vec Ideal S1280x1024 .bf16)

theorem pay5_at (j : Fin 1536) : k0_pay5 n wA (ix2 r j) = ∑ k : Fin 1024, n (ix2 r k) * wA (ix2 j k) := by
  pointwise [k0_pay5]

theorem pay6_at (j : Fin 1536) : k0_pay6 n wA (ix2 r j) = ∑ k : Fin 1024, n (ix2 r k) * wA (ix2 j k) := by
  pointwise [k0_pay6]

theorem pay11_at (j : Fin 1280) : k0_pay11 n wB (ix2 r j) = ∑ k : Fin 1024, n (ix2 r k) * wB (ix2 j k) := by
  pointwise [k0_pay11]

theorem pay12_at (j : Fin 1280) : k0_pay12 n wB (ix2 r j) = ∑ k : Fin 1024, n (ix2 r k) * wB (ix2 j k) := by
  pointwise [k0_pay12]

theorem pay7_at (j : Fin 1536) : k0_pay7 n wA wA' (ix2 r j) = k0_pay5 n wA (ix2 r j) * Ideal.logistic (k0_pay5 n wA (ix2 r j)) * k0_pay6 n wA' (ix2 r j) := by
  pointwise [k0_pay7]

theorem pay13_at (j : Fin 1280) : k0_pay13 n wB wB' (ix2 r j) = k0_pay11 n wB (ix2 r j) * Ideal.logistic (k0_pay11 n wB (ix2 r j)) * k0_pay12 n wB' (ix2 r j) := by
  pointwise [k0_pay13]

theorem pay10_at (k : Fin 1024) : k0_pay10 n k0_pay4 wA wA' wA'' (ix2 r k) = ∑ j : Fin 1536, k0_pay7 n wA wA' (ix2 r j) * wA'' (ix2 j k) := by
  pointwise [k0_pay10, k0_pay4]

theorem pay1_at (x y : FVec Ideal S256x1024 .f32) (s : FVec Ideal S256x1280 .bf16) (k : Fin 1024) :
    k0_pay1 x y s wB (ix2 r k) = x (ix2 r k) + Ideal.ofBits FTy.f32 0x3F000000#32 * (y (ix2 r k) + ∑ j : Fin 1280, s (ix2 r j) * wB (ix2 j k)) := by
  pointwise [k0_pay1]

theorem projA (w : Vec Ideal S2816x1024 .bf16) (j : Fin 1536) : k0_pay5 n (rowsA w) (ix2 r j) = Feed.proj (rwB r n) (wt w) (atA j) :=
  (pay5_at r n _ j).trans (Finset.sum_congr rfl fun k _ => congrArg (_ * ·) (rowsA_at w j k))

theorem projA' (w : Vec Ideal S2816x1024 .bf16) (j : Fin 1536) : k0_pay6 n (rowsA w) (ix2 r j) = Feed.proj (rwB r n) (wt w) (atA j) :=
  (pay6_at r n _ j).trans (Finset.sum_congr rfl fun k _ => congrArg (_ * ·) (rowsA_at w j k))

theorem projB (w : Vec Ideal S2816x1024 .bf16) (j : Fin 1280) : k0_pay11 n (rowsB w) (ix2 r j) = Feed.proj (rwB r n) (wt w) (atB j) :=
  (pay11_at r n _ j).trans (Finset.sum_congr rfl fun k _ => congrArg (_ * ·) (rowsB_at w j k))

theorem projB' (w : Vec Ideal S2816x1024 .bf16) (j : Fin 1280) : k0_pay12 n (rowsB w) (ix2 r j) = Feed.proj (rwB r n) (wt w) (atB j) :=
  (pay12_at r n _ j).trans (Finset.sum_congr rfl fun k _ => congrArg (_ * ·) (rowsB_at w j k))

theorem a0_at (j : Fin 1536) : a0 w0 n (ix2 r j) = Feed.proj (rwB r n) (wt w0) (atA j) :=
  Eq.trans (by pointwise [k0_pay8]) (projA r n w0 j)

theorem b0_at (j : Fin 1536) : b0 w1 n (ix2 r j) = Feed.proj (rwB r n) (wt w1) (atA j) :=
  Eq.trans (by pointwise [k0_pay9]) (projA' r n w1 j)

theorem a1_at (j : Fin 1280) : a1 w0 n (ix2 r j) = Feed.proj (rwB r n) (wt w0) (atB j) :=
  Eq.trans (by pointwise [k0_pay14]) (projB r n w0 j)

theorem b1_at (j : Fin 1280) : b1 w1 n (ix2 r j) = Feed.proj (rwB r n) (wt w1) (atB j) :=
  Eq.trans (by pointwise [k0_pay15]) (projB' r n w1 j)

theorem s0_at (j : Fin 1536) : s0 w0 w1 n (ix2 r j) = Feed.gated (rwB r n) (wt w0) (wt w1) (atA j) := by
  refine (pay7_at r n _ _ j).trans ?_
  rw [projA, projA']
  rfl

theorem s1_at (j : Fin 1280) : s1 w0 w1 n (ix2 r j) = Feed.gated (rwB r n) (wt w0) (wt w1) (atB j) := by
  refine (pay13_at r n _ _ j).trans ?_
  rw [projB, projB']
  rfl

theorem oV_at (x : FVec Ideal S256x1024 .f32) (k : Fin 1024) : oV w0 w1 w2 n x (ix2 r k)
    = Feed.out (rwF r x) (Feed.gated (rwB r n) (wt w0) (wt w1)) (wt w2) k := by
  refine (pay1_at r _ x _ _ k).trans ?_
  unfold Feed.out
  rw [sum_halves, pay10_at]
  refine congrArg (fun z => x (ix2 r k) + Ideal.ofBits FTy.f32 0x3F000000#32 * z) (congrArg₂ (· + ·) ?_ ?_)
  · exact Finset.sum_congr rfl fun j _ => congrArg₂ (· * ·) (s0_at w0 w1 r n j) (rowsA_at w2 j k)
  · exact Finset.sum_congr rfl fun j _ => congrArg₂ (· * ·) (s1_at w0 w1 r n j) (rowsB_at w2 j k)

end Columns
end Rows

/-- Two blocks side by side, at a column. -/
def side (p : Vec Ideal S256x1536 .bf16) (q : Vec Ideal S256x1280 .bf16) : Vec Ideal S256x2816 .bf16 :=
  fun i => if h : (i 1 : Nat) < 1536 then p (ix2 (i 0) ⟨i 1, h⟩) else q (ix2 (i 0) ⟨(i 1 : Nat) - 1536, by have := (i 1).isLt; change (i 1 : Nat) < 2816 at this; omega⟩)

theorem halves_eq (p : Vec Ideal S256x1536 .bf16) (q : Vec Ideal S256x1280 .bf16) : halves (F := Ideal) p q = side p q := by
  funext y
  refine View.canon_append_of_piecesOf (side p q) [] [⟨Rect.unit (s := S256x2816) ![0, 1536] S256x1280.size inb_S256x2816_S256x1280_0_1536, q⟩,
    ⟨Rect.unit (s := S256x2816) ![0, 0] S256x1536.size inb_S256x2816_S256x1536_0_0, p⟩] ⟨?_, ?_, trivial⟩ y ?_
  · intro x
    have h1 : (x 1 : Nat) < 1280 := (x 1).isLt
    have e0 : ((Rect.unit (s := S256x2816) ![0, 1536] S256x1280.size inb_S256x2816_S256x1280_0_1536).emb x 0 : Nat) = (x 0 : Nat) := show 0 + 1 * (x 0 : Nat) = (x 0 : Nat) by omega
    have e1 : ((Rect.unit (s := S256x2816) ![0, 1536] S256x1280.size inb_S256x2816_S256x1280_0_1536).emb x 1 : Nat) = 1536 + (x 1 : Nat) := show 1536 + 1 * (x 1 : Nat) = 1536 + (x 1 : Nat) by omega
    show q x = side p q _
    unfold side
    rw [dif_neg (by rw [e1]; omega)]
    congr 1
    funext a
    match a with
    | ⟨0, _⟩ => exact Fin.ext e0.symm
    | ⟨1, _⟩ => exact Fin.ext (show (x 1 : Nat) = _ - 1536 by rw [e1]; omega)
  · intro x
    have h1 : (x 1 : Nat) < 1536 := (x 1).isLt
    have e0 : ((Rect.unit (s := S256x2816) ![0, 0] S256x1536.size inb_S256x2816_S256x1536_0_0).emb x 0 : Nat) = (x 0 : Nat) := show 0 + 1 * (x 0 : Nat) = (x 0 : Nat) by omega
    have e1 : ((Rect.unit (s := S256x2816) ![0, 0] S256x1536.size inb_S256x2816_S256x1536_0_0).emb x 1 : Nat) = 0 + (x 1 : Nat) := show 0 + 1 * (x 1 : Nat) = 0 + (x 1 : Nat) by omega
    show p x = side p q _
    unfold side
    rw [dif_pos (by rw [e1]; omega)]
    congr 1
    funext a
    match a with
    | ⟨0, _⟩ => exact Fin.ext e0.symm
    | ⟨1, _⟩ => exact Fin.ext ((Nat.zero_add _).symm.trans e1.symm)
  · exact View.cover_of_tiledBy (s := S256x2816) _ ![256, 256] (by sl_kernel_rfl) y

theorem halves_at (p : Vec Ideal S256x1536 .bf16) (q : Vec Ideal S256x1280 .bf16) (f : Fin 2816 → EReal) (i : Fin 256)
    (hp : ∀ j, p (ix2 i j) = f (atA j)) (hq : ∀ j, q (ix2 i j) = f (atB j)) (j : Fin 2816) :
    halves (F := Ideal) p q (ix2 i j) = f j := by
  rw [halves_eq]
  show (if h : j.val < 1536 then p (ix2 i ⟨j.val, h⟩) else q (ix2 i ⟨j.val - 1536, by omega⟩)) = f j
  split
  · exact hp _
  · exact (hq _).trans (congrArg f (Fin.ext (show 1536 + (j.val - 1536) = j.val by omega)))

end Cert.Kernel8Ideal.Body
-- ==== Proof.Feed.Ideal.RunA.lean ====
module

public import proofs.«01_k».proof.Proof.Gen.Kernel8Ideal.Frame.Runs

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1808000 in set_option sl_exec.dmaWindow true in set_option sl_exec.dmaWindowSet true in
noncomputable def kernelRun0_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2048x1024 .bf16) (harg18 : arg18.IsWhole) (hc0 : cond0_0 i)
    (x0 : Vec F S256x1024 .f32) (x1 : Vec F S256x1024 .bf16) (x2 : Vec F S256x1024 .bf16) (x3 : Vec F S1x1024 .f32) (fh0 : HbBuf0 (F := F) c hbM0_0) (fh1 : HbBuf0 (F := F) c hbM0_1) (fh2 : HbBuf0 (F := F) c hbM0_2) (fh3 : HbBuf0 (F := F) c hbM0_3) :
    Σ' (L4 : List (View.Piece (Elt F) S256x1024 .f32)), Σ' (L5 : List (View.Piece (Elt F) S256x1024 .bf16)), Σ' (L6 : List (View.Piece (Elt F) S256x2816 .bf16)), Σ' (L7 : List (View.Piece (Elt F) S256x2816 .bf16)), Σ' (L8 : List (View.Piece (Elt F) S256x2816 .bf16)), Σ' (L9 : List (View.Piece (Elt F) S256x1024 .f32)), Σ' (LS0 : List (View.Piece (Elt F) S2816x1024 .bf16)), Σ' (LS1 : List (View.Piece (Elt F) S2816x1024 .bf16)), Σ' (LS2 : List (View.Piece (Elt F) S2816x1024 .bf16)), { LS3 : List (View.Piece (Elt F) S2048x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn2_fwd i arg1 harg1 arg2 harg2 arg3 harg3 arg4 harg4 (Memref.whole main_v120) (Memref.isWhole_whole _) (Memref.whole main_v241) (Memref.isWhole_whole _) (Memref.whole main_v362) (Memref.isWhole_whole _) (Memref.whole main_v411) (Memref.isWhole_whole _) arg9 harg9 arg10 harg10 arg11 harg11 arg12 harg12 arg13 harg13 arg14 harg14 arg15 harg15 arg16 harg16 arg17 harg17 arg18 harg18 cc0_scratch4) K } := by
  refine ⟨?_, ?_, ?_, ?_, ?_, ?_, ?_, ?_, ?_, ?_, fun W K => ?run⟩
  case run =>
    simp only [cc0_ffn2_fwd_eq_skeleton]; unfold cc0_ffn2_fwd_skel
    simp only [k0_part14_eq_skeleton, k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, HW, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    isplitl [Hh1]; · iexact Hh1
    isplitl [Hh2]; · iexact Hh2
    isplitl [Hh3]; · iexact Hh3
    iexists _; iexact HW

end Cert.Kernel8Ideal.Gen

end
-- ==== Proof.Feed.Ideal.RunB.lean ====
module

public import proofs.«01_k».proof.Proof.Feed.Ideal.RunA

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1600000 in
noncomputable def kernelRun0_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2048x1024 .bf16) (harg18 : arg18.IsWhole) (hc0 : ¬cond0_0 i)
    (x0 : Vec F S256x1024 .f32) (x1 : Vec F S256x1024 .bf16) (x2 : Vec F S256x1024 .bf16) (x3 : Vec F S1x1024 .f32) (xs0 : Vec F S2816x1024 .bf16) (xs1 : Vec F S2816x1024 .bf16) (xs2 : Vec F S2816x1024 .bf16) (xs3 : Vec F S2048x1024 .bf16) (fh0 : HbBuf0 (F := F) c hbM0_0) (fh1 : HbBuf0 (F := F) c hbM0_1) (fh2 : HbBuf0 (F := F) c hbM0_2) (fh3 : HbBuf0 (F := F) c hbM0_3) :
    Σ' (L4 : List (View.Piece (Elt F) S256x1024 .f32)), Σ' (L5 : List (View.Piece (Elt F) S256x1024 .bf16)), Σ' (L6 : List (View.Piece (Elt F) S256x2816 .bf16)), Σ' (L7 : List (View.Piece (Elt F) S256x2816 .bf16)), Σ' (L8 : List (View.Piece (Elt F) S256x2816 .bf16)), Σ' (L9 : List (View.Piece (Elt F) S256x1024 .f32)), Σ' (LS0 : List (View.Piece (Elt F) S2816x1024 .bf16)), Σ' (LS1 : List (View.Piece (Elt F) S2816x1024 .bf16)), Σ' (LS2 : List (View.Piece (Elt F) S2816x1024 .bf16)), { LS3 : List (View.Piece (Elt F) S2048x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ owns (c : Thread nD τ) arg17 fullShare xs2 ∗ owns (c : Thread nD τ) arg18 fullShare xs3 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ owns (c : Thread nD τ) arg15 fullShare xs0 ∗ owns (c : Thread nD τ) arg16 fullShare xs1 ∗ owns (c : Thread nD τ) arg17 fullShare xs2 ∗ owns (c : Thread nD τ) arg18 fullShare xs3 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn2_fwd i arg1 harg1 arg2 harg2 arg3 harg3 arg4 harg4 (Memref.whole main_v120) (Memref.isWhole_whole _) (Memref.whole main_v241) (Memref.isWhole_whole _) (Memref.whole main_v362) (Memref.isWhole_whole _) (Memref.whole main_v411) (Memref.isWhole_whole _) arg9 harg9 arg10 harg10 arg11 harg11 arg12 harg12 arg13 harg13 arg14 harg14 arg15 harg15 arg16 harg16 arg17 harg17 arg18 harg18 cc0_scratch4) K } := by
  refine ⟨?_, ?_, ?_, ?_, ?_, ?_, [], [], [], [], fun W K => ?run⟩
  case run =>
    simp only [cc0_ffn2_fwd_eq_skeleton]; unfold cc0_ffn2_fwd_skel
    simp only [k0_part14_eq_skeleton, k0_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, HW, Hk⟩
    obtain rfl := harg1.eq_unread hf0; obtain rfl := harg2.eq_unread hf1; obtain rfl := harg3.eq_unread hf2; obtain rfl := harg4.eq_unread hf3; obtain rfl := harg15.eq_unread hfs0; obtain rfl := harg16.eq_unread hfs1; obtain rfl := harg17.eq_unread hfs2; obtain rfl := harg18.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _; isplitr; · ipureintro; exact harg15.read_unread _
      iexact HS0
    isplitl [HS1]
    · iexists _; isplitr; · ipureintro; exact harg16.read_unread _
      iexact HS1
    isplitl [HS2]
    · iexists _; isplitr; · ipureintro; exact harg17.read_unread _
      iexact HS2
    isplitl [HS3]
    · iexists _; isplitr; · ipureintro; exact harg18.read_unread _
      iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    isplitl [Hh1]; · iexact Hh1
    isplitl [Hh2]; · iexact Hh2
    isplitl [Hh3]; · iexact Hh3
    iexists _; iexact HW

end Cert.Kernel8Ideal.Gen

end
-- ==== Proof.Feed.Ideal.Frame.lean ====
module

public import proofs.«01_k».proof.Proof.Feed.Ideal.RunB
public import Idealize.ShloMosaic.Lib.Claim

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section
variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2048x1024 .bf16) (harg18 : arg18.IsWhole) (hc0 : cond0_0 i)
    (x0 : Vec F S256x1024 .f32) (x1 : Vec F S256x1024 .bf16) (x2 : Vec F S256x1024 .bf16) (x3 : Vec F S1x1024 .f32) (fh0 : HbBuf0 (F := F) c hbM0_0) (fh1 : HbBuf0 (F := F) c hbM0_1) (fh2 : HbBuf0 (F := F) c hbM0_2) (fh3 : HbBuf0 (F := F) c hbM0_3)

theorem cover0_A_4 (y : S256x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).1 S256x1024.size (by sl_kernel_rfl) y

def out0_A_4 : Vec F S256x1024 .f32 :=
  VO0_4.read (Elt F) (VO0_4.writes (Elt F) VO0_4.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).1)

theorem cover0_A_5 (y : S256x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.1 S256x1024.size (by sl_kernel_rfl) y

def out0_A_5 : Vec F S256x1024 .bf16 :=
  VO0_5.read (Elt F) (VO0_5.writes (Elt F) VO0_5.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.1)

theorem cover0_A_6 (y : S256x2816.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.1, y ∈ pc.1.set :=
  View.cover_of_tiledBy (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.1 ![256, 256] (by sl_kernel_rfl) y

def out0_A_6 : Vec F S256x2816 .bf16 :=
  VO0_6.read (Elt F) (VO0_6.writes (Elt F) VO0_6.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.1)

theorem cover0_A_7 (y : S256x2816.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.1, y ∈ pc.1.set :=
  View.cover_of_tiledBy (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.1 ![256, 256] (by sl_kernel_rfl) y

def out0_A_7 : Vec F S256x2816 .bf16 :=
  VO0_7.read (Elt F) (VO0_7.writes (Elt F) VO0_7.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.1)

theorem cover0_A_8 (y : S256x2816.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.1, y ∈ pc.1.set :=
  View.cover_of_tiledBy (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.1 ![256, 256] (by sl_kernel_rfl) y

def out0_A_8 : Vec F S256x2816 .bf16 :=
  VO0_8.read (Elt F) (VO0_8.writes (Elt F) VO0_8.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.1)

theorem cover0_A_9 (y : S256x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.1 S256x1024.size (by sl_kernel_rfl) y

def out0_A_9 : Vec F S256x1024 .f32 :=
  VO0_9.read (Elt F) (VO0_9.writes (Elt F) VO0_9.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.1)

theorem scover0_A_0 (y : S2816x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.1 S352x1024.size (by sl_kernel_rfl) y

def sout0_A_0 : Vec F S2816x1024 .bf16 :=
  VS0_0.read (Elt F) (VS0_0.writes (Elt F) VS0_0.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.1)

theorem scover0_A_1 (y : S2816x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.2.1 S352x1024.size (by sl_kernel_rfl) y

def sout0_A_1 : Vec F S2816x1024 .bf16 :=
  VS0_1.read (Elt F) (VS0_1.writes (Elt F) VS0_1.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.2.1)

theorem scover0_A_2 (y : S2816x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.2.2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.2.2.1 S352x1024.size (by sl_kernel_rfl) y

def sout0_A_2 : Vec F S2816x1024 .bf16 :=
  VS0_2.read (Elt F) (VS0_2.writes (Elt F) VS0_2.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.2.2.1)

theorem scover0_A_3 (y : S2048x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.2.2.2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.2.2.2.1 S256x1024.size (by sl_kernel_rfl) y

def sout0_A_3 : Vec F S2048x1024 .bf16 :=
  VS0_3.read (Elt F) (VS0_3.writes (Elt F) VS0_3.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3).2.2.2.2.2.2.2.2.2.1)

end

section
variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2048x1024 .bf16) (harg18 : arg18.IsWhole) (hc0 : ¬cond0_0 i)
    (x0 : Vec F S256x1024 .f32) (x1 : Vec F S256x1024 .bf16) (x2 : Vec F S256x1024 .bf16) (x3 : Vec F S1x1024 .f32) (xs0 : Vec F S2816x1024 .bf16) (xs1 : Vec F S2816x1024 .bf16) (xs2 : Vec F S2816x1024 .bf16) (xs3 : Vec F S2048x1024 .bf16) (fh0 : HbBuf0 (F := F) c hbM0_0) (fh1 : HbBuf0 (F := F) c hbM0_1) (fh2 : HbBuf0 (F := F) c hbM0_2) (fh3 : HbBuf0 (F := F) c hbM0_3)

theorem cover0_B_4 (y : S256x1024.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).1, y ∈ pc.1.set :=
  View.cover_of_tiledL (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).1 S256x1024.size (by sl_kernel_rfl) y

def out0_B_4 : Vec F S256x1024 .f32 :=
  VO0_4.read (Elt F) (VO0_4.writes (Elt F) VO0_4.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).1)

theorem cover0_B_5 (y : S256x1024.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.1, y ∈ pc.1.set :=
  View.cover_of_tiledL (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.1 S256x1024.size (by sl_kernel_rfl) y

def out0_B_5 : Vec F S256x1024 .bf16 :=
  VO0_5.read (Elt F) (VO0_5.writes (Elt F) VO0_5.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.1)

theorem cover0_B_6 (y : S256x2816.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.1, y ∈ pc.1.set :=
  View.cover_of_tiledBy (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.1 ![256, 256] (by sl_kernel_rfl) y

def out0_B_6 : Vec F S256x2816 .bf16 :=
  VO0_6.read (Elt F) (VO0_6.writes (Elt F) VO0_6.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.1)

theorem cover0_B_7 (y : S256x2816.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.2.1, y ∈ pc.1.set :=
  View.cover_of_tiledBy (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.2.1 ![256, 256] (by sl_kernel_rfl) y

def out0_B_7 : Vec F S256x2816 .bf16 :=
  VO0_7.read (Elt F) (VO0_7.writes (Elt F) VO0_7.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.2.1)

theorem cover0_B_8 (y : S256x2816.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.2.2.1, y ∈ pc.1.set :=
  View.cover_of_tiledBy (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.2.2.1 ![256, 256] (by sl_kernel_rfl) y

def out0_B_8 : Vec F S256x2816 .bf16 :=
  VO0_8.read (Elt F) (VO0_8.writes (Elt F) VO0_8.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.2.2.1)

theorem cover0_B_9 (y : S256x1024.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.2.2.2.1, y ∈ pc.1.set :=
  View.cover_of_tiledL (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.2.2.2.1 S256x1024.size (by sl_kernel_rfl) y

def out0_B_9 : Vec F S256x1024 .f32 :=
  VO0_9.read (Elt F) (VO0_9.writes (Elt F) VO0_9.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3).2.2.2.2.2.1)

end

def sout0_B_0 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2048x1024 .bf16) (harg18 : arg18.IsWhole) (hc0 : ¬cond0_0 i)
    (x0 : Vec F S256x1024 .f32) (x1 : Vec F S256x1024 .bf16) (x2 : Vec F S256x1024 .bf16) (x3 : Vec F S1x1024 .f32) (xs0 : Vec F S2816x1024 .bf16) (xs1 : Vec F S2816x1024 .bf16) (xs2 : Vec F S2816x1024 .bf16) (xs3 : Vec F S2048x1024 .bf16) (fh0 : HbBuf0 (F := F) c hbM0_0) (fh1 : HbBuf0 (F := F) c hbM0_1) (fh2 : HbBuf0 (F := F) c hbM0_2) (fh3 : HbBuf0 (F := F) c hbM0_3) : Vec F S2816x1024 .bf16 := xs0

def sout0_B_1 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2048x1024 .bf16) (harg18 : arg18.IsWhole) (hc0 : ¬cond0_0 i)
    (x0 : Vec F S256x1024 .f32) (x1 : Vec F S256x1024 .bf16) (x2 : Vec F S256x1024 .bf16) (x3 : Vec F S1x1024 .f32) (xs0 : Vec F S2816x1024 .bf16) (xs1 : Vec F S2816x1024 .bf16) (xs2 : Vec F S2816x1024 .bf16) (xs3 : Vec F S2048x1024 .bf16) (fh0 : HbBuf0 (F := F) c hbM0_0) (fh1 : HbBuf0 (F := F) c hbM0_1) (fh2 : HbBuf0 (F := F) c hbM0_2) (fh3 : HbBuf0 (F := F) c hbM0_3) : Vec F S2816x1024 .bf16 := xs1

def sout0_B_2 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2048x1024 .bf16) (harg18 : arg18.IsWhole) (hc0 : ¬cond0_0 i)
    (x0 : Vec F S256x1024 .f32) (x1 : Vec F S256x1024 .bf16) (x2 : Vec F S256x1024 .bf16) (x3 : Vec F S1x1024 .f32) (xs0 : Vec F S2816x1024 .bf16) (xs1 : Vec F S2816x1024 .bf16) (xs2 : Vec F S2816x1024 .bf16) (xs3 : Vec F S2048x1024 .bf16) (fh0 : HbBuf0 (F := F) c hbM0_0) (fh1 : HbBuf0 (F := F) c hbM0_1) (fh2 : HbBuf0 (F := F) c hbM0_2) (fh3 : HbBuf0 (F := F) c hbM0_3) : Vec F S2816x1024 .bf16 := xs2

def sout0_B_3 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2048x1024 .bf16) (harg18 : arg18.IsWhole) (hc0 : ¬cond0_0 i)
    (x0 : Vec F S256x1024 .f32) (x1 : Vec F S256x1024 .bf16) (x2 : Vec F S256x1024 .bf16) (x3 : Vec F S1x1024 .f32) (xs0 : Vec F S2816x1024 .bf16) (xs1 : Vec F S2816x1024 .bf16) (xs2 : Vec F S2816x1024 .bf16) (xs3 : Vec F S2048x1024 .bf16) (fh0 : HbBuf0 (F := F) c hbM0_0) (fh1 : HbBuf0 (F := F) c hbM0_1) (fh2 : HbBuf0 (F := F) c hbM0_2) (fh3 : HbBuf0 (F := F) c hbM0_3) : Vec F S2048x1024 .bf16 := xs3

/-! ## What the outputs hold after each point -/

def outA (c : Dev nD) (t : Fin cfg0.N) (h : cond0_0 (grid0.coords t)) : Vec F S256x1024 .f32 × Vec F S256x1024 .bf16 × Vec F S256x2816 .bf16 × Vec F S256x2816 .bf16 × Vec F S256x2816 .bf16 × Vec F S256x1024 .f32 × Vec F S2816x1024 .bf16 × Vec F S2816x1024 .bf16 × Vec F S2816x1024 .bf16 × Vec F S2048x1024 .bf16 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (V m c main_v120) (V m c main_v241) (V m c main_v362) (V m c main_v411))

def outB (c : Dev nD) (t : Fin cfg0.N) (h : ¬cond0_0 (grid0.coords t)) (o : Vec F S256x1024 .f32 × Vec F S256x1024 .bf16 × Vec F S256x2816 .bf16 × Vec F S256x2816 .bf16 × Vec F S256x2816 .bf16 × Vec F S256x1024 .f32 × Vec F S2816x1024 .bf16 × Vec F S2816x1024 .bf16 × Vec F S2816x1024 .bf16 × Vec F S2048x1024 .bf16) : Vec F S256x1024 .f32 × Vec F S256x1024 .bf16 × Vec F S256x2816 .bf16 × Vec F S256x2816 .bf16 × Vec F S256x2816 .bf16 × Vec F S256x1024 .f32 × Vec F S2816x1024 .bf16 × Vec F S2816x1024 .bf16 × Vec F S2816x1024 .bf16 × Vec F S2048x1024 .bf16 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411), sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) o.2.2.2.2.2.2.1 o.2.2.2.2.2.2.2.1 o.2.2.2.2.2.2.2.2.1 o.2.2.2.2.2.2.2.2.2 (V m c main_v120) (V m c main_v241) (V m c main_v362) (V m c main_v411))

def outsAt0 (c : Dev nD) : (n : ℕ) → n < cfg0.N → Vec F S256x1024 .f32 × Vec F S256x1024 .bf16 × Vec F S256x2816 .bf16 × Vec F S256x2816 .bf16 × Vec F S256x2816 .bf16 × Vec F S256x1024 .f32 × Vec F S2816x1024 .bf16 × Vec F S2816x1024 .bf16 × Vec F S2816x1024 .bf16 × Vec F S2048x1024 .bf16
  | 0, hn => outA m c ⟨0, hn⟩ ((hcond0_0 ⟨0, hn⟩).mpr (Nat.zero_mod _))
  | n + 1, hn =>
    if h0 : (n + 1) % 32 = 0 then
      outA m c ⟨n + 1, hn⟩ ((hcond0_0 ⟨n + 1, hn⟩).mpr h0)
    else
      outB m c ⟨n + 1, hn⟩ (fun h => h0 ((hcond0_0 ⟨n + 1, hn⟩).mp h)) (outsAt0 c n (Nat.lt_of_succ_lt hn))

theorem outsAt0_A (c : Dev nD) (t : Fin cfg0.N) (h0 : t.val % 32 = 0) :
    outsAt0 m c t.val t.isLt = outA m c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = outB m c t (fun h => h0 ((hcond0_0 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0) ∗ iprop(hbPt0 c hbM0_0 (V m c main_v120) ∗ hbPt0 c hbM0_1 (V m c main_v241) ∗ hbPt0 c hbM0_2 (V m c main_v362) ∗ hbPt0 c hbM0_3 (V m c main_v411)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0) ∗ iprop(hbPt0 c hbM0_0 (V m c main_v120) ∗ hbPt0 c hbM0_1 (V m c main_v241) ∗ hbPt0 c hbM0_2 (V m c main_v362) ∗ hbPt0 c hbM0_3 (V m c main_v411))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2.1) ∗ owns (c : Thread nD τ) scM0_3 fullShare ((outsAt0 m c (n - 1) (by omega)).2.2.2.2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0) ∗ iprop(hbPt0 c hbM0_0 (V m c main_v120) ∗ hbPt0 c hbM0_1 (V m c main_v241) ∗ hbPt0 c hbM0_2 (V m c main_v362) ∗ hbPt0 c hbM0_3 (V m c main_v411))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0]; unfold outA
      unfold out0_A_4 out0_A_5 out0_A_6 out0_A_7 out0_A_8 out0_A_9 sout0_A_0 sout0_A_1 sout0_A_2 sout0_A_3; (try dsimp only)
      iintro ⟨⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (V m c main_v120) (V m c main_v241) (V m c main_v362) (V m c main_v411)).2.2.2.2.2.2.2.2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hh0]; · iexact Hh0
      isplitl [Hh1]; · iexact Hh1
      isplitl [Hh2]; · iexact Hh2
      isplitl [Hh3]; · iexact Hh3
      isplitl [HW]; · iexact HW
      iintro ⟨H0, H1, H2, H3, ⟨%e4, H4⟩, ⟨%e5, H5⟩, ⟨%e6, H6⟩, ⟨%e7, H7⟩, ⟨%e8, H8⟩, ⟨%e9, H9⟩, ⟨%es0, HS0⟩, ⟨%es1, HS1⟩, ⟨%es2, HS2⟩, ⟨%es3, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, ⟨%W', HW'⟩⟩
      isplitl [HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hh0 Hh1 Hh2 Hh3]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _)
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          isplitl [Hq23]; · iexact Hq23
          isplitl [Hq24]; · iexact Hq24
          isplitl [Hq25]; · iexact Hq25
          isplitl [Hq26]; · iexact Hq26
          isplitl [Hq27]; · iexact Hq27
          isplitl [Hq28]; · iexact Hq28
          isplitl [Hq29]; · iexact Hq29
          isplitl [Hq30]; · iexact Hq30
          iexact Hq31
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]; unfold outB
      unfold out0_B_4 out0_B_5 out0_B_6 out0_B_7 out0_B_8 out0_B_9 sout0_B_0 sout0_B_1 sout0_B_2 sout0_B_3; (try dsimp only)
      iintro ⟨⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) _ _ _ _ (V m c main_v120) (V m c main_v241) (V m c main_v362) (V m c main_v411)).2.2.2.2.2.2.2.2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hh0]; · iexact Hh0
      isplitl [Hh1]; · iexact Hh1
      isplitl [Hh2]; · iexact Hh2
      isplitl [Hh3]; · iexact Hh3
      isplitl [HW]; · iexact HW
      iintro ⟨H0, H1, H2, H3, ⟨%e4, H4⟩, ⟨%e5, H5⟩, ⟨%e6, H6⟩, ⟨%e7, H7⟩, ⟨%e8, H8⟩, ⟨%e9, H9⟩, HS0, HS1, HS2, HS3, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, ⟨%W', HW'⟩⟩
      isplitl [HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hh0 Hh1 Hh2 Hh3]
      · isplitl [HS0 HS1 HS2 HS3]
        · isplitl [HS0]; · iexact HS0
          isplitl [HS1]; · iexact HS1
          isplitl [HS2]; · iexact HS2
          iexact HS3
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          isplitl [Hq23]; · iexact Hq23
          isplitl [Hq24]; · iexact Hq24
          isplitl [Hq25]; · iexact Hq25
          isplitl [Hq26]; · iexact Hq26
          isplitl [Hq27]; · iexact Hq27
          isplitl [Hq28]; · iexact Hq28
          isplitl [Hq29]; · iexact Hq29
          isplitl [Hq30]; · iexact Hq30
          iexact Hq31
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hh0, Hh1, Hh2, Hh3⟩⟩
  isplitl [HS0 HS1 HS2 HS3]
  · isplitl [HS0]
    · iexists _; iexact HS0
    isplitl [HS1]
    · iexists _; iexact HS1
    isplitl [HS2]
    · iexists _; iexact HS2
    iexists _; iexact HS3
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    iexact Hq31
  isplitl [Hh0]; · iexact Hh0
  isplitl [Hh1]; · iexact Hh1
  isplitl [Hh2]; · iexact Hh2
  iexact Hh3

theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel8Ideal.Gen

end
-- ==== Proof.Feed.Stores.lean ====
module

public import proofs.«01_k».proof.Proof.Feed.Ideal.Frame
public import proofs.«01_k».proof.Proof.Feed.Pieces
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.Quiescent

@[expose] public section

noncomputable section

namespace Cert.Kernel8Ideal.Body

open Cert.Kernel8Ideal Cert.Kernel8Ideal.Gen Idealize.ShloMosaic Idealize.ShloMosaic.TcCoe Idealize.SL.Sem
open Idealize.ShloMosaic.Pipeline (Dat)
open Idealize.ShloMosaic (ix1 ix2 ix3 ix4)

variable {F : FTy → Type} [FloatOps F]

/-! ## What each kind of point leaves -/

section Kinds
variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2048x1024 .bf16) (harg18 : arg18.IsWhole)
  (x0 : Vec F S256x1024 .f32) (x1 : Vec F S256x1024 .bf16) (x2 : Vec F S256x1024 .bf16) (x3 : Vec F S1x1024 .f32)
  (xs0 : Vec F S2816x1024 .bf16) (xs1 : Vec F S2816x1024 .bf16) (xs2 : Vec F S2816x1024 .bf16) (xs3 : Vec F S2048x1024 .bf16) (fh0 : HbBuf0 (F := F) c hbM0_0) (fh1 : HbBuf0 (F := F) c hbM0_1) (fh2 : HbBuf0 (F := F) c hbM0_2) (fh3 : HbBuf0 (F := F) c hbM0_3)

set_option maxHeartbeats 400000 in
theorem out0_B_4_eq (hc0 : ¬cond0_0 i) : out0_B_4 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3 = oV xs0 xs1 xs2 (nV x0 x1 x2 x3 xs3) (xV x0 x1 x2 xs3) := by
  unfold out0_B_4
  rw [View.read_writes_junk_eq_canon]
  unfold kernelRun0_B
  dsimp only
  sl_unfold_words
  refine (View.canon_cons_unit_zero hz _ _ _).trans ?_
  simp only [View.readAt_eq_ld, harg1.read_unread, harg2.read_unread, harg3.read_unread, harg4.read_unread, harg15.read_unread, harg16.read_unread, harg17.read_unread, harg18.read_unread, View.ld_unit_zero (S := S256x1024) hz, View.ld_unit_zero (S := S1x1024) hz]

set_option maxHeartbeats 400000 in
theorem out0_B_5_eq (hc0 : ¬cond0_0 i) : out0_B_5 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3 = nV x0 x1 x2 x3 xs3 := by
  unfold out0_B_5
  rw [View.read_writes_junk_eq_canon]
  unfold kernelRun0_B
  dsimp only
  sl_unfold_words
  refine (View.canon_cons_unit_zero hz _ _ _).trans ?_
  simp only [View.readAt_eq_ld, harg1.read_unread, harg2.read_unread, harg3.read_unread, harg4.read_unread, harg15.read_unread, harg16.read_unread, harg17.read_unread, harg18.read_unread, View.ld_unit_zero (S := S256x1024) hz, View.ld_unit_zero (S := S1x1024) hz]

set_option maxHeartbeats 400000 in
theorem out0_B_6_eq (hc0 : ¬cond0_0 i) : out0_B_6 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3 = halves (a0 xs0 (nV x0 x1 x2 x3 xs3)) (a1 xs0 (nV x0 x1 x2 x3 xs3)) := by
  unfold out0_B_6
  rw [View.read_writes_junk_eq_canon]
  unfold kernelRun0_B
  dsimp only
  sl_unfold_words
  simp only [View.readAt_eq_ld, harg1.read_unread, harg2.read_unread, harg3.read_unread, harg4.read_unread, harg15.read_unread, harg16.read_unread, harg17.read_unread, harg18.read_unread, View.ld_unit_zero (S := S256x1024) hz, View.ld_unit_zero (S := S1x1024) hz]
  rfl

set_option maxHeartbeats 400000 in
theorem out0_B_7_eq (hc0 : ¬cond0_0 i) : out0_B_7 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3 = halves (b0 xs1 (nV x0 x1 x2 x3 xs3)) (b1 xs1 (nV x0 x1 x2 x3 xs3)) := by
  unfold out0_B_7
  rw [View.read_writes_junk_eq_canon]
  unfold kernelRun0_B
  dsimp only
  sl_unfold_words
  simp only [View.readAt_eq_ld, harg1.read_unread, harg2.read_unread, harg3.read_unread, harg4.read_unread, harg15.read_unread, harg16.read_unread, harg17.read_unread, harg18.read_unread, View.ld_unit_zero (S := S256x1024) hz, View.ld_unit_zero (S := S1x1024) hz]
  rfl

set_option maxHeartbeats 400000 in
theorem out0_B_8_eq (hc0 : ¬cond0_0 i) : out0_B_8 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3 = halves (s0 xs0 xs1 (nV x0 x1 x2 x3 xs3)) (s1 xs0 xs1 (nV x0 x1 x2 x3 xs3)) := by
  unfold out0_B_8
  rw [View.read_writes_junk_eq_canon]
  unfold kernelRun0_B
  dsimp only
  sl_unfold_words
  simp only [View.readAt_eq_ld, harg1.read_unread, harg2.read_unread, harg3.read_unread, harg4.read_unread, harg15.read_unread, harg16.read_unread, harg17.read_unread, harg18.read_unread, View.ld_unit_zero (S := S256x1024) hz, View.ld_unit_zero (S := S1x1024) hz]
  rfl

set_option maxHeartbeats 400000 in
theorem out0_B_9_eq (hc0 : ¬cond0_0 i) : out0_B_9 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 xs0 xs1 xs2 xs3 fh0 fh1 fh2 fh3 = xV x0 x1 x2 xs3 := by
  unfold out0_B_9
  rw [View.read_writes_junk_eq_canon]
  unfold kernelRun0_B
  dsimp only
  sl_unfold_words
  refine (View.canon_cons_unit_zero hz _ _ _).trans ?_
  simp only [View.readAt_eq_ld, harg1.read_unread, harg2.read_unread, harg3.read_unread, harg4.read_unread, harg15.read_unread, harg16.read_unread, harg17.read_unread, harg18.read_unread, View.ld_unit_zero (S := S256x1024) hz, View.ld_unit_zero (S := S1x1024) hz]

set_option maxHeartbeats 400000 in
theorem sout0_A_0_eq (hc0 : cond0_0 i) : sout0_A_0 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = copied0 fh0 := by
  unfold sout0_A_0
  rw [View.read_writes_junk_eq_canon]
  unfold kernelRun0_A
  dsimp only
  sl_unfold_words
  rfl

set_option maxHeartbeats 400000 in
theorem sout0_A_1_eq (hc0 : cond0_0 i) : sout0_A_1 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = copied1 fh1 := by
  unfold sout0_A_1
  rw [View.read_writes_junk_eq_canon]
  unfold kernelRun0_A
  dsimp only
  sl_unfold_words
  rfl

set_option maxHeartbeats 400000 in
theorem sout0_A_2_eq (hc0 : cond0_0 i) : sout0_A_2 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = copied2 fh2 := by
  unfold sout0_A_2
  rw [View.read_writes_junk_eq_canon]
  unfold kernelRun0_A
  dsimp only
  sl_unfold_words
  rfl

set_option maxHeartbeats 400000 in
theorem sout0_A_3_eq (hc0 : cond0_0 i) : sout0_A_3 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = copied3 fh3 := by
  unfold sout0_A_3
  rw [View.read_writes_junk_eq_canon]
  unfold kernelRun0_A
  dsimp only
  sl_unfold_words
  rfl

set_option maxHeartbeats 400000 in
theorem out0_A_4_eq (hc0 : cond0_0 i) : out0_A_4 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = oV (copied0 fh0) (copied1 fh1) (copied2 fh2) (nV x0 x1 x2 x3 (copied3 fh3)) (xV x0 x1 x2 (copied3 fh3)) := by
  unfold out0_A_4
  rw [View.read_writes_junk_eq_canon]
  unfold kernelRun0_A
  dsimp only
  sl_unfold_words
  refine (View.canon_cons_unit_zero hz _ _ _).trans ?_
  simp only [View.readAt_eq_ld, harg1.read_unread, harg2.read_unread, harg3.read_unread, harg4.read_unread, View.ld_unit_zero (S := S256x1024) hz, View.ld_unit_zero (S := S1x1024) hz, View.readCov_eq_canon']
  rfl

set_option maxHeartbeats 400000 in
theorem out0_A_5_eq (hc0 : cond0_0 i) : out0_A_5 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = nV x0 x1 x2 x3 (copied3 fh3) := by
  unfold out0_A_5
  rw [View.read_writes_junk_eq_canon]
  unfold kernelRun0_A
  dsimp only
  sl_unfold_words
  refine (View.canon_cons_unit_zero hz _ _ _).trans ?_
  simp only [View.readAt_eq_ld, harg1.read_unread, harg2.read_unread, harg3.read_unread, harg4.read_unread, View.ld_unit_zero (S := S256x1024) hz, View.ld_unit_zero (S := S1x1024) hz, View.readCov_eq_canon']
  rfl

set_option maxHeartbeats 400000 in
theorem out0_A_6_eq (hc0 : cond0_0 i) : out0_A_6 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = halves (a0 (copied0 fh0) (nV x0 x1 x2 x3 (copied3 fh3))) (a1 (copied0 fh0) (nV x0 x1 x2 x3 (copied3 fh3))) := by
  unfold out0_A_6
  rw [View.read_writes_junk_eq_canon]
  unfold kernelRun0_A
  dsimp only
  sl_unfold_words
  simp only [View.readAt_eq_ld, harg1.read_unread, harg2.read_unread, harg3.read_unread, harg4.read_unread, View.ld_unit_zero (S := S256x1024) hz, View.ld_unit_zero (S := S1x1024) hz, View.readCov_eq_canon']
  rfl

set_option maxHeartbeats 400000 in
theorem out0_A_7_eq (hc0 : cond0_0 i) : out0_A_7 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = halves (b0 (copied1 fh1) (nV x0 x1 x2 x3 (copied3 fh3))) (b1 (copied1 fh1) (nV x0 x1 x2 x3 (copied3 fh3))) := by
  unfold out0_A_7
  rw [View.read_writes_junk_eq_canon]
  unfold kernelRun0_A
  dsimp only
  sl_unfold_words
  simp only [View.readAt_eq_ld, harg1.read_unread, harg2.read_unread, harg3.read_unread, harg4.read_unread, View.ld_unit_zero (S := S256x1024) hz, View.ld_unit_zero (S := S1x1024) hz, View.readCov_eq_canon']
  rfl

set_option maxHeartbeats 400000 in
theorem out0_A_8_eq (hc0 : cond0_0 i) : out0_A_8 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = halves (s0 (copied0 fh0) (copied1 fh1) (nV x0 x1 x2 x3 (copied3 fh3))) (s1 (copied0 fh0) (copied1 fh1) (nV x0 x1 x2 x3 (copied3 fh3))) := by
  unfold out0_A_8
  rw [View.read_writes_junk_eq_canon]
  unfold kernelRun0_A
  dsimp only
  sl_unfold_words
  simp only [View.readAt_eq_ld, harg1.read_unread, harg2.read_unread, harg3.read_unread, harg4.read_unread, View.ld_unit_zero (S := S256x1024) hz, View.ld_unit_zero (S := S1x1024) hz, View.readCov_eq_canon']
  rfl

set_option maxHeartbeats 400000 in
theorem out0_A_9_eq (hc0 : cond0_0 i) : out0_A_9 c i arg1 harg1 arg2 harg2 arg3 harg3 arg4 harg4 arg9 harg9 arg10 harg10 arg11 harg11 arg12 harg12 arg13 harg13 arg14 harg14 arg15 harg15 arg16 harg16 arg17 harg17 arg18 harg18 hc0 x0 x1 x2 x3 fh0 fh1 fh2 fh3 = xV x0 x1 x2 (copied3 fh3) := by
  unfold out0_A_9
  rw [View.read_writes_junk_eq_canon]
  unfold kernelRun0_A
  dsimp only
  sl_unfold_words
  refine (View.canon_cons_unit_zero hz _ _ _).trans ?_
  simp only [View.readAt_eq_ld, harg1.read_unread, harg2.read_unread, harg3.read_unread, harg4.read_unread, View.ld_unit_zero (S := S256x1024) hz, View.ld_unit_zero (S := S1x1024) hz, View.readCov_eq_canon']
  rfl

end Kinds

end Cert.Kernel8Ideal.Body
-- ==== Proof.Feed.Host.lean ====
module

public import proofs.«01_k».proof.Proof.Gen.Kernel8Ideal.Frame.Runs
public import proofs.«01_k».proof.Proof.Host
public import Idealize.ShloMosaic.Lib.StableHlo.RunRead
public import Idealize.ShloMosaic.Lib.StableHlo.ReadAt
public import Idealize.ShloMosaic.Lib.Pointwise
public import Idealize.ShloMosaic.Lib.Tactic

@[expose] public section

noncomputable section

namespace Cert.Kernel8Ideal.Host

open Cert.Kernel8Ideal Cert.Kernel8Ideal.Gen Idealize.ShloMosaic Idealize.ShloMosaic.TcCoe Idealize.SL.Sem
open Idealize.ShloMosaic (ix1 ix2 ix3 ix4)

variable (m : (ℓ : Loc nD τ sig) → Buf (Elt Ideal) ℓ) (c : Dev nD)

abbrev H : Vec Ideal S8192x1024 .f32 := m ((c : Thread nD τ).loc main_arg0)
abbrev YA : Vec Ideal S8192x1024 .bf16 := m ((c : Thread nD τ).loc main_arg1)
abbrev YB : Vec Ideal S8192x1024 .bf16 := m ((c : Thread nD τ).loc main_arg2)
abbrev WO : Vec Ideal S2048x1024 .f32 := m ((c : Thread nD τ).loc main_arg3)
abbrev NormW : Vec Ideal S1x1024 .f32 := m ((c : Thread nD τ).loc main_arg4)
abbrev WG : Vec Ideal S1024x2816 .f32 := m ((c : Thread nD τ).loc main_arg5)
abbrev WU : Vec Ideal S1024x2816 .f32 := m ((c : Thread nD τ).loc main_arg6)
abbrev WD : Vec Ideal S2816x1024 .f32 := m ((c : Thread nD τ).loc main_arg7)

set_option maxHeartbeats 16000000 in
theorem v120 : V m c main_v120 = Cert.Kernel2Ideal.Host.shards (WG m c) (WU m c) (WD m c) := by
  unfold V
  after_reads_simp
  show Cert.Kernel2Ideal.Host.stack _ _ _ _ _ _ _ _ = Cert.Kernel2Ideal.Host.stack _ _ _ _ _ _ _ _
  congr 1

set_option maxHeartbeats 16000000 in
theorem v241 : V m c main_v241 = Cert.Kernel2Ideal.Host.shards (WG m c) (WU m c) (WD m c) := by
  unfold V
  after_reads_simp
  show Cert.Kernel2Ideal.Host.stack _ _ _ _ _ _ _ _ = Cert.Kernel2Ideal.Host.stack _ _ _ _ _ _ _ _
  congr 1

set_option maxHeartbeats 16000000 in
theorem v362 : V m c main_v362 = Cert.Kernel2Ideal.Host.shards (WG m c) (WU m c) (WD m c) := by
  unfold V
  after_reads_simp
  show Cert.Kernel2Ideal.Host.stack _ _ _ _ _ _ _ _ = Cert.Kernel2Ideal.Host.stack _ _ _ _ _ _ _ _
  congr 1

/-- A shard of the mixer's output projection, packed. -/
def strip (w : Vec Ideal S256x1024 .f32) : Vec Ideal S256x1024 .bf16 :=
  shapeCast S256x1024 (pad S262144 ![0] ![0] ![0] (shapeCast S262144 (truncf (F := Ideal) .bf16 w bitsLt_bf16_f32) shapeCasts_S256x1024_S262144 : Vec Ideal S262144 .bf16)
    (sitofp (F := Ideal) .bf16 (constantI S_ 32 0#32)) pads_S262144_S262144_000 h_S_) shapeCasts_S262144_S256x1024

theorem strip_at (w : Vec Ideal S256x1024 .f32) (r : Fin 256) (k : Fin 1024) : strip w (ix2 r k) = w (ix2 r k) := by
  pointwise [strip]
  rw [dif_pos (by omega)]

/-- One layer of a stack. -/
def layer (x : Vec Ideal S256x1024 .bf16) : Vec Ideal S1x256x1024 .bf16 := broadcastInDim S1x256x1024 ![1, 2] bcast_S256x1024_S1x256x1024_1_2 x

theorem layer_at (x : Vec Ideal S256x1024 .bf16) (r : Fin 256) (k : Fin 1024) : layer x (ix3 0 r k) = x (ix2 r k) := by
  pointwise [layer]

/-- Eight shards one on another. -/
def stack (x0 x1 x2 x3 x4 x5 x6 x7 : Vec Ideal S1x256x1024 .bf16) : Vec Ideal S8x256x1024 .bf16 :=
  concatenate S8x256x1024 0 [⟨S1x256x1024, x0⟩, ⟨S1x256x1024, x1⟩, ⟨S1x256x1024, x2⟩, ⟨S1x256x1024, x3⟩, ⟨S1x256x1024, x4⟩, ⟨S1x256x1024, x5⟩, ⟨S1x256x1024, x6⟩, ⟨S1x256x1024, x7⟩]
    concatenates_S1x256x1024_S1x256x1024_S1x256x1024_S1x256x1024_S1x256x1024_S1x256x1024_S1x256x1024_S1x256x1024_S8x256x1024_d0

/-- The stack of the output projection's shards. -/
def strips (w : Vec Ideal S2048x1024 .f32) : Vec Ideal S8x256x1024 .bf16 :=
  stack (layer (strip (extractStridedSlice S256x1024 ![0, 0] w slices_S2048x1024_S256x1024_0_0)))
    (layer (strip (extractStridedSlice S256x1024 ![256, 0] w slices_S2048x1024_S256x1024_256_0)))
    (layer (strip (extractStridedSlice S256x1024 ![512, 0] w slices_S2048x1024_S256x1024_512_0)))
    (layer (strip (extractStridedSlice S256x1024 ![768, 0] w slices_S2048x1024_S256x1024_768_0)))
    (layer (strip (extractStridedSlice S256x1024 ![1024, 0] w slices_S2048x1024_S256x1024_1024_0)))
    (layer (strip (extractStridedSlice S256x1024 ![1280, 0] w slices_S2048x1024_S256x1024_1280_0)))
    (layer (strip (extractStridedSlice S256x1024 ![1536, 0] w slices_S2048x1024_S256x1024_1536_0)))
    (layer (strip (extractStridedSlice S256x1024 ![1792, 0] w slices_S2048x1024_S256x1024_1792_0)))

set_option maxHeartbeats 16000000 in
theorem v411 : V m c main_v411 = strips (WO m c) := by
  unfold V
  after_reads_simp
  show stack _ _ _ _ _ _ _ _ = stack _ _ _ _ _ _ _ _
  congr 1

theorem strips_at (w : Vec Ideal S2048x1024 .f32) (j : Fin 8) (r : Fin 256) (k : Fin 1024) :
    strips w (ix3 j r k) = w (ix2 ⟨256 * j.val + r.val, by omega⟩ k) := by
  fin_cases j
  · refine (show strips w (ix3 0 r k) = layer (strip (extractStridedSlice S256x1024 ![0, 0] w slices_S2048x1024_S256x1024_0_0)) (ix3 0 r k) by pointwise [strips, stack]).trans ?_
    rw [layer_at, strip_at]
    pointwise []
  · refine (show strips w (ix3 1 r k) = layer (strip (extractStridedSlice S256x1024 ![256, 0] w slices_S2048x1024_S256x1024_256_0)) (ix3 0 r k) by pointwise [strips, stack]).trans ?_
    rw [layer_at, strip_at]
    pointwise []
  · refine (show strips w (ix3 2 r k) = layer (strip (extractStridedSlice S256x1024 ![512, 0] w slices_S2048x1024_S256x1024_512_0)) (ix3 0 r k) by pointwise [strips, stack]).trans ?_
    rw [layer_at, strip_at]
    pointwise []
  · refine (show strips w (ix3 3 r k) = layer (strip (extractStridedSlice S256x1024 ![768, 0] w slices_S2048x1024_S256x1024_768_0)) (ix3 0 r k) by pointwise [strips, stack]).trans ?_
    rw [layer_at, strip_at]
    pointwise []
  · refine (show strips w (ix3 4 r k) = layer (strip (extractStridedSlice S256x1024 ![1024, 0] w slices_S2048x1024_S256x1024_1024_0)) (ix3 0 r k) by pointwise [strips, stack]).trans ?_
    rw [layer_at, strip_at]
    pointwise []
  · refine (show strips w (ix3 5 r k) = layer (strip (extractStridedSlice S256x1024 ![1280, 0] w slices_S2048x1024_S256x1024_1280_0)) (ix3 0 r k) by pointwise [strips, stack]).trans ?_
    rw [layer_at, strip_at]
    pointwise []
  · refine (show strips w (ix3 6 r k) = layer (strip (extractStridedSlice S256x1024 ![1536, 0] w slices_S2048x1024_S256x1024_1536_0)) (ix3 0 r k) by pointwise [strips, stack]).trans ?_
    rw [layer_at, strip_at]
    pointwise []
  · refine (show strips w (ix3 7 r k) = layer (strip (extractStridedSlice S256x1024 ![1792, 0] w slices_S2048x1024_S256x1024_1792_0)) (ix3 0 r k) by pointwise [strips, stack]).trans ?_
    rw [layer_at, strip_at]
    pointwise []

end Cert.Kernel8Ideal.Host
-- ==== Proof.Feed.Ideal.Value.lean ====
module

public import proofs.«01_k».proof.Proof.Feed.Ideal.Frame
public import Idealize.ShloMosaic.Lib.Pipeline.Value

@[expose] public section

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post4 (r : PUnit × MemSt nD τ sig (Elt F)) (h : Pipeline.FramePost cfgs (dats m) 0 (V m) r) (c : Dev nD) :
    r.2.mem ((c : Thread nD τ).loc main_v412_0) = (dats m 0 c).arrAt 4 cfg0.N :=
  (h c).1 4

theorem post5 (r : PUnit × MemSt nD τ sig (Elt F)) (h : Pipeline.FramePost cfgs (dats m) 0 (V m) r) (c : Dev nD) :
    r.2.mem ((c : Thread nD τ).loc main_v412_1) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v412_2) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v412_3) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v412_4) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v412_5) = (dats m 0 c).arrAt 9 cfg0.N :=
  (h c).1 9

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

set_option maxHeartbeats 225600 in
theorem run_blocks : θ_run defs (onTc (τ := τ) (main (F := F))) ⟨m, fun _ => 0, ρ⟩ fun r => ∀ c : Dev nD,
      r.2.mem ((c : Thread nD τ).loc main_v412_0) = (dats m 0 c).arrAt 4 cfg0.N
      ∧ r.2.mem ((c : Thread nD τ).loc main_v412_1) = (dats m 0 c).arrAt 5 cfg0.N
      ∧ r.2.mem ((c : Thread nD τ).loc main_v412_2) = (dats m 0 c).arrAt 6 cfg0.N
      ∧ r.2.mem ((c : Thread nD τ).loc main_v412_3) = (dats m 0 c).arrAt 7 cfg0.N
      ∧ r.2.mem ((c : Thread nD τ).loc main_v412_4) = (dats m 0 c).arrAt 8 cfg0.N
      ∧ r.2.mem ((c : Thread nD τ).loc main_v412_5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post4 m r h c,
      post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.Kernel8Ideal.Value
-- ==== Proof.Feed.Points.lean ====
module

public import proofs.«01_k».proof.Proof.Feed.Block
public import proofs.«01_k».proof.Proof.Feed.Stores
public import proofs.«01_k».proof.Proof.Feed.Host
public import proofs.«01_k».proof.Proof.Feed.Ideal.Value
public import proofs.«01_k».proof.Proof.Ffn.Block
public import Idealize.ShloMosaic.Lib.Pipeline.ValueKit
public import Idealize.ShloMosaic.Lib.Pipeline.Value
public import Idealize.ShloMosaic.Lib.Pointwise
public import Idealize.ShloMosaic.Lib.Tactic

@[expose] public section

set_option maxRecDepth 16384

noncomputable section

namespace Cert.Kernel8Ideal.Body

open Cert.Kernel8Ideal Cert.Kernel8Ideal.Gen Idealize.ShloMosaic Idealize.ShloMosaic.TcCoe Idealize.SL.Sem
open Idealize.ShloMosaic.Pipeline (Dat)
open Idealize.ShloMosaic (ix1 ix2 ix3 ix4)
open Cert.Kernel8Ideal.Host (H YA YB WO NormW WG WU WD)

section Tuples
variable {A B C D E G I J K L : Type} {x : A × B × C × D × E × G × I × J × K × L} {a : A} {b : B} {c : C} {d : D} {e : E} {g : G} {i : I} {j : J} {k : K} {l : L}

theorem part1 (q : x = (a, b, c, d, e, g, i, j, k, l)) : x.1 = a := by rw [q]
theorem part2 (q : x = (a, b, c, d, e, g, i, j, k, l)) : x.2.1 = b := by rw [q]
theorem part3 (q : x = (a, b, c, d, e, g, i, j, k, l)) : x.2.2.1 = c := by rw [q]
theorem part4 (q : x = (a, b, c, d, e, g, i, j, k, l)) : x.2.2.2.1 = d := by rw [q]
theorem part5 (q : x = (a, b, c, d, e, g, i, j, k, l)) : x.2.2.2.2.1 = e := by rw [q]
theorem part6 (q : x = (a, b, c, d, e, g, i, j, k, l)) : x.2.2.2.2.2.1 = g := by rw [q]

end Tuples

variable (m : (ℓ : Loc nD τ sig) → Buf (Elt Ideal) ℓ) (c : Dev nD)

theorem N32 : cfg0.N = 32 := N_0

/-! ## What the buffers hold after each point -/

abbrev B0 (t : Fin cfg0.N) : Vec Ideal S256x1024 .f32 := iblk m c 0 t
abbrev B1 (t : Fin cfg0.N) : Vec Ideal S256x1024 .bf16 := iblk m c 1 t
abbrev B2 (t : Fin cfg0.N) : Vec Ideal S256x1024 .bf16 := iblk m c 2 t
abbrev B3 (t : Fin cfg0.N) : Vec Ideal S1x1024 .f32 := iblk m c 3 t

/-- The copies of the weights. -/
abbrev wG : Vec Ideal S2816x1024 .bf16 := copied0 (F := Ideal) (V m c main_v120)
abbrev wU : Vec Ideal S2816x1024 .bf16 := copied1 (F := Ideal) (V m c main_v241)
abbrev wD : Vec Ideal S2816x1024 .bf16 := copied2 (F := Ideal) (V m c main_v362)
abbrev wO : Vec Ideal S2048x1024 .bf16 := copied3 (F := Ideal) (V m c main_v411)

/-- The blocks a point writes, from the copies `p`, `q`, `s`, `w`. -/
abbrev Dx (t : Fin cfg0.N) (w : Vec Ideal S2048x1024 .bf16) : Vec Ideal S256x1024 .f32 := xV (B0 m c t) (B1 m c t) (B2 m c t) w
abbrev Dn (t : Fin cfg0.N) (w : Vec Ideal S2048x1024 .bf16) : Vec Ideal S256x1024 .bf16 := nV (B0 m c t) (B1 m c t) (B2 m c t) (B3 m c t) w
abbrev Da (t : Fin cfg0.N) (p : Vec Ideal S2816x1024 .bf16) (w : Vec Ideal S2048x1024 .bf16) : Vec Ideal S256x2816 .bf16 := halves (F := Ideal) (a0 p (Dn m c t w)) (a1 p (Dn m c t w))
abbrev Db (t : Fin cfg0.N) (q : Vec Ideal S2816x1024 .bf16) (w : Vec Ideal S2048x1024 .bf16) : Vec Ideal S256x2816 .bf16 := halves (F := Ideal) (b0 q (Dn m c t w)) (b1 q (Dn m c t w))
abbrev Ds (t : Fin cfg0.N) (p q : Vec Ideal S2816x1024 .bf16) (w : Vec Ideal S2048x1024 .bf16) : Vec Ideal S256x2816 .bf16 := halves (F := Ideal) (s0 p q (Dn m c t w)) (s1 p q (Dn m c t w))
abbrev Do (t : Fin cfg0.N) (p q s : Vec Ideal S2816x1024 .bf16) (w : Vec Ideal S2048x1024 .bf16) : Vec Ideal S256x1024 .f32 := oV p q s (Dn m c t w) (Dx m c t w)

set_option maxHeartbeats 4000000 in
theorem state_A (t : Fin cfg0.N) (h0 : t.val % 32 = 0) :
    outsAt0 m c t.val t.isLt = (Do m c t (wG m c) (wU m c) (wD m c) (wO m c), Dn m c t (wO m c), Da m c t (wG m c) (wO m c), Db m c t (wU m c) (wO m c), Ds m c t (wG m c) (wU m c) (wO m c), Dx m c t (wO m c),
      wG m c, wU m c, wD m c, wO m c) := by
  rw [outsAt0_A m c t h0]
  unfold outA
  rw [out0_A_4_eq, out0_A_5_eq, out0_A_6_eq, out0_A_7_eq, out0_A_8_eq, out0_A_9_eq, sout0_A_0_eq, sout0_A_1_eq, sout0_A_2_eq, sout0_A_3_eq]

set_option maxHeartbeats 4000000 in
theorem state_B (t : Fin cfg0.N) (h0 : ¬t.val % 32 = 0) (o) (ho : outsAt0 m c (t.val - 1) (Nat.lt_of_le_of_lt (Nat.sub_le _ _) t.isLt) = o) :
    outsAt0 m c t.val t.isLt = (Do m c t o.2.2.2.2.2.2.1 o.2.2.2.2.2.2.2.1 o.2.2.2.2.2.2.2.2.1 o.2.2.2.2.2.2.2.2.2, Dn m c t o.2.2.2.2.2.2.2.2.2, Da m c t o.2.2.2.2.2.2.1 o.2.2.2.2.2.2.2.2.2,
      Db m c t o.2.2.2.2.2.2.2.1 o.2.2.2.2.2.2.2.2.2, Ds m c t o.2.2.2.2.2.2.1 o.2.2.2.2.2.2.2.1 o.2.2.2.2.2.2.2.2.2, Dx m c t o.2.2.2.2.2.2.2.2.2,
      o.2.2.2.2.2.2.1, o.2.2.2.2.2.2.2.1, o.2.2.2.2.2.2.2.2.1, o.2.2.2.2.2.2.2.2.2) := by
  rw [outsAt0_B m c t h0, ho]
  unfold outB
  rw [out0_B_4_eq, out0_B_5_eq, out0_B_6_eq, out0_B_7_eq, out0_B_8_eq, out0_B_9_eq]
  rfl

theorem notFirst {n : ℕ} (h : n + 1 < cfg0.N) : ¬(⟨n + 1, h⟩ : Fin cfg0.N).val % 32 = 0 := by
  have : cfg0.N = 32 := N32
  dsimp only
  omega

/-- A later point, from what the one before it held. -/
theorem later (n : ℕ) (h : n + 1 < cfg0.N) (o1 : Vec Ideal S256x1024 .f32) (o2 : Vec Ideal S256x1024 .bf16) (o3 o4 o5 : Vec Ideal S256x2816 .bf16) (o6 : Vec Ideal S256x1024 .f32)
    (g u d : Vec Ideal S2816x1024 .bf16) (w : Vec Ideal S2048x1024 .bf16) (ho : outsAt0 m c n (Nat.lt_of_succ_lt h) = (o1, o2, o3, o4, o5, o6, g, u, d, w)) :
    outsAt0 m c (n + 1) h = (Do m c ⟨n + 1, h⟩ g u d w, Dn m c ⟨n + 1, h⟩ w, Da m c ⟨n + 1, h⟩ g w, Db m c ⟨n + 1, h⟩ u w, Ds m c ⟨n + 1, h⟩ g u w, Dx m c ⟨n + 1, h⟩ w, g, u, d, w) :=
  state_B m c ⟨n + 1, h⟩ (notFirst h) (o1, o2, o3, o4, o5, o6, g, u, d, w) ho

/-- Every point's results: the copies made at the first point stay. -/
theorem state : ∀ (n : ℕ) (h : n < cfg0.N), outsAt0 m c n h = (Do m c ⟨n, h⟩ (wG m c) (wU m c) (wD m c) (wO m c), Dn m c ⟨n, h⟩ (wO m c), Da m c ⟨n, h⟩ (wG m c) (wO m c), Db m c ⟨n, h⟩ (wU m c) (wO m c),
    Ds m c ⟨n, h⟩ (wG m c) (wU m c) (wO m c), Dx m c ⟨n, h⟩ (wO m c), wG m c, wU m c, wD m c, wO m c)
  | 0, h => state_A m c ⟨0, h⟩ rfl
  | n + 1, h => later m c n h _ _ _ _ _ _ _ _ _ _ (state n (Nat.lt_of_succ_lt h))

/-! ## The blocks -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = t.val ∧ win0_9.index t 1 = 0 := by decide +kernel
theorem index3 : ∀ t : Fin cfg0.N, win0_3.index t 0 = 0 ∧ win0_3.index t 1 = 0 := by decide +kernel

/-- The row of the array a point's row is. -/
abbrev at_row (t : Fin cfg0.N) (r : Fin 256) : Fin 8192 := ⟨t.val * 256 + r.val, by have := t.isLt; have := N32; omega⟩

theorem block0 (t : Fin cfg0.N) (r : Fin 256) (k : Fin 1024) : B0 m c t (ix2 r k) = (H m c : Vec Ideal S8192x1024 .f32) (ix2 (at_row t r) k) := by
  obtain ⟨h0, h1⟩ := index0 t
  unfold B0 iblk
  rw [View.read_apply]
  show V m c main_arg0 _ = _
  rw [V_main_arg0]
  congr 1
  funext a
  refine Fin.ext ?_
  match a with
  | ⟨0, _⟩ => show win0_0.index t 0 * 256 + 1 * r.val = t.val * 256 + r.val; omega
  | ⟨1, _⟩ => show win0_0.index t 1 * 1024 + 1 * k.val = k.val; omega

theorem block1 (t : Fin cfg0.N) (r : Fin 256) (k : Fin 1024) : B1 m c t (ix2 r k) = (YA m c : Vec Ideal S8192x1024 .bf16) (ix2 (at_row t r) k) := by
  obtain ⟨h0, h1⟩ := index1 t
  unfold B1 iblk
  rw [View.read_apply]
  show V m c main_arg1 _ = _
  rw [V_main_arg1]
  congr 1
  funext a
  refine Fin.ext ?_
  match a with
  | ⟨0, _⟩ => show win0_1.index t 0 * 256 + 1 * r.val = t.val * 256 + r.val; omega
  | ⟨1, _⟩ => show win0_1.index t 1 * 1024 + 1 * k.val = k.val; omega

theorem block2 (t : Fin cfg0.N) (r : Fin 256) (k : Fin 1024) : B2 m c t (ix2 r k) = (YB m c : Vec Ideal S8192x1024 .bf16) (ix2 (at_row t r) k) := by
  obtain ⟨h0, h1⟩ := index2 t
  unfold B2 iblk
  rw [View.read_apply]
  show V m c main_arg2 _ = _
  rw [V_main_arg2]
  congr 1
  funext a
  refine Fin.ext ?_
  match a with
  | ⟨0, _⟩ => show win0_2.index t 0 * 256 + 1 * r.val = t.val * 256 + r.val; omega
  | ⟨1, _⟩ => show win0_2.index t 1 * 1024 + 1 * k.val = k.val; omega

theorem block3 (t : Fin cfg0.N) (k : Fin 1024) : B3 m c t (ix2 0 k) = NormW m c (ix2 0 k) := by
  obtain ⟨h0, h1⟩ := index3 t
  unfold B3 iblk
  rw [View.read_apply]
  show V m c main_arg4 _ = _
  rw [V_main_arg4]
  congr 1
  funext a
  refine Fin.ext ?_
  match a with
  | ⟨0, _⟩ => show win0_3.index t 0 * 1 + 1 * 0 = 0; omega
  | ⟨1, _⟩ => show win0_3.index t 1 * 1024 + 1 * k.val = k.val; omega

/-! ## A point's rows are the reference's -/

theorem row_h (t : Fin cfg0.N) (r : Fin 256) : rwF r (B0 m c t) = Feed.rowF (at_row t r) (H m c) := funext fun k => block0 m c t r k
theorem row_ya (t : Fin cfg0.N) (r : Fin 256) : rwB r (B1 m c t) = Feed.rowB (at_row t r) (YA m c) := funext fun k => block1 m c t r k
theorem row_yb (t : Fin cfg0.N) (r : Fin 256) : rwB r (B2 m c t) = Feed.rowB (at_row t r) (YB m c) := funext fun k => block2 m c t r k
theorem row_g (t : Fin cfg0.N) : (fun k => B3 m c t (ix2 0 k)) = Feed.gain (NormW m c) := funext fun k => block3 m c t k

theorem weight_g : wt (wG m c) = Feed.turned (WG m c) := by
  funext j k
  show copied0 (F := Ideal) (V m c main_v120) (ix2 j k) = _
  rw [Host.v120]
  exact Cert.Kernel2Ideal.Body.copied0_at _ _ _ j k

theorem weight_u : wt (wU m c) = Feed.turned (WU m c) := by
  funext j k
  show copied1 (F := Ideal) (V m c main_v241) (ix2 j k) = _
  rw [Host.v241]
  exact Cert.Kernel2Ideal.Body.copied1_at _ _ _ j k

theorem weight_d : wt (wD m c) = Feed.down (WD m c) := by
  funext j k
  show copied2 (F := Ideal) (V m c main_v362) (ix2 j k) = _
  rw [Host.v362]
  exact Cert.Kernel2Ideal.Body.copied2_at _ _ _ j k

theorem weight_o : wo (wO m c) = Feed.both (WO m c) := by
  funext q k
  show copied3 (F := Ideal) (V m c main_v411) (ix2 q k) = _
  rw [Host.v411]
  obtain ⟨j, r, rfl⟩ : ∃ (j : Fin 8) (r : Fin 256), q = ⟨256 * j.val + r.val, by omega⟩ :=
    ⟨⟨q.val / 256, by omega⟩, ⟨q.val % 256, by omega⟩, Fin.ext (show q.val = 256 * (q.val / 256) + q.val % 256 by omega)⟩
  exact (copied3_cut _ j r k).trans (Host.strips_at _ j r k)

section Row
variable (t : Fin cfg0.N) (r : Fin 256)

theorem row_x : rwF r (Dx m c t (wO m c)) = Feed.X (H m c) (YA m c) (YB m c) (WO m c) (at_row t r) := by
  funext k
  refine (xV_at (B0 m c t) (B1 m c t) (B2 m c t) (wO m c) r k).trans ?_
  rw [row_h, row_ya, row_yb, weight_o]

theorem row_n : rwB r (Dn m c t (wO m c)) = Feed.N (H m c) (YA m c) (YB m c) (WO m c) (NormW m c) (at_row t r) := by
  funext k
  refine (nV_at (B0 m c t) (B1 m c t) (B2 m c t) (B3 m c t) (wO m c) r k).trans ?_
  rw [row_h, row_ya, row_yb, row_g, weight_o]

theorem Da_at (j : Fin 2816) : Da m c t (wG m c) (wO m c) (ix2 r j) = Feed.proj (Feed.N (H m c) (YA m c) (YB m c) (WO m c) (NormW m c) (at_row t r)) (Feed.turned (WG m c)) j := by
  refine (halves_at _ _ (Feed.proj (rwB r (Dn m c t (wO m c))) (wt (wG m c))) r (fun j => a0_at _ r _ j) (fun j => a1_at _ r _ j) j).trans ?_
  rw [row_n, weight_g]

theorem Db_at (j : Fin 2816) : Db m c t (wU m c) (wO m c) (ix2 r j) = Feed.proj (Feed.N (H m c) (YA m c) (YB m c) (WO m c) (NormW m c) (at_row t r)) (Feed.turned (WU m c)) j := by
  refine (halves_at _ _ (Feed.proj (rwB r (Dn m c t (wO m c))) (wt (wU m c))) r (fun j => b0_at _ r _ j) (fun j => b1_at _ r _ j) j).trans ?_
  rw [row_n, weight_u]

theorem Ds_at (j : Fin 2816) : Ds m c t (wG m c) (wU m c) (wO m c) (ix2 r j) = Feed.S (H m c) (YA m c) (YB m c) (WO m c) (NormW m c) (WG m c) (WU m c) (at_row t r) j := by
  refine (halves_at _ _ (Feed.gated (rwB r (Dn m c t (wO m c))) (wt (wG m c)) (wt (wU m c))) r (fun j => s0_at _ _ r _ j) (fun j => s1_at _ _ r _ j) j).trans ?_
  rw [row_n, weight_g, weight_u]

theorem Do_at (k : Fin 1024) : Do m c t (wG m c) (wU m c) (wD m c) (wO m c) (ix2 r k)
    = Feed.out (Feed.X (H m c) (YA m c) (YB m c) (WO m c) (at_row t r)) (Feed.S (H m c) (YA m c) (YB m c) (WO m c) (NormW m c) (WG m c) (WU m c) (at_row t r)) (Feed.down (WD m c)) k := by
  refine (oV_at (wG m c) (wU m c) (wD m c) r (Dn m c t (wO m c)) (Dx m c t (wO m c)) k).trans ?_
  rw [row_x, row_n, weight_g, weight_u, weight_d]

end Row

/-! ## The result arrays after the run -/

theorem final4 : (dats m 0 c).arrAt 4 cfg0.N = Cert.Reference8Ideal.Read.val_main_v25 (F := Ideal) (H m c) (YA m c) (YB m c) (WO m c) (NormW m c) (WG m c) (WU m c) (WD m c) := by
  refine (dats m 0 c).arrAt_eq_of_covers 4 _ (by decide +kernel) fun t hf y => ?_
  blk_simp
  rw [after0_4, part1 (state m c t.val t.isLt)]
  have e : y = ix2 (y 0) (y 1) := funext fun a => match a with
    | ⟨0, _⟩ => rfl
    | ⟨1, _⟩ => rfl
  rw [e]
  refine ((Do_at m c t (y 0) (y 1)).trans (Feed.v25_at _ _ _ _ _ _ _ _ (at_row t (y 0)) (y 1)).symm).trans (congrArg _ ?_)
  obtain ⟨h0, h1⟩ := index4 t
  refine funext fun a => Fin.ext ?_
  match a with
  | ⟨0, _⟩ => show t.val * 256 + (y 0 : Nat) = win0_4.index t 0 * 256 + 1 * (y 0 : Nat); rw [h0]; omega
  | ⟨1, _⟩ => show (y 1 : Nat) = win0_4.index t 1 * 1024 + 1 * (y 1 : Nat); rw [h1]; omega

theorem final5 : (dats m 0 c).arrAt 5 cfg0.N = Cert.Reference8Ideal.Read.val_main_v26 (F := Ideal) (H m c) (YA m c) (YB m c) (WO m c) (NormW m c) := by
  refine (dats m 0 c).arrAt_eq_of_covers 5 _ (by decide +kernel) fun t hf y => ?_
  blk_simp
  rw [after0_5, part2 (state m c t.val t.isLt)]
  have e : y = ix2 (y 0) (y 1) := funext fun a => match a with
    | ⟨0, _⟩ => rfl
    | ⟨1, _⟩ => rfl
  rw [e]
  refine ((congrFun (row_n m c t (y 0)) (y 1)).trans (Feed.v26_at _ _ _ _ _ (at_row t (y 0)) (y 1)).symm).trans (congrArg _ ?_)
  obtain ⟨h0, h1⟩ := index5 t
  refine funext fun a => Fin.ext ?_
  match a with
  | ⟨0, _⟩ => show t.val * 256 + (y 0 : Nat) = win0_5.index t 0 * 256 + 1 * (y 0 : Nat); rw [h0]; omega
  | ⟨1, _⟩ => show (y 1 : Nat) = win0_5.index t 1 * 1024 + 1 * (y 1 : Nat); rw [h1]; omega

theorem final6 : (dats m 0 c).arrAt 6 cfg0.N = Cert.Reference8Ideal.Read.val_main_v27 (F := Ideal) (H m c) (YA m c) (YB m c) (WO m c) (NormW m c) (WG m c) := by
  refine (dats m 0 c).arrAt_eq_of_covers 6 _ (by decide +kernel) fun t hf y => ?_
  blk_simp
  rw [after0_6, part3 (state m c t.val t.isLt)]
  have e : y = ix2 (y 0) (y 1) := funext fun a => match a with
    | ⟨0, _⟩ => rfl
    | ⟨1, _⟩ => rfl
  rw [e]
  refine ((Da_at m c t (y 0) (y 1)).trans (Feed.v27_at _ _ _ _ _ _ (at_row t (y 0)) (y 1)).symm).trans (congrArg _ ?_)
  obtain ⟨h0, h1⟩ := index6 t
  refine funext fun a => Fin.ext ?_
  match a with
  | ⟨0, _⟩ => show t.val * 256 + (y 0 : Nat) = win0_6.index t 0 * 256 + 1 * (y 0 : Nat); rw [h0]; omega
  | ⟨1, _⟩ => show (y 1 : Nat) = win0_6.index t 1 * 2816 + 1 * (y 1 : Nat); rw [h1]; omega

theorem final7 : (dats m 0 c).arrAt 7 cfg0.N = Cert.Reference8Ideal.Read.val_main_v28 (F := Ideal) (H m c) (YA m c) (YB m c) (WO m c) (NormW m c) (WU m c) := by
  refine (dats m 0 c).arrAt_eq_of_covers 7 _ (by decide +kernel) fun t hf y => ?_
  blk_simp
  rw [after0_7, part4 (state m c t.val t.isLt)]
  have e : y = ix2 (y 0) (y 1) := funext fun a => match a with
    | ⟨0, _⟩ => rfl
    | ⟨1, _⟩ => rfl
  rw [e]
  refine ((Db_at m c t (y 0) (y 1)).trans (Feed.v28_at _ _ _ _ _ _ (at_row t (y 0)) (y 1)).symm).trans (congrArg _ ?_)
  obtain ⟨h0, h1⟩ := index7 t
  refine funext fun a => Fin.ext ?_
  match a with
  | ⟨0, _⟩ => show t.val * 256 + (y 0 : Nat) = win0_7.index t 0 * 256 + 1 * (y 0 : Nat); rw [h0]; omega
  | ⟨1, _⟩ => show (y 1 : Nat) = win0_7.index t 1 * 2816 + 1 * (y 1 : Nat); rw [h1]; omega

theorem final8 : (dats m 0 c).arrAt 8 cfg0.N = Cert.Reference8Ideal.Read.val_main_v29 (F := Ideal) (H m c) (YA m c) (YB m c) (WO m c) (NormW m c) (WG m c) (WU m c) := by
  refine (dats m 0 c).arrAt_eq_of_covers 8 _ (by decide +kernel) fun t hf y => ?_
  blk_simp
  rw [after0_8, part5 (state m c t.val t.isLt)]
  have e : y = ix2 (y 0) (y 1) := funext fun a => match a with
    | ⟨0, _⟩ => rfl
    | ⟨1, _⟩ => rfl
  rw [e]
  refine ((Ds_at m c t (y 0) (y 1)).trans (Feed.v29_at _ _ _ _ _ _ _ (at_row t (y 0)) (y 1)).symm).trans (congrArg _ ?_)
  obtain ⟨h0, h1⟩ := index8 t
  refine funext fun a => Fin.ext ?_
  match a with
  | ⟨0, _⟩ => show t.val * 256 + (y 0 : Nat) = win0_8.index t 0 * 256 + 1 * (y 0 : Nat); rw [h0]; omega
  | ⟨1, _⟩ => show (y 1 : Nat) = win0_8.index t 1 * 2816 + 1 * (y 1 : Nat); rw [h1]; omega

theorem final9 : (dats m 0 c).arrAt 9 cfg0.N = Cert.Reference8Ideal.Read.val_main_v3 (F := Ideal) (H m c) (YA m c) (YB m c) (WO m c) := by
  refine (dats m 0 c).arrAt_eq_of_covers 9 _ (by decide +kernel) fun t hf y => ?_
  blk_simp
  rw [after0_9, part6 (state m c t.val t.isLt)]
  have e : y = ix2 (y 0) (y 1) := funext fun a => match a with
    | ⟨0, _⟩ => rfl
    | ⟨1, _⟩ => rfl
  rw [e]
  refine ((congrFun (row_x m c t (y 0)) (y 1)).trans (Feed.v3_at _ _ _ _ (at_row t (y 0)) (y 1)).symm).trans (congrArg _ ?_)
  obtain ⟨h0, h1⟩ := index9 t
  refine funext fun a => Fin.ext ?_
  match a with
  | ⟨0, _⟩ => show t.val * 256 + (y 0 : Nat) = win0_9.index t 0 * 256 + 1 * (y 0 : Nat); rw [h0]; omega
  | ⟨1, _⟩ => show (y 1 : Nat) = win0_9.index t 1 * 1024 + 1 * (y 1 : Nat); rw [h1]; omega

end Cert.Kernel8Ideal.Body
-- ==== Proof.Feed.Same.lean ====
/- The two programs of the feed-forward call have the same text, so the run proved for the ideal one over any float values is the other's too. -/
module

public import proofs.«01_k».proof.Kernel8
public import proofs.«01_k».proof.Proof.Gen.Kernel8
public import proofs.«01_k».proof.Proof.Feed.Ideal.Frame

@[expose] public section

set_option maxRecDepth 16384

noncomputable section

namespace Cert.Kernel8.Same

open Idealize.ShloMosaic Idealize.ShloMosaic.TcCoe Idealize.SL.Sem

variable {F : FTy → Type} [FloatOps F]

set_option maxHeartbeats 4000000 in
theorem body : @Cert.Kernel8.cc0_ffn2_fwd F _ _ = @Cert.Kernel8Ideal.cc0_ffn2_fwd F _ _ := by rfl

set_option maxHeartbeats 4000000 in
theorem bodies : Cert.Kernel8.defs₀ (F := F) = Cert.Kernel8Ideal.defs₀ (F := F) := by
  unfold Cert.Kernel8.defs₀ Cert.Kernel8Ideal.defs₀
  refine congrArg Defs.onTc (funext fun l => ?_)
  match l with
  | 0 =>
    funext x
    obtain ⟨t, s⟩ := x
    dsimp only
    rw [body]
    rfl

set_option maxHeartbeats 4000000 in
theorem calls : Cert.Kernel8.pcfgs (F := F) = Cert.Kernel8Ideal.pcfgs (F := F) := by rfl

set_option maxHeartbeats 4000000 in
theorem table : Cert.Kernel8.defs (F := F) = Cert.Kernel8Ideal.defs (F := F) := by
  unfold Cert.Kernel8.defs Cert.Kernel8Ideal.defs
  exact congrArg (Pipeline.defs Cert.Kernel8Ideal.pcfgs) bodies

set_option maxHeartbeats 4000000 in
theorem host : Cert.Kernel8.main (F := F) = Cert.Kernel8Ideal.main (F := F) := by
  unfold Cert.Kernel8.main Cert.Kernel8Ideal.main
  rfl

variable (m : (ℓ : Loc Cert.Kernel8Ideal.nD Cert.Kernel8Ideal.τ Cert.Kernel8Ideal.sig) → Buf (Elt F) ℓ) (ρ : Dev Cert.Kernel8Ideal.nD → PrngReg)

theorem carried (d) (hd : d = Cert.Kernel8Ideal.defs (F := F)) (p) (hp : p = Cert.Kernel8Ideal.main (F := F)) :
    θ_run d (onTc (τ := Cert.Kernel8Ideal.τ) p) ⟨m, fun _ => 0, ρ⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
        ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
        ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
        ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
        ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
        ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
        ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
        ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0) := by
  subst hd hp
  exact Cert.Kernel8Ideal.Gen.frame m ρ

end Cert.Kernel8.Same

end
-- ==== Proof.Feed.Claims.lean ====
/- The claims of the feed-forward call (`Kernel8`): the runs' frames, and the equality of its six results with the reference's. -/
module

public import proofs.«01_k».proof.Defs
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Feed.Points
public import proofs.«01_k».proof.Proof.Feed.Same

@[expose] public section

set_option maxRecDepth 16384

noncomputable section

open Idealize.ShloMosaic Idealize.ShloMosaic.TcCoe Idealize.SL.Sem

namespace Cert.Proof.Eighth

set_option maxHeartbeats 4000000 in
theorem frame_p : Cert.quiescent_Kernel8 := fun m ρ _ => Cert.Kernel8.Same.carried (F := Bits) m ρ _ Cert.Kernel8.Same.table _ Cert.Kernel8.Same.host

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

set_option maxHeartbeats 4000000 in
theorem algebraic : Cert.algebraic_Kernel8Ideal_Reference8Ideal := by
  intro m ρ m' ρ' _ hagree
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N,
    fun c => (Cert.Kernel8Ideal.Gen.dats m 0 c).arrAt 6 Cert.Kernel8Ideal.cfg0.N, fun c => (Cert.Kernel8Ideal.Gen.dats m 0 c).arrAt 7 Cert.Kernel8Ideal.cfg0.N,
    fun c => (Cert.Kernel8Ideal.Gen.dats m 0 c).arrAt 8 Cert.Kernel8Ideal.cfg0.N, fun c => (Cert.Kernel8Ideal.Gen.dats m 0 c).arrAt 9 Cert.Kernel8Ideal.cfg0.N,
    Cert.Kernel8Ideal.Value.run_blocks (F := Ideal) m ρ, ?_⟩
  refine (θ_run Cert.Reference8Ideal.defs _ _).mono (fun r h c => ?_) (Cert.Reference8Ideal.Value.run (F := Ideal) m' ρ')
  obtain ⟨h0, h1, h2, h3, h4, h5, hk⟩ := h c
  obtain ⟨a0, a1, a2, a3, a4, a5, a6, a7⟩ := hagree c
  have e0 : _ = _ := h0.trans (Cert.Reference8Ideal.Read.val_main_v25_eq m' c)
  have e1 : _ = _ := h1.trans (Cert.Reference8Ideal.Read.val_main_v26_eq _ _ _ _ _)
  have e2 : _ = _ := h2.trans (Cert.Reference8Ideal.Read.val_main_v27_eq _ _ _ _ _ _)
  have e3 : _ = _ := h3.trans (Cert.Reference8Ideal.Read.val_main_v28_eq _ _ _ _ _ _)
  have e4 : _ = _ := h4.trans (Cert.Reference8Ideal.Read.val_main_v29_eq m' c)
  have e5 : _ = _ := h5.trans (Cert.Reference8Ideal.Read.val_main_v3_eq _ _ _ _)
  rw [a0, a1, a2, a3, a4, a5, a6, a7] at e0
  rw [a0, a1, a2, a3, a4] at e1
  rw [a0, a1, a2, a3, a4, a5] at e2
  rw [a0, a1, a2, a3, a4, a6] at e3
  rw [a0, a1, a2, a3, a4, a5, a6] at e4
  rw [a0, a1, a2, a3] at e5
  exact ⟨e0.trans (Cert.Kernel8Ideal.Body.final4 m c).symm, e1.trans (Cert.Kernel8Ideal.Body.final5 m c).symm, e2.trans (Cert.Kernel8Ideal.Body.final6 m c).symm,
    e3.trans (Cert.Kernel8Ideal.Body.final7 m c).symm, e4.trans (Cert.Kernel8Ideal.Body.final8 m c).symm, e5.trans (Cert.Kernel8Ideal.Body.final9 m c).symm, hk⟩

end Cert.Proof.Eighth

end
-- ==== Proof.Weights3.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Tactic

@[expose] public section

noncomputable section

namespace Cert.Kernel3Ideal.Body

open Cert.Kernel3Ideal Cert.Kernel3Ideal.Gen Idealize.ShloMosaic Idealize.ShloMosaic.TcCoe Idealize.SL.Sem
open Idealize.ShloMosaic.Pipeline (Dat)
open Idealize.ShloMosaic (ix2 ix3 ix4)

/-! ## One step of the accumulation -/

theorem zero_at (i : S1024x1408.Idx) : k0_pay1 (F := Ideal) i = 0 := by
  unfold k0_pay1
  exact Idealize.ShloMosaic.Ideal.ofBits_zero_f32

/-- A step adds the product of the two blocks. -/
theorem step_at (b : Vec Ideal S2048x1408 .bf16) (acc : Vec Ideal S1024x1408 .f32) (a : Vec Ideal S2048x1024 .bf16) (p : Fin 1024) (q : Fin 1408) :
    k0_pay2 b acc a (ix2 p q) = acc (ix2 p q) + ∑ k : Fin 2048, a (ix2 k p) * b (ix2 k q) := by
  pointwise [k0_pay2]

/-- What is written back is the accumulator turned. -/
theorem out_at (acc : Vec Ideal S1024x1408 .f32) (p : Fin 1024) (q : Fin 1408) : k0_pay3 acc (ix2 q p) = acc (ix2 p q) := by
  pointwise [k0_pay3]

variable (m : (ℓ : Loc nD τ sig) → Buf (Elt Ideal) ℓ) (c : Dev nD)

/-! ## The accumulator after the last point of a run -/

theorem N8 : cfg0.N = 8 := N_0

/-- A point's blocks. -/
abbrev A (t : Fin cfg0.N) : Vec Ideal S2048x1024 .bf16 := iblk m c 0 t
abbrev B (t : Fin cfg0.N) : Vec Ideal S2048x1408 .bf16 := iblk m c 1 t

/-- Their product. -/
def part (t : Fin cfg0.N) (i : S1024x1408.Idx) : EReal := ∑ k : Fin 2048, A m c t (ix2 k (i 0)) * B m c t (ix2 k (i 1))

theorem eta (i : S1024x1408.Idx) : i = ix2 (i 0) (i 1) := funext fun a => match a with
  | ⟨0, _⟩ => rfl
  | ⟨1, _⟩ => rfl

theorem step_part (t : Fin cfg0.N) (acc : Vec Ideal S1024x1408 .f32) (i : S1024x1408.Idx) :
    k0_pay2 (iblk m c 1 t) acc (iblk m c 0 t) i = acc i + part m c t i := by
  rw [eta i]
  exact step_at _ _ _ _ _

theorem first (t : Fin cfg0.N) (h : t.val % 4 = 0) (i : S1024x1408.Idx) :
    (outsAt0 m c t.val t.isLt).2 i = k0_pay1 (F := Ideal) i + part m c t i := by
  rw [outsAt0_A m c t h (by omega)]
  frame_out
  exact step_part m c t _ i

theorem next (t : Fin cfg0.N) (h : ¬t.val % 4 = 0) (i : S1024x1408.Idx) :
    (outsAt0 m c t.val t.isLt).2 i = (outsAt0 m c (t.val - 1) (Nat.lt_of_le_of_lt (Nat.sub_le _ _) t.isLt)).2 i + part m c t i := by
  by_cases h1 : t.val % 4 = 3
  · rw [outsAt0_C m c t h h1]
    frame_out
    exact (congrArg (fun z => k0_pay2 (iblk m c 1 t) z (iblk m c 0 t) i) (Memref.IsWhole.read_unread _ _)).trans (step_part m c t _ i)
  · rw [outsAt0_B m c t h h1]
    frame_out
    exact (congrArg (fun z => k0_pay2 (iblk m c 1 t) z (iblk m c 0 t) i) (Memref.IsWhole.read_unread _ _)).trans (step_part m c t _ i)

theorem acc_last (t : Fin cfg0.N) (h : t.val % 4 = 4 - 1) (i : S1024x1408.Idx) :
    (outsAt0 m c t.val t.isLt).2 i = ∑ s : Fin 4, part m c ⟨4 * (t.val / 4) + s.val, Pipeline.run_point_lt_of_flush t h s⟩ i := by
  rw [Pipeline.eq_sum_fin_of_reset_step_apply_of_flush (fun n h => (outsAt0 m c n h).2) 4 (k0_pay1 (F := Ideal)) (part m c)
    (first m c) (next m c) t h i, zero_at, zero_add]

/-- The block written back is the accumulator's. -/
theorem out_last (t : Fin cfg0.N) (h : t.val % 4 = 3) (p : Fin 1024) (q : Fin 1408) :
    (outsAt0 m c t.val t.isLt).1 (ix2 q p) = (outsAt0 m c t.val t.isLt).2 (ix2 p q) := by
  rw [outsAt0_C m c t (by omega) h]
  frame_out
  exact out_at _ p q

/-! ## The blocks -/

theorem index0 : ∀ t : Fin cfg0.N, win0_0.index t 0 = t.val % 4 ∧ win0_0.index t 1 = 0 := by decide +kernel
theorem index1 : ∀ t : Fin cfg0.N, win0_1.index t 0 = t.val % 4 ∧ win0_1.index t 1 = t.val / 4 := by decide +kernel
theorem index2 : ∀ t : Fin cfg0.N, win0_2.index t 0 = t.val / 4 ∧ win0_2.index t 1 = 0 := by decide +kernel

/-- The factors at a row. -/
abbrev X : Vec Ideal S8192x1024 .bf16 := m ((c : Thread nD τ).loc main_arg0)
abbrev Y : Vec Ideal S8192x2816 .bf16 := m ((c : Thread nD τ).loc main_arg1)

theorem block0 (t : Fin cfg0.N) (k : Fin 2048) (p : Fin 1024) :
    A m c t (ix2 k p) = X m c (ix2 ⟨t.val % 4 * 2048 + k.val, by omega⟩ p) := by
  obtain ⟨h0, h1⟩ := index0 t
  unfold A iblk
  rw [View.read_apply]
  show V m c main_arg0 _ = _
  rw [V_main_arg0]
  congr 1
  funext a
  refine Fin.ext ?_
  match a with
  | ⟨0, _⟩ => show win0_0.index t 0 * 2048 + 1 * k.val = t.val % 4 * 2048 + k.val; omega
  | ⟨1, _⟩ => show win0_0.index t 1 * 1024 + 1 * p.val = p.val; omega

theorem block1 (t : Fin cfg0.N) (k : Fin 2048) (q : Fin 1408) :
    B m c t (ix2 k q) = Y m c (ix2 ⟨t.val % 4 * 2048 + k.val, by omega⟩ ⟨t.val / 4 * 1408 + q.val, by have := t.isLt; have := N8; omega⟩) := by
  obtain ⟨h0, h1⟩ := index1 t
  unfold B iblk
  rw [View.read_apply]
  show V m c main_arg1 _ = _
  rw [V_main_arg1]
  congr 1
  funext a
  refine Fin.ext ?_
  match a with
  | ⟨0, _⟩ => show win0_1.index t 0 * 2048 + 1 * k.val = t.val % 4 * 2048 + k.val; omega
  | ⟨1, _⟩ => show win0_1.index t 1 * 1408 + 1 * q.val = t.val / 4 * 1408 + q.val; omega

/-! ## The result is the reference's -/

theorem ref_at (x : Vec Ideal S8192x1024 .bf16) (y : Vec Ideal S8192x2816 .bf16) (q : Fin 2816) (p : Fin 1024) :
    Cert.Reference3Ideal.Read.val_main_v7 (F := Ideal) x y (ix2 q p) = ∑ k : Fin 8192, x (ix2 k p) * y (ix2 k q) := by
  have e : Cert.Reference3Ideal.Read.val_main_v7 (F := Ideal) x y (ix2 q p) = Cert.Reference3Ideal.Read.val_main_v4 (F := Ideal) x y (ix2 q p) := by
    pointwise [Cert.Reference3Ideal.Read.val_main_v7, Cert.Reference3Ideal.Read.val_main_v6, Cert.Reference3Ideal.Read.val_main_v5]
  rw [e]
  have e2 : Cert.Reference3Ideal.Read.val_main_v4 (F := Ideal) x y (ix2 q p) = ∑ k : Fin 8192, y (ix2 k q) * x (ix2 k p) := by
    pointwise [Cert.Reference3Ideal.Read.val_main_v4, Cert.Reference3Ideal.Read.val_main_v1, Cert.Reference3Ideal.Read.val_main_v0]
  rw [e2]
  exact Finset.sum_congr rfl fun k _ => mul_comm _ _

theorem total (t : Fin cfg0.N) (h : t.val % 4 = 3) (p : Fin 1024) (q : Fin 1408) :
    (outsAt0 m c t.val t.isLt).1 (ix2 q p)
      = Cert.Reference3Ideal.Read.val_main_v7 (F := Ideal) (X m c) (Y m c) (ix2 ⟨t.val / 4 * 1408 + q.val, by have := t.isLt; have := N8; omega⟩ p) := by
  have hj : t.val / 4 < 2 := by have := t.isLt; have := N8; omega
  rw [out_last m c t h, acc_last m c t h, ref_at]
  refine Fin.sum_mul_add_congr fun s k hk => ?_
  have es : (4 * (t.val / 4) + s.val) % 4 = s.val := by omega
  have ej : (4 * (t.val / 4) + s.val) / 4 = t.val / 4 := by omega
  show A m c _ (ix2 k p) * B m c _ (ix2 k q) = _
  rw [block0, block1]
  simp only [es, ej]

theorem final : (dats m 0 c).arrAt 2 cfg0.N = Cert.Reference3Ideal.Read.val_main_v7 (F := Ideal) (X m c) (Y m c) := by
  refine (dats m 0 c).arrAt_eq_of_covers 2 _ (by decide +kernel) fun t hf y => ?_
  have ht := (flush0_2 t).mp hf
  blk_simp
  rw [after0_2]
  have e : y = ix2 (y 0) (y 1) := funext fun a => match a with
    | ⟨0, _⟩ => rfl
    | ⟨1, _⟩ => rfl
  rw [e]
  refine (total m c t ht (y 1) (y 0)).trans (congrArg _ ?_)
  obtain ⟨h0, h1⟩ := index2 t
  refine funext fun a => Fin.ext ?_
  match a with
  | ⟨0, _⟩ => show t.val / 4 * 1408 + (y 0 : Nat) = win0_2.index t 0 * 1408 + 1 * (y 0 : Nat); rw [h0]; omega
  | ⟨1, _⟩ => show (y 1 : Nat) = win0_2.index t 1 * 1024 + 1 * (y 1 : Nat); rw [h1]; omega

end Cert.Kernel3Ideal.Body
-- ==== Proof.Weights4.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Tactic

@[expose] public section

noncomputable section

namespace Cert.Kernel4Ideal.Body

open Cert.Kernel4Ideal Cert.Kernel4Ideal.Gen Idealize.ShloMosaic Idealize.ShloMosaic.TcCoe Idealize.SL.Sem
open Idealize.ShloMosaic.Pipeline (Dat)
open Idealize.ShloMosaic (ix2 ix3 ix4)

/-! ## One step of the accumulation -/

/-- The weight of the half step. -/
def half : EReal := Ideal.ofBits FTy.f32 0x3F000000#32

theorem zero_at (i : S2816x512.Idx) : k0_pay1 (F := Ideal) i = 0 := by
  unfold k0_pay1
  exact Idealize.ShloMosaic.Ideal.ofBits_zero_f32

/-- A step adds the product of the two blocks. -/
theorem step_at (b : Vec Ideal S1024x512 .f32) (acc : Vec Ideal S2816x512 .f32) (a : Vec Ideal S1024x2816 .bf16) (p : Fin 2816) (q : Fin 512) :
    k0_pay2 b acc a (ix2 p q) = acc (ix2 p q) + ∑ k : Fin 1024, a (ix2 k p) * (half * b (ix2 k q)) := by
  unfold half
  pointwise [k0_pay2]
  exact congrArg (acc (ix2 p q) + ·) (Finset.sum_congr rfl fun k _ => congrArg (a (ix2 k p) * ·) (mul_comm _ _))

/-- What is written back is the accumulator. -/
theorem out_at (acc : Vec Ideal S2816x512 .f32) (p : Fin 2816) (q : Fin 512) : k0_pay3 acc (ix2 p q) = acc (ix2 p q) := by
  pointwise [k0_pay3]

variable (m : (ℓ : Loc nD τ sig) → Buf (Elt Ideal) ℓ) (c : Dev nD)

/-! ## The accumulator after the last point of a run -/

theorem points : cfg0.N = 16 := N_0

/-- A point's blocks. -/
abbrev A (t : Fin cfg0.N) : Vec Ideal S1024x2816 .bf16 := iblk m c 0 t
abbrev B (t : Fin cfg0.N) : Vec Ideal S1024x512 .f32 := iblk m c 1 t

/-- Their product. -/
def part (t : Fin cfg0.N) (i : S2816x512.Idx) : EReal := ∑ k : Fin 1024, A m c t (ix2 k (i 0)) * (half * B m c t (ix2 k (i 1)))

theorem eta (i : S2816x512.Idx) : i = ix2 (i 0) (i 1) := funext fun a => match a with
  | ⟨0, _⟩ => rfl
  | ⟨1, _⟩ => rfl

theorem step_part (t : Fin cfg0.N) (acc : Vec Ideal S2816x512 .f32) (i : S2816x512.Idx) :
    k0_pay2 (iblk m c 1 t) acc (iblk m c 0 t) i = acc i + part m c t i := by
  rw [eta i]
  exact step_at _ _ _ _ _

theorem first (t : Fin cfg0.N) (h : t.val % 8 = 0) (i : S2816x512.Idx) :
    (outsAt0 m c t.val t.isLt).2 i = k0_pay1 (F := Ideal) i + part m c t i := by
  rw [outsAt0_A m c t h (by omega)]
  frame_out
  exact step_part m c t _ i

theorem next (t : Fin cfg0.N) (h : ¬t.val % 8 = 0) (i : S2816x512.Idx) :
    (outsAt0 m c t.val t.isLt).2 i = (outsAt0 m c (t.val - 1) (Nat.lt_of_le_of_lt (Nat.sub_le _ _) t.isLt)).2 i + part m c t i := by
  by_cases h1 : t.val % 8 = 7
  · rw [outsAt0_C m c t h h1]
    frame_out
    exact (congrArg (fun z => k0_pay2 (iblk m c 1 t) z (iblk m c 0 t) i) (Memref.IsWhole.read_unread _ _)).trans (step_part m c t _ i)
  · rw [outsAt0_B m c t h h1]
    frame_out
    exact (congrArg (fun z => k0_pay2 (iblk m c 1 t) z (iblk m c 0 t) i) (Memref.IsWhole.read_unread _ _)).trans (step_part m c t _ i)

theorem acc_last (t : Fin cfg0.N) (h : t.val % 8 = 8 - 1) (i : S2816x512.Idx) :
    (outsAt0 m c t.val t.isLt).2 i = ∑ s : Fin 8, part m c ⟨8 * (t.val / 8) + s.val, Pipeline.run_point_lt_of_flush t h s⟩ i := by
  rw [Pipeline.eq_sum_fin_of_reset_step_apply_of_flush (fun n h => (outsAt0 m c n h).2) 8 (k0_pay1 (F := Ideal)) (part m c)
    (first m c) (next m c) t h i, zero_at, zero_add]

/-- The block written back is the accumulator's. -/
theorem out_last (t : Fin cfg0.N) (h : t.val % 8 = 7) (p : Fin 2816) (q : Fin 512) :
    (outsAt0 m c t.val t.isLt).1 (ix2 p q) = (outsAt0 m c t.val t.isLt).2 (ix2 p q) := by
  rw [outsAt0_C m c t (by omega) h]
  frame_out
  exact out_at _ p q

/-! ## The blocks -/

theorem index0 : ∀ t : Fin cfg0.N, win0_0.index t 0 = t.val % 8 ∧ win0_0.index t 1 = 0 := by decide +kernel
theorem index1 : ∀ t : Fin cfg0.N, win0_1.index t 0 = t.val % 8 ∧ win0_1.index t 1 = t.val / 8 := by decide +kernel
theorem index2 : ∀ t : Fin cfg0.N, win0_2.index t 0 = 0 ∧ win0_2.index t 1 = t.val / 8 := by decide +kernel

/-- The factors at a row. -/
abbrev X : Vec Ideal S8192x2816 .bf16 := m ((c : Thread nD τ).loc main_arg0)
abbrev Y : Vec Ideal S8192x1024 .f32 := m ((c : Thread nD τ).loc main_arg1)

theorem block0 (t : Fin cfg0.N) (k : Fin 1024) (p : Fin 2816) :
    A m c t (ix2 k p) = X m c (ix2 ⟨t.val % 8 * 1024 + k.val, by omega⟩ p) := by
  obtain ⟨h0, h1⟩ := index0 t
  unfold A iblk
  rw [View.read_apply]
  show V m c main_arg0 _ = _
  rw [V_main_arg0]
  congr 1
  funext a
  refine Fin.ext ?_
  match a with
  | ⟨0, _⟩ => show win0_0.index t 0 * 1024 + 1 * k.val = t.val % 8 * 1024 + k.val; omega
  | ⟨1, _⟩ => show win0_0.index t 1 * 2816 + 1 * p.val = p.val; omega

theorem block1 (t : Fin cfg0.N) (k : Fin 1024) (q : Fin 512) :
    B m c t (ix2 k q) = Y m c (ix2 ⟨t.val % 8 * 1024 + k.val, by omega⟩ ⟨t.val / 8 * 512 + q.val, by have := t.isLt; have := points; omega⟩) := by
  obtain ⟨h0, h1⟩ := index1 t
  unfold B iblk
  rw [View.read_apply]
  show V m c main_arg1 _ = _
  rw [V_main_arg1]
  congr 1
  funext a
  refine Fin.ext ?_
  match a with
  | ⟨0, _⟩ => show win0_1.index t 0 * 1024 + 1 * k.val = t.val % 8 * 1024 + k.val; omega
  | ⟨1, _⟩ => show win0_1.index t 1 * 512 + 1 * q.val = t.val / 8 * 512 + q.val; omega

/-! ## The result is the reference's -/

theorem ref_at (x : Vec Ideal S8192x2816 .bf16) (y : Vec Ideal S8192x1024 .f32) (p : Fin 2816) (q : Fin 1024) :
    Cert.Reference4Ideal.Read.val_main_v9 (F := Ideal) x y (ix2 p q) = ∑ k : Fin 8192, x (ix2 k p) * (half * y (ix2 k q)) := by
  have e : Cert.Reference4Ideal.Read.val_main_v9 (F := Ideal) x y (ix2 p q) = Cert.Reference4Ideal.Read.val_main_v7 (F := Ideal) x y (ix2 q p) := by
    pointwise [Cert.Reference4Ideal.Read.val_main_v9, Cert.Reference4Ideal.Read.val_main_v8]
  rw [e]
  have e2 : Cert.Reference4Ideal.Read.val_main_v7 (F := Ideal) x y (ix2 q p) = ∑ k : Fin 8192, half * y (ix2 k q) * x (ix2 k p) := by
    unfold half
    pointwise [Cert.Reference4Ideal.Read.val_main_v7, Cert.Reference4Ideal.Read.val_main_v1, Cert.Reference4Ideal.Read.val_main_v6, Cert.Reference4Ideal.Read.val_main_v5, Cert.Reference4Ideal.Read.val_main_cst_1]
  rw [e2]
  exact Finset.sum_congr rfl fun k _ => mul_comm _ _

theorem total (t : Fin cfg0.N) (h : t.val % 8 = 7) (p : Fin 2816) (q : Fin 512) :
    (outsAt0 m c t.val t.isLt).1 (ix2 p q)
      = Cert.Reference4Ideal.Read.val_main_v9 (F := Ideal) (X m c) (Y m c) (ix2 p ⟨t.val / 8 * 512 + q.val, by have := t.isLt; have := points; omega⟩) := by
  have hj : t.val / 8 < 2 := by have := t.isLt; have := points; omega
  rw [out_last m c t h, acc_last m c t h, ref_at]
  refine Fin.sum_mul_add_congr fun s k hk => ?_
  have es : (8 * (t.val / 8) + s.val) % 8 = s.val := by omega
  have ej : (8 * (t.val / 8) + s.val) / 8 = t.val / 8 := by omega
  show A m c _ (ix2 k p) * (half * B m c _ (ix2 k q)) = _
  rw [block0, block1]
  simp only [es, ej]

theorem final : (dats m 0 c).arrAt 2 cfg0.N = Cert.Reference4Ideal.Read.val_main_v9 (F := Ideal) (X m c) (Y m c) := by
  refine (dats m 0 c).arrAt_eq_of_covers 2 _ (by decide +kernel) fun t hf y => ?_
  have ht := (flush0_2 t).mp hf
  blk_simp
  rw [after0_2]
  have e : y = ix2 (y 0) (y 1) := funext fun a => match a with
    | ⟨0, _⟩ => rfl
    | ⟨1, _⟩ => rfl
  rw [e]
  refine (total m c t ht (y 0) (y 1)).trans (congrArg _ ?_)
  obtain ⟨h0, h1⟩ := index2 t
  refine funext fun a => Fin.ext ?_
  match a with
  | ⟨0, _⟩ => show (y 0 : Nat) = win0_2.index t 0 * 2816 + 1 * (y 0 : Nat); rw [h0]; omega
  | ⟨1, _⟩ => show t.val / 8 * 512 + (y 1 : Nat) = win0_2.index t 1 * 512 + 1 * (y 1 : Nat); rw [h1]; omega

end Cert.Kernel4Ideal.Body
-- ==== Proof.Weights5.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Tactic

@[expose] public section

noncomputable section

namespace Cert.Kernel5Ideal.Body

open Cert.Kernel5Ideal Cert.Kernel5Ideal.Gen Idealize.ShloMosaic Idealize.ShloMosaic.TcCoe Idealize.SL.Sem
open Idealize.ShloMosaic.Pipeline (Dat)
open Idealize.ShloMosaic (ix2 ix3 ix4)

/-! ## One step of the accumulation -/

theorem zero_at (i : S1024x1024.Idx) : k0_pay1 (F := Ideal) i = 0 := by
  unfold k0_pay1
  exact Idealize.ShloMosaic.Ideal.ofBits_zero_f32

/-- A step adds the product of the two blocks. -/
theorem step_at (b : Vec Ideal S2048x1024 .f32) (acc : Vec Ideal S1024x1024 .f32) (a : Vec Ideal S2048x1024 .bf16) (p : Fin 1024) (q : Fin 1024) :
    k0_pay2 b acc a (ix2 p q) = acc (ix2 p q) + ∑ k : Fin 2048, a (ix2 k p) * b (ix2 k q) := by
  pointwise [k0_pay2]

/-- What is written back is the accumulator. -/
theorem out_at (acc : Vec Ideal S1024x1024 .f32) (p : Fin 1024) (q : Fin 1024) : k0_pay3 acc (ix2 p q) = acc (ix2 p q) := by
  pointwise [k0_pay3]

variable (m : (ℓ : Loc nD τ sig) → Buf (Elt Ideal) ℓ) (c : Dev nD)

/-! ## The accumulator after the last point of a run -/

theorem points : cfg0.N = 4 := N_0

/-- A point's blocks. -/
abbrev A (t : Fin cfg0.N) : Vec Ideal S2048x1024 .bf16 := iblk m c 0 t
abbrev B (t : Fin cfg0.N) : Vec Ideal S2048x1024 .f32 := iblk m c 1 t

/-- Their product. -/
def part (t : Fin cfg0.N) (i : S1024x1024.Idx) : EReal := ∑ k : Fin 2048, A m c t (ix2 k (i 0)) * B m c t (ix2 k (i 1))

theorem eta (i : S1024x1024.Idx) : i = ix2 (i 0) (i 1) := funext fun a => match a with
  | ⟨0, _⟩ => rfl
  | ⟨1, _⟩ => rfl

theorem step_part (t : Fin cfg0.N) (acc : Vec Ideal S1024x1024 .f32) (i : S1024x1024.Idx) :
    k0_pay2 (iblk m c 1 t) acc (iblk m c 0 t) i = acc i + part m c t i := by
  rw [eta i]
  exact step_at _ _ _ _ _

theorem first (t : Fin cfg0.N) (h : t.val % 4 = 0) (i : S1024x1024.Idx) :
    (outsAt0 m c t.val t.isLt).2 i = k0_pay1 (F := Ideal) i + part m c t i := by
  rw [outsAt0_A m c t h (by omega)]
  frame_out
  exact step_part m c t _ i

theorem next (t : Fin cfg0.N) (h : ¬t.val % 4 = 0) (i : S1024x1024.Idx) :
    (outsAt0 m c t.val t.isLt).2 i = (outsAt0 m c (t.val - 1) (Nat.lt_of_le_of_lt (Nat.sub_le _ _) t.isLt)).2 i + part m c t i := by
  by_cases h1 : t.val % 4 = 3
  · rw [outsAt0_C m c t h h1]
    frame_out
    exact (congrArg (fun z => k0_pay2 (iblk m c 1 t) z (iblk m c 0 t) i) (Memref.IsWhole.read_unread _ _)).trans (step_part m c t _ i)
  · rw [outsAt0_B m c t h h1]
    frame_out
    exact (congrArg (fun z => k0_pay2 (iblk m c 1 t) z (iblk m c 0 t) i) (Memref.IsWhole.read_unread _ _)).trans (step_part m c t _ i)

theorem acc_last (t : Fin cfg0.N) (h : t.val % 4 = 4 - 1) (i : S1024x1024.Idx) :
    (outsAt0 m c t.val t.isLt).2 i = ∑ s : Fin 4, part m c ⟨4 * (t.val / 4) + s.val, Pipeline.run_point_lt_of_flush t h s⟩ i := by
  rw [Pipeline.eq_sum_fin_of_reset_step_apply_of_flush (fun n h => (outsAt0 m c n h).2) 4 (k0_pay1 (F := Ideal)) (part m c)
    (first m c) (next m c) t h i, zero_at, zero_add]

/-- The block written back is the accumulator's. -/
theorem out_last (t : Fin cfg0.N) (h : t.val % 4 = 3) (p : Fin 1024) (q : Fin 1024) :
    (outsAt0 m c t.val t.isLt).1 (ix2 p q) = (outsAt0 m c t.val t.isLt).2 (ix2 p q) := by
  rw [outsAt0_C m c t (by omega) h]
  frame_out
  exact out_at _ p q

/-! ## The blocks -/

theorem index0 : ∀ t : Fin cfg0.N, win0_0.index t 0 = t.val % 4 ∧ win0_0.index t 1 = 0 := by decide +kernel
theorem index1 : ∀ t : Fin cfg0.N, win0_1.index t 0 = t.val % 4 ∧ win0_1.index t 1 = t.val / 4 := by decide +kernel
theorem index2 : ∀ t : Fin cfg0.N, win0_2.index t 0 = 0 ∧ win0_2.index t 1 = t.val / 4 := by decide +kernel

/-- The factors at a row. -/
abbrev X : Vec Ideal S8192x1024 .bf16 := m ((c : Thread nD τ).loc main_arg0)
abbrev Y : Vec Ideal S8192x1024 .f32 := m ((c : Thread nD τ).loc main_arg1)

theorem block0 (t : Fin cfg0.N) (k : Fin 2048) (p : Fin 1024) :
    A m c t (ix2 k p) = X m c (ix2 ⟨t.val % 4 * 2048 + k.val, by omega⟩ p) := by
  obtain ⟨h0, h1⟩ := index0 t
  unfold A iblk
  rw [View.read_apply]
  show V m c main_arg0 _ = _
  rw [V_main_arg0]
  congr 1
  funext a
  refine Fin.ext ?_
  match a with
  | ⟨0, _⟩ => show win0_0.index t 0 * 2048 + 1 * k.val = t.val % 4 * 2048 + k.val; omega
  | ⟨1, _⟩ => show win0_0.index t 1 * 1024 + 1 * p.val = p.val; omega

theorem block1 (t : Fin cfg0.N) (k : Fin 2048) (q : Fin 1024) :
    B m c t (ix2 k q) = Y m c (ix2 ⟨t.val % 4 * 2048 + k.val, by omega⟩ ⟨t.val / 4 * 1024 + q.val, by have := t.isLt; have := points; omega⟩) := by
  obtain ⟨h0, h1⟩ := index1 t
  unfold B iblk
  rw [View.read_apply]
  show V m c main_arg1 _ = _
  rw [V_main_arg1]
  congr 1
  funext a
  refine Fin.ext ?_
  match a with
  | ⟨0, _⟩ => show win0_1.index t 0 * 2048 + 1 * k.val = t.val % 4 * 2048 + k.val; omega
  | ⟨1, _⟩ => show win0_1.index t 1 * 1024 + 1 * q.val = t.val / 4 * 1024 + q.val; omega

/-! ## The result is the reference's -/

theorem ref_at (x : Vec Ideal S8192x1024 .bf16) (y : Vec Ideal S8192x1024 .f32) (p : Fin 1024) (q : Fin 1024) :
    Cert.Reference5Ideal.Read.val_main_v5 (F := Ideal) x y (ix2 p q) = ∑ k : Fin 8192, x (ix2 k p) * y (ix2 k q) := by
  have e : Cert.Reference5Ideal.Read.val_main_v5 (F := Ideal) x y (ix2 p q) = Cert.Reference5Ideal.Read.val_main_v3 (F := Ideal) x y (ix2 q p) := by
    pointwise [Cert.Reference5Ideal.Read.val_main_v5, Cert.Reference5Ideal.Read.val_main_v4]
  rw [e]
  have e2 : Cert.Reference5Ideal.Read.val_main_v3 (F := Ideal) x y (ix2 q p) = ∑ k : Fin 8192, y (ix2 k q) * x (ix2 k p) := by
    pointwise [Cert.Reference5Ideal.Read.val_main_v3, Cert.Reference5Ideal.Read.val_main_v1]
  rw [e2]
  exact Finset.sum_congr rfl fun k _ => mul_comm _ _

theorem total (t : Fin cfg0.N) (h : t.val % 4 = 3) (p : Fin 1024) (q : Fin 1024) :
    (outsAt0 m c t.val t.isLt).1 (ix2 p q)
      = Cert.Reference5Ideal.Read.val_main_v5 (F := Ideal) (X m c) (Y m c) (ix2 p ⟨t.val / 4 * 1024 + q.val, by have := t.isLt; have := points; omega⟩) := by
  have hj : t.val / 4 < 1 := by have := t.isLt; have := points; omega
  rw [out_last m c t h, acc_last m c t h, ref_at]
  refine Fin.sum_mul_add_congr fun s k hk => ?_
  have es : (4 * (t.val / 4) + s.val) % 4 = s.val := by omega
  have ej : (4 * (t.val / 4) + s.val) / 4 = t.val / 4 := by omega
  show A m c _ (ix2 k p) * B m c _ (ix2 k q) = _
  rw [block0, block1]
  simp only [es, ej]

theorem final : (dats m 0 c).arrAt 2 cfg0.N = Cert.Reference5Ideal.Read.val_main_v5 (F := Ideal) (X m c) (Y m c) := by
  refine (dats m 0 c).arrAt_eq_of_covers 2 _ (by decide +kernel) fun t hf y => ?_
  have ht := (flush0_2 t).mp hf
  blk_simp
  rw [after0_2]
  have e : y = ix2 (y 0) (y 1) := funext fun a => match a with
    | ⟨0, _⟩ => rfl
    | ⟨1, _⟩ => rfl
  rw [e]
  refine (total m c t ht (y 0) (y 1)).trans (congrArg _ ?_)
  obtain ⟨h0, h1⟩ := index2 t
  refine funext fun a => Fin.ext ?_
  match a with
  | ⟨0, _⟩ => show (y 0 : Nat) = win0_2.index t 0 * 1024 + 1 * (y 0 : Nat); rw [h0]; omega
  | ⟨1, _⟩ => show t.val / 4 * 1024 + (y 1 : Nat) = win0_2.index t 1 * 1024 + 1 * (y 1 : Nat); rw [h1]; omega

end Cert.Kernel5Ideal.Body
-- ==== Proof.Weights6.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Tactic

@[expose] public section

noncomputable section

namespace Cert.Kernel6Ideal.Body

open Cert.Kernel6Ideal Cert.Kernel6Ideal.Gen Idealize.ShloMosaic Idealize.ShloMosaic.TcCoe Idealize.SL.Sem
open Idealize.ShloMosaic.Pipeline (Dat)
open Idealize.ShloMosaic (ix2 ix3 ix4)

/-! ## One step of the accumulation -/

theorem zero_at (i : S1024x1024.Idx) : k0_pay1 (F := Ideal) i = 0 := by
  unfold k0_pay1
  exact Idealize.ShloMosaic.Ideal.ofBits_zero_f32

/-- A step adds the product of the two blocks. -/
theorem step_at (b : Vec Ideal S2048x1024 .bf16) (acc : Vec Ideal S1024x1024 .f32) (a : Vec Ideal S2048x1024 .bf16) (p : Fin 1024) (q : Fin 1024) :
    k0_pay2 b acc a (ix2 p q) = acc (ix2 p q) + ∑ k : Fin 2048, a (ix2 k p) * b (ix2 k q) := by
  pointwise [k0_pay2]

/-- What is written back is the accumulator turned. -/
theorem out_at (acc : Vec Ideal S1024x1024 .f32) (p : Fin 1024) (q : Fin 1024) : k0_pay3 acc (ix2 q p) = acc (ix2 p q) := by
  pointwise [k0_pay3]

variable (m : (ℓ : Loc nD τ sig) → Buf (Elt Ideal) ℓ) (c : Dev nD)

/-! ## The accumulator after the last point of a run -/

theorem points : cfg0.N = 8 := N_0

/-- A point's blocks. -/
abbrev A (t : Fin cfg0.N) : Vec Ideal S2048x1024 .bf16 := iblk m c 0 t
abbrev B (t : Fin cfg0.N) : Vec Ideal S2048x1024 .bf16 := iblk m c 1 t

/-- Their product. -/
def part (t : Fin cfg0.N) (i : S1024x1024.Idx) : EReal := ∑ k : Fin 2048, A m c t (ix2 k (i 0)) * B m c t (ix2 k (i 1))

theorem eta (i : S1024x1024.Idx) : i = ix2 (i 0) (i 1) := funext fun a => match a with
  | ⟨0, _⟩ => rfl
  | ⟨1, _⟩ => rfl

theorem step_part (t : Fin cfg0.N) (acc : Vec Ideal S1024x1024 .f32) (i : S1024x1024.Idx) :
    k0_pay2 (iblk m c 1 t) acc (iblk m c 0 t) i = acc i + part m c t i := by
  rw [eta i]
  exact step_at _ _ _ _ _

theorem first (t : Fin cfg0.N) (h : t.val % 4 = 0) (i : S1024x1024.Idx) :
    (outsAt0 m c t.val t.isLt).2 i = k0_pay1 (F := Ideal) i + part m c t i := by
  rw [outsAt0_A m c t h (by omega)]
  frame_out
  exact step_part m c t _ i

theorem next (t : Fin cfg0.N) (h : ¬t.val % 4 = 0) (i : S1024x1024.Idx) :
    (outsAt0 m c t.val t.isLt).2 i = (outsAt0 m c (t.val - 1) (Nat.lt_of_le_of_lt (Nat.sub_le _ _) t.isLt)).2 i + part m c t i := by
  by_cases h1 : t.val % 4 = 3
  · rw [outsAt0_C m c t h h1]
    frame_out
    exact (congrArg (fun z => k0_pay2 (iblk m c 1 t) z (iblk m c 0 t) i) (Memref.IsWhole.read_unread _ _)).trans (step_part m c t _ i)
  · rw [outsAt0_B m c t h h1]
    frame_out
    exact (congrArg (fun z => k0_pay2 (iblk m c 1 t) z (iblk m c 0 t) i) (Memref.IsWhole.read_unread _ _)).trans (step_part m c t _ i)

theorem acc_last (t : Fin cfg0.N) (h : t.val % 4 = 4 - 1) (i : S1024x1024.Idx) :
    (outsAt0 m c t.val t.isLt).2 i = ∑ s : Fin 4, part m c ⟨4 * (t.val / 4) + s.val, Pipeline.run_point_lt_of_flush t h s⟩ i := by
  rw [Pipeline.eq_sum_fin_of_reset_step_apply_of_flush (fun n h => (outsAt0 m c n h).2) 4 (k0_pay1 (F := Ideal)) (part m c)
    (first m c) (next m c) t h i, zero_at, zero_add]

/-- The block written back is the accumulator's. -/
theorem out_last (t : Fin cfg0.N) (h : t.val % 4 = 3) (p : Fin 1024) (q : Fin 1024) :
    (outsAt0 m c t.val t.isLt).1 (ix2 q p) = (outsAt0 m c t.val t.isLt).2 (ix2 p q) := by
  rw [outsAt0_C m c t (by omega) h]
  frame_out
  exact out_at _ p q

/-! ## The blocks -/

theorem index0 : ∀ t : Fin cfg0.N, win0_0.index t 0 = t.val % 4 ∧ win0_0.index t 1 = 0 := by decide +kernel
theorem index1 : ∀ t : Fin cfg0.N, win0_1.index t 0 = t.val % 4 ∧ win0_1.index t 1 = t.val / 4 := by decide +kernel
theorem index2 : ∀ t : Fin cfg0.N, win0_2.index t 0 = t.val / 4 ∧ win0_2.index t 1 = 0 := by decide +kernel

/-- The factors at a row. -/
abbrev X : Vec Ideal S8192x1024 .bf16 := m ((c : Thread nD τ).loc main_arg0)
abbrev Y : Vec Ideal S8192x2048 .bf16 := m ((c : Thread nD τ).loc main_arg1)

theorem block0 (t : Fin cfg0.N) (k : Fin 2048) (p : Fin 1024) :
    A m c t (ix2 k p) = X m c (ix2 ⟨t.val % 4 * 2048 + k.val, by omega⟩ p) := by
  obtain ⟨h0, h1⟩ := index0 t
  unfold A iblk
  rw [View.read_apply]
  show V m c main_arg0 _ = _
  rw [V_main_arg0]
  congr 1
  funext a
  refine Fin.ext ?_
  match a with
  | ⟨0, _⟩ => show win0_0.index t 0 * 2048 + 1 * k.val = t.val % 4 * 2048 + k.val; omega
  | ⟨1, _⟩ => show win0_0.index t 1 * 1024 + 1 * p.val = p.val; omega

theorem block1 (t : Fin cfg0.N) (k : Fin 2048) (q : Fin 1024) :
    B m c t (ix2 k q) = Y m c (ix2 ⟨t.val % 4 * 2048 + k.val, by omega⟩ ⟨t.val / 4 * 1024 + q.val, by have := t.isLt; have := points; omega⟩) := by
  obtain ⟨h0, h1⟩ := index1 t
  unfold B iblk
  rw [View.read_apply]
  show V m c main_arg1 _ = _
  rw [V_main_arg1]
  congr 1
  funext a
  refine Fin.ext ?_
  match a with
  | ⟨0, _⟩ => show win0_1.index t 0 * 2048 + 1 * k.val = t.val % 4 * 2048 + k.val; omega
  | ⟨1, _⟩ => show win0_1.index t 1 * 1024 + 1 * q.val = t.val / 4 * 1024 + q.val; omega

/-! ## The result is the reference's -/

theorem ref_at (x : Vec Ideal S8192x1024 .bf16) (y : Vec Ideal S8192x2048 .bf16) (q : Fin 2048) (p : Fin 1024) :
    Cert.Reference6Ideal.Read.val_main_v7 (F := Ideal) x y (ix2 q p) = ∑ k : Fin 8192, x (ix2 k p) * y (ix2 k q) := by
  have e : Cert.Reference6Ideal.Read.val_main_v7 (F := Ideal) x y (ix2 q p) = Cert.Reference6Ideal.Read.val_main_v4 (F := Ideal) x y (ix2 q p) := by
    pointwise [Cert.Reference6Ideal.Read.val_main_v7, Cert.Reference6Ideal.Read.val_main_v6, Cert.Reference6Ideal.Read.val_main_v5]
  rw [e]
  have e2 : Cert.Reference6Ideal.Read.val_main_v4 (F := Ideal) x y (ix2 q p) = ∑ k : Fin 8192, y (ix2 k q) * x (ix2 k p) := by
    pointwise [Cert.Reference6Ideal.Read.val_main_v4, Cert.Reference6Ideal.Read.val_main_v1, Cert.Reference6Ideal.Read.val_main_v0]
  rw [e2]
  exact Finset.sum_congr rfl fun k _ => mul_comm _ _

theorem total (t : Fin cfg0.N) (h : t.val % 4 = 3) (p : Fin 1024) (q : Fin 1024) :
    (outsAt0 m c t.val t.isLt).1 (ix2 q p)
      = Cert.Reference6Ideal.Read.val_main_v7 (F := Ideal) (X m c) (Y m c) (ix2 ⟨t.val / 4 * 1024 + q.val, by have := t.isLt; have := points; omega⟩ p) := by
  have hj : t.val / 4 < 2 := by have := t.isLt; have := points; omega
  rw [out_last m c t h, acc_last m c t h, ref_at]
  refine Fin.sum_mul_add_congr fun s k hk => ?_
  have es : (4 * (t.val / 4) + s.val) % 4 = s.val := by omega
  have ej : (4 * (t.val / 4) + s.val) / 4 = t.val / 4 := by omega
  show A m c _ (ix2 k p) * B m c _ (ix2 k q) = _
  rw [block0, block1]
  simp only [es, ej]

theorem final : (dats m 0 c).arrAt 2 cfg0.N = Cert.Reference6Ideal.Read.val_main_v7 (F := Ideal) (X m c) (Y m c) := by
  refine (dats m 0 c).arrAt_eq_of_covers 2 _ (by decide +kernel) fun t hf y => ?_
  have ht := (flush0_2 t).mp hf
  blk_simp
  rw [after0_2]
  have e : y = ix2 (y 0) (y 1) := funext fun a => match a with
    | ⟨0, _⟩ => rfl
    | ⟨1, _⟩ => rfl
  rw [e]
  refine (total m c t ht (y 1) (y 0)).trans (congrArg _ ?_)
  obtain ⟨h0, h1⟩ := index2 t
  refine funext fun a => Fin.ext ?_
  match a with
  | ⟨0, _⟩ => show t.val / 4 * 1024 + (y 0 : Nat) = win0_2.index t 0 * 1024 + 1 * (y 0 : Nat); rw [h0]; omega
  | ⟨1, _⟩ => show (y 1 : Nat) = win0_2.index t 1 * 1024 + 1 * (y 1 : Nat); rw [h1]; omega

end Cert.Kernel6Ideal.Body
-- ==== Proof.Weights7.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Tactic

@[expose] public section

noncomputable section

namespace Cert.Kernel7Ideal.Body

open Cert.Kernel7Ideal Cert.Kernel7Ideal.Gen Idealize.ShloMosaic Idealize.ShloMosaic.TcCoe Idealize.SL.Sem
open Idealize.ShloMosaic.Pipeline (Dat)
open Idealize.ShloMosaic (ix2 ix3 ix4)

/-! ## One step of the accumulation -/

theorem zero_at (i : S1024x896.Idx) : k0_pay1 (F := Ideal) i = 0 := by
  unfold k0_pay1
  exact Idealize.ShloMosaic.Ideal.ofBits_zero_f32

/-- A step adds the product of the two blocks. -/
theorem step_at (b : Vec Ideal S2048x896 .bf16) (acc : Vec Ideal S1024x896 .f32) (a : Vec Ideal S2048x1024 .bf16) (p : Fin 1024) (q : Fin 896) :
    k0_pay2 b acc a (ix2 p q) = acc (ix2 p q) + ∑ k : Fin 2048, a (ix2 k p) * b (ix2 k q) := by
  pointwise [k0_pay2]

/-- What is written back is the accumulator turned. -/
theorem out_at (acc : Vec Ideal S1024x896 .f32) (p : Fin 1024) (q : Fin 896) : k0_pay3 acc (ix2 q p) = acc (ix2 p q) := by
  pointwise [k0_pay3]

variable (m : (ℓ : Loc nD τ sig) → Buf (Elt Ideal) ℓ) (c : Dev nD)

/-! ## The accumulator after the last point of a run -/

theorem points : cfg0.N = 12 := N_0

/-- A point's blocks. -/
abbrev A (t : Fin cfg0.N) : Vec Ideal S2048x1024 .bf16 := iblk m c 0 t
abbrev B (t : Fin cfg0.N) : Vec Ideal S2048x896 .bf16 := iblk m c 1 t

/-- Their product. -/
def part (t : Fin cfg0.N) (i : S1024x896.Idx) : EReal := ∑ k : Fin 2048, A m c t (ix2 k (i 0)) * B m c t (ix2 k (i 1))

theorem eta (i : S1024x896.Idx) : i = ix2 (i 0) (i 1) := funext fun a => match a with
  | ⟨0, _⟩ => rfl
  | ⟨1, _⟩ => rfl

theorem step_part (t : Fin cfg0.N) (acc : Vec Ideal S1024x896 .f32) (i : S1024x896.Idx) :
    k0_pay2 (iblk m c 1 t) acc (iblk m c 0 t) i = acc i + part m c t i := by
  rw [eta i]
  exact step_at _ _ _ _ _

theorem first (t : Fin cfg0.N) (h : t.val % 4 = 0) (i : S1024x896.Idx) :
    (outsAt0 m c t.val t.isLt).2 i = k0_pay1 (F := Ideal) i + part m c t i := by
  rw [outsAt0_A m c t h (by omega)]
  frame_out
  exact step_part m c t _ i

theorem next (t : Fin cfg0.N) (h : ¬t.val % 4 = 0) (i : S1024x896.Idx) :
    (outsAt0 m c t.val t.isLt).2 i = (outsAt0 m c (t.val - 1) (Nat.lt_of_le_of_lt (Nat.sub_le _ _) t.isLt)).2 i + part m c t i := by
  by_cases h1 : t.val % 4 = 3
  · rw [outsAt0_C m c t h h1]
    frame_out
    exact (congrArg (fun z => k0_pay2 (iblk m c 1 t) z (iblk m c 0 t) i) (Memref.IsWhole.read_unread _ _)).trans (step_part m c t _ i)
  · rw [outsAt0_B m c t h h1]
    frame_out
    exact (congrArg (fun z => k0_pay2 (iblk m c 1 t) z (iblk m c 0 t) i) (Memref.IsWhole.read_unread _ _)).trans (step_part m c t _ i)

theorem acc_last (t : Fin cfg0.N) (h : t.val % 4 = 4 - 1) (i : S1024x896.Idx) :
    (outsAt0 m c t.val t.isLt).2 i = ∑ s : Fin 4, part m c ⟨4 * (t.val / 4) + s.val, Pipeline.run_point_lt_of_flush t h s⟩ i := by
  rw [Pipeline.eq_sum_fin_of_reset_step_apply_of_flush (fun n h => (outsAt0 m c n h).2) 4 (k0_pay1 (F := Ideal)) (part m c)
    (first m c) (next m c) t h i, zero_at, zero_add]

/-- The block written back is the accumulator's. -/
theorem out_last (t : Fin cfg0.N) (h : t.val % 4 = 3) (p : Fin 1024) (q : Fin 896) :
    (outsAt0 m c t.val t.isLt).1 (ix2 q p) = (outsAt0 m c t.val t.isLt).2 (ix2 p q) := by
  rw [outsAt0_C m c t (by omega) h]
  frame_out
  exact out_at _ p q

/-! ## The blocks -/

theorem index0 : ∀ t : Fin cfg0.N, win0_0.index t 0 = t.val % 4 ∧ win0_0.index t 1 = 0 := by decide +kernel
theorem index1 : ∀ t : Fin cfg0.N, win0_1.index t 0 = t.val % 4 ∧ win0_1.index t 1 = t.val / 4 := by decide +kernel
theorem index2 : ∀ t : Fin cfg0.N, win0_2.index t 0 = t.val / 4 ∧ win0_2.index t 1 = 0 := by decide +kernel

/-- The factors at a row. -/
abbrev X : Vec Ideal S8192x1024 .bf16 := m ((c : Thread nD τ).loc main_arg0)
abbrev Y : Vec Ideal S8192x2688 .bf16 := m ((c : Thread nD τ).loc main_arg1)

theorem block0 (t : Fin cfg0.N) (k : Fin 2048) (p : Fin 1024) :
    A m c t (ix2 k p) = X m c (ix2 ⟨t.val % 4 * 2048 + k.val, by omega⟩ p) := by
  obtain ⟨h0, h1⟩ := index0 t
  unfold A iblk
  rw [View.read_apply]
  show V m c main_arg0 _ = _
  rw [V_main_arg0]
  congr 1
  funext a
  refine Fin.ext ?_
  match a with
  | ⟨0, _⟩ => show win0_0.index t 0 * 2048 + 1 * k.val = t.val % 4 * 2048 + k.val; omega
  | ⟨1, _⟩ => show win0_0.index t 1 * 1024 + 1 * p.val = p.val; omega

theorem block1 (t : Fin cfg0.N) (k : Fin 2048) (q : Fin 896) :
    B m c t (ix2 k q) = Y m c (ix2 ⟨t.val % 4 * 2048 + k.val, by omega⟩ ⟨t.val / 4 * 896 + q.val, by have := t.isLt; have := points; omega⟩) := by
  obtain ⟨h0, h1⟩ := index1 t
  unfold B iblk
  rw [View.read_apply]
  show V m c main_arg1 _ = _
  rw [V_main_arg1]
  congr 1
  funext a
  refine Fin.ext ?_
  match a with
  | ⟨0, _⟩ => show win0_1.index t 0 * 2048 + 1 * k.val = t.val % 4 * 2048 + k.val; omega
  | ⟨1, _⟩ => show win0_1.index t 1 * 896 + 1 * q.val = t.val / 4 * 896 + q.val; omega

/-! ## The result is the reference's -/

theorem ref_at (x : Vec Ideal S8192x1024 .bf16) (y : Vec Ideal S8192x2688 .bf16) (q : Fin 2688) (p : Fin 1024) :
    Cert.Reference7Ideal.Read.val_main_v7 (F := Ideal) x y (ix2 q p) = ∑ k : Fin 8192, x (ix2 k p) * y (ix2 k q) := by
  have e : Cert.Reference7Ideal.Read.val_main_v7 (F := Ideal) x y (ix2 q p) = Cert.Reference7Ideal.Read.val_main_v4 (F := Ideal) x y (ix2 q p) := by
    pointwise [Cert.Reference7Ideal.Read.val_main_v7, Cert.Reference7Ideal.Read.val_main_v6, Cert.Reference7Ideal.Read.val_main_v5]
  rw [e]
  have e2 : Cert.Reference7Ideal.Read.val_main_v4 (F := Ideal) x y (ix2 q p) = ∑ k : Fin 8192, y (ix2 k q) * x (ix2 k p) := by
    pointwise [Cert.Reference7Ideal.Read.val_main_v4, Cert.Reference7Ideal.Read.val_main_v1, Cert.Reference7Ideal.Read.val_main_v0]
  rw [e2]
  exact Finset.sum_congr rfl fun k _ => mul_comm _ _

theorem total (t : Fin cfg0.N) (h : t.val % 4 = 3) (p : Fin 1024) (q : Fin 896) :
    (outsAt0 m c t.val t.isLt).1 (ix2 q p)
      = Cert.Reference7Ideal.Read.val_main_v7 (F := Ideal) (X m c) (Y m c) (ix2 ⟨t.val / 4 * 896 + q.val, by have := t.isLt; have := points; omega⟩ p) := by
  have hj : t.val / 4 < 3 := by have := t.isLt; have := points; omega
  rw [out_last m c t h, acc_last m c t h, ref_at]
  refine Fin.sum_mul_add_congr fun s k hk => ?_
  have es : (4 * (t.val / 4) + s.val) % 4 = s.val := by omega
  have ej : (4 * (t.val / 4) + s.val) / 4 = t.val / 4 := by omega
  show A m c _ (ix2 k p) * B m c _ (ix2 k q) = _
  rw [block0, block1]
  simp only [es, ej]

theorem final : (dats m 0 c).arrAt 2 cfg0.N = Cert.Reference7Ideal.Read.val_main_v7 (F := Ideal) (X m c) (Y m c) := by
  refine (dats m 0 c).arrAt_eq_of_covers 2 _ (by decide +kernel) fun t hf y => ?_
  have ht := (flush0_2 t).mp hf
  blk_simp
  rw [after0_2]
  have e : y = ix2 (y 0) (y 1) := funext fun a => match a with
    | ⟨0, _⟩ => rfl
    | ⟨1, _⟩ => rfl
  rw [e]
  refine (total m c t ht (y 1) (y 0)).trans (congrArg _ ?_)
  obtain ⟨h0, h1⟩ := index2 t
  refine funext fun a => Fin.ext ?_
  match a with
  | ⟨0, _⟩ => show t.val / 4 * 896 + (y 0 : Nat) = win0_2.index t 0 * 896 + 1 * (y 0 : Nat); rw [h0]; omega
  | ⟨1, _⟩ => show (y 1 : Nat) = win0_2.index t 1 * 1024 + 1 * (y 1 : Nat); rw [h1]; omega

end Cert.Kernel7Ideal.Body
-- ==== Proof.WeightClaims.lean ====
/- The claims of the five weight-gradient calls (`Kernel3` … `Kernel7`): the runs' frames, and the equality of each result with its
   reference's. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Weights3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Weights4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Weights5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Weights6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Weights7

@[expose] public section

noncomputable section

open Idealize.ShloMosaic Idealize.ShloMosaic.TcCoe Idealize.SL.Sem

namespace Cert.Proof.Third

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => (Cert.Kernel3Ideal.Gen.dats m 0 c).arrAt 2 Cert.Kernel3Ideal.cfg0.N, Cert.Kernel3Ideal.Value.run_blocks (F := Ideal) m ρ, ?_⟩
  refine (θ_run Cert.Reference3Ideal.defs _ _).mono (fun r h c => ?_) (Cert.Reference3Ideal.Value.run (F := Ideal) m' ρ')
  obtain ⟨h0, hk⟩ := h c
  obtain ⟨a0, a1⟩ := hagree c
  have e0 : _ = _ := h0.trans (Cert.Reference3Ideal.Read.val_main_v7_eq _ _)
  rw [a0, a1] at e0
  exact ⟨e0.trans (Cert.Kernel3Ideal.Body.final m c).symm, hk⟩

end Cert.Proof.Third

namespace Cert.Proof.Fourth

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨fun c => (Cert.Kernel4Ideal.Gen.dats m 0 c).arrAt 2 Cert.Kernel4Ideal.cfg0.N, Cert.Kernel4Ideal.Value.run_blocks (F := Ideal) m ρ, ?_⟩
  refine (θ_run Cert.Reference4Ideal.defs _ _).mono (fun r h c => ?_) (Cert.Reference4Ideal.Value.run (F := Ideal) m' ρ')
  obtain ⟨h0, hk⟩ := h c
  obtain ⟨a0, a1⟩ := hagree c
  have e0 : _ = _ := h0.trans (Cert.Reference4Ideal.Read.val_main_v9_eq _ _)
  rw [a0, a1] at e0
  exact ⟨e0.trans (Cert.Kernel4Ideal.Body.final m c).symm, hk⟩

end Cert.Proof.Fourth

namespace Cert.Proof.Fifth

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => (Cert.Kernel5Ideal.Gen.dats m 0 c).arrAt 2 Cert.Kernel5Ideal.cfg0.N, Cert.Kernel5Ideal.Value.run_blocks (F := Ideal) m ρ, ?_⟩
  refine (θ_run Cert.Reference5Ideal.defs _ _).mono (fun r h c => ?_) (Cert.Reference5Ideal.Value.run (F := Ideal) m' ρ')
  obtain ⟨h0, hk⟩ := h c
  obtain ⟨a0, a1⟩ := hagree c
  have e0 : _ = _ := h0.trans (Cert.Reference5Ideal.Read.val_main_v5_eq _ _)
  rw [a0, a1] at e0
  exact ⟨e0.trans (Cert.Kernel5Ideal.Body.final m c).symm, hk⟩

end Cert.Proof.Fifth

namespace Cert.Proof.Sixth

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨fun c => (Cert.Kernel6Ideal.Gen.dats m 0 c).arrAt 2 Cert.Kernel6Ideal.cfg0.N, Cert.Kernel6Ideal.Value.run_blocks (F := Ideal) m ρ, ?_⟩
  refine (θ_run Cert.Reference6Ideal.defs _ _).mono (fun r h c => ?_) (Cert.Reference6Ideal.Value.run (F := Ideal) m' ρ')
  obtain ⟨h0, hk⟩ := h c
  obtain ⟨a0, a1⟩ := hagree c
  have e0 : _ = _ := h0.trans (Cert.Reference6Ideal.Read.val_main_v7_eq _ _)
  rw [a0, a1] at e0
  exact ⟨e0.trans (Cert.Kernel6Ideal.Body.final m c).symm, hk⟩

end Cert.Proof.Sixth

namespace Cert.Proof.Seventh

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨fun c => (Cert.Kernel7Ideal.Gen.dats m 0 c).arrAt 2 Cert.Kernel7Ideal.cfg0.N, Cert.Kernel7Ideal.Value.run_blocks (F := Ideal) m ρ, ?_⟩
  refine (θ_run Cert.Reference7Ideal.defs _ _).mono (fun r h c => ?_) (Cert.Reference7Ideal.Value.run (F := Ideal) m' ρ')
  obtain ⟨h0, hk⟩ := h c
  obtain ⟨a0, a1⟩ := hagree c
  have e0 : _ = _ := h0.trans (Cert.Reference7Ideal.Read.val_main_v7_eq _ _)
  rw [a0, a1] at e0
  exact ⟨e0.trans (Cert.Kernel7Ideal.Body.final m c).symm, hk⟩

end Cert.Proof.Seventh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Final
public import proofs.«01_k».proof.Proof.Ffn.Claims
public import proofs.«01_k».proof.Proof.Feed.Claims
public import proofs.«01_k».proof.Proof.WeightClaims
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem algebraic : Cert.algebraic_KernelIdeal_ReferenceIdeal := by
  intro m ρ m' ρ' _ hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N,
    Cert.KernelIdeal.Value.run_blocks (F := Ideal) m ρ, ?_⟩
  refine (θ_run Cert.ReferenceIdeal.defs _ _).mono (fun r h c => ?_) (Cert.ReferenceIdeal.Value.run (F := Ideal) m' ρ')
  obtain ⟨h0, h1, h2, h3, h4, h5, hk⟩ := h c
  obtain ⟨a0, a1, a2, a3, a4, a5, a6⟩ := hagree c
  have e0 : _ = _ := h0.trans (Cert.ReferenceIdeal.Read.val_main_v173_eq (StableHlo.launchContents m' c))
  have e1 : _ = _ := h1.trans (Cert.ReferenceIdeal.Read.val_main_v149_eq (StableHlo.launchContents m' c))
  have e2 : _ = _ := h2.trans (Cert.ReferenceIdeal.Read.val_main_v148_eq (StableHlo.launchContents m' c))
  have e3 : _ = _ := h3.trans (Cert.ReferenceIdeal.Read.val_main_v174_eq (StableHlo.launchContents m' c))
  have e4 : _ = _ := h4.trans (Cert.ReferenceIdeal.Read.val_main_v176_eq (StableHlo.launchContents m' c))
  have e5 : _ = _ := h5.trans (Cert.ReferenceIdeal.Read.val_main_v101_eq (StableHlo.launchContents m' c))
  refine ⟨?_, ?_, ?_, ?_, ?_, ?_, hk⟩
  · refine e0.trans (Eq.trans ?_ (Cert.KernelIdeal.Body.final8 m c).symm)
    show Cert.ReferenceIdeal.Read.val_main_v173 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) = _
    rw [a0, a1, a2, a3, a4, a5, a6]
  · refine e1.trans (Eq.trans ?_ (Cert.KernelIdeal.Body.final9 m c).symm)
    show Cert.ReferenceIdeal.Read.val_main_v149 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) = _
    rw [a0, a1, a2, a3, a4, a5, a6]
  · refine e2.trans (Eq.trans ?_ (Cert.KernelIdeal.Body.final10 m c).symm)
    show Cert.ReferenceIdeal.Read.val_main_v148 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) = _
    rw [a0, a1, a2, a3, a4, a5, a6]
  · refine e3.trans (Eq.trans ?_ (Cert.KernelIdeal.Body.final11 m c).symm)
    show Cert.ReferenceIdeal.Read.val_main_v174 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) = _
    rw [a0, a1, a2, a3, a4, a5, a6]
  · refine e4.trans (Eq.trans ?_ (Cert.KernelIdeal.Body.final12 m c).symm)
    show Cert.ReferenceIdeal.Read.val_main_v176 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) = _
    rw [a0, a1, a2, a3, a4, a5, a6]
  · refine e5.trans (Eq.trans ?_ (Cert.KernelIdeal.Body.final13 m c).symm)
    show Cert.ReferenceIdeal.Read.val_main_v101 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) = _
    rw [a0, a1, a2, a3, a4, a5]

theorem claim : Cert.Claim :=
  letI := Second.facts
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Second.facts,
    frame_p, frame_pi, frame_ri,
    Second.frame_p, Second.frame_pi, Second.frame_pi_finite, Second.frame_ri, Second.frame_ri_finite,
    Third.frame_p, Third.frame_pi, Third.frame_ri,
    Fourth.frame_p, Fourth.frame_pi, Fourth.frame_ri,
    Fifth.frame_p, Fifth.frame_pi, Fifth.frame_ri,
    Sixth.frame_p, Sixth.frame_pi, Sixth.frame_ri,
    Seventh.frame_p, Seventh.frame_pi, Seventh.frame_ri,
    Eighth.frame_p, Eighth.frame_pi, Eighth.frame_ri,
    trivial, algebraic, trivial, Second.algebraic, trivial, Third.algebraic, trivial, Fourth.algebraic, trivial, Fifth.algebraic, trivial, Sixth.algebraic, trivial, Seventh.algebraic,
    trivial, Eighth.algebraic⟩

end Cert.Proof

end
